-- ==== Defs.lean ====
def Pre_Kernel [hPre_indices : Cert.Pre_indices.Facts] (m : (ℓ : Loc Cert.Kernel.nD Cert.Kernel.τ Cert.Kernel.sig) → Buf (Elt Bits) ℓ) : Prop :=
  ∀ c : Dev Cert.Kernel.nD,
    (Cert.Pre_indices.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_indices : Cert.Pre_indices.Facts] (m : (ℓ : Loc Cert.KernelIdeal.nD Cert.KernelIdeal.τ Cert.KernelIdeal.sig) → Buf (Elt Ideal) ℓ) : Prop :=
  ∀ c : Dev Cert.KernelIdeal.nD,
    (Cert.Pre_indices.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_inputs [hPre_inputs : Cert.Pre_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs [hPre_inputs : Cert.Pre_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_indices : Cert.Pre_indices.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_indices : Cert.Pre_indices.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_inputs [hKernelIdeal : Cert.KernelIdeal.Facts] [hPre_inputs : Cert.Pre_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_inputs [hReferenceIdeal : Cert.ReferenceIdeal.Facts] [hPre_inputs : Cert.Pre_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "inv_sqrt_hidden" .f32 0x3DB504F3#32 (((Real.sqrt 128)⁻¹ : ℝ) : EReal)

def algebraic_KernelIdeal_ReferenceIdeal_pre_inputs [hKernelIdeal : Cert.KernelIdeal.Facts] [hReferenceIdeal : Cert.ReferenceIdeal.Facts] [hPre_inputs : Cert.Pre_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_indices : Cert.Pre_indices.Facts) (hPre_inputs : Cert.Pre_inputs.Facts),
    quiescent_Kernel (hKernel := hKernel) (hPre_indices := hPre_indices)
    ∧ quiescent_KernelIdeal (hKernelIdeal := hKernelIdeal) (hPre_indices := hPre_indices)
    ∧ quiescent_KernelIdeal_pre_inputs (hKernelIdeal := hKernelIdeal) (hPre_inputs := hPre_inputs)
    ∧ quiescent_ReferenceIdeal (hReferenceIdeal := hReferenceIdeal)
    ∧ quiescent_ReferenceIdeal_pre_inputs (hReferenceIdeal := hReferenceIdeal) (hPre_inputs := hPre_inputs)
    ∧ preserves_Kernel_KernelIdeal
    ∧ algebraic_KernelIdeal_ReferenceIdeal_pre_inputs (hKernelIdeal := hKernelIdeal) (hReferenceIdeal := hReferenceIdeal) (hPre_inputs := hPre_inputs)
-- ==== Pre_indices.lean ====
abbrev S1024x200 : Shape := ⟨2, ![1024, 200]⟩
abbrev S100000x128 : Shape := ⟨2, ![100000, 128]⟩
abbrev S512x128 : Shape := ⟨2, ![512, 128]⟩
abbrev S2x128 : Shape := ⟨2, ![2, 128]⟩
abbrev S128 : Shape := ⟨1, ![128]⟩
abbrev S_ : Shape := ⟨0, ![]⟩

class Facts : Prop where
  bcast_S_S1024x200 : S_.BroadcastsInDim S1024x200 (![] : Fin 0 → Fin S1024x200.rank)
  reducesTo_S1024x200_S_d0_1 : S1024x200.ReducesTo [0, 1] S_
  h_S_ : 0 < S_.numel

variable [Facts]

def fn {F : FTy → Type} [FloatOps F] (main_arg0 : IVec S1024x200 32) (main_arg1 : IVec S1024x200 32) (main_arg2 : FVec F S100000x128 .f32) (main_arg3 : FVec F S512x128 .f32) (main_arg4 : FVec F S2x128 .f32) (main_arg5 : FVec F S128 .f32) (main_arg6 : FVec F S128 .f32) : IVec S_ 1 :=
  let main_c : IVec S_ 32 := constantI S_ 32 0#32
  let main_v0 : IVec S1024x200 32 := broadcastInDim S1024x200 ![] bcast_S_S1024x200 main_c
  let main_v1 : IVec S1024x200 1 := cmpi .sge main_arg0 main_v0
  let main_c_0 : IVec S_ 32 := constantI S_ 32 100000#32
  let main_v2 : IVec S1024x200 32 := broadcastInDim S1024x200 ![] bcast_S_S1024x200 main_c_0
  let main_v3 : IVec S1024x200 1 := cmpi .slt main_arg0 main_v2
  let main_v4 : IVec S1024x200 1 := andi main_v1 main_v3
  let main_c_1 : IVec S_ 1 := constantI S_ 1 1#1
  let main_v5 : IVec S_ 1 := (fun x v => Host.reduce IntOp.andi x v reducesTo_S1024x200_S_d0_1 h_S_) main_v4 main_c_1
  let main_c_2 : IVec S_ 32 := constantI S_ 32 0#32
  let main_v6 : IVec S1024x200 32 := broadcastInDim S1024x200 ![] bcast_S_S1024x200 main_c_2
  let main_v7 : IVec S1024x200 1 := cmpi .sge main_arg1 main_v6
  let main_c_3 : IVec S_ 32 := constantI S_ 32 2#32
  let main_v8 : IVec S1024x200 32 := broadcastInDim S1024x200 ![] bcast_S_S1024x200 main_c_3
  let main_v9 : IVec S1024x200 1 := cmpi .slt main_arg1 main_v8
  let main_v10 : IVec S1024x200 1 := andi main_v7 main_v9
  let main_c_4 : IVec S_ 1 := constantI S_ 1 1#1
  let main_v11 : IVec S_ 1 := (fun x v => Host.reduce IntOp.andi x v reducesTo_S1024x200_S_d0_1 h_S_) main_v10 main_c_4
  let main_v12 : IVec S_ 1 := andi main_v5 main_v11
  main_v12
-- ==== Pre_inputs.lean ====
abbrev S1024x200 : Shape := ⟨2, ![1024, 200]⟩
abbrev S100000x128 : Shape := ⟨2, ![100000, 128]⟩
abbrev S512x128 : Shape := ⟨2, ![512, 128]⟩
abbrev S2x128 : Shape := ⟨2, ![2, 128]⟩
abbrev S128 : Shape := ⟨1, ![128]⟩
abbrev S_ : Shape := ⟨0, ![]⟩

class Facts : Prop where
  bcast_S_S1024x200 : S_.BroadcastsInDim S1024x200 (![] : Fin 0 → Fin S1024x200.rank)
  reducesTo_S1024x200_S_d0_1 : S1024x200.ReducesTo [0, 1] S_
  h_S_ : 0 < S_.numel
  bcast_S_S2x128 : S_.BroadcastsInDim S2x128 (![] : Fin 0 → Fin S2x128.rank)
  reducesTo_S2x128_S_d0_1 : S2x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128 .f32) (main_v12 : IVec S_ 1) (main_v15 : IVec S2x128 1) (main_c_5 : IVec S_ 1) : IVec S_ 1 :=
  let main_v16 : IVec S_ 1 := (fun x v => Host.reduce IntOp.andi x v reducesTo_S2x128_S_d0_1 h_S_) main_v15 main_c_5
  let main_v17 : IVec S_ 1 := andi main_v12 main_v16
  let main_cst_6 : FVec F S_ .f32 := constant S_ .f32 0x3F800000#32
  let main_v18 : FVec F S128 .f32 := broadcastInDim S128 ![] bcast_S_S128 main_cst_6
  let main_v19 : IVec S128 1 := cmpf .oeq main_arg5 main_v18
  let main_c_7 : IVec S_ 1 := constantI S_ 1 1#1
  let main_v20 : IVec S_ 1 := (fun x v => Host.reduce IntOp.andi x v reducesTo_S128_S_d0 h_S_) main_v19 main_c_7
  let main_v21 : IVec S_ 1 := andi main_v17 main_v20
  let main_cst_8 : FVec F S_ .f32 := constant S_ .f32 0x00000000#32
  let main_v22 : FVec F S128 .f32 := broadcastInDim S128 ![] bcast_S_S128 main_cst_8
  let main_v23 : IVec S128 1 := cmpf .oeq main_arg6 main_v22
  let main_c_9 : IVec S_ 1 := constantI S_ 1 1#1
  let main_v24 : IVec S_ 1 := (fun x v => Host.reduce IntOp.andi x v reducesTo_S128_S_d0 h_S_) main_v23 main_c_9
  let main_v25 : IVec S_ 1 := andi main_v21 main_v24
  main_v25

def fn {F : FTy → Type} [FloatOps F] (main_arg0 : IVec S1024x200 32) (main_arg1 : IVec S1024x200 32) (main_arg2 : FVec F S100000x128 .f32) (main_arg3 : FVec F S512x128 .f32) (main_arg4 : FVec F S2x128 .f32) (main_arg5 : FVec F S128 .f32) (main_arg6 : FVec F S128 .f32) : IVec S_ 1 :=
  let main_c : IVec S_ 32 := constantI S_ 32 0#32
  let main_v0 : IVec S1024x200 32 := broadcastInDim S1024x200 ![] bcast_S_S1024x200 main_c
  let main_v1 : IVec S1024x200 1 := cmpi .sge main_arg0 main_v0
  let main_c_0 : IVec S_ 32 := constantI S_ 32 100000#32
  let main_v2 : IVec S1024x200 32 := broadcastInDim S1024x200 ![] bcast_S_S1024x200 main_c_0
  let main_v3 : IVec S1024x200 1 := cmpi .slt main_arg0 main_v2
  let main_v4 : IVec S1024x200 1 := andi main_v1 main_v3
  let main_c_1 : IVec S_ 1 := constantI S_ 1 1#1
  let main_v5 : IVec S_ 1 := (fun x v => Host.reduce IntOp.andi x v reducesTo_S1024x200_S_d0_1 h_S_) main_v4 main_c_1
  let main_c_2 : IVec S_ 32 := constantI S_ 32 0#32
  let main_v6 : IVec S1024x200 32 := broadcastInDim S1024x200 ![] bcast_S_S1024x200 main_c_2
  let main_v7 : IVec S1024x200 1 := cmpi .sge main_arg1 main_v6
  let main_c_3 : IVec S_ 32 := constantI S_ 32 2#32
  let main_v8 : IVec S1024x200 32 := broadcastInDim S1024x200 ![] bcast_S_S1024x200 main_c_3
  let main_v9 : IVec S1024x200 1 := cmpi .slt main_arg1 main_v8
  let main_v10 : IVec S1024x200 1 := andi main_v7 main_v9
  let main_c_4 : IVec S_ 1 := constantI S_ 1 1#1
  let main_v11 : IVec S_ 1 := (fun x v => Host.reduce IntOp.andi x v reducesTo_S1024x200_S_d0_1 h_S_) main_v10 main_c_4
  let main_v12 : IVec S_ 1 := andi main_v5 main_v11
  let main_v13 : FVec F S2x128 .f32 := Host.absf main_arg4
  let main_cst : FVec F S_ .f32 := constant S_ .f32 0x7F800000#32
  let main_v14 : FVec F S2x128 .f32 := broadcastInDim S2x128 ![] bcast_S_S2x128 main_cst
  let main_v15 : IVec S2x128 1 := cmpf .olt main_v13 main_v14
  let main_c_5 : IVec S_ 1 := constantI S_ 1 1#1
  fn_part1 (F := F) main_arg5 main_arg6 main_v12 main_v15 main_c_5
-- ==== Kernel.lean ====
abbrev S1024x200 : Shape := ⟨2, ![1024, 200]⟩
abbrev S100000x128 : Shape := ⟨2, ![100000, 128]⟩
abbrev S512x128 : Shape := ⟨2, ![512, 128]⟩
abbrev S2x128 : Shape := ⟨2, ![2, 128]⟩
abbrev S128 : Shape := ⟨1, ![128]⟩
abbrev S1x204800 : Shape := ⟨2, ![1, 204800]⟩
abbrev S51200x128 : Shape := ⟨2, ![51200, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S_ : Shape := ⟨0, ![]⟩
abbrev S1x128x128 : Shape := ⟨3, ![1, 128, 128]⟩
abbrev S128x128 : Shape := ⟨2, ![128, 128]⟩
abbrev S256x200x128 : Shape := ⟨3, ![256, 200, 128]⟩
abbrev S64000x128 : Shape := ⟨2, ![64000, 128]⟩
abbrev S320x200x128 : Shape := ⟨3, ![320, 200, 128]⟩
abbrev S25600x128 : Shape := ⟨2, ![25600, 128]⟩
abbrev S128x200x128 : Shape := ⟨3, ![128, 200, 128]⟩
abbrev S1024x200x128 : Shape := ⟨3, ![1024, 200, 128]⟩
abbrev S64x200x128 : Shape := ⟨3, ![64, 200, 128]⟩
abbrev S64x200 : Shape := ⟨2, ![64, 200]⟩
abbrev S200x128 : Shape := ⟨2, ![200, 128]⟩
abbrev S1x200x128 : Shape := ⟨3, ![1, 200, 128]⟩
abbrev S64x200x1 : Shape := ⟨3, ![64, 200, 1]⟩

abbrev nBuf : Table → Nat
  | .hbm => 20
  | .local .tc .vmem => 32
  | .local .scVector .vmem => 8
  | _ => 0

abbrev bufTy : (tb : Table) → Fin (nBuf tb) → BufTy
  | .hbm, ⟨0, _⟩ => ⟨S1024x200, .i32⟩
  | .hbm, ⟨1, _⟩ => ⟨S1024x200, .i32⟩
  | .hbm, ⟨2, _⟩ => ⟨S100000x128, .f32⟩
  | .hbm, ⟨3, _⟩ => ⟨S512x128, .f32⟩
  | .hbm, ⟨4, _⟩ => ⟨S2x128, .f32⟩
  | .hbm, ⟨5, _⟩ => ⟨S128, .f32⟩
  | .hbm, ⟨6, _⟩ => ⟨S128, .f32⟩
  | .hbm, ⟨7, _⟩ => ⟨S1x204800, .i32⟩
  | .hbm, ⟨8, _⟩ => ⟨S51200x128, .f32⟩
  | .hbm, ⟨9, _⟩ => ⟨S256x200x128, .f32⟩
  | .hbm, ⟨10, _⟩ => ⟨S64000x128, .f32⟩
  | .hbm, ⟨11, _⟩ => ⟨S320x200x128, .f32⟩
  | .hbm, ⟨12, _⟩ => ⟨S64000x128, .f32⟩
  | .hbm, ⟨13, _⟩ => ⟨S320x200x128, .f32⟩
  | .hbm, ⟨14, _⟩ => ⟨S25600x128, .f32⟩
  | .hbm, ⟨15, _⟩ => ⟨S128x200x128, .f32⟩
  | .hbm, ⟨16, _⟩ => ⟨S1024x200x128, .f32⟩
  | .hbm, ⟨17, _⟩ => ⟨S1024x200x128, .f32⟩
  | .hbm, ⟨18, _⟩ => ⟨S1024x200x128, .f32⟩
  | .hbm, ⟨19, _⟩ => ⟨S1024x200x128, .f32⟩
  | .local .tc .vmem, ⟨0, _⟩ => ⟨S64x200x128, .f32⟩
  | .local .tc .vmem, ⟨1, _⟩ => ⟨S64x200x128, .f32⟩
  | .local .tc .vmem, ⟨2, _⟩ => ⟨S64x200, .i32⟩
  | .local .tc .vmem, ⟨3, _⟩ => ⟨S64x200, .i32⟩
  | .local .tc .vmem, ⟨4, _⟩ => ⟨S200x128, .f32⟩
  | .local .tc .vmem, ⟨5, _⟩ => ⟨S2x128, .f32⟩
  | .local .tc .vmem, ⟨6, _⟩ => ⟨S64x200x128, .f32⟩
  | .local .tc .vmem, ⟨7, _⟩ => ⟨S64x200x128, .f32⟩
  | .local .tc .vmem, ⟨8, _⟩ => ⟨S64x200x128, .f32⟩
  | .local .tc .vmem, ⟨9, _⟩ => ⟨S64x200x128, .f32⟩
  | .local .tc .vmem, ⟨10, _⟩ => ⟨S64x200, .i32⟩
  | .local .tc .vmem, ⟨11, _⟩ => ⟨S64x200, .i32⟩
  | .local .tc .vmem, ⟨12, _⟩ => ⟨S200x128, .f32⟩
  | .local .tc .vmem, ⟨13, _⟩ => ⟨S2x128, .f32⟩
  | .local .tc .vmem, ⟨14, _⟩ => ⟨S64x200x128, .f32⟩
  | .local .tc .vmem, ⟨15, _⟩ => ⟨S64x200x128, .f32⟩
  | .local .tc .vmem, ⟨16, _⟩ => ⟨S64x200x128, .f32⟩
  | .local .tc .vmem, ⟨17, _⟩ => ⟨S64x200x128, .f32⟩
  | .local .tc .vmem, ⟨18, _⟩ => ⟨S64x200, .i32⟩
  | .local .tc .vmem, ⟨19, _⟩ => ⟨S64x200, .i32⟩
  | .local .tc .vmem, ⟨20, _⟩ => ⟨S200x128, .f32⟩
  | .local .tc .vmem, ⟨21, _⟩ => ⟨S2x128, .f32⟩
  | .local .tc .vmem, ⟨22, _⟩ => ⟨S64x200x128, .f32⟩
  | .local .tc .vmem, ⟨23, _⟩ => ⟨S64x200x128, .f32⟩
  | .local .tc .vmem, ⟨24, _⟩ => ⟨S64x200x128, .f32⟩
  | .local .tc .vmem, ⟨25, _⟩ => ⟨S64x200x128, .f32⟩
  | .local .tc .vmem, ⟨26, _⟩ => ⟨S64x200, .i32⟩
  | .local .tc .vmem, ⟨27, _⟩ => ⟨S64x200, .i32⟩
  | .local .tc .vmem, ⟨28, _⟩ => ⟨S200x128, .f32⟩
  | .local .tc .vmem, ⟨29, _⟩ => ⟨S2x128, .f32⟩
  | .local .tc .vmem, ⟨30, _⟩ => ⟨S64x200x128, .f32⟩
  | .local .tc .vmem, ⟨31, _⟩ => ⟨S64x200x128, .f32⟩
  | .local .scVector .vmem, ⟨0, _⟩ => ⟨S2x1x128, .i32⟩
  | .local .scVector .vmem, ⟨1, _⟩ => ⟨S2x128x128, .f32⟩
  | .local .scVector .vmem, ⟨2, _⟩ => ⟨S2x1x128, .i32⟩
  | .local .scVector .vmem, ⟨3, _⟩ => ⟨S2x128x128, .f32⟩
  | .local .scVector .vmem, ⟨4, _⟩ => ⟨S2x1x128, .i32⟩
  | .local .scVector .vmem, ⟨5, _⟩ => ⟨S2x128x128, .f32⟩
  | .local .scVector .vmem, ⟨6, _⟩ => ⟨S2x1x128, .i32⟩
  | .local .scVector .vmem, ⟨7, _⟩ => ⟨S2x128x128, .f32⟩
  | _, _ => ⟨S1024x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 56 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTables nBuf rfl bufTy 4 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_arg2_scv : Ref sig .scVector := ⟨.hbm, 2, rfl⟩
abbrev main_v0_scv : Ref sig .scVector := ⟨.hbm, 7, rfl⟩
abbrev main_v1_scv : Ref sig .scVector := ⟨.hbm, 8, rfl⟩
abbrev main_v3_scv : Ref sig .scVector := ⟨.hbm, 10, rfl⟩
abbrev main_v5_scv : Ref sig .scVector := ⟨.hbm, 12, rfl⟩
abbrev main_v7_scv : Ref sig .scVector := ⟨.hbm, 14, rfl⟩
abbrev cc4_stg0_0 : Ref sig .tc := ⟨.vmem, 0, rfl⟩
abbrev cc4_stg0_1 : Ref sig .tc := ⟨.vmem, 1, rfl⟩
abbrev cc4_stg1_0 : Ref sig .tc := ⟨.vmem, 2, rfl⟩
abbrev cc4_stg1_1 : Ref sig .tc := ⟨.vmem, 3, rfl⟩
abbrev cc4_stg2_0 : Ref sig .tc := ⟨.vmem, 4, rfl⟩
abbrev cc4_stg3_0 : Ref sig .tc := ⟨.vmem, 5, rfl⟩
abbrev cc4_stg4_0 : Ref sig .tc := ⟨.vmem, 6, rfl⟩
abbrev cc4_stg4_1 : Ref sig .tc := ⟨.vmem, 7, rfl⟩
abbrev cc5_stg0_0 : Ref sig .tc := ⟨.vmem, 8, rfl⟩
abbrev cc5_stg0_1 : Ref sig .tc := ⟨.vmem, 9, rfl⟩
abbrev cc5_stg1_0 : Ref sig .tc := ⟨.vmem, 10, rfl⟩
abbrev cc5_stg1_1 : Ref sig .tc := ⟨.vmem, 11, rfl⟩
abbrev cc5_stg2_0 : Ref sig .tc := ⟨.vmem, 12, rfl⟩
abbrev cc5_stg3_0 : Ref sig .tc := ⟨.vmem, 13, rfl⟩
abbrev cc5_stg4_0 : Ref sig .tc := ⟨.vmem, 14, rfl⟩
abbrev cc5_stg4_1 : Ref sig .tc := ⟨.vmem, 15, rfl⟩
abbrev cc6_stg0_0 : Ref sig .tc := ⟨.vmem, 16, rfl⟩
abbrev cc6_stg0_1 : Ref sig .tc := ⟨.vmem, 17, rfl⟩
abbrev cc6_stg1_0 : Ref sig .tc := ⟨.vmem, 18, rfl⟩
abbrev cc6_stg1_1 : Ref sig .tc := ⟨.vmem, 19, rfl⟩
abbrev cc6_stg2_0 : Ref sig .tc := ⟨.vmem, 20, rfl⟩
abbrev cc6_stg3_0 : Ref sig .tc := ⟨.vmem, 21, rfl⟩
abbrev cc6_stg4_0 : Ref sig .tc := ⟨.vmem, 22, rfl⟩
abbrev cc6_stg4_1 : Ref sig .tc := ⟨.vmem, 23, rfl⟩
abbrev cc7_stg0_0 : Ref sig .tc := ⟨.vmem, 24, rfl⟩
abbrev cc7_stg0_1 : Ref sig .tc := ⟨.vmem, 25, rfl⟩
abbrev cc7_stg1_0 : Ref sig .tc := ⟨.vmem, 26, rfl⟩
abbrev cc7_stg1_1 : Ref sig .tc := ⟨.vmem, 27, rfl⟩
abbrev cc7_stg2_0 : Ref sig .tc := ⟨.vmem, 28, rfl⟩
abbrev cc7_stg3_0 : Ref sig .tc := ⟨.vmem, 29, rfl⟩
abbrev cc7_stg4_0 : Ref sig .tc := ⟨.vmem, 30, rfl⟩
abbrev cc7_stg4_1 : Ref sig .tc := ⟨.vmem, 31, rfl⟩
abbrev cc0_scoped0 : Ref sig .scVector := ⟨.vmem, 0, rfl⟩
abbrev cc0_scoped2 : Ref sig .scVector := ⟨.vmem, 1, rfl⟩
abbrev cc1_scoped0 : Ref sig .scVector := ⟨.vmem, 2, rfl⟩
abbrev cc1_scoped2 : Ref sig .scVector := ⟨.vmem, 3, rfl⟩
abbrev cc2_scoped0 : Ref sig .scVector := ⟨.vmem, 4, rfl⟩
abbrev cc2_scoped2 : Ref sig .scVector := ⟨.vmem, 5, rfl⟩
abbrev cc3_scoped0 : Ref sig .scVector := ⟨.vmem, 6, rfl⟩
abbrev cc3_scoped2 : Ref sig .scVector := ⟨.vmem, 7, rfl⟩
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem3_0 : DmaSem sig := 29
abbrev cc4_sem4_0 : DmaSem sig := 30
abbrev cc4_sem4_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem3_0 : DmaSem sig := 37
abbrev cc5_sem4_0 : DmaSem sig := 38
abbrev cc5_sem4_1 : DmaSem sig := 39
abbrev cc6_sem0_0 : DmaSem sig := 40
abbrev cc6_sem0_1 : DmaSem sig := 41
abbrev cc6_sem1_0 : DmaSem sig := 42
abbrev cc6_sem1_1 : DmaSem sig := 43
abbrev cc6_sem2_0 : DmaSem sig := 44
abbrev cc6_sem3_0 : DmaSem sig := 45
abbrev cc6_sem4_0 : DmaSem sig := 46
abbrev cc6_sem4_1 : DmaSem sig := 47
abbrev cc7_sem0_0 : DmaSem sig := 48
abbrev cc7_sem0_1 : DmaSem sig := 49
abbrev cc7_sem1_0 : DmaSem sig := 50
abbrev cc7_sem1_1 : DmaSem sig := 51
abbrev cc7_sem2_0 : DmaSem sig := 52
abbrev cc7_sem3_0 : DmaSem sig := 53
abbrev cc7_sem4_0 : DmaSem sig := 54
abbrev cc7_sem4_1 : DmaSem sig := 55
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v11 : BitVec 32 := Scalar.muli c1_i32_4 v5
  let c0_i32_6_r0 : BitVec 32 := 0#32
  let v14_r0 : BitVec 1 := Scalar.cmpi .sgt v11 c0_i32_6_r0
  let v15_r0 : BitVec 32 := Scalar.extui v14_r0
  let c0_i32_7_r0 : BitVec 32 := 0#32
  let v16_r0 : BitVec 1 := Scalar.cmpi .ne v15_r0 c0_i32_7_r0
  v16_r0

def k0_cond2 (i : grid0.Coords) : BitVec 1 :=
  let true_23_r0 : BitVec 1 := 1#1
  let c1_i32_8_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v17_r0 : BitVec 32 := Scalar.muli c1_i32_8_r0 v5
  let c0_i32_22_r0 : BitVec 32 := 0#32
  let v35_r0 : BitVec 1 := Scalar.cmpi .sgt v17_r0 c0_i32_22_r0
  let v36_r0 : BitVec 1 := Scalar.andi true_23_r0 v35_r0
  let true_24_r0 : BitVec 1 := 1#1
  let v37_r0 : BitVec 1 := Scalar.andi v36_r0 true_24_r0
  let v38_r0 : BitVec 32 := Scalar.extui v37_r0
  let c0_i32_26_r0 : BitVec 32 := 0#32
  let v39_r0 : BitVec 1 := Scalar.cmpi .ne v38_r0 c0_i32_26_r0
  v39_r0

def k0_off1 : Fin 3 → Nat :=
  let c0_i32_25_r0 : BitVec 32 := 0#32
  let c2_i32_r0 : BitVec 32 := 2#32
  let v80_r0 : BitVec 32 := Scalar.remui c0_i32_25_r0 c2_i32_r0
  let c0_i32_59_r0 : BitVec 32 := 0#32
  let c0_i32_60_r0 : BitVec 32 := 0#32
  ![v80_r0.toNat, 0, 0]
def k0_off2 (i : grid0.Coords) : Fin 2 → Nat :=
  let c0_i32_61_r0 : BitVec 32 := 0#32
  let c128_i32_r0 : BitVec 32 := 128#32
  let c0_i32_11_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v20_r0 : BitVec 32 := Scalar.addi c0_i32_11_r0 v10
  let c0_i32_58_r0 : BitVec 32 := 0#32
  let v81_r0 : BitVec 32 := Scalar.addi v20_r0 c0_i32_58_r0
  let v82_r0 : BitVec 32 := Scalar.muli c128_i32_r0 v81_r0
  ![0, v82_r0.toNat]
def k0_off3 : Fin 1 → Nat :=
  let c0_i32_25_r0 : BitVec 32 := 0#32
  let c2_i32_r0 : BitVec 32 := 2#32
  let v80_r0 : BitVec 32 := Scalar.remui c0_i32_25_r0 c2_i32_r0
  ![v80_r0.toNat]
@[reducible] def k0_t1_loop (i : grid0.Coords) : Scf.Loop 32 :=
  let c0_i32_30_r0 : BitVec 32 := 0#32
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_36_r0 : BitVec 32 := 1#32
  ⟨c0_i32_30_r0, v46_r0, c1_i32_36_r0⟩
def k0_off4 (arg6_r0 : BitVec 32) : Fin 3 → Nat :=
  let c2_i32_105_r0 : BitVec 32 := 2#32
  let v170_r0 : BitVec 32 := Scalar.remui arg6_r0 c2_i32_105_r0
  let c0_i32_107_r0 : BitVec 32 := 0#32
  let c0_i32_108_r0 : BitVec 32 := 0#32
  ![v170_r0.toNat, 0, 0]
def k0_cond3 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let c0_i32_71_r0 : BitVec 32 := 0#32
  let v101_r0 : BitVec 32 := Scalar.addi v84_r0 c0_i32_71_r0
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let c0_i32_72_r0 : BitVec 32 := 0#32
  let v102_r0 : BitVec 32 := Scalar.addi v95_r0 c0_i32_72_r0
  let v103_r0 : BitVec 1 := Scalar.cmpi .ne v101_r0 v102_r0
  let c0_i32_30_r0 : BitVec 32 := 0#32
  let c1_i32_36_r0 : BitVec 32 := 1#32
  let arg5_r0 : BitVec 32 := Scf.iv c0_i32_30_r0 c1_i32_36_r0 k0_t1
  let c1_i32_58_r0 : BitVec 32 := 1#32
  let v80_r0 : BitVec 32 := Scalar.muli c1_i32_58_r0 v5
  let c2_i32_r0 : BitVec 32 := 2#32
  let v104_r0 : BitVec 32 := Scalar.subi v80_r0 c2_i32_r0
  let c1_i32_73_r0 : BitVec 32 := 1#32
  let v105_r0 : BitVec 32 := Scalar.addi v104_r0 c1_i32_73_r0
  let v106_r0 : BitVec 1 := Scalar.cmpi .sge arg5_r0 v105_r0
  let true_74_r0 : BitVec 1 := 1#1
  let v107_r0 : BitVec 1 := Scalar.xori v106_r0 true_74_r0
  let v108_r0 : BitVec 1 := Scalar.andi v103_r0 v107_r0
  let true_75_r0 : BitVec 1 := 1#1
  let v109_r0 : BitVec 1 := Scalar.andi v108_r0 true_75_r0
  let v110_r0 : BitVec 32 := Scalar.extui v109_r0
  let c0_i32_76_r0 : BitVec 32 := 0#32
  let v111_r0 : BitVec 1 := Scalar.cmpi .ne v110_r0 c0_i32_76_r0
  v111_r0

def k0_off5 (i : grid0.Coords) (arg10_r0 : BitVec 32) : Fin 2 → Nat :=
  let c0_i32_109_r0 : BitVec 32 := 0#32
  let c128_i32_r0 : BitVec 32 := 128#32
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v93_r0 : BitVec 1 := Scalar.cmpi .eq v92_r0 v5
  let c0_i32_67_r0 : BitVec 32 := 0#32
  let v94_r0 : BitVec 32 := Scalar.select v93_r0 c0_i32_67_r0 v92_r0
  let c16_i32_1 : BitVec 32 := 16#32
  let v6 : BitVec 1 := Scalar.cmpi .slt v3 c16_i32_1
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v95_r0 : BitVec 32 := Scalar.addi v94_r0 v10
  let c0_i32_106_r0 : BitVec 32 := 0#32
  let v171_r0 : BitVec 32 := Scalar.addi v95_r0 c0_i32_106_r0
  let v172_r0 : BitVec 32 := Scalar.muli c128_i32_r0 v171_r0
  ![0, v172_r0.toNat]
def k0_off6 (arg6_r0 : BitVec 32) : Fin 1 → Nat :=
  let c2_i32_105_r0 : BitVec 32 := 2#32
  let v170_r0 : BitVec 32 := Scalar.remui arg6_r0 c2_i32_105_r0
  ![v170_r0.toNat]
def k0_off7 (arg7_r0 : BitVec 32) : Fin 3 → Nat :=
  let c2_i32_106_r0 : BitVec 32 := 2#32
  let v172_r0 : BitVec 32 := Scalar.remui arg7_r0 c2_i32_106_r0
  let c0_i32_107_r0 : BitVec 32 := 0#32
  let c0_i32_108_r0 : BitVec 32 := 0#32
  ![v172_r0.toNat, 0, 0]
def k0_cond4 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let c0_i32_71_r0 : BitVec 32 := 0#32
  let v101_r0 : BitVec 32 := Scalar.addi v84_r0 c0_i32_71_r0
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let c0_i32_82_r0 : BitVec 32 := 0#32
  let v121_r0 : BitVec 32 := Scalar.addi v90_r0 c0_i32_82_r0
  let v122_r0 : BitVec 1 := Scalar.cmpi .ne v101_r0 v121_r0
  let c0_i32_30_r0 : BitVec 32 := 0#32
  let c1_i32_36_r0 : BitVec 32 := 1#32
  let arg5_r0 : BitVec 32 := Scf.iv c0_i32_30_r0 c1_i32_36_r0 k0_t1
  let c0_i32_59_r0 : BitVec 32 := 0#32
  let v81_r0 : BitVec 1 := Scalar.cmpi .eq arg5_r0 c0_i32_59_r0
  let v123_r0 : BitVec 1 := Scalar.ori v122_r0 v81_r0
  let c0_i32_83_r0 : BitVec 32 := 0#32
  let v124_r0 : BitVec 1 := Scalar.cmpi .sge arg5_r0 c0_i32_83_r0
  let v125_r0 : BitVec 1 := Scalar.andi v123_r0 v124_r0
  let v126_r0 : BitVec 32 := Scalar.extui v125_r0
  let c0_i32_84_r0 : BitVec 32 := 0#32
  let v127_r0 : BitVec 1 := Scalar.cmpi .ne v126_r0 c0_i32_84_r0
  v127_r0

def k0_off8 (i : grid0.Coords) (arg10_r0 : BitVec 32) : Fin 2 → Nat :=
  let c0_i32_109_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let c0_i32_105_r0 : BitVec 32 := 0#32
  let v170_r0 : BitVec 32 := Scalar.addi v84_r0 c0_i32_105_r0
  let v171_r0 : BitVec 32 := Scalar.muli c128_i32_r0 v170_r0
  ![0, v171_r0.toNat]
def k0_off9 (arg7_r0 : BitVec 32) : Fin 1 → Nat :=
  let c2_i32_106_r0 : BitVec 32 := 2#32
  let v172_r0 : BitVec 32 := Scalar.remui arg7_r0 c2_i32_106_r0
  ![v172_r0.toNat]
def k0_off10 (arg8_r0 : BitVec 32) : Fin 3 → Nat :=
  let c2_i32_88_r0 : BitVec 32 := 2#32
  let v135_r0 : BitVec 32 := Scalar.remui arg8_r0 c2_i32_88_r0
  let c0_i32_105_r1 : BitVec 32 := 0#32
  let c0_i32_106_r1 : BitVec 32 := 0#32
  ![v135_r0.toNat, 0, 0]

def k0_chk2 (i : grid0.Coords) (arg8_r0 : BitVec 32) : Prop :=
  (∀ (k0_h1 : k0_cond1 i = 1#1), ∀ a, (k0_off10 arg8_r0) a + S1x128x128.size a ≤ S2x128x128.size a)
theorem k0_off10_inb : ∀ (i : grid0.Coords) (arg8_r0 : BitVec 32) (k0_hw2 : k0_chk2 i arg8_r0), ∀ (k0_h1 : k0_cond1 i = 1#1), ∀ a, (k0_off10 arg8_r0) a + S1x128x128.size a ≤ S2x128x128.size a := fun i arg8_r0 k0_hw2 k0_h1 => k0_hw2 k0_h1

def k0_off11 (arg7_r0 : BitVec 32) : Fin 3 → Nat :=
  let c2_i32_87_r0 : BitVec 32 := 2#32
  let v134_r0 : BitVec 32 := Scalar.remui arg7_r0 c2_i32_87_r0
  let c0_i32_107_r1 : BitVec 32 := 0#32
  let c0_i32_108_r1 : BitVec 32 := 0#32
  ![v134_r0.toNat, 0, 0]

def k0_chk3 (i : grid0.Coords) (arg7_r0 : BitVec 32) : Prop :=
  (∀ (k0_h1 : k0_cond1 i = 1#1), ∀ a, (k0_off11 arg7_r0) a + S1x1x128.size a ≤ S2x1x128.size a)
theorem k0_off11_inb : ∀ (i : grid0.Coords) (arg7_r0 : BitVec 32) (k0_hw3 : k0_chk3 i arg7_r0), ∀ (k0_h1 : k0_cond1 i = 1#1), ∀ a, (k0_off11 arg7_r0) a + S1x1x128.size a ≤ S2x1x128.size a := fun i arg7_r0 k0_hw3 k0_h1 => k0_hw3 k0_h1

def k0_off12 (arg8_r0 : BitVec 32) : Fin 3 → Nat :=
  let c2_i32_105_r0 : BitVec 32 := 2#32
  let v170_r0 : BitVec 32 := Scalar.remui arg8_r0 c2_i32_105_r0
  let c0_i32_106_r0 : BitVec 32 := 0#32
  let c0_i32_107_r0 : BitVec 32 := 0#32
  ![v170_r0.toNat, 0, 0]
def k0_cond7 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v141_r0 : BitVec 1 := Scalar.cmpi .ne v84_r0 v95_r0
  let c0_i32_30_r0 : BitVec 32 := 0#32
  let c1_i32_36_r0 : BitVec 32 := 1#32
  let arg5_r0 : BitVec 32 := Scf.iv c0_i32_30_r0 c1_i32_36_r0 k0_t1
  let c1_i32_58_r0 : BitVec 32 := 1#32
  let v80_r0 : BitVec 32 := Scalar.muli c1_i32_58_r0 v5
  let c1_i32_60_r0 : BitVec 32 := 1#32
  let v82_r0 : BitVec 32 := Scalar.subi v80_r0 c1_i32_60_r0
  let v83_r0 : BitVec 1 := Scalar.cmpi .eq arg5_r0 v82_r0
  let v142_r0 : BitVec 1 := Scalar.ori v141_r0 v83_r0
  let v143_r0 : BitVec 32 := Scalar.extui v142_r0
  let c0_i32_91_r0 : BitVec 32 := 0#32
  let v144_r0 : BitVec 1 := Scalar.cmpi .ne v143_r0 c0_i32_91_r0
  v144_r0

def k0_off13 (i : grid0.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let v171_r0 : BitVec 32 := Scalar.muli c128_i32_r0 v84_r0
  let c0_i32_108_r0 : BitVec 32 := 0#32
  ![v171_r0.toNat, 0]
def k0_off14 (arg8_r0 : BitVec 32) : Fin 1 → Nat :=
  let c2_i32_105_r0 : BitVec 32 := 2#32
  let v170_r0 : BitVec 32 := Scalar.remui arg8_r0 c2_i32_105_r0
  ![v170_r0.toNat]
def k0_off15 (arg9_r0 : BitVec 32) : Fin 3 → Nat :=
  let c2_i32_105_r0 : BitVec 32 := 2#32
  let v170_r0 : BitVec 32 := Scalar.remui arg9_r0 c2_i32_105_r0
  let c0_i32_106_r0 : BitVec 32 := 0#32
  let c0_i32_107_r0 : BitVec 32 := 0#32
  ![v170_r0.toNat, 0, 0]
def k0_cond9 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v154_r0 : BitVec 1 := Scalar.cmpi .ne v84_r0 v90_r0
  let c0_i32_30_r0 : BitVec 32 := 0#32
  let c1_i32_36_r0 : BitVec 32 := 1#32
  let arg5_r0 : BitVec 32 := Scf.iv c0_i32_30_r0 c1_i32_36_r0 k0_t1
  let c0_i32_59_r0 : BitVec 32 := 0#32
  let v81_r0 : BitVec 1 := Scalar.cmpi .eq arg5_r0 c0_i32_59_r0
  let true_97_r0 : BitVec 1 := 1#1
  let v155_r0 : BitVec 1 := Scalar.xori v81_r0 true_97_r0
  let v156_r0 : BitVec 1 := Scalar.andi v154_r0 v155_r0
  let v157_r0 : BitVec 32 := Scalar.extui v156_r0
  let c0_i32_98_r0 : BitVec 32 := 0#32
  let v158_r0 : BitVec 1 := Scalar.cmpi .ne v157_r0 c0_i32_98_r0
  v158_r0

def k0_off16 (i : grid0.Coords) (arg10_r0 : BitVec 32) : Fin 2 → Nat :=
  let c128_i32_r0 : BitVec 32 := 128#32
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let c1_i32_64_r0 : BitVec 32 := 1#32
  let v88_r0 : BitVec 32 := Scalar.subi v5 c1_i32_64_r0
  let v89_r0 : BitVec 32 := Scalar.select v87_r0 v88_r0 v86_r0
  let c16_i32_1 : BitVec 32 := 16#32
  let v6 : BitVec 1 := Scalar.cmpi .slt v3 c16_i32_1
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v90_r0 : BitVec 32 := Scalar.addi v89_r0 v10
  let v171_r0 : BitVec 32 := Scalar.muli c128_i32_r0 v90_r0
  let c0_i32_108_r0 : BitVec 32 := 0#32
  ![v171_r0.toNat, 0]
def k0_off17 (arg9_r0 : BitVec 32) : Fin 1 → Nat :=
  let c2_i32_105_r0 : BitVec 32 := 2#32
  let v170_r0 : BitVec 32 := Scalar.remui arg9_r0 c2_i32_105_r0
  ![v170_r0.toNat]

def k0_chk1 (i : grid0.Coords) (k0_t1 : Fin (k0_t1_loop i).trips) (arg6_r0 : BitVec 32) (arg7_r0 : BitVec 32) (arg8_r0 : BitVec 32) (arg9_r0 : BitVec 32) (arg10_r0 : BitVec 32) : Prop :=
  (∀ (k0_h1 : k0_cond1 i = 1#1), ∀ (k0_h3 : k0_cond3 i k0_t1 arg10_r0 = 1#1), ∀ a, (k0_off4 arg6_r0) a + S1x1x128.size a ≤ S2x1x128.size a) ∧
  (∀ (k0_h1 : k0_cond1 i = 1#1), ∀ (k0_h3 : k0_cond3 i k0_t1 arg10_r0 = 1#1), ∀ a, (k0_off5 i arg10_r0) a + S1x128.size a ≤ S1x204800.size a) ∧
  (∀ (k0_h1 : k0_cond1 i = 1#1), ∀ (k0_h3 : k0_cond3 i k0_t1 arg10_r0 = 1#1), ∀ a, (k0_off6 arg6_r0) a + S1.size a ≤ S2.size a) ∧
  (∀ (k0_h1 : k0_cond1 i = 1#1), ∀ (k0_h4 : k0_cond4 i k0_t1 arg10_r0 = 1#1), ∀ a, (k0_off7 arg7_r0) a + S1x1x128.size a ≤ S2x1x128.size a) ∧
  (∀ (k0_h1 : k0_cond1 i = 1#1), ∀ (k0_h4 : k0_cond4 i k0_t1 arg10_r0 = 1#1), ∀ a, (k0_off8 i arg10_r0) a + S1x128.size a ≤ S1x204800.size a) ∧
  (∀ (k0_h1 : k0_cond1 i = 1#1), ∀ (k0_h4 : k0_cond4 i k0_t1 arg10_r0 = 1#1), ∀ a, (k0_off9 arg7_r0) a + S1.size a ≤ S2.size a) ∧
  (∀ (k0_h1 : k0_cond1 i = 1#1), ∀ (k0_h7 : k0_cond7 i k0_t1 arg10_r0 = 1#1), ∀ a, (k0_off12 arg8_r0) a + S1x128x128.size a ≤ S2x128x128.size a) ∧
  (∀ (k0_h1 : k0_cond1 i = 1#1), ∀ (k0_h7 : k0_cond7 i k0_t1 arg10_r0 = 1#1), ∀ a, (k0_off13 i arg10_r0) a + S128x128.size a ≤ S51200x128.size a) ∧
  (∀ (k0_h1 : k0_cond1 i = 1#1), ∀ (k0_h7 : k0_cond7 i k0_t1 arg10_r0 = 1#1), ∀ a, (k0_off14 arg8_r0) a + S1.size a ≤ S2.size a) ∧
  (∀ (k0_h1 : k0_cond1 i = 1#1), ∀ (k0_h9 : k0_cond9 i k0_t1 arg10_r0 = 1#1), ∀ a, (k0_off15 arg9_r0) a + S1x128x128.size a ≤ S2x128x128.size a) ∧
  (∀ (k0_h1 : k0_cond1 i = 1#1), ∀ (k0_h9 : k0_cond9 i k0_t1 arg10_r0 = 1#1), ∀ a, (k0_off16 i arg10_r0) a + S128x128.size a ≤ S51200x128.size a) ∧
  (∀ (k0_h1 : k0_cond1 i = 1#1), ∀ (k0_h9 : k0_cond9 i k0_t1 arg10_r0 = 1#1), ∀ a, (k0_off17 arg9_r0) a + S1.size a ≤ S2.size a)
theorem k0_off4_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off4 arg6_r0) a + S1x1x128.size a ≤ S2x1x128.size a := fun i k0_t1 arg6_r0 arg7_r0 arg8_r0 arg9_r0 arg10_r0 k0_hw1 k0_h1 k0_h3 => k0_hw1.1 k0_h1 k0_h3
theorem k0_off5_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off5 i arg10_r0) a + S1x128.size a ≤ S1x204800.size a := fun i k0_t1 arg6_r0 arg7_r0 arg8_r0 arg9_r0 arg10_r0 k0_hw1 k0_h1 k0_h3 => k0_hw1.2.1 k0_h1 k0_h3
theorem k0_off6_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off6 arg6_r0) a + S1.size a ≤ S2.size a := fun i k0_t1 arg6_r0 arg7_r0 arg8_r0 arg9_r0 arg10_r0 k0_hw1 k0_h1 k0_h3 => k0_hw1.2.2.1 k0_h1 k0_h3
theorem k0_off7_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off7 arg7_r0) a + S1x1x128.size a ≤ S2x1x128.size a := fun i k0_t1 arg6_r0 arg7_r0 arg8_r0 arg9_r0 arg10_r0 k0_hw1 k0_h1 k0_h4 => k0_hw1.2.2.2.1 k0_h1 k0_h4
theorem k0_off8_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off8 i arg10_r0) a + S1x128.size a ≤ S1x204800.size a := fun i k0_t1 arg6_r0 arg7_r0 arg8_r0 arg9_r0 arg10_r0 k0_hw1 k0_h1 k0_h4 => k0_hw1.2.2.2.2.1 k0_h1 k0_h4
theorem k0_off9_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off9 arg7_r0) a + S1.size a ≤ S2.size a := fun i k0_t1 arg6_r0 arg7_r0 arg8_r0 arg9_r0 arg10_r0 k0_hw1 k0_h1 k0_h4 => k0_hw1.2.2.2.2.2.1 k0_h1 k0_h4
theorem k0_off12_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off12 arg8_r0) a + S1x128x128.size a ≤ S2x128x128.size a := fun i k0_t1 arg6_r0 arg7_r0 arg8_r0 arg9_r0 arg10_r0 k0_hw1 k0_h1 k0_h7 => k0_hw1.2.2.2.2.2.2.1 k0_h1 k0_h7
theorem k0_off13_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off13 i arg10_r0) a + S128x128.size a ≤ S51200x128.size a := fun i k0_t1 arg6_r0 arg7_r0 arg8_r0 arg9_r0 arg10_r0 k0_hw1 k0_h1 k0_h7 => k0_hw1.2.2.2.2.2.2.2.1 k0_h1 k0_h7
theorem k0_off14_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off14 arg8_r0) a + S1.size a ≤ S2.size a := fun i k0_t1 arg6_r0 arg7_r0 arg8_r0 arg9_r0 arg10_r0 k0_hw1 k0_h1 k0_h7 => k0_hw1.2.2.2.2.2.2.2.2.1 k0_h1 k0_h7
theorem k0_off15_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off15 arg9_r0) a + S1x128x128.size a ≤ S2x128x128.size a := fun i k0_t1 arg6_r0 arg7_r0 arg8_r0 arg9_r0 arg10_r0 k0_hw1 k0_h1 k0_h9 => k0_hw1.2.2.2.2.2.2.2.2.2.1 k0_h1 k0_h9
theorem k0_off16_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off16 i arg10_r0) a + S128x128.size a ≤ S51200x128.size a := fun i k0_t1 arg6_r0 arg7_r0 arg8_r0 arg9_r0 arg10_r0 k0_hw1 k0_h1 k0_h9 => k0_hw1.2.2.2.2.2.2.2.2.2.2.1 k0_h1 k0_h9
theorem k0_off17_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off17 arg9_r0) a + S1.size a ≤ S2.size a := fun i k0_t1 arg6_r0 arg7_r0 arg8_r0 arg9_r0 arg10_r0 k0_hw1 k0_h1 k0_h9 => k0_hw1.2.2.2.2.2.2.2.2.2.2.2 k0_h1 k0_h9

@[reducible] def k0_t2_loop (i : grid0.Coords) : Scf.Loop 32 :=
  let c0_i32_30_r0 : BitVec 32 := 0#32
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let v43_r0 : BitVec 32 := Scalar.addi c0_i32_30_r0 v42_r0
  let c1_i32_37_r0 : BitVec 32 := 1#32
  ⟨v46_r0, v43_r0, c1_i32_37_r0⟩
def k0_off18 (arg6_r0 : BitVec 32) : Fin 3 → Nat :=
  let c2_i32_105_r0 : BitVec 32 := 2#32
  let v170_r0 : BitVec 32 := Scalar.remui arg6_r0 c2_i32_105_r0
  let c0_i32_107_r0 : BitVec 32 := 0#32
  let c0_i32_108_r0 : BitVec 32 := 0#32
  ![v170_r0.toNat, 0, 0]
def k0_cond10 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let c0_i32_71_r0 : BitVec 32 := 0#32
  let v101_r0 : BitVec 32 := Scalar.addi v84_r0 c0_i32_71_r0
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let c0_i32_72_r0 : BitVec 32 := 0#32
  let v102_r0 : BitVec 32 := Scalar.addi v95_r0 c0_i32_72_r0
  let v103_r0 : BitVec 1 := Scalar.cmpi .ne v101_r0 v102_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k0_t2
  let c1_i32_58_r0 : BitVec 32 := 1#32
  let v80_r0 : BitVec 32 := Scalar.muli c1_i32_58_r0 v5
  let c2_i32_r0 : BitVec 32 := 2#32
  let v104_r0 : BitVec 32 := Scalar.subi v80_r0 c2_i32_r0
  let c1_i32_73_r0 : BitVec 32 := 1#32
  let v105_r0 : BitVec 32 := Scalar.addi v104_r0 c1_i32_73_r0
  let v106_r0 : BitVec 1 := Scalar.cmpi .sge arg5_r0 v105_r0
  let true_74_r0 : BitVec 1 := 1#1
  let v107_r0 : BitVec 1 := Scalar.xori v106_r0 true_74_r0
  let v108_r0 : BitVec 1 := Scalar.andi v103_r0 v107_r0
  let true_75_r0 : BitVec 1 := 1#1
  let v109_r0 : BitVec 1 := Scalar.andi v108_r0 true_75_r0
  let v110_r0 : BitVec 32 := Scalar.extui v109_r0
  let c0_i32_76_r0 : BitVec 32 := 0#32
  let v111_r0 : BitVec 1 := Scalar.cmpi .ne v110_r0 c0_i32_76_r0
  v111_r0

def k0_off19 (i : grid0.Coords) (arg10_r0 : BitVec 32) : Fin 2 → Nat :=
  let c0_i32_109_r0 : BitVec 32 := 0#32
  let c128_i32_r0 : BitVec 32 := 128#32
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v93_r0 : BitVec 1 := Scalar.cmpi .eq v92_r0 v5
  let c0_i32_67_r0 : BitVec 32 := 0#32
  let v94_r0 : BitVec 32 := Scalar.select v93_r0 c0_i32_67_r0 v92_r0
  let c16_i32_1 : BitVec 32 := 16#32
  let v6 : BitVec 1 := Scalar.cmpi .slt v3 c16_i32_1
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v95_r0 : BitVec 32 := Scalar.addi v94_r0 v10
  let c0_i32_106_r0 : BitVec 32 := 0#32
  let v171_r0 : BitVec 32 := Scalar.addi v95_r0 c0_i32_106_r0
  let v172_r0 : BitVec 32 := Scalar.muli c128_i32_r0 v171_r0
  ![0, v172_r0.toNat]
def k0_off20 (arg6_r0 : BitVec 32) : Fin 1 → Nat :=
  let c2_i32_105_r0 : BitVec 32 := 2#32
  let v170_r0 : BitVec 32 := Scalar.remui arg6_r0 c2_i32_105_r0
  ![v170_r0.toNat]
def k0_off21 (arg7_r0 : BitVec 32) : Fin 3 → Nat :=
  let c2_i32_106_r0 : BitVec 32 := 2#32
  let v172_r0 : BitVec 32 := Scalar.remui arg7_r0 c2_i32_106_r0
  let c0_i32_107_r0 : BitVec 32 := 0#32
  let c0_i32_108_r0 : BitVec 32 := 0#32
  ![v172_r0.toNat, 0, 0]
def k0_cond11 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let c0_i32_71_r0 : BitVec 32 := 0#32
  let v101_r0 : BitVec 32 := Scalar.addi v84_r0 c0_i32_71_r0
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let c0_i32_82_r0 : BitVec 32 := 0#32
  let v121_r0 : BitVec 32 := Scalar.addi v90_r0 c0_i32_82_r0
  let v122_r0 : BitVec 1 := Scalar.cmpi .ne v101_r0 v121_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k0_t2
  let c0_i32_59_r0 : BitVec 32 := 0#32
  let v81_r0 : BitVec 1 := Scalar.cmpi .eq arg5_r0 c0_i32_59_r0
  let v123_r0 : BitVec 1 := Scalar.ori v122_r0 v81_r0
  let c0_i32_83_r0 : BitVec 32 := 0#32
  let v124_r0 : BitVec 1 := Scalar.cmpi .sge arg5_r0 c0_i32_83_r0
  let v125_r0 : BitVec 1 := Scalar.andi v123_r0 v124_r0
  let v126_r0 : BitVec 32 := Scalar.extui v125_r0
  let c0_i32_84_r0 : BitVec 32 := 0#32
  let v127_r0 : BitVec 1 := Scalar.cmpi .ne v126_r0 c0_i32_84_r0
  v127_r0

def k0_off22 (i : grid0.Coords) (arg10_r0 : BitVec 32) : Fin 2 → Nat :=
  let c0_i32_109_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let c0_i32_105_r0 : BitVec 32 := 0#32
  let v170_r0 : BitVec 32 := Scalar.addi v84_r0 c0_i32_105_r0
  let v171_r0 : BitVec 32 := Scalar.muli c128_i32_r0 v170_r0
  ![0, v171_r0.toNat]
def k0_off23 (arg7_r0 : BitVec 32) : Fin 1 → Nat :=
  let c2_i32_106_r0 : BitVec 32 := 2#32
  let v172_r0 : BitVec 32 := Scalar.remui arg7_r0 c2_i32_106_r0
  ![v172_r0.toNat]
def k0_off24 (arg8_r0 : BitVec 32) : Fin 3 → Nat :=
  let c2_i32_88_r0 : BitVec 32 := 2#32
  let v135_r0 : BitVec 32 := Scalar.remui arg8_r0 c2_i32_88_r0
  let c0_i32_105_r2 : BitVec 32 := 0#32
  let c0_i32_106_r2 : BitVec 32 := 0#32
  ![v135_r0.toNat, 0, 0]

def k0_chk5 (i : grid0.Coords) (k0_t2 : Fin (k0_t2_loop i).trips) (arg8_r0 : BitVec 32) : Prop :=
  (∀ (k0_h1 : k0_cond1 i = 1#1), ∀ a, (k0_off24 arg8_r0) a + S1x128x128.size a ≤ S2x128x128.size a)
theorem k0_off24_inb : ∀ (i : grid0.Coords) (k0_t2 : Fin (k0_t2_loop i).trips) (arg8_r0 : BitVec 32) (k0_hw5 : k0_chk5 i k0_t2 arg8_r0), ∀ (k0_h1 : k0_cond1 i = 1#1), ∀ a, (k0_off24 arg8_r0) a + S1x128x128.size a ≤ S2x128x128.size a := fun i k0_t2 arg8_r0 k0_hw5 k0_h1 => k0_hw5 k0_h1

def k0_off25 (arg7_r0 : BitVec 32) : Fin 3 → Nat :=
  let c2_i32_87_r0 : BitVec 32 := 2#32
  let v134_r0 : BitVec 32 := Scalar.remui arg7_r0 c2_i32_87_r0
  let c0_i32_107_r2 : BitVec 32 := 0#32
  let c0_i32_108_r2 : BitVec 32 := 0#32
  ![v134_r0.toNat, 0, 0]

def k0_chk6 (i : grid0.Coords) (k0_t2 : Fin (k0_t2_loop i).trips) (arg7_r0 : BitVec 32) : Prop :=
  (∀ (k0_h1 : k0_cond1 i = 1#1), ∀ a, (k0_off25 arg7_r0) a + S1x1x128.size a ≤ S2x1x128.size a)
theorem k0_off25_inb : ∀ (i : grid0.Coords) (k0_t2 : Fin (k0_t2_loop i).trips) (arg7_r0 : BitVec 32) (k0_hw6 : k0_chk6 i k0_t2 arg7_r0), ∀ (k0_h1 : k0_cond1 i = 1#1), ∀ a, (k0_off25 arg7_r0) a + S1x1x128.size a ≤ S2x1x128.size a := fun i k0_t2 arg7_r0 k0_hw6 k0_h1 => k0_hw6 k0_h1

def k0_off26 (arg8_r0 : BitVec 32) : Fin 3 → Nat :=
  let c2_i32_105_r0 : BitVec 32 := 2#32
  let v170_r0 : BitVec 32 := Scalar.remui arg8_r0 c2_i32_105_r0
  let c0_i32_106_r0 : BitVec 32 := 0#32
  let c0_i32_107_r0 : BitVec 32 := 0#32
  ![v170_r0.toNat, 0, 0]
def k0_cond14 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v141_r0 : BitVec 1 := Scalar.cmpi .ne v84_r0 v95_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k0_t2
  let c1_i32_58_r0 : BitVec 32 := 1#32
  let v80_r0 : BitVec 32 := Scalar.muli c1_i32_58_r0 v5
  let c1_i32_60_r0 : BitVec 32 := 1#32
  let v82_r0 : BitVec 32 := Scalar.subi v80_r0 c1_i32_60_r0
  let v83_r0 : BitVec 1 := Scalar.cmpi .eq arg5_r0 v82_r0
  let v142_r0 : BitVec 1 := Scalar.ori v141_r0 v83_r0
  let v143_r0 : BitVec 32 := Scalar.extui v142_r0
  let c0_i32_91_r0 : BitVec 32 := 0#32
  let v144_r0 : BitVec 1 := Scalar.cmpi .ne v143_r0 c0_i32_91_r0
  v144_r0

def k0_off27 (i : grid0.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let v171_r0 : BitVec 32 := Scalar.muli c128_i32_r0 v84_r0
  let c0_i32_108_r0 : BitVec 32 := 0#32
  ![v171_r0.toNat, 0]
def k0_off28 (arg8_r0 : BitVec 32) : Fin 1 → Nat :=
  let c2_i32_105_r0 : BitVec 32 := 2#32
  let v170_r0 : BitVec 32 := Scalar.remui arg8_r0 c2_i32_105_r0
  ![v170_r0.toNat]
def k0_off29 (arg9_r0 : BitVec 32) : Fin 3 → Nat :=
  let c2_i32_105_r0 : BitVec 32 := 2#32
  let v170_r0 : BitVec 32 := Scalar.remui arg9_r0 c2_i32_105_r0
  let c0_i32_106_r0 : BitVec 32 := 0#32
  let c0_i32_107_r0 : BitVec 32 := 0#32
  ![v170_r0.toNat, 0, 0]
def k0_cond16 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v154_r0 : BitVec 1 := Scalar.cmpi .ne v84_r0 v90_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k0_t2
  let c0_i32_59_r0 : BitVec 32 := 0#32
  let v81_r0 : BitVec 1 := Scalar.cmpi .eq arg5_r0 c0_i32_59_r0
  let true_97_r0 : BitVec 1 := 1#1
  let v155_r0 : BitVec 1 := Scalar.xori v81_r0 true_97_r0
  let v156_r0 : BitVec 1 := Scalar.andi v154_r0 v155_r0
  let v157_r0 : BitVec 32 := Scalar.extui v156_r0
  let c0_i32_98_r0 : BitVec 32 := 0#32
  let v158_r0 : BitVec 1 := Scalar.cmpi .ne v157_r0 c0_i32_98_r0
  v158_r0

def k0_off30 (i : grid0.Coords) (arg10_r0 : BitVec 32) : Fin 2 → Nat :=
  let c128_i32_r0 : BitVec 32 := 128#32
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let c1_i32_64_r0 : BitVec 32 := 1#32
  let v88_r0 : BitVec 32 := Scalar.subi v5 c1_i32_64_r0
  let v89_r0 : BitVec 32 := Scalar.select v87_r0 v88_r0 v86_r0
  let c16_i32_1 : BitVec 32 := 16#32
  let v6 : BitVec 1 := Scalar.cmpi .slt v3 c16_i32_1
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v90_r0 : BitVec 32 := Scalar.addi v89_r0 v10
  let v171_r0 : BitVec 32 := Scalar.muli c128_i32_r0 v90_r0
  let c0_i32_108_r0 : BitVec 32 := 0#32
  ![v171_r0.toNat, 0]
def k0_off31 (arg9_r0 : BitVec 32) : Fin 1 → Nat :=
  let c2_i32_105_r0 : BitVec 32 := 2#32
  let v170_r0 : BitVec 32 := Scalar.remui arg9_r0 c2_i32_105_r0
  ![v170_r0.toNat]

def k0_chk4 (i : grid0.Coords) (k0_t2 : Fin (k0_t2_loop i).trips) (arg6_r0 : BitVec 32) (arg7_r0 : BitVec 32) (arg8_r0 : BitVec 32) (arg9_r0 : BitVec 32) (arg10_r0 : BitVec 32) : Prop :=
  (∀ (k0_h1 : k0_cond1 i = 1#1), ∀ (k0_h10 : k0_cond10 i k0_t2 arg10_r0 = 1#1), ∀ a, (k0_off18 arg6_r0) a + S1x1x128.size a ≤ S2x1x128.size a) ∧
  (∀ (k0_h1 : k0_cond1 i = 1#1), ∀ (k0_h10 : k0_cond10 i k0_t2 arg10_r0 = 1#1), ∀ a, (k0_off19 i arg10_r0) a + S1x128.size a ≤ S1x204800.size a) ∧
  (∀ (k0_h1 : k0_cond1 i = 1#1), ∀ (k0_h10 : k0_cond10 i k0_t2 arg10_r0 = 1#1), ∀ a, (k0_off20 arg6_r0) a + S1.size a ≤ S2.size a) ∧
  (∀ (k0_h1 : k0_cond1 i = 1#1), ∀ (k0_h11 : k0_cond11 i k0_t2 arg10_r0 = 1#1), ∀ a, (k0_off21 arg7_r0) a + S1x1x128.size a ≤ S2x1x128.size a) ∧
  (∀ (k0_h1 : k0_cond1 i = 1#1), ∀ (k0_h11 : k0_cond11 i k0_t2 arg10_r0 = 1#1), ∀ a, (k0_off22 i arg10_r0) a + S1x128.size a ≤ S1x204800.size a) ∧
  (∀ (k0_h1 : k0_cond1 i = 1#1), ∀ (k0_h11 : k0_cond11 i k0_t2 arg10_r0 = 1#1), ∀ a, (k0_off23 arg7_r0) a + S1.size a ≤ S2.size a) ∧
  (∀ (k0_h1 : k0_cond1 i = 1#1), ∀ (k0_h14 : k0_cond14 i k0_t2 arg10_r0 = 1#1), ∀ a, (k0_off26 arg8_r0) a + S1x128x128.size a ≤ S2x128x128.size a) ∧
  (∀ (k0_h1 : k0_cond1 i = 1#1), ∀ (k0_h14 : k0_cond14 i k0_t2 arg10_r0 = 1#1), ∀ a, (k0_off27 i arg10_r0) a + S128x128.size a ≤ S51200x128.size a) ∧
  (∀ (k0_h1 : k0_cond1 i = 1#1), ∀ (k0_h14 : k0_cond14 i k0_t2 arg10_r0 = 1#1), ∀ a, (k0_off28 arg8_r0) a + S1.size a ≤ S2.size a) ∧
  (∀ (k0_h1 : k0_cond1 i = 1#1), ∀ (k0_h16 : k0_cond16 i k0_t2 arg10_r0 = 1#1), ∀ a, (k0_off29 arg9_r0) a + S1x128x128.size a ≤ S2x128x128.size a) ∧
  (∀ (k0_h1 : k0_cond1 i = 1#1), ∀ (k0_h16 : k0_cond16 i k0_t2 arg10_r0 = 1#1), ∀ a, (k0_off30 i arg10_r0) a + S128x128.size a ≤ S51200x128.size a) ∧
  (∀ (k0_h1 : k0_cond1 i = 1#1), ∀ (k0_h16 : k0_cond16 i k0_t2 arg10_r0 = 1#1), ∀ a, (k0_off31 arg9_r0) a + S1.size a ≤ S2.size a)
theorem k0_off18_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off18 arg6_r0) a + S1x1x128.size a ≤ S2x1x128.size a := fun i k0_t2 arg6_r0 arg7_r0 arg8_r0 arg9_r0 arg10_r0 k0_hw4 k0_h1 k0_h10 => k0_hw4.1 k0_h1 k0_h10
theorem k0_off19_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off19 i arg10_r0) a + S1x128.size a ≤ S1x204800.size a := fun i k0_t2 arg6_r0 arg7_r0 arg8_r0 arg9_r0 arg10_r0 k0_hw4 k0_h1 k0_h10 => k0_hw4.2.1 k0_h1 k0_h10
theorem k0_off20_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off20 arg6_r0) a + S1.size a ≤ S2.size a := fun i k0_t2 arg6_r0 arg7_r0 arg8_r0 arg9_r0 arg10_r0 k0_hw4 k0_h1 k0_h10 => k0_hw4.2.2.1 k0_h1 k0_h10
theorem k0_off21_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off21 arg7_r0) a + S1x1x128.size a ≤ S2x1x128.size a := fun i k0_t2 arg6_r0 arg7_r0 arg8_r0 arg9_r0 arg10_r0 k0_hw4 k0_h1 k0_h11 => k0_hw4.2.2.2.1 k0_h1 k0_h11
theorem k0_off22_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off22 i arg10_r0) a + S1x128.size a ≤ S1x204800.size a := fun i k0_t2 arg6_r0 arg7_r0 arg8_r0 arg9_r0 arg10_r0 k0_hw4 k0_h1 k0_h11 => k0_hw4.2.2.2.2.1 k0_h1 k0_h11
theorem k0_off23_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off23 arg7_r0) a + S1.size a ≤ S2.size a := fun i k0_t2 arg6_r0 arg7_r0 arg8_r0 arg9_r0 arg10_r0 k0_hw4 k0_h1 k0_h11 => k0_hw4.2.2.2.2.2.1 k0_h1 k0_h11
theorem k0_off26_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off26 arg8_r0) a + S1x128x128.size a ≤ S2x128x128.size a := fun i k0_t2 arg6_r0 arg7_r0 arg8_r0 arg9_r0 arg10_r0 k0_hw4 k0_h1 k0_h14 => k0_hw4.2.2.2.2.2.2.1 k0_h1 k0_h14
theorem k0_off27_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off27 i arg10_r0) a + S128x128.size a ≤ S51200x128.size a := fun i k0_t2 arg6_r0 arg7_r0 arg8_r0 arg9_r0 arg10_r0 k0_hw4 k0_h1 k0_h14 => k0_hw4.2.2.2.2.2.2.2.1 k0_h1 k0_h14
theorem k0_off28_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off28 arg8_r0) a + S1.size a ≤ S2.size a := fun i k0_t2 arg6_r0 arg7_r0 arg8_r0 arg9_r0 arg10_r0 k0_hw4 k0_h1 k0_h14 => k0_hw4.2.2.2.2.2.2.2.2.1 k0_h1 k0_h14
theorem k0_off29_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off29 arg9_r0) a + S1x128x128.size a ≤ S2x128x128.size a := fun i k0_t2 arg6_r0 arg7_r0 arg8_r0 arg9_r0 arg10_r0 k0_hw4 k0_h1 k0_h16 => k0_hw4.2.2.2.2.2.2.2.2.2.1 k0_h1 k0_h16
theorem k0_off30_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off30 i arg10_r0) a + S128x128.size a ≤ S51200x128.size a := fun i k0_t2 arg6_r0 arg7_r0 arg8_r0 arg9_r0 arg10_r0 k0_hw4 k0_h1 k0_h16 => k0_hw4.2.2.2.2.2.2.2.2.2.2.1 k0_h1 k0_h16
theorem k0_off31_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off31 arg9_r0) a + S1.size a ≤ S2.size a := fun i k0_t2 arg6_r0 arg7_r0 arg8_r0 arg9_r0 arg10_r0 k0_hw4 k0_h1 k0_h16 => k0_hw4.2.2.2.2.2.2.2.2.2.2.2 k0_h1 k0_h16

def k0_cond18 (i : grid0.Coords) : BitVec 1 :=
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v11 : BitVec 32 := Scalar.muli c1_i32_4 v5
  let c1_i32_42_r0 : BitVec 32 := 1#32
  let v54_r0 : BitVec 32 := Scalar.subi v11 c1_i32_42_r0
  let c1_i32_43_r0 : BitVec 32 := 1#32
  let v55_r0 : BitVec 32 := Scalar.muli c1_i32_43_r0 v5
  let c1_i32_45_r0 : BitVec 32 := 1#32
  let v57_r0 : BitVec 32 := Scalar.subi v55_r0 c1_i32_45_r0
  let v58_r0 : BitVec 1 := Scalar.cmpi .eq v54_r0 v57_r0
  let v78_r0 : BitVec 32 := Scalar.extui v58_r0
  let c0_i32_57_r0 : BitVec 32 := 0#32
  let v79_r0 : BitVec 1 := Scalar.cmpi .ne v78_r0 c0_i32_57_r0
  v79_r0

def k0_off32 (v48_3_r0 : BitVec 32) : Fin 3 → Nat :=
  let c2_i32_r0 : BitVec 32 := 2#32
  let v80_r0 : BitVec 32 := Scalar.remui v48_3_r0 c2_i32_r0
  let c0_i32_58_r0 : BitVec 32 := 0#32
  let c0_i32_59_r0 : BitVec 32 := 0#32
  ![v80_r0.toNat, 0, 0]

def k0_off33 (i : grid0.Coords) (v48_4_r0 : BitVec 32) : Fin 2 → Nat :=
  let c128_i32_r0 : BitVec 32 := 128#32
  let true_39_r0 : BitVec 1 := 1#1
  let c1_i32_38_r0 : BitVec 32 := 1#32
  let v49_r0 : BitVec 32 := Scalar.subi v48_4_r0 c1_i32_38_r0
  let v50_r0 : BitVec 32 := Scalar.select true_39_r0 v49_r0 v48_4_r0
  let c_m1_i32_40_r0 : BitVec 32 := 4294967295#32
  let v51_r0 : BitVec 1 := Scalar.cmpi .eq v50_r0 c_m1_i32_40_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let c1_i32_41_r0 : BitVec 32 := 1#32
  let v52_r0 : BitVec 32 := Scalar.subi v5 c1_i32_41_r0
  let v53_r0 : BitVec 32 := Scalar.select v51_r0 v52_r0 v50_r0
  let c16_i32_1 : BitVec 32 := 16#32
  let v6 : BitVec 1 := Scalar.cmpi .slt v3 c16_i32_1
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v59_r0 : BitVec 32 := Scalar.addi v53_r0 v10
  let v81_r0 : BitVec 32 := Scalar.muli c128_i32_r0 v59_r0
  let c0_i32_60_r0 : BitVec 32 := 0#32
  ![v81_r0.toNat, 0]

def k0_chk8 (i : grid0.Coords) (v48_4_r0 : BitVec 32) : Prop :=
  (∀ (k0_h1 : k0_cond1 i = 1#1), ∀ (k0_h18 : k0_cond18 i = 1#1), ∀ a, (k0_off33 i v48_4_r0) a + S128x128.size a ≤ S51200x128.size a)
theorem k0_off33_inb : ∀ (i : grid0.Coords) (v48_4_r0 : BitVec 32) (k0_hw8 : k0_chk8 i v48_4_r0), ∀ (k0_h1 : k0_cond1 i = 1#1), ∀ (k0_h18 : k0_cond18 i = 1#1), ∀ a, (k0_off33 i v48_4_r0) a + S128x128.size a ≤ S51200x128.size a := fun i v48_4_r0 k0_hw8 k0_h1 k0_h18 => k0_hw8 k0_h1 k0_h18

def k0_off34 (v48_3_r0 : BitVec 32) : Fin 1 → Nat :=
  let c2_i32_r0 : BitVec 32 := 2#32
  let v80_r0 : BitVec 32 := Scalar.remui v48_3_r0 c2_i32_r0
  ![v80_r0.toNat]
def k0_off35 (v48_3_r0 : BitVec 32) : Fin 3 → Nat :=
  let c2_i32_r0 : BitVec 32 := 2#32
  let v80_r0 : BitVec 32 := Scalar.remui v48_3_r0 c2_i32_r0
  let c0_i32_62_r0 : BitVec 32 := 0#32
  let c0_i32_63_r0 : BitVec 32 := 0#32
  ![v80_r0.toNat, 0, 0]

def k0_chk7 (i : grid0.Coords) (v48_3_r0 : BitVec 32) : Prop :=
  (∀ (k0_h1 : k0_cond1 i = 1#1), ∀ (k0_h18 : k0_cond18 i = 1#1), ∀ a, (k0_off32 v48_3_r0) a + S1x128x128.size a ≤ S2x128x128.size a) ∧
  (∀ (k0_h1 : k0_cond1 i = 1#1), ∀ (k0_h18 : k0_cond18 i = 1#1), ∀ a, (k0_off34 v48_3_r0) a + S1.size a ≤ S2.size a) ∧
  (∀ (k0_h1 : k0_cond1 i = 1#1), ∀ (k0_h18 : k0_cond18 i = 1#1), ∀ a, (k0_off35 v48_3_r0) a + S1x128x128.size a ≤ S2x128x128.size a)
theorem k0_off32_inb : ∀ (i : grid0.Coords) (v48_3_r0 : BitVec 32) (k0_hw7 : k0_chk7 i v48_3_r0), ∀ (k0_h1 : k0_cond1 i = 1#1), ∀ (k0_h18 : k0_cond18 i = 1#1), ∀ a, (k0_off32 v48_3_r0) a + S1x128x128.size a ≤ S2x128x128.size a := fun i v48_3_r0 k0_hw7 k0_h1 k0_h18 => k0_hw7.1 k0_h1 k0_h18
theorem k0_off34_inb : ∀ (i : grid0.Coords) (v48_3_r0 : BitVec 32) (k0_hw7 : k0_chk7 i v48_3_r0), ∀ (k0_h1 : k0_cond1 i = 1#1), ∀ (k0_h18 : k0_cond18 i = 1#1), ∀ a, (k0_off34 v48_3_r0) a + S1.size a ≤ S2.size a := fun i v48_3_r0 k0_hw7 k0_h1 k0_h18 => k0_hw7.2.1 k0_h1 k0_h18
theorem k0_off35_inb : ∀ (i : grid0.Coords) (v48_3_r0 : BitVec 32) (k0_hw7 : k0_chk7 i v48_3_r0), ∀ (k0_h1 : k0_cond1 i = 1#1), ∀ (k0_h18 : k0_cond18 i = 1#1), ∀ a, (k0_off35 v48_3_r0) a + S1x128x128.size a ≤ S2x128x128.size a := fun i v48_3_r0 k0_hw7 k0_h1 k0_h18 => k0_hw7.2.2 k0_h1 k0_h18

abbrev grid1 : Pipeline.Grid := ⟨2, ![2, 16], ![false, false]⟩

def k1_cond1 (i : grid1.Coords) : BitVec 1 :=
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v11 : BitVec 32 := Scalar.muli c1_i32_4 v5
  let c0_i32_6_r0 : BitVec 32 := 0#32
  let v14_r0 : BitVec 1 := Scalar.cmpi .sgt v11 c0_i32_6_r0
  let v15_r0 : BitVec 32 := Scalar.extui v14_r0
  let c0_i32_7_r0 : BitVec 32 := 0#32
  let v16_r0 : BitVec 1 := Scalar.cmpi .ne v15_r0 c0_i32_7_r0
  v16_r0

def k1_cond2 (i : grid1.Coords) : BitVec 1 :=
  let true_23_r0 : BitVec 1 := 1#1
  let c1_i32_8_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v17_r0 : BitVec 32 := Scalar.muli c1_i32_8_r0 v5
  let c0_i32_22_r0 : BitVec 32 := 0#32
  let v35_r0 : BitVec 1 := Scalar.cmpi .sgt v17_r0 c0_i32_22_r0
  let v36_r0 : BitVec 1 := Scalar.andi true_23_r0 v35_r0
  let true_24_r0 : BitVec 1 := 1#1
  let v37_r0 : BitVec 1 := Scalar.andi v36_r0 true_24_r0
  let v38_r0 : BitVec 32 := Scalar.extui v37_r0
  let c0_i32_26_r0 : BitVec 32 := 0#32
  let v39_r0 : BitVec 1 := Scalar.cmpi .ne v38_r0 c0_i32_26_r0
  v39_r0

def k1_off1 : Fin 3 → Nat :=
  let c0_i32_25_r0 : BitVec 32 := 0#32
  let c2_i32_r0 : BitVec 32 := 2#32
  let v80_r0 : BitVec 32 := Scalar.remui c0_i32_25_r0 c2_i32_r0
  let c0_i32_58_r0 : BitVec 32 := 0#32
  let c0_i32_59_r0 : BitVec 32 := 0#32
  ![v80_r0.toNat, 0, 0]
def k1_off2 (i : grid1.Coords) : Fin 2 → Nat :=
  let c0_i32_60_r0 : BitVec 32 := 0#32
  let c128_i32_r0 : BitVec 32 := 128#32
  let c0_i32_11_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v20_r0 : BitVec 32 := Scalar.addi c0_i32_11_r0 v10
  let c400_i32_r0 : BitVec 32 := 400#32
  let v81_r0 : BitVec 32 := Scalar.addi v20_r0 c400_i32_r0
  let v82_r0 : BitVec 32 := Scalar.muli c128_i32_r0 v81_r0
  ![0, v82_r0.toNat]
def k1_off3 : Fin 1 → Nat :=
  let c0_i32_25_r0 : BitVec 32 := 0#32
  let c2_i32_r0 : BitVec 32 := 2#32
  let v80_r0 : BitVec 32 := Scalar.remui c0_i32_25_r0 c2_i32_r0
  ![v80_r0.toNat]
@[reducible] def k1_t1_loop (i : grid1.Coords) : Scf.Loop 32 :=
  let c0_i32_30_r0 : BitVec 32 := 0#32
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_36_r0 : BitVec 32 := 1#32
  ⟨c0_i32_30_r0, v46_r0, c1_i32_36_r0⟩
def k1_off4 (arg6_r0 : BitVec 32) : Fin 3 → Nat :=
  let c2_i32_104_r0 : BitVec 32 := 2#32
  let v170_r0 : BitVec 32 := Scalar.remui arg6_r0 c2_i32_104_r0
  let c0_i32_106_r0 : BitVec 32 := 0#32
  let c0_i32_107_r0 : BitVec 32 := 0#32
  ![v170_r0.toNat, 0, 0]
def k1_cond3 (i : grid1.Coords) (k1_t1 : Fin (k1_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let c400_i32_r0 : BitVec 32 := 400#32
  let v101_r0 : BitVec 32 := Scalar.addi v84_r0 c400_i32_r0
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let c400_i32_71_r0 : BitVec 32 := 400#32
  let v102_r0 : BitVec 32 := Scalar.addi v95_r0 c400_i32_71_r0
  let v103_r0 : BitVec 1 := Scalar.cmpi .ne v101_r0 v102_r0
  let c0_i32_30_r0 : BitVec 32 := 0#32
  let c1_i32_36_r0 : BitVec 32 := 1#32
  let arg5_r0 : BitVec 32 := Scf.iv c0_i32_30_r0 c1_i32_36_r0 k1_t1
  let c1_i32_58_r0 : BitVec 32 := 1#32
  let v80_r0 : BitVec 32 := Scalar.muli c1_i32_58_r0 v5
  let c2_i32_r0 : BitVec 32 := 2#32
  let v104_r0 : BitVec 32 := Scalar.subi v80_r0 c2_i32_r0
  let c1_i32_72_r0 : BitVec 32 := 1#32
  let v105_r0 : BitVec 32 := Scalar.addi v104_r0 c1_i32_72_r0
  let v106_r0 : BitVec 1 := Scalar.cmpi .sge arg5_r0 v105_r0
  let true_73_r0 : BitVec 1 := 1#1
  let v107_r0 : BitVec 1 := Scalar.xori v106_r0 true_73_r0
  let v108_r0 : BitVec 1 := Scalar.andi v103_r0 v107_r0
  let true_74_r0 : BitVec 1 := 1#1
  let v109_r0 : BitVec 1 := Scalar.andi v108_r0 true_74_r0
  let v110_r0 : BitVec 32 := Scalar.extui v109_r0
  let c0_i32_75_r0 : BitVec 32 := 0#32
  let v111_r0 : BitVec 1 := Scalar.cmpi .ne v110_r0 c0_i32_75_r0
  v111_r0

def k1_off5 (i : grid1.Coords) (arg10_r0 : BitVec 32) : Fin 2 → Nat :=
  let c0_i32_108_r0 : BitVec 32 := 0#32
  let c128_i32_r0 : BitVec 32 := 128#32
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v93_r0 : BitVec 1 := Scalar.cmpi .eq v92_r0 v5
  let c0_i32_67_r0 : BitVec 32 := 0#32
  let v94_r0 : BitVec 32 := Scalar.select v93_r0 c0_i32_67_r0 v92_r0
  let c20_i32_1 : BitVec 32 := 20#32
  let v6 : BitVec 1 := Scalar.cmpi .slt v3 c20_i32_1
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v95_r0 : BitVec 32 := Scalar.addi v94_r0 v10
  let c400_i32_105_r0 : BitVec 32 := 400#32
  let v171_r0 : BitVec 32 := Scalar.addi v95_r0 c400_i32_105_r0
  let v172_r0 : BitVec 32 := Scalar.muli c128_i32_r0 v171_r0
  ![0, v172_r0.toNat]
def k1_off6 (arg6_r0 : BitVec 32) : Fin 1 → Nat :=
  let c2_i32_104_r0 : BitVec 32 := 2#32
  let v170_r0 : BitVec 32 := Scalar.remui arg6_r0 c2_i32_104_r0
  ![v170_r0.toNat]
def k1_off7 (arg7_r0 : BitVec 32) : Fin 3 → Nat :=
  let c2_i32_105_r0 : BitVec 32 := 2#32
  let v172_r0 : BitVec 32 := Scalar.remui arg7_r0 c2_i32_105_r0
  let c0_i32_106_r0 : BitVec 32 := 0#32
  let c0_i32_107_r0 : BitVec 32 := 0#32
  ![v172_r0.toNat, 0, 0]
def k1_cond4 (i : grid1.Coords) (k1_t1 : Fin (k1_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let c400_i32_r0 : BitVec 32 := 400#32
  let v101_r0 : BitVec 32 := Scalar.addi v84_r0 c400_i32_r0
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let c400_i32_81_r0 : BitVec 32 := 400#32
  let v121_r0 : BitVec 32 := Scalar.addi v90_r0 c400_i32_81_r0
  let v122_r0 : BitVec 1 := Scalar.cmpi .ne v101_r0 v121_r0
  let c0_i32_30_r0 : BitVec 32 := 0#32
  let c1_i32_36_r0 : BitVec 32 := 1#32
  let arg5_r0 : BitVec 32 := Scf.iv c0_i32_30_r0 c1_i32_36_r0 k1_t1
  let c0_i32_59_r0 : BitVec 32 := 0#32
  let v81_r0 : BitVec 1 := Scalar.cmpi .eq arg5_r0 c0_i32_59_r0
  let v123_r0 : BitVec 1 := Scalar.ori v122_r0 v81_r0
  let c0_i32_82_r0 : BitVec 32 := 0#32
  let v124_r0 : BitVec 1 := Scalar.cmpi .sge arg5_r0 c0_i32_82_r0
  let v125_r0 : BitVec 1 := Scalar.andi v123_r0 v124_r0
  let v126_r0 : BitVec 32 := Scalar.extui v125_r0
  let c0_i32_83_r0 : BitVec 32 := 0#32
  let v127_r0 : BitVec 1 := Scalar.cmpi .ne v126_r0 c0_i32_83_r0
  v127_r0

def k1_off8 (i : grid1.Coords) (arg10_r0 : BitVec 32) : Fin 2 → Nat :=
  let c0_i32_108_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let c400_i32_104_r0 : BitVec 32 := 400#32
  let v170_r0 : BitVec 32 := Scalar.addi v84_r0 c400_i32_104_r0
  let v171_r0 : BitVec 32 := Scalar.muli c128_i32_r0 v170_r0
  ![0, v171_r0.toNat]
def k1_off9 (arg7_r0 : BitVec 32) : Fin 1 → Nat :=
  let c2_i32_105_r0 : BitVec 32 := 2#32
  let v172_r0 : BitVec 32 := Scalar.remui arg7_r0 c2_i32_105_r0
  ![v172_r0.toNat]
def k1_off10 (arg8_r0 : BitVec 32) : Fin 3 → Nat :=
  let c2_i32_87_r0 : BitVec 32 := 2#32
  let v135_r0 : BitVec 32 := Scalar.remui arg8_r0 c2_i32_87_r0
  let c0_i32_104_r1 : BitVec 32 := 0#32
  let c0_i32_105_r1 : BitVec 32 := 0#32
  ![v135_r0.toNat, 0, 0]

def k1_chk2 (i : grid1.Coords) (arg8_r0 : BitVec 32) : Prop :=
  (∀ (k1_h1 : k1_cond1 i = 1#1), ∀ a, (k1_off10 arg8_r0) a + S1x128x128.size a ≤ S2x128x128.size a)
theorem k1_off10_inb : ∀ (i : grid1.Coords) (arg8_r0 : BitVec 32) (k1_hw2 : k1_chk2 i arg8_r0), ∀ (k1_h1 : k1_cond1 i = 1#1), ∀ a, (k1_off10 arg8_r0) a + S1x128x128.size a ≤ S2x128x128.size a := fun i arg8_r0 k1_hw2 k1_h1 => k1_hw2 k1_h1

def k1_off11 (arg7_r0 : BitVec 32) : Fin 3 → Nat :=
  let c2_i32_86_r0 : BitVec 32 := 2#32
  let v134_r0 : BitVec 32 := Scalar.remui arg7_r0 c2_i32_86_r0
  let c0_i32_106_r1 : BitVec 32 := 0#32
  let c0_i32_107_r1 : BitVec 32 := 0#32
  ![v134_r0.toNat, 0, 0]

def k1_chk3 (i : grid1.Coords) (arg7_r0 : BitVec 32) : Prop :=
  (∀ (k1_h1 : k1_cond1 i = 1#1), ∀ a, (k1_off11 arg7_r0) a + S1x1x128.size a ≤ S2x1x128.size a)
theorem k1_off11_inb : ∀ (i : grid1.Coords) (arg7_r0 : BitVec 32) (k1_hw3 : k1_chk3 i arg7_r0), ∀ (k1_h1 : k1_cond1 i = 1#1), ∀ a, (k1_off11 arg7_r0) a + S1x1x128.size a ≤ S2x1x128.size a := fun i arg7_r0 k1_hw3 k1_h1 => k1_hw3 k1_h1

def k1_off12 (arg8_r0 : BitVec 32) : Fin 3 → Nat :=
  let c2_i32_104_r0 : BitVec 32 := 2#32
  let v170_r0 : BitVec 32 := Scalar.remui arg8_r0 c2_i32_104_r0
  let c0_i32_105_r0 : BitVec 32 := 0#32
  let c0_i32_106_r0 : BitVec 32 := 0#32
  ![v170_r0.toNat, 0, 0]
def k1_cond7 (i : grid1.Coords) (k1_t1 : Fin (k1_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v141_r0 : BitVec 1 := Scalar.cmpi .ne v84_r0 v95_r0
  let c0_i32_30_r0 : BitVec 32 := 0#32
  let c1_i32_36_r0 : BitVec 32 := 1#32
  let arg5_r0 : BitVec 32 := Scf.iv c0_i32_30_r0 c1_i32_36_r0 k1_t1
  let c1_i32_58_r0 : BitVec 32 := 1#32
  let v80_r0 : BitVec 32 := Scalar.muli c1_i32_58_r0 v5
  let c1_i32_60_r0 : BitVec 32 := 1#32
  let v82_r0 : BitVec 32 := Scalar.subi v80_r0 c1_i32_60_r0
  let v83_r0 : BitVec 1 := Scalar.cmpi .eq arg5_r0 v82_r0
  let v142_r0 : BitVec 1 := Scalar.ori v141_r0 v83_r0
  let v143_r0 : BitVec 32 := Scalar.extui v142_r0
  let c0_i32_90_r0 : BitVec 32 := 0#32
  let v144_r0 : BitVec 1 := Scalar.cmpi .ne v143_r0 c0_i32_90_r0
  v144_r0

def k1_off13 (i : grid1.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let v171_r0 : BitVec 32 := Scalar.muli c128_i32_r0 v84_r0
  let c0_i32_107_r0 : BitVec 32 := 0#32
  ![v171_r0.toNat, 0]
def k1_off14 (arg8_r0 : BitVec 32) : Fin 1 → Nat :=
  let c2_i32_104_r0 : BitVec 32 := 2#32
  let v170_r0 : BitVec 32 := Scalar.remui arg8_r0 c2_i32_104_r0
  ![v170_r0.toNat]
def k1_off15 (arg9_r0 : BitVec 32) : Fin 3 → Nat :=
  let c2_i32_104_r0 : BitVec 32 := 2#32
  let v170_r0 : BitVec 32 := Scalar.remui arg9_r0 c2_i32_104_r0
  let c0_i32_105_r0 : BitVec 32 := 0#32
  let c0_i32_106_r0 : BitVec 32 := 0#32
  ![v170_r0.toNat, 0, 0]
def k1_cond9 (i : grid1.Coords) (k1_t1 : Fin (k1_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v154_r0 : BitVec 1 := Scalar.cmpi .ne v84_r0 v90_r0
  let c0_i32_30_r0 : BitVec 32 := 0#32
  let c1_i32_36_r0 : BitVec 32 := 1#32
  let arg5_r0 : BitVec 32 := Scf.iv c0_i32_30_r0 c1_i32_36_r0 k1_t1
  let c0_i32_59_r0 : BitVec 32 := 0#32
  let v81_r0 : BitVec 1 := Scalar.cmpi .eq arg5_r0 c0_i32_59_r0
  let true_96_r0 : BitVec 1 := 1#1
  let v155_r0 : BitVec 1 := Scalar.xori v81_r0 true_96_r0
  let v156_r0 : BitVec 1 := Scalar.andi v154_r0 v155_r0
  let v157_r0 : BitVec 32 := Scalar.extui v156_r0
  let c0_i32_97_r0 : BitVec 32 := 0#32
  let v158_r0 : BitVec 1 := Scalar.cmpi .ne v157_r0 c0_i32_97_r0
  v158_r0

def k1_off16 (i : grid1.Coords) (arg10_r0 : BitVec 32) : Fin 2 → Nat :=
  let c128_i32_r0 : BitVec 32 := 128#32
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let c1_i32_64_r0 : BitVec 32 := 1#32
  let v88_r0 : BitVec 32 := Scalar.subi v5 c1_i32_64_r0
  let v89_r0 : BitVec 32 := Scalar.select v87_r0 v88_r0 v86_r0
  let c20_i32_1 : BitVec 32 := 20#32
  let v6 : BitVec 1 := Scalar.cmpi .slt v3 c20_i32_1
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v90_r0 : BitVec 32 := Scalar.addi v89_r0 v10
  let v171_r0 : BitVec 32 := Scalar.muli c128_i32_r0 v90_r0
  let c0_i32_107_r0 : BitVec 32 := 0#32
  ![v171_r0.toNat, 0]
def k1_off17 (arg9_r0 : BitVec 32) : Fin 1 → Nat :=
  let c2_i32_104_r0 : BitVec 32 := 2#32
  let v170_r0 : BitVec 32 := Scalar.remui arg9_r0 c2_i32_104_r0
  ![v170_r0.toNat]

def k1_chk1 (i : grid1.Coords) (k1_t1 : Fin (k1_t1_loop i).trips) (arg6_r0 : BitVec 32) (arg7_r0 : BitVec 32) (arg8_r0 : BitVec 32) (arg9_r0 : BitVec 32) (arg10_r0 : BitVec 32) : Prop :=
  (∀ (k1_h1 : k1_cond1 i = 1#1), ∀ (k1_h3 : k1_cond3 i k1_t1 arg10_r0 = 1#1), ∀ a, (k1_off4 arg6_r0) a + S1x1x128.size a ≤ S2x1x128.size a) ∧
  (∀ (k1_h1 : k1_cond1 i = 1#1), ∀ (k1_h3 : k1_cond3 i k1_t1 arg10_r0 = 1#1), ∀ a, (k1_off5 i arg10_r0) a + S1x128.size a ≤ S1x204800.size a) ∧
  (∀ (k1_h1 : k1_cond1 i = 1#1), ∀ (k1_h3 : k1_cond3 i k1_t1 arg10_r0 = 1#1), ∀ a, (k1_off6 arg6_r0) a + S1.size a ≤ S2.size a) ∧
  (∀ (k1_h1 : k1_cond1 i = 1#1), ∀ (k1_h4 : k1_cond4 i k1_t1 arg10_r0 = 1#1), ∀ a, (k1_off7 arg7_r0) a + S1x1x128.size a ≤ S2x1x128.size a) ∧
  (∀ (k1_h1 : k1_cond1 i = 1#1), ∀ (k1_h4 : k1_cond4 i k1_t1 arg10_r0 = 1#1), ∀ a, (k1_off8 i arg10_r0) a + S1x128.size a ≤ S1x204800.size a) ∧
  (∀ (k1_h1 : k1_cond1 i = 1#1), ∀ (k1_h4 : k1_cond4 i k1_t1 arg10_r0 = 1#1), ∀ a, (k1_off9 arg7_r0) a + S1.size a ≤ S2.size a) ∧
  (∀ (k1_h1 : k1_cond1 i = 1#1), ∀ (k1_h7 : k1_cond7 i k1_t1 arg10_r0 = 1#1), ∀ a, (k1_off12 arg8_r0) a + S1x128x128.size a ≤ S2x128x128.size a) ∧
  (∀ (k1_h1 : k1_cond1 i = 1#1), ∀ (k1_h7 : k1_cond7 i k1_t1 arg10_r0 = 1#1), ∀ a, (k1_off13 i arg10_r0) a + S128x128.size a ≤ S64000x128.size a) ∧
  (∀ (k1_h1 : k1_cond1 i = 1#1), ∀ (k1_h7 : k1_cond7 i k1_t1 arg10_r0 = 1#1), ∀ a, (k1_off14 arg8_r0) a + S1.size a ≤ S2.size a) ∧
  (∀ (k1_h1 : k1_cond1 i = 1#1), ∀ (k1_h9 : k1_cond9 i k1_t1 arg10_r0 = 1#1), ∀ a, (k1_off15 arg9_r0) a + S1x128x128.size a ≤ S2x128x128.size a) ∧
  (∀ (k1_h1 : k1_cond1 i = 1#1), ∀ (k1_h9 : k1_cond9 i k1_t1 arg10_r0 = 1#1), ∀ a, (k1_off16 i arg10_r0) a + S128x128.size a ≤ S64000x128.size a) ∧
  (∀ (k1_h1 : k1_cond1 i = 1#1), ∀ (k1_h9 : k1_cond9 i k1_t1 arg10_r0 = 1#1), ∀ a, (k1_off17 arg9_r0) a + S1.size a ≤ S2.size a)
theorem k1_off4_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h3 : k1_cond3 i k1_t1 arg10_r0 = 1#1), ∀ a, (k1_off4 arg6_r0) a + S1x1x128.size a ≤ S2x1x128.size a := fun i k1_t1 arg6_r0 arg7_r0 arg8_r0 arg9_r0 arg10_r0 k1_hw1 k1_h1 k1_h3 => k1_hw1.1 k1_h1 k1_h3
theorem k1_off5_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h3 : k1_cond3 i k1_t1 arg10_r0 = 1#1), ∀ a, (k1_off5 i arg10_r0) a + S1x128.size a ≤ S1x204800.size a := fun i k1_t1 arg6_r0 arg7_r0 arg8_r0 arg9_r0 arg10_r0 k1_hw1 k1_h1 k1_h3 => k1_hw1.2.1 k1_h1 k1_h3
theorem k1_off6_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h3 : k1_cond3 i k1_t1 arg10_r0 = 1#1), ∀ a, (k1_off6 arg6_r0) a + S1.size a ≤ S2.size a := fun i k1_t1 arg6_r0 arg7_r0 arg8_r0 arg9_r0 arg10_r0 k1_hw1 k1_h1 k1_h3 => k1_hw1.2.2.1 k1_h1 k1_h3
theorem k1_off7_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h4 : k1_cond4 i k1_t1 arg10_r0 = 1#1), ∀ a, (k1_off7 arg7_r0) a + S1x1x128.size a ≤ S2x1x128.size a := fun i k1_t1 arg6_r0 arg7_r0 arg8_r0 arg9_r0 arg10_r0 k1_hw1 k1_h1 k1_h4 => k1_hw1.2.2.2.1 k1_h1 k1_h4
theorem k1_off8_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h4 : k1_cond4 i k1_t1 arg10_r0 = 1#1), ∀ a, (k1_off8 i arg10_r0) a + S1x128.size a ≤ S1x204800.size a := fun i k1_t1 arg6_r0 arg7_r0 arg8_r0 arg9_r0 arg10_r0 k1_hw1 k1_h1 k1_h4 => k1_hw1.2.2.2.2.1 k1_h1 k1_h4
theorem k1_off9_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h4 : k1_cond4 i k1_t1 arg10_r0 = 1#1), ∀ a, (k1_off9 arg7_r0) a + S1.size a ≤ S2.size a := fun i k1_t1 arg6_r0 arg7_r0 arg8_r0 arg9_r0 arg10_r0 k1_hw1 k1_h1 k1_h4 => k1_hw1.2.2.2.2.2.1 k1_h1 k1_h4
theorem k1_off12_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h7 : k1_cond7 i k1_t1 arg10_r0 = 1#1), ∀ a, (k1_off12 arg8_r0) a + S1x128x128.size a ≤ S2x128x128.size a := fun i k1_t1 arg6_r0 arg7_r0 arg8_r0 arg9_r0 arg10_r0 k1_hw1 k1_h1 k1_h7 => k1_hw1.2.2.2.2.2.2.1 k1_h1 k1_h7
theorem k1_off13_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h7 : k1_cond7 i k1_t1 arg10_r0 = 1#1), ∀ a, (k1_off13 i arg10_r0) a + S128x128.size a ≤ S64000x128.size a := fun i k1_t1 arg6_r0 arg7_r0 arg8_r0 arg9_r0 arg10_r0 k1_hw1 k1_h1 k1_h7 => k1_hw1.2.2.2.2.2.2.2.1 k1_h1 k1_h7
theorem k1_off14_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h7 : k1_cond7 i k1_t1 arg10_r0 = 1#1), ∀ a, (k1_off14 arg8_r0) a + S1.size a ≤ S2.size a := fun i k1_t1 arg6_r0 arg7_r0 arg8_r0 arg9_r0 arg10_r0 k1_hw1 k1_h1 k1_h7 => k1_hw1.2.2.2.2.2.2.2.2.1 k1_h1 k1_h7
theorem k1_off15_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h9 : k1_cond9 i k1_t1 arg10_r0 = 1#1), ∀ a, (k1_off15 arg9_r0) a + S1x128x128.size a ≤ S2x128x128.size a := fun i k1_t1 arg6_r0 arg7_r0 arg8_r0 arg9_r0 arg10_r0 k1_hw1 k1_h1 k1_h9 => k1_hw1.2.2.2.2.2.2.2.2.2.1 k1_h1 k1_h9
theorem k1_off16_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h9 : k1_cond9 i k1_t1 arg10_r0 = 1#1), ∀ a, (k1_off16 i arg10_r0) a + S128x128.size a ≤ S64000x128.size a := fun i k1_t1 arg6_r0 arg7_r0 arg8_r0 arg9_r0 arg10_r0 k1_hw1 k1_h1 k1_h9 => k1_hw1.2.2.2.2.2.2.2.2.2.2.1 k1_h1 k1_h9
theorem k1_off17_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h9 : k1_cond9 i k1_t1 arg10_r0 = 1#1), ∀ a, (k1_off17 arg9_r0) a + S1.size a ≤ S2.size a := fun i k1_t1 arg6_r0 arg7_r0 arg8_r0 arg9_r0 arg10_r0 k1_hw1 k1_h1 k1_h9 => k1_hw1.2.2.2.2.2.2.2.2.2.2.2 k1_h1 k1_h9

@[reducible] def k1_t2_loop (i : grid1.Coords) : Scf.Loop 32 :=
  let c0_i32_30_r0 : BitVec 32 := 0#32
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let v43_r0 : BitVec 32 := Scalar.addi c0_i32_30_r0 v42_r0
  let c1_i32_37_r0 : BitVec 32 := 1#32
  ⟨v46_r0, v43_r0, c1_i32_37_r0⟩
def k1_off18 (arg6_r0 : BitVec 32) : Fin 3 → Nat :=
  let c2_i32_104_r0 : BitVec 32 := 2#32
  let v170_r0 : BitVec 32 := Scalar.remui arg6_r0 c2_i32_104_r0
  let c0_i32_106_r0 : BitVec 32 := 0#32
  let c0_i32_107_r0 : BitVec 32 := 0#32
  ![v170_r0.toNat, 0, 0]
def k1_cond10 (i : grid1.Coords) (k1_t2 : Fin (k1_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let c400_i32_r0 : BitVec 32 := 400#32
  let v101_r0 : BitVec 32 := Scalar.addi v84_r0 c400_i32_r0
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let c400_i32_71_r0 : BitVec 32 := 400#32
  let v102_r0 : BitVec 32 := Scalar.addi v95_r0 c400_i32_71_r0
  let v103_r0 : BitVec 1 := Scalar.cmpi .ne v101_r0 v102_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k1_t2
  let c1_i32_58_r0 : BitVec 32 := 1#32
  let v80_r0 : BitVec 32 := Scalar.muli c1_i32_58_r0 v5
  let c2_i32_r0 : BitVec 32 := 2#32
  let v104_r0 : BitVec 32 := Scalar.subi v80_r0 c2_i32_r0
  let c1_i32_72_r0 : BitVec 32 := 1#32
  let v105_r0 : BitVec 32 := Scalar.addi v104_r0 c1_i32_72_r0
  let v106_r0 : BitVec 1 := Scalar.cmpi .sge arg5_r0 v105_r0
  let true_73_r0 : BitVec 1 := 1#1
  let v107_r0 : BitVec 1 := Scalar.xori v106_r0 true_73_r0
  let v108_r0 : BitVec 1 := Scalar.andi v103_r0 v107_r0
  let true_74_r0 : BitVec 1 := 1#1
  let v109_r0 : BitVec 1 := Scalar.andi v108_r0 true_74_r0
  let v110_r0 : BitVec 32 := Scalar.extui v109_r0
  let c0_i32_75_r0 : BitVec 32 := 0#32
  let v111_r0 : BitVec 1 := Scalar.cmpi .ne v110_r0 c0_i32_75_r0
  v111_r0

def k1_off19 (i : grid1.Coords) (arg10_r0 : BitVec 32) : Fin 2 → Nat :=
  let c0_i32_108_r0 : BitVec 32 := 0#32
  let c128_i32_r0 : BitVec 32 := 128#32
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v93_r0 : BitVec 1 := Scalar.cmpi .eq v92_r0 v5
  let c0_i32_67_r0 : BitVec 32 := 0#32
  let v94_r0 : BitVec 32 := Scalar.select v93_r0 c0_i32_67_r0 v92_r0
  let c20_i32_1 : BitVec 32 := 20#32
  let v6 : BitVec 1 := Scalar.cmpi .slt v3 c20_i32_1
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v95_r0 : BitVec 32 := Scalar.addi v94_r0 v10
  let c400_i32_105_r0 : BitVec 32 := 400#32
  let v171_r0 : BitVec 32 := Scalar.addi v95_r0 c400_i32_105_r0
  let v172_r0 : BitVec 32 := Scalar.muli c128_i32_r0 v171_r0
  ![0, v172_r0.toNat]
def k1_off20 (arg6_r0 : BitVec 32) : Fin 1 → Nat :=
  let c2_i32_104_r0 : BitVec 32 := 2#32
  let v170_r0 : BitVec 32 := Scalar.remui arg6_r0 c2_i32_104_r0
  ![v170_r0.toNat]
def k1_off21 (arg7_r0 : BitVec 32) : Fin 3 → Nat :=
  let c2_i32_105_r0 : BitVec 32 := 2#32
  let v172_r0 : BitVec 32 := Scalar.remui arg7_r0 c2_i32_105_r0
  let c0_i32_106_r0 : BitVec 32 := 0#32
  let c0_i32_107_r0 : BitVec 32 := 0#32
  ![v172_r0.toNat, 0, 0]
def k1_cond11 (i : grid1.Coords) (k1_t2 : Fin (k1_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let c400_i32_r0 : BitVec 32 := 400#32
  let v101_r0 : BitVec 32 := Scalar.addi v84_r0 c400_i32_r0
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let c400_i32_81_r0 : BitVec 32 := 400#32
  let v121_r0 : BitVec 32 := Scalar.addi v90_r0 c400_i32_81_r0
  let v122_r0 : BitVec 1 := Scalar.cmpi .ne v101_r0 v121_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k1_t2
  let c0_i32_59_r0 : BitVec 32 := 0#32
  let v81_r0 : BitVec 1 := Scalar.cmpi .eq arg5_r0 c0_i32_59_r0
  let v123_r0 : BitVec 1 := Scalar.ori v122_r0 v81_r0
  let c0_i32_82_r0 : BitVec 32 := 0#32
  let v124_r0 : BitVec 1 := Scalar.cmpi .sge arg5_r0 c0_i32_82_r0
  let v125_r0 : BitVec 1 := Scalar.andi v123_r0 v124_r0
  let v126_r0 : BitVec 32 := Scalar.extui v125_r0
  let c0_i32_83_r0 : BitVec 32 := 0#32
  let v127_r0 : BitVec 1 := Scalar.cmpi .ne v126_r0 c0_i32_83_r0
  v127_r0

def k1_off22 (i : grid1.Coords) (arg10_r0 : BitVec 32) : Fin 2 → Nat :=
  let c0_i32_108_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let c400_i32_104_r0 : BitVec 32 := 400#32
  let v170_r0 : BitVec 32 := Scalar.addi v84_r0 c400_i32_104_r0
  let v171_r0 : BitVec 32 := Scalar.muli c128_i32_r0 v170_r0
  ![0, v171_r0.toNat]
def k1_off23 (arg7_r0 : BitVec 32) : Fin 1 → Nat :=
  let c2_i32_105_r0 : BitVec 32 := 2#32
  let v172_r0 : BitVec 32 := Scalar.remui arg7_r0 c2_i32_105_r0
  ![v172_r0.toNat]
def k1_off24 (arg8_r0 : BitVec 32) : Fin 3 → Nat :=
  let c2_i32_87_r0 : BitVec 32 := 2#32
  let v135_r0 : BitVec 32 := Scalar.remui arg8_r0 c2_i32_87_r0
  let c0_i32_104_r2 : BitVec 32 := 0#32
  let c0_i32_105_r2 : BitVec 32 := 0#32
  ![v135_r0.toNat, 0, 0]

def k1_chk5 (i : grid1.Coords) (k1_t2 : Fin (k1_t2_loop i).trips) (arg8_r0 : BitVec 32) : Prop :=
  (∀ (k1_h1 : k1_cond1 i = 1#1), ∀ a, (k1_off24 arg8_r0) a + S1x128x128.size a ≤ S2x128x128.size a)
theorem k1_off24_inb : ∀ (i : grid1.Coords) (k1_t2 : Fin (k1_t2_loop i).trips) (arg8_r0 : BitVec 32) (k1_hw5 : k1_chk5 i k1_t2 arg8_r0), ∀ (k1_h1 : k1_cond1 i = 1#1), ∀ a, (k1_off24 arg8_r0) a + S1x128x128.size a ≤ S2x128x128.size a := fun i k1_t2 arg8_r0 k1_hw5 k1_h1 => k1_hw5 k1_h1

def k1_off25 (arg7_r0 : BitVec 32) : Fin 3 → Nat :=
  let c2_i32_86_r0 : BitVec 32 := 2#32
  let v134_r0 : BitVec 32 := Scalar.remui arg7_r0 c2_i32_86_r0
  let c0_i32_106_r2 : BitVec 32 := 0#32
  let c0_i32_107_r2 : BitVec 32 := 0#32
  ![v134_r0.toNat, 0, 0]

def k1_chk6 (i : grid1.Coords) (k1_t2 : Fin (k1_t2_loop i).trips) (arg7_r0 : BitVec 32) : Prop :=
  (∀ (k1_h1 : k1_cond1 i = 1#1), ∀ a, (k1_off25 arg7_r0) a + S1x1x128.size a ≤ S2x1x128.size a)
theorem k1_off25_inb : ∀ (i : grid1.Coords) (k1_t2 : Fin (k1_t2_loop i).trips) (arg7_r0 : BitVec 32) (k1_hw6 : k1_chk6 i k1_t2 arg7_r0), ∀ (k1_h1 : k1_cond1 i = 1#1), ∀ a, (k1_off25 arg7_r0) a + S1x1x128.size a ≤ S2x1x128.size a := fun i k1_t2 arg7_r0 k1_hw6 k1_h1 => k1_hw6 k1_h1

def k1_off26 (arg8_r0 : BitVec 32) : Fin 3 → Nat :=
  let c2_i32_104_r0 : BitVec 32 := 2#32
  let v170_r0 : BitVec 32 := Scalar.remui arg8_r0 c2_i32_104_r0
  let c0_i32_105_r0 : BitVec 32 := 0#32
  let c0_i32_106_r0 : BitVec 32 := 0#32
  ![v170_r0.toNat, 0, 0]
def k1_cond14 (i : grid1.Coords) (k1_t2 : Fin (k1_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v141_r0 : BitVec 1 := Scalar.cmpi .ne v84_r0 v95_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k1_t2
  let c1_i32_58_r0 : BitVec 32 := 1#32
  let v80_r0 : BitVec 32 := Scalar.muli c1_i32_58_r0 v5
  let c1_i32_60_r0 : BitVec 32 := 1#32
  let v82_r0 : BitVec 32 := Scalar.subi v80_r0 c1_i32_60_r0
  let v83_r0 : BitVec 1 := Scalar.cmpi .eq arg5_r0 v82_r0
  let v142_r0 : BitVec 1 := Scalar.ori v141_r0 v83_r0
  let v143_r0 : BitVec 32 := Scalar.extui v142_r0
  let c0_i32_90_r0 : BitVec 32 := 0#32
  let v144_r0 : BitVec 1 := Scalar.cmpi .ne v143_r0 c0_i32_90_r0
  v144_r0

def k1_off27 (i : grid1.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let v171_r0 : BitVec 32 := Scalar.muli c128_i32_r0 v84_r0
  let c0_i32_107_r0 : BitVec 32 := 0#32
  ![v171_r0.toNat, 0]
def k1_off28 (arg8_r0 : BitVec 32) : Fin 1 → Nat :=
  let c2_i32_104_r0 : BitVec 32 := 2#32
  let v170_r0 : BitVec 32 := Scalar.remui arg8_r0 c2_i32_104_r0
  ![v170_r0.toNat]
def k1_off29 (arg9_r0 : BitVec 32) : Fin 3 → Nat :=
  let c2_i32_104_r0 : BitVec 32 := 2#32
  let v170_r0 : BitVec 32 := Scalar.remui arg9_r0 c2_i32_104_r0
  let c0_i32_105_r0 : BitVec 32 := 0#32
  let c0_i32_106_r0 : BitVec 32 := 0#32
  ![v170_r0.toNat, 0, 0]
def k1_cond16 (i : grid1.Coords) (k1_t2 : Fin (k1_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v154_r0 : BitVec 1 := Scalar.cmpi .ne v84_r0 v90_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k1_t2
  let c0_i32_59_r0 : BitVec 32 := 0#32
  let v81_r0 : BitVec 1 := Scalar.cmpi .eq arg5_r0 c0_i32_59_r0
  let true_96_r0 : BitVec 1 := 1#1
  let v155_r0 : BitVec 1 := Scalar.xori v81_r0 true_96_r0
  let v156_r0 : BitVec 1 := Scalar.andi v154_r0 v155_r0
  let v157_r0 : BitVec 32 := Scalar.extui v156_r0
  let c0_i32_97_r0 : BitVec 32 := 0#32
  let v158_r0 : BitVec 1 := Scalar.cmpi .ne v157_r0 c0_i32_97_r0
  v158_r0

def k1_off30 (i : grid1.Coords) (arg10_r0 : BitVec 32) : Fin 2 → Nat :=
  let c128_i32_r0 : BitVec 32 := 128#32
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let c1_i32_64_r0 : BitVec 32 := 1#32
  let v88_r0 : BitVec 32 := Scalar.subi v5 c1_i32_64_r0
  let v89_r0 : BitVec 32 := Scalar.select v87_r0 v88_r0 v86_r0
  let c20_i32_1 : BitVec 32 := 20#32
  let v6 : BitVec 1 := Scalar.cmpi .slt v3 c20_i32_1
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v90_r0 : BitVec 32 := Scalar.addi v89_r0 v10
  let v171_r0 : BitVec 32 := Scalar.muli c128_i32_r0 v90_r0
  let c0_i32_107_r0 : BitVec 32 := 0#32
  ![v171_r0.toNat, 0]
def k1_off31 (arg9_r0 : BitVec 32) : Fin 1 → Nat :=
  let c2_i32_104_r0 : BitVec 32 := 2#32
  let v170_r0 : BitVec 32 := Scalar.remui arg9_r0 c2_i32_104_r0
  ![v170_r0.toNat]

def k1_chk4 (i : grid1.Coords) (k1_t2 : Fin (k1_t2_loop i).trips) (arg6_r0 : BitVec 32) (arg7_r0 : BitVec 32) (arg8_r0 : BitVec 32) (arg9_r0 : BitVec 32) (arg10_r0 : BitVec 32) : Prop :=
  (∀ (k1_h1 : k1_cond1 i = 1#1), ∀ (k1_h10 : k1_cond10 i k1_t2 arg10_r0 = 1#1), ∀ a, (k1_off18 arg6_r0) a + S1x1x128.size a ≤ S2x1x128.size a) ∧
  (∀ (k1_h1 : k1_cond1 i = 1#1), ∀ (k1_h10 : k1_cond10 i k1_t2 arg10_r0 = 1#1), ∀ a, (k1_off19 i arg10_r0) a + S1x128.size a ≤ S1x204800.size a) ∧
  (∀ (k1_h1 : k1_cond1 i = 1#1), ∀ (k1_h10 : k1_cond10 i k1_t2 arg10_r0 = 1#1), ∀ a, (k1_off20 arg6_r0) a + S1.size a ≤ S2.size a) ∧
  (∀ (k1_h1 : k1_cond1 i = 1#1), ∀ (k1_h11 : k1_cond11 i k1_t2 arg10_r0 = 1#1), ∀ a, (k1_off21 arg7_r0) a + S1x1x128.size a ≤ S2x1x128.size a) ∧
  (∀ (k1_h1 : k1_cond1 i = 1#1), ∀ (k1_h11 : k1_cond11 i k1_t2 arg10_r0 = 1#1), ∀ a, (k1_off22 i arg10_r0) a + S1x128.size a ≤ S1x204800.size a) ∧
  (∀ (k1_h1 : k1_cond1 i = 1#1), ∀ (k1_h11 : k1_cond11 i k1_t2 arg10_r0 = 1#1), ∀ a, (k1_off23 arg7_r0) a + S1.size a ≤ S2.size a) ∧
  (∀ (k1_h1 : k1_cond1 i = 1#1), ∀ (k1_h14 : k1_cond14 i k1_t2 arg10_r0 = 1#1), ∀ a, (k1_off26 arg8_r0) a + S1x128x128.size a ≤ S2x128x128.size a) ∧
  (∀ (k1_h1 : k1_cond1 i = 1#1), ∀ (k1_h14 : k1_cond14 i k1_t2 arg10_r0 = 1#1), ∀ a, (k1_off27 i arg10_r0) a + S128x128.size a ≤ S64000x128.size a) ∧
  (∀ (k1_h1 : k1_cond1 i = 1#1), ∀ (k1_h14 : k1_cond14 i k1_t2 arg10_r0 = 1#1), ∀ a, (k1_off28 arg8_r0) a + S1.size a ≤ S2.size a) ∧
  (∀ (k1_h1 : k1_cond1 i = 1#1), ∀ (k1_h16 : k1_cond16 i k1_t2 arg10_r0 = 1#1), ∀ a, (k1_off29 arg9_r0) a + S1x128x128.size a ≤ S2x128x128.size a) ∧
  (∀ (k1_h1 : k1_cond1 i = 1#1), ∀ (k1_h16 : k1_cond16 i k1_t2 arg10_r0 = 1#1), ∀ a, (k1_off30 i arg10_r0) a + S128x128.size a ≤ S64000x128.size a) ∧
  (∀ (k1_h1 : k1_cond1 i = 1#1), ∀ (k1_h16 : k1_cond16 i k1_t2 arg10_r0 = 1#1), ∀ a, (k1_off31 arg9_r0) a + S1.size a ≤ S2.size a)
theorem k1_off18_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h10 : k1_cond10 i k1_t2 arg10_r0 = 1#1), ∀ a, (k1_off18 arg6_r0) a + S1x1x128.size a ≤ S2x1x128.size a := fun i k1_t2 arg6_r0 arg7_r0 arg8_r0 arg9_r0 arg10_r0 k1_hw4 k1_h1 k1_h10 => k1_hw4.1 k1_h1 k1_h10
theorem k1_off19_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h10 : k1_cond10 i k1_t2 arg10_r0 = 1#1), ∀ a, (k1_off19 i arg10_r0) a + S1x128.size a ≤ S1x204800.size a := fun i k1_t2 arg6_r0 arg7_r0 arg8_r0 arg9_r0 arg10_r0 k1_hw4 k1_h1 k1_h10 => k1_hw4.2.1 k1_h1 k1_h10
theorem k1_off20_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h10 : k1_cond10 i k1_t2 arg10_r0 = 1#1), ∀ a, (k1_off20 arg6_r0) a + S1.size a ≤ S2.size a := fun i k1_t2 arg6_r0 arg7_r0 arg8_r0 arg9_r0 arg10_r0 k1_hw4 k1_h1 k1_h10 => k1_hw4.2.2.1 k1_h1 k1_h10
theorem k1_off21_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h11 : k1_cond11 i k1_t2 arg10_r0 = 1#1), ∀ a, (k1_off21 arg7_r0) a + S1x1x128.size a ≤ S2x1x128.size a := fun i k1_t2 arg6_r0 arg7_r0 arg8_r0 arg9_r0 arg10_r0 k1_hw4 k1_h1 k1_h11 => k1_hw4.2.2.2.1 k1_h1 k1_h11
theorem k1_off22_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h11 : k1_cond11 i k1_t2 arg10_r0 = 1#1), ∀ a, (k1_off22 i arg10_r0) a + S1x128.size a ≤ S1x204800.size a := fun i k1_t2 arg6_r0 arg7_r0 arg8_r0 arg9_r0 arg10_r0 k1_hw4 k1_h1 k1_h11 => k1_hw4.2.2.2.2.1 k1_h1 k1_h11
theorem k1_off23_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h11 : k1_cond11 i k1_t2 arg10_r0 = 1#1), ∀ a, (k1_off23 arg7_r0) a + S1.size a ≤ S2.size a := fun i k1_t2 arg6_r0 arg7_r0 arg8_r0 arg9_r0 arg10_r0 k1_hw4 k1_h1 k1_h11 => k1_hw4.2.2.2.2.2.1 k1_h1 k1_h11
theorem k1_off26_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h14 : k1_cond14 i k1_t2 arg10_r0 = 1#1), ∀ a, (k1_off26 arg8_r0) a + S1x128x128.size a ≤ S2x128x128.size a := fun i k1_t2 arg6_r0 arg7_r0 arg8_r0 arg9_r0 arg10_r0 k1_hw4 k1_h1 k1_h14 => k1_hw4.2.2.2.2.2.2.1 k1_h1 k1_h14
theorem k1_off27_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h14 : k1_cond14 i k1_t2 arg10_r0 = 1#1), ∀ a, (k1_off27 i arg10_r0) a + S128x128.size a ≤ S64000x128.size a := fun i k1_t2 arg6_r0 arg7_r0 arg8_r0 arg9_r0 arg10_r0 k1_hw4 k1_h1 k1_h14 => k1_hw4.2.2.2.2.2.2.2.1 k1_h1 k1_h14
theorem k1_off28_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h14 : k1_cond14 i k1_t2 arg10_r0 = 1#1), ∀ a, (k1_off28 arg8_r0) a + S1.size a ≤ S2.size a := fun i k1_t2 arg6_r0 arg7_r0 arg8_r0 arg9_r0 arg10_r0 k1_hw4 k1_h1 k1_h14 => k1_hw4.2.2.2.2.2.2.2.2.1 k1_h1 k1_h14
theorem k1_off29_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h16 : k1_cond16 i k1_t2 arg10_r0 = 1#1), ∀ a, (k1_off29 arg9_r0) a + S1x128x128.size a ≤ S2x128x128.size a := fun i k1_t2 arg6_r0 arg7_r0 arg8_r0 arg9_r0 arg10_r0 k1_hw4 k1_h1 k1_h16 => k1_hw4.2.2.2.2.2.2.2.2.2.1 k1_h1 k1_h16
theorem k1_off30_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h16 : k1_cond16 i k1_t2 arg10_r0 = 1#1), ∀ a, (k1_off30 i arg10_r0) a + S128x128.size a ≤ S64000x128.size a := fun i k1_t2 arg6_r0 arg7_r0 arg8_r0 arg9_r0 arg10_r0 k1_hw4 k1_h1 k1_h16 => k1_hw4.2.2.2.2.2.2.2.2.2.2.1 k1_h1 k1_h16
theorem k1_off31_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h16 : k1_cond16 i k1_t2 arg10_r0 = 1#1), ∀ a, (k1_off31 arg9_r0) a + S1.size a ≤ S2.size a := fun i k1_t2 arg6_r0 arg7_r0 arg8_r0 arg9_r0 arg10_r0 k1_hw4 k1_h1 k1_h16 => k1_hw4.2.2.2.2.2.2.2.2.2.2.2 k1_h1 k1_h16

def k1_cond18 (i : grid1.Coords) : BitVec 1 :=
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v11 : BitVec 32 := Scalar.muli c1_i32_4 v5
  let c1_i32_42_r0 : BitVec 32 := 1#32
  let v54_r0 : BitVec 32 := Scalar.subi v11 c1_i32_42_r0
  let c1_i32_43_r0 : BitVec 32 := 1#32
  let v55_r0 : BitVec 32 := Scalar.muli c1_i32_43_r0 v5
  let c1_i32_45_r0 : BitVec 32 := 1#32
  let v57_r0 : BitVec 32 := Scalar.subi v55_r0 c1_i32_45_r0
  let v58_r0 : BitVec 1 := Scalar.cmpi .eq v54_r0 v57_r0
  let v78_r0 : BitVec 32 := Scalar.extui v58_r0
  let c0_i32_57_r0 : BitVec 32 := 0#32
  let v79_r0 : BitVec 1 := Scalar.cmpi .ne v78_r0 c0_i32_57_r0
  v79_r0

def k1_off32 (v48_3_r0 : BitVec 32) : Fin 3 → Nat :=
  let c2_i32_r0 : BitVec 32 := 2#32
  let v80_r0 : BitVec 32 := Scalar.remui v48_3_r0 c2_i32_r0
  let c0_i32_58_r0 : BitVec 32 := 0#32
  let c0_i32_59_r0 : BitVec 32 := 0#32
  ![v80_r0.toNat, 0, 0]

def k1_off33 (i : grid1.Coords) (v48_4_r0 : BitVec 32) : Fin 2 → Nat :=
  let c128_i32_r0 : BitVec 32 := 128#32
  let true_39_r0 : BitVec 1 := 1#1
  let c1_i32_38_r0 : BitVec 32 := 1#32
  let v49_r0 : BitVec 32 := Scalar.subi v48_4_r0 c1_i32_38_r0
  let v50_r0 : BitVec 32 := Scalar.select true_39_r0 v49_r0 v48_4_r0
  let c_m1_i32_40_r0 : BitVec 32 := 4294967295#32
  let v51_r0 : BitVec 1 := Scalar.cmpi .eq v50_r0 c_m1_i32_40_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let c1_i32_41_r0 : BitVec 32 := 1#32
  let v52_r0 : BitVec 32 := Scalar.subi v5 c1_i32_41_r0
  let v53_r0 : BitVec 32 := Scalar.select v51_r0 v52_r0 v50_r0
  let c20_i32_1 : BitVec 32 := 20#32
  let v6 : BitVec 1 := Scalar.cmpi .slt v3 c20_i32_1
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v59_r0 : BitVec 32 := Scalar.addi v53_r0 v10
  let v81_r0 : BitVec 32 := Scalar.muli c128_i32_r0 v59_r0
  let c0_i32_60_r0 : BitVec 32 := 0#32
  ![v81_r0.toNat, 0]

def k1_chk8 (i : grid1.Coords) (v48_4_r0 : BitVec 32) : Prop :=
  (∀ (k1_h1 : k1_cond1 i = 1#1), ∀ (k1_h18 : k1_cond18 i = 1#1), ∀ a, (k1_off33 i v48_4_r0) a + S128x128.size a ≤ S64000x128.size a)
theorem k1_off33_inb : ∀ (i : grid1.Coords) (v48_4_r0 : BitVec 32) (k1_hw8 : k1_chk8 i v48_4_r0), ∀ (k1_h1 : k1_cond1 i = 1#1), ∀ (k1_h18 : k1_cond18 i = 1#1), ∀ a, (k1_off33 i v48_4_r0) a + S128x128.size a ≤ S64000x128.size a := fun i v48_4_r0 k1_hw8 k1_h1 k1_h18 => k1_hw8 k1_h1 k1_h18

def k1_off34 (v48_3_r0 : BitVec 32) : Fin 1 → Nat :=
  let c2_i32_r0 : BitVec 32 := 2#32
  let v80_r0 : BitVec 32 := Scalar.remui v48_3_r0 c2_i32_r0
  ![v80_r0.toNat]
def k1_off35 (v48_3_r0 : BitVec 32) : Fin 3 → Nat :=
  let c2_i32_r0 : BitVec 32 := 2#32
  let v80_r0 : BitVec 32 := Scalar.remui v48_3_r0 c2_i32_r0
  let c0_i32_62_r0 : BitVec 32 := 0#32
  let c0_i32_63_r0 : BitVec 32 := 0#32
  ![v80_r0.toNat, 0, 0]

def k1_chk7 (i : grid1.Coords) (v48_3_r0 : BitVec 32) : Prop :=
  (∀ (k1_h1 : k1_cond1 i = 1#1), ∀ (k1_h18 : k1_cond18 i = 1#1), ∀ a, (k1_off32 v48_3_r0) a + S1x128x128.size a ≤ S2x128x128.size a) ∧
  (∀ (k1_h1 : k1_cond1 i = 1#1), ∀ (k1_h18 : k1_cond18 i = 1#1), ∀ a, (k1_off34 v48_3_r0) a + S1.size a ≤ S2.size a) ∧
  (∀ (k1_h1 : k1_cond1 i = 1#1), ∀ (k1_h18 : k1_cond18 i = 1#1), ∀ a, (k1_off35 v48_3_r0) a + S1x128x128.size a ≤ S2x128x128.size a)
theorem k1_off32_inb : ∀ (i : grid1.Coords) (v48_3_r0 : BitVec 32) (k1_hw7 : k1_chk7 i v48_3_r0), ∀ (k1_h1 : k1_cond1 i = 1#1), ∀ (k1_h18 : k1_cond18 i = 1#1), ∀ a, (k1_off32 v48_3_r0) a + S1x128x128.size a ≤ S2x128x128.size a := fun i v48_3_r0 k1_hw7 k1_h1 k1_h18 => k1_hw7.1 k1_h1 k1_h18
theorem k1_off34_inb : ∀ (i : grid1.Coords) (v48_3_r0 : BitVec 32) (k1_hw7 : k1_chk7 i v48_3_r0), ∀ (k1_h1 : k1_cond1 i = 1#1), ∀ (k1_h18 : k1_cond18 i = 1#1), ∀ a, (k1_off34 v48_3_r0) a + S1.size a ≤ S2.size a := fun i v48_3_r0 k1_hw7 k1_h1 k1_h18 => k1_hw7.2.1 k1_h1 k1_h18
theorem k1_off35_inb : ∀ (i : grid1.Coords) (v48_3_r0 : BitVec 32) (k1_hw7 : k1_chk7 i v48_3_r0), ∀ (k1_h1 : k1_cond1 i = 1#1), ∀ (k1_h18 : k1_cond18 i = 1#1), ∀ a, (k1_off35 v48_3_r0) a + S1x128x128.size a ≤ S2x128x128.size a := fun i v48_3_r0 k1_hw7 k1_h1 k1_h18 => k1_hw7.2.2 k1_h1 k1_h18

abbrev grid2 : Pipeline.Grid := ⟨2, ![2, 16], ![false, false]⟩

def k2_cond1 (i : grid2.Coords) : BitVec 1 :=
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v11 : BitVec 32 := Scalar.muli c1_i32_4 v5
  let c0_i32_6_r0 : BitVec 32 := 0#32
  let v14_r0 : BitVec 1 := Scalar.cmpi .sgt v11 c0_i32_6_r0
  let v15_r0 : BitVec 32 := Scalar.extui v14_r0
  let c0_i32_7_r0 : BitVec 32 := 0#32
  let v16_r0 : BitVec 1 := Scalar.cmpi .ne v15_r0 c0_i32_7_r0
  v16_r0

def k2_cond2 (i : grid2.Coords) : BitVec 1 :=
  let true_23_r0 : BitVec 1 := 1#1
  let c1_i32_8_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v17_r0 : BitVec 32 := Scalar.muli c1_i32_8_r0 v5
  let c0_i32_22_r0 : BitVec 32 := 0#32
  let v35_r0 : BitVec 1 := Scalar.cmpi .sgt v17_r0 c0_i32_22_r0
  let v36_r0 : BitVec 1 := Scalar.andi true_23_r0 v35_r0
  let true_24_r0 : BitVec 1 := 1#1
  let v37_r0 : BitVec 1 := Scalar.andi v36_r0 true_24_r0
  let v38_r0 : BitVec 32 := Scalar.extui v37_r0
  let c0_i32_26_r0 : BitVec 32 := 0#32
  let v39_r0 : BitVec 1 := Scalar.cmpi .ne v38_r0 c0_i32_26_r0
  v39_r0

def k2_off1 : Fin 3 → Nat :=
  let c0_i32_25_r0 : BitVec 32 := 0#32
  let c2_i32_r0 : BitVec 32 := 2#32
  let v80_r0 : BitVec 32 := Scalar.remui c0_i32_25_r0 c2_i32_r0
  let c0_i32_58_r0 : BitVec 32 := 0#32
  let c0_i32_59_r0 : BitVec 32 := 0#32
  ![v80_r0.toNat, 0, 0]
def k2_off2 (i : grid2.Coords) : Fin 2 → Nat :=
  let c0_i32_60_r0 : BitVec 32 := 0#32
  let c128_i32_r0 : BitVec 32 := 128#32
  let c0_i32_11_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v20_r0 : BitVec 32 := Scalar.addi c0_i32_11_r0 v10
  let c900_i32_r0 : BitVec 32 := 900#32
  let v81_r0 : BitVec 32 := Scalar.addi v20_r0 c900_i32_r0
  let v82_r0 : BitVec 32 := Scalar.muli c128_i32_r0 v81_r0
  ![0, v82_r0.toNat]
def k2_off3 : Fin 1 → Nat :=
  let c0_i32_25_r0 : BitVec 32 := 0#32
  let c2_i32_r0 : BitVec 32 := 2#32
  let v80_r0 : BitVec 32 := Scalar.remui c0_i32_25_r0 c2_i32_r0
  ![v80_r0.toNat]
@[reducible] def k2_t1_loop (i : grid2.Coords) : Scf.Loop 32 :=
  let c0_i32_30_r0 : BitVec 32 := 0#32
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_36_r0 : BitVec 32 := 1#32
  ⟨c0_i32_30_r0, v46_r0, c1_i32_36_r0⟩
def k2_off4 (arg6_r0 : BitVec 32) : Fin 3 → Nat :=
  let c2_i32_104_r0 : BitVec 32 := 2#32
  let v170_r0 : BitVec 32 := Scalar.remui arg6_r0 c2_i32_104_r0
  let c0_i32_106_r0 : BitVec 32 := 0#32
  let c0_i32_107_r0 : BitVec 32 := 0#32
  ![v170_r0.toNat, 0, 0]
def k2_cond3 (i : grid2.Coords) (k2_t1 : Fin (k2_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let c900_i32_r0 : BitVec 32 := 900#32
  let v101_r0 : BitVec 32 := Scalar.addi v84_r0 c900_i32_r0
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let c900_i32_71_r0 : BitVec 32 := 900#32
  let v102_r0 : BitVec 32 := Scalar.addi v95_r0 c900_i32_71_r0
  let v103_r0 : BitVec 1 := Scalar.cmpi .ne v101_r0 v102_r0
  let c0_i32_30_r0 : BitVec 32 := 0#32
  let c1_i32_36_r0 : BitVec 32 := 1#32
  let arg5_r0 : BitVec 32 := Scf.iv c0_i32_30_r0 c1_i32_36_r0 k2_t1
  let c1_i32_58_r0 : BitVec 32 := 1#32
  let v80_r0 : BitVec 32 := Scalar.muli c1_i32_58_r0 v5
  let c2_i32_r0 : BitVec 32 := 2#32
  let v104_r0 : BitVec 32 := Scalar.subi v80_r0 c2_i32_r0
  let c1_i32_72_r0 : BitVec 32 := 1#32
  let v105_r0 : BitVec 32 := Scalar.addi v104_r0 c1_i32_72_r0
  let v106_r0 : BitVec 1 := Scalar.cmpi .sge arg5_r0 v105_r0
  let true_73_r0 : BitVec 1 := 1#1
  let v107_r0 : BitVec 1 := Scalar.xori v106_r0 true_73_r0
  let v108_r0 : BitVec 1 := Scalar.andi v103_r0 v107_r0
  let true_74_r0 : BitVec 1 := 1#1
  let v109_r0 : BitVec 1 := Scalar.andi v108_r0 true_74_r0
  let v110_r0 : BitVec 32 := Scalar.extui v109_r0
  let c0_i32_75_r0 : BitVec 32 := 0#32
  let v111_r0 : BitVec 1 := Scalar.cmpi .ne v110_r0 c0_i32_75_r0
  v111_r0

def k2_off5 (i : grid2.Coords) (arg10_r0 : BitVec 32) : Fin 2 → Nat :=
  let c0_i32_108_r0 : BitVec 32 := 0#32
  let c128_i32_r0 : BitVec 32 := 128#32
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v93_r0 : BitVec 1 := Scalar.cmpi .eq v92_r0 v5
  let c0_i32_67_r0 : BitVec 32 := 0#32
  let v94_r0 : BitVec 32 := Scalar.select v93_r0 c0_i32_67_r0 v92_r0
  let c20_i32_1 : BitVec 32 := 20#32
  let v6 : BitVec 1 := Scalar.cmpi .slt v3 c20_i32_1
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v95_r0 : BitVec 32 := Scalar.addi v94_r0 v10
  let c900_i32_105_r0 : BitVec 32 := 900#32
  let v171_r0 : BitVec 32 := Scalar.addi v95_r0 c900_i32_105_r0
  let v172_r0 : BitVec 32 := Scalar.muli c128_i32_r0 v171_r0
  ![0, v172_r0.toNat]
def k2_off6 (arg6_r0 : BitVec 32) : Fin 1 → Nat :=
  let c2_i32_104_r0 : BitVec 32 := 2#32
  let v170_r0 : BitVec 32 := Scalar.remui arg6_r0 c2_i32_104_r0
  ![v170_r0.toNat]
def k2_off7 (arg7_r0 : BitVec 32) : Fin 3 → Nat :=
  let c2_i32_105_r0 : BitVec 32 := 2#32
  let v172_r0 : BitVec 32 := Scalar.remui arg7_r0 c2_i32_105_r0
  let c0_i32_106_r0 : BitVec 32 := 0#32
  let c0_i32_107_r0 : BitVec 32 := 0#32
  ![v172_r0.toNat, 0, 0]
def k2_cond4 (i : grid2.Coords) (k2_t1 : Fin (k2_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let c900_i32_r0 : BitVec 32 := 900#32
  let v101_r0 : BitVec 32 := Scalar.addi v84_r0 c900_i32_r0
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let c900_i32_81_r0 : BitVec 32 := 900#32
  let v121_r0 : BitVec 32 := Scalar.addi v90_r0 c900_i32_81_r0
  let v122_r0 : BitVec 1 := Scalar.cmpi .ne v101_r0 v121_r0
  let c0_i32_30_r0 : BitVec 32 := 0#32
  let c1_i32_36_r0 : BitVec 32 := 1#32
  let arg5_r0 : BitVec 32 := Scf.iv c0_i32_30_r0 c1_i32_36_r0 k2_t1
  let c0_i32_59_r0 : BitVec 32 := 0#32
  let v81_r0 : BitVec 1 := Scalar.cmpi .eq arg5_r0 c0_i32_59_r0
  let v123_r0 : BitVec 1 := Scalar.ori v122_r0 v81_r0
  let c0_i32_82_r0 : BitVec 32 := 0#32
  let v124_r0 : BitVec 1 := Scalar.cmpi .sge arg5_r0 c0_i32_82_r0
  let v125_r0 : BitVec 1 := Scalar.andi v123_r0 v124_r0
  let v126_r0 : BitVec 32 := Scalar.extui v125_r0
  let c0_i32_83_r0 : BitVec 32 := 0#32
  let v127_r0 : BitVec 1 := Scalar.cmpi .ne v126_r0 c0_i32_83_r0
  v127_r0

def k2_off8 (i : grid2.Coords) (arg10_r0 : BitVec 32) : Fin 2 → Nat :=
  let c0_i32_108_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let c900_i32_104_r0 : BitVec 32 := 900#32
  let v170_r0 : BitVec 32 := Scalar.addi v84_r0 c900_i32_104_r0
  let v171_r0 : BitVec 32 := Scalar.muli c128_i32_r0 v170_r0
  ![0, v171_r0.toNat]
def k2_off9 (arg7_r0 : BitVec 32) : Fin 1 → Nat :=
  let c2_i32_105_r0 : BitVec 32 := 2#32
  let v172_r0 : BitVec 32 := Scalar.remui arg7_r0 c2_i32_105_r0
  ![v172_r0.toNat]
def k2_off10 (arg8_r0 : BitVec 32) : Fin 3 → Nat :=
  let c2_i32_87_r0 : BitVec 32 := 2#32
  let v135_r0 : BitVec 32 := Scalar.remui arg8_r0 c2_i32_87_r0
  let c0_i32_104_r1 : BitVec 32 := 0#32
  let c0_i32_105_r1 : BitVec 32 := 0#32
  ![v135_r0.toNat, 0, 0]

def k2_chk2 (i : grid2.Coords) (arg8_r0 : BitVec 32) : Prop :=
  (∀ (k2_h1 : k2_cond1 i = 1#1), ∀ a, (k2_off10 arg8_r0) a + S1x128x128.size a ≤ S2x128x128.size a)
theorem k2_off10_inb : ∀ (i : grid2.Coords) (arg8_r0 : BitVec 32) (k2_hw2 : k2_chk2 i arg8_r0), ∀ (k2_h1 : k2_cond1 i = 1#1), ∀ a, (k2_off10 arg8_r0) a + S1x128x128.size a ≤ S2x128x128.size a := fun i arg8_r0 k2_hw2 k2_h1 => k2_hw2 k2_h1

def k2_off11 (arg7_r0 : BitVec 32) : Fin 3 → Nat :=
  let c2_i32_86_r0 : BitVec 32 := 2#32
  let v134_r0 : BitVec 32 := Scalar.remui arg7_r0 c2_i32_86_r0
  let c0_i32_106_r1 : BitVec 32 := 0#32
  let c0_i32_107_r1 : BitVec 32 := 0#32
  ![v134_r0.toNat, 0, 0]

def k2_chk3 (i : grid2.Coords) (arg7_r0 : BitVec 32) : Prop :=
  (∀ (k2_h1 : k2_cond1 i = 1#1), ∀ a, (k2_off11 arg7_r0) a + S1x1x128.size a ≤ S2x1x128.size a)
theorem k2_off11_inb : ∀ (i : grid2.Coords) (arg7_r0 : BitVec 32) (k2_hw3 : k2_chk3 i arg7_r0), ∀ (k2_h1 : k2_cond1 i = 1#1), ∀ a, (k2_off11 arg7_r0) a + S1x1x128.size a ≤ S2x1x128.size a := fun i arg7_r0 k2_hw3 k2_h1 => k2_hw3 k2_h1

def k2_off12 (arg8_r0 : BitVec 32) : Fin 3 → Nat :=
  let c2_i32_104_r0 : BitVec 32 := 2#32
  let v170_r0 : BitVec 32 := Scalar.remui arg8_r0 c2_i32_104_r0
  let c0_i32_105_r0 : BitVec 32 := 0#32
  let c0_i32_106_r0 : BitVec 32 := 0#32
  ![v170_r0.toNat, 0, 0]
def k2_cond7 (i : grid2.Coords) (k2_t1 : Fin (k2_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v141_r0 : BitVec 1 := Scalar.cmpi .ne v84_r0 v95_r0
  let c0_i32_30_r0 : BitVec 32 := 0#32
  let c1_i32_36_r0 : BitVec 32 := 1#32
  let arg5_r0 : BitVec 32 := Scf.iv c0_i32_30_r0 c1_i32_36_r0 k2_t1
  let c1_i32_58_r0 : BitVec 32 := 1#32
  let v80_r0 : BitVec 32 := Scalar.muli c1_i32_58_r0 v5
  let c1_i32_60_r0 : BitVec 32 := 1#32
  let v82_r0 : BitVec 32 := Scalar.subi v80_r0 c1_i32_60_r0
  let v83_r0 : BitVec 1 := Scalar.cmpi .eq arg5_r0 v82_r0
  let v142_r0 : BitVec 1 := Scalar.ori v141_r0 v83_r0
  let v143_r0 : BitVec 32 := Scalar.extui v142_r0
  let c0_i32_90_r0 : BitVec 32 := 0#32
  let v144_r0 : BitVec 1 := Scalar.cmpi .ne v143_r0 c0_i32_90_r0
  v144_r0

def k2_off13 (i : grid2.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let v171_r0 : BitVec 32 := Scalar.muli c128_i32_r0 v84_r0
  let c0_i32_107_r0 : BitVec 32 := 0#32
  ![v171_r0.toNat, 0]
def k2_off14 (arg8_r0 : BitVec 32) : Fin 1 → Nat :=
  let c2_i32_104_r0 : BitVec 32 := 2#32
  let v170_r0 : BitVec 32 := Scalar.remui arg8_r0 c2_i32_104_r0
  ![v170_r0.toNat]
def k2_off15 (arg9_r0 : BitVec 32) : Fin 3 → Nat :=
  let c2_i32_104_r0 : BitVec 32 := 2#32
  let v170_r0 : BitVec 32 := Scalar.remui arg9_r0 c2_i32_104_r0
  let c0_i32_105_r0 : BitVec 32 := 0#32
  let c0_i32_106_r0 : BitVec 32 := 0#32
  ![v170_r0.toNat, 0, 0]
def k2_cond9 (i : grid2.Coords) (k2_t1 : Fin (k2_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v154_r0 : BitVec 1 := Scalar.cmpi .ne v84_r0 v90_r0
  let c0_i32_30_r0 : BitVec 32 := 0#32
  let c1_i32_36_r0 : BitVec 32 := 1#32
  let arg5_r0 : BitVec 32 := Scf.iv c0_i32_30_r0 c1_i32_36_r0 k2_t1
  let c0_i32_59_r0 : BitVec 32 := 0#32
  let v81_r0 : BitVec 1 := Scalar.cmpi .eq arg5_r0 c0_i32_59_r0
  let true_96_r0 : BitVec 1 := 1#1
  let v155_r0 : BitVec 1 := Scalar.xori v81_r0 true_96_r0
  let v156_r0 : BitVec 1 := Scalar.andi v154_r0 v155_r0
  let v157_r0 : BitVec 32 := Scalar.extui v156_r0
  let c0_i32_97_r0 : BitVec 32 := 0#32
  let v158_r0 : BitVec 1 := Scalar.cmpi .ne v157_r0 c0_i32_97_r0
  v158_r0

def k2_off16 (i : grid2.Coords) (arg10_r0 : BitVec 32) : Fin 2 → Nat :=
  let c128_i32_r0 : BitVec 32 := 128#32
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let c1_i32_64_r0 : BitVec 32 := 1#32
  let v88_r0 : BitVec 32 := Scalar.subi v5 c1_i32_64_r0
  let v89_r0 : BitVec 32 := Scalar.select v87_r0 v88_r0 v86_r0
  let c20_i32_1 : BitVec 32 := 20#32
  let v6 : BitVec 1 := Scalar.cmpi .slt v3 c20_i32_1
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v90_r0 : BitVec 32 := Scalar.addi v89_r0 v10
  let v171_r0 : BitVec 32 := Scalar.muli c128_i32_r0 v90_r0
  let c0_i32_107_r0 : BitVec 32 := 0#32
  ![v171_r0.toNat, 0]
def k2_off17 (arg9_r0 : BitVec 32) : Fin 1 → Nat :=
  let c2_i32_104_r0 : BitVec 32 := 2#32
  let v170_r0 : BitVec 32 := Scalar.remui arg9_r0 c2_i32_104_r0
  ![v170_r0.toNat]

def k2_chk1 (i : grid2.Coords) (k2_t1 : Fin (k2_t1_loop i).trips) (arg6_r0 : BitVec 32) (arg7_r0 : BitVec 32) (arg8_r0 : BitVec 32) (arg9_r0 : BitVec 32) (arg10_r0 : BitVec 32) : Prop :=
  (∀ (k2_h1 : k2_cond1 i = 1#1), ∀ (k2_h3 : k2_cond3 i k2_t1 arg10_r0 = 1#1), ∀ a, (k2_off4 arg6_r0) a + S1x1x128.size a ≤ S2x1x128.size a) ∧
  (∀ (k2_h1 : k2_cond1 i = 1#1), ∀ (k2_h3 : k2_cond3 i k2_t1 arg10_r0 = 1#1), ∀ a, (k2_off5 i arg10_r0) a + S1x128.size a ≤ S1x204800.size a) ∧
  (∀ (k2_h1 : k2_cond1 i = 1#1), ∀ (k2_h3 : k2_cond3 i k2_t1 arg10_r0 = 1#1), ∀ a, (k2_off6 arg6_r0) a + S1.size a ≤ S2.size a) ∧
  (∀ (k2_h1 : k2_cond1 i = 1#1), ∀ (k2_h4 : k2_cond4 i k2_t1 arg10_r0 = 1#1), ∀ a, (k2_off7 arg7_r0) a + S1x1x128.size a ≤ S2x1x128.size a) ∧
  (∀ (k2_h1 : k2_cond1 i = 1#1), ∀ (k2_h4 : k2_cond4 i k2_t1 arg10_r0 = 1#1), ∀ a, (k2_off8 i arg10_r0) a + S1x128.size a ≤ S1x204800.size a) ∧
  (∀ (k2_h1 : k2_cond1 i = 1#1), ∀ (k2_h4 : k2_cond4 i k2_t1 arg10_r0 = 1#1), ∀ a, (k2_off9 arg7_r0) a + S1.size a ≤ S2.size a) ∧
  (∀ (k2_h1 : k2_cond1 i = 1#1), ∀ (k2_h7 : k2_cond7 i k2_t1 arg10_r0 = 1#1), ∀ a, (k2_off12 arg8_r0) a + S1x128x128.size a ≤ S2x128x128.size a) ∧
  (∀ (k2_h1 : k2_cond1 i = 1#1), ∀ (k2_h7 : k2_cond7 i k2_t1 arg10_r0 = 1#1), ∀ a, (k2_off13 i arg10_r0) a + S128x128.size a ≤ S64000x128.size a) ∧
  (∀ (k2_h1 : k2_cond1 i = 1#1), ∀ (k2_h7 : k2_cond7 i k2_t1 arg10_r0 = 1#1), ∀ a, (k2_off14 arg8_r0) a + S1.size a ≤ S2.size a) ∧
  (∀ (k2_h1 : k2_cond1 i = 1#1), ∀ (k2_h9 : k2_cond9 i k2_t1 arg10_r0 = 1#1), ∀ a, (k2_off15 arg9_r0) a + S1x128x128.size a ≤ S2x128x128.size a) ∧
  (∀ (k2_h1 : k2_cond1 i = 1#1), ∀ (k2_h9 : k2_cond9 i k2_t1 arg10_r0 = 1#1), ∀ a, (k2_off16 i arg10_r0) a + S128x128.size a ≤ S64000x128.size a) ∧
  (∀ (k2_h1 : k2_cond1 i = 1#1), ∀ (k2_h9 : k2_cond9 i k2_t1 arg10_r0 = 1#1), ∀ a, (k2_off17 arg9_r0) a + S1.size a ≤ S2.size a)
theorem k2_off4_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h3 : k2_cond3 i k2_t1 arg10_r0 = 1#1), ∀ a, (k2_off4 arg6_r0) a + S1x1x128.size a ≤ S2x1x128.size a := fun i k2_t1 arg6_r0 arg7_r0 arg8_r0 arg9_r0 arg10_r0 k2_hw1 k2_h1 k2_h3 => k2_hw1.1 k2_h1 k2_h3
theorem k2_off5_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h3 : k2_cond3 i k2_t1 arg10_r0 = 1#1), ∀ a, (k2_off5 i arg10_r0) a + S1x128.size a ≤ S1x204800.size a := fun i k2_t1 arg6_r0 arg7_r0 arg8_r0 arg9_r0 arg10_r0 k2_hw1 k2_h1 k2_h3 => k2_hw1.2.1 k2_h1 k2_h3
theorem k2_off6_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h3 : k2_cond3 i k2_t1 arg10_r0 = 1#1), ∀ a, (k2_off6 arg6_r0) a + S1.size a ≤ S2.size a := fun i k2_t1 arg6_r0 arg7_r0 arg8_r0 arg9_r0 arg10_r0 k2_hw1 k2_h1 k2_h3 => k2_hw1.2.2.1 k2_h1 k2_h3
theorem k2_off7_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h4 : k2_cond4 i k2_t1 arg10_r0 = 1#1), ∀ a, (k2_off7 arg7_r0) a + S1x1x128.size a ≤ S2x1x128.size a := fun i k2_t1 arg6_r0 arg7_r0 arg8_r0 arg9_r0 arg10_r0 k2_hw1 k2_h1 k2_h4 => k2_hw1.2.2.2.1 k2_h1 k2_h4
theorem k2_off8_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h4 : k2_cond4 i k2_t1 arg10_r0 = 1#1), ∀ a, (k2_off8 i arg10_r0) a + S1x128.size a ≤ S1x204800.size a := fun i k2_t1 arg6_r0 arg7_r0 arg8_r0 arg9_r0 arg10_r0 k2_hw1 k2_h1 k2_h4 => k2_hw1.2.2.2.2.1 k2_h1 k2_h4
theorem k2_off9_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h4 : k2_cond4 i k2_t1 arg10_r0 = 1#1), ∀ a, (k2_off9 arg7_r0) a + S1.size a ≤ S2.size a := fun i k2_t1 arg6_r0 arg7_r0 arg8_r0 arg9_r0 arg10_r0 k2_hw1 k2_h1 k2_h4 => k2_hw1.2.2.2.2.2.1 k2_h1 k2_h4
theorem k2_off12_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h7 : k2_cond7 i k2_t1 arg10_r0 = 1#1), ∀ a, (k2_off12 arg8_r0) a + S1x128x128.size a ≤ S2x128x128.size a := fun i k2_t1 arg6_r0 arg7_r0 arg8_r0 arg9_r0 arg10_r0 k2_hw1 k2_h1 k2_h7 => k2_hw1.2.2.2.2.2.2.1 k2_h1 k2_h7
theorem k2_off13_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h7 : k2_cond7 i k2_t1 arg10_r0 = 1#1), ∀ a, (k2_off13 i arg10_r0) a + S128x128.size a ≤ S64000x128.size a := fun i k2_t1 arg6_r0 arg7_r0 arg8_r0 arg9_r0 arg10_r0 k2_hw1 k2_h1 k2_h7 => k2_hw1.2.2.2.2.2.2.2.1 k2_h1 k2_h7
theorem k2_off14_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h7 : k2_cond7 i k2_t1 arg10_r0 = 1#1), ∀ a, (k2_off14 arg8_r0) a + S1.size a ≤ S2.size a := fun i k2_t1 arg6_r0 arg7_r0 arg8_r0 arg9_r0 arg10_r0 k2_hw1 k2_h1 k2_h7 => k2_hw1.2.2.2.2.2.2.2.2.1 k2_h1 k2_h7
theorem k2_off15_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h9 : k2_cond9 i k2_t1 arg10_r0 = 1#1), ∀ a, (k2_off15 arg9_r0) a + S1x128x128.size a ≤ S2x128x128.size a := fun i k2_t1 arg6_r0 arg7_r0 arg8_r0 arg9_r0 arg10_r0 k2_hw1 k2_h1 k2_h9 => k2_hw1.2.2.2.2.2.2.2.2.2.1 k2_h1 k2_h9
theorem k2_off16_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h9 : k2_cond9 i k2_t1 arg10_r0 = 1#1), ∀ a, (k2_off16 i arg10_r0) a + S128x128.size a ≤ S64000x128.size a := fun i k2_t1 arg6_r0 arg7_r0 arg8_r0 arg9_r0 arg10_r0 k2_hw1 k2_h1 k2_h9 => k2_hw1.2.2.2.2.2.2.2.2.2.2.1 k2_h1 k2_h9
theorem k2_off17_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h9 : k2_cond9 i k2_t1 arg10_r0 = 1#1), ∀ a, (k2_off17 arg9_r0) a + S1.size a ≤ S2.size a := fun i k2_t1 arg6_r0 arg7_r0 arg8_r0 arg9_r0 arg10_r0 k2_hw1 k2_h1 k2_h9 => k2_hw1.2.2.2.2.2.2.2.2.2.2.2 k2_h1 k2_h9

@[reducible] def k2_t2_loop (i : grid2.Coords) : Scf.Loop 32 :=
  let c0_i32_30_r0 : BitVec 32 := 0#32
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let v43_r0 : BitVec 32 := Scalar.addi c0_i32_30_r0 v42_r0
  let c1_i32_37_r0 : BitVec 32 := 1#32
  ⟨v46_r0, v43_r0, c1_i32_37_r0⟩
def k2_off18 (arg6_r0 : BitVec 32) : Fin 3 → Nat :=
  let c2_i32_104_r0 : BitVec 32 := 2#32
  let v170_r0 : BitVec 32 := Scalar.remui arg6_r0 c2_i32_104_r0
  let c0_i32_106_r0 : BitVec 32 := 0#32
  let c0_i32_107_r0 : BitVec 32 := 0#32
  ![v170_r0.toNat, 0, 0]
def k2_cond10 (i : grid2.Coords) (k2_t2 : Fin (k2_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let c900_i32_r0 : BitVec 32 := 900#32
  let v101_r0 : BitVec 32 := Scalar.addi v84_r0 c900_i32_r0
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let c900_i32_71_r0 : BitVec 32 := 900#32
  let v102_r0 : BitVec 32 := Scalar.addi v95_r0 c900_i32_71_r0
  let v103_r0 : BitVec 1 := Scalar.cmpi .ne v101_r0 v102_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k2_t2
  let c1_i32_58_r0 : BitVec 32 := 1#32
  let v80_r0 : BitVec 32 := Scalar.muli c1_i32_58_r0 v5
  let c2_i32_r0 : BitVec 32 := 2#32
  let v104_r0 : BitVec 32 := Scalar.subi v80_r0 c2_i32_r0
  let c1_i32_72_r0 : BitVec 32 := 1#32
  let v105_r0 : BitVec 32 := Scalar.addi v104_r0 c1_i32_72_r0
  let v106_r0 : BitVec 1 := Scalar.cmpi .sge arg5_r0 v105_r0
  let true_73_r0 : BitVec 1 := 1#1
  let v107_r0 : BitVec 1 := Scalar.xori v106_r0 true_73_r0
  let v108_r0 : BitVec 1 := Scalar.andi v103_r0 v107_r0
  let true_74_r0 : BitVec 1 := 1#1
  let v109_r0 : BitVec 1 := Scalar.andi v108_r0 true_74_r0
  let v110_r0 : BitVec 32 := Scalar.extui v109_r0
  let c0_i32_75_r0 : BitVec 32 := 0#32
  let v111_r0 : BitVec 1 := Scalar.cmpi .ne v110_r0 c0_i32_75_r0
  v111_r0

def k2_off19 (i : grid2.Coords) (arg10_r0 : BitVec 32) : Fin 2 → Nat :=
  let c0_i32_108_r0 : BitVec 32 := 0#32
  let c128_i32_r0 : BitVec 32 := 128#32
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v93_r0 : BitVec 1 := Scalar.cmpi .eq v92_r0 v5
  let c0_i32_67_r0 : BitVec 32 := 0#32
  let v94_r0 : BitVec 32 := Scalar.select v93_r0 c0_i32_67_r0 v92_r0
  let c20_i32_1 : BitVec 32 := 20#32
  let v6 : BitVec 1 := Scalar.cmpi .slt v3 c20_i32_1
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v95_r0 : BitVec 32 := Scalar.addi v94_r0 v10
  let c900_i32_105_r0 : BitVec 32 := 900#32
  let v171_r0 : BitVec 32 := Scalar.addi v95_r0 c900_i32_105_r0
  let v172_r0 : BitVec 32 := Scalar.muli c128_i32_r0 v171_r0
  ![0, v172_r0.toNat]
def k2_off20 (arg6_r0 : BitVec 32) : Fin 1 → Nat :=
  let c2_i32_104_r0 : BitVec 32 := 2#32
  let v170_r0 : BitVec 32 := Scalar.remui arg6_r0 c2_i32_104_r0
  ![v170_r0.toNat]
def k2_off21 (arg7_r0 : BitVec 32) : Fin 3 → Nat :=
  let c2_i32_105_r0 : BitVec 32 := 2#32
  let v172_r0 : BitVec 32 := Scalar.remui arg7_r0 c2_i32_105_r0
  let c0_i32_106_r0 : BitVec 32 := 0#32
  let c0_i32_107_r0 : BitVec 32 := 0#32
  ![v172_r0.toNat, 0, 0]
def k2_cond11 (i : grid2.Coords) (k2_t2 : Fin (k2_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let c900_i32_r0 : BitVec 32 := 900#32
  let v101_r0 : BitVec 32 := Scalar.addi v84_r0 c900_i32_r0
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let c900_i32_81_r0 : BitVec 32 := 900#32
  let v121_r0 : BitVec 32 := Scalar.addi v90_r0 c900_i32_81_r0
  let v122_r0 : BitVec 1 := Scalar.cmpi .ne v101_r0 v121_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k2_t2
  let c0_i32_59_r0 : BitVec 32 := 0#32
  let v81_r0 : BitVec 1 := Scalar.cmpi .eq arg5_r0 c0_i32_59_r0
  let v123_r0 : BitVec 1 := Scalar.ori v122_r0 v81_r0
  let c0_i32_82_r0 : BitVec 32 := 0#32
  let v124_r0 : BitVec 1 := Scalar.cmpi .sge arg5_r0 c0_i32_82_r0
  let v125_r0 : BitVec 1 := Scalar.andi v123_r0 v124_r0
  let v126_r0 : BitVec 32 := Scalar.extui v125_r0
  let c0_i32_83_r0 : BitVec 32 := 0#32
  let v127_r0 : BitVec 1 := Scalar.cmpi .ne v126_r0 c0_i32_83_r0
  v127_r0

def k2_off22 (i : grid2.Coords) (arg10_r0 : BitVec 32) : Fin 2 → Nat :=
  let c0_i32_108_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let c900_i32_104_r0 : BitVec 32 := 900#32
  let v170_r0 : BitVec 32 := Scalar.addi v84_r0 c900_i32_104_r0
  let v171_r0 : BitVec 32 := Scalar.muli c128_i32_r0 v170_r0
  ![0, v171_r0.toNat]
def k2_off23 (arg7_r0 : BitVec 32) : Fin 1 → Nat :=
  let c2_i32_105_r0 : BitVec 32 := 2#32
  let v172_r0 : BitVec 32 := Scalar.remui arg7_r0 c2_i32_105_r0
  ![v172_r0.toNat]
def k2_off24 (arg8_r0 : BitVec 32) : Fin 3 → Nat :=
  let c2_i32_87_r0 : BitVec 32 := 2#32
  let v135_r0 : BitVec 32 := Scalar.remui arg8_r0 c2_i32_87_r0
  let c0_i32_104_r2 : BitVec 32 := 0#32
  let c0_i32_105_r2 : BitVec 32 := 0#32
  ![v135_r0.toNat, 0, 0]

def k2_chk5 (i : grid2.Coords) (k2_t2 : Fin (k2_t2_loop i).trips) (arg8_r0 : BitVec 32) : Prop :=
  (∀ (k2_h1 : k2_cond1 i = 1#1), ∀ a, (k2_off24 arg8_r0) a + S1x128x128.size a ≤ S2x128x128.size a)
theorem k2_off24_inb : ∀ (i : grid2.Coords) (k2_t2 : Fin (k2_t2_loop i).trips) (arg8_r0 : BitVec 32) (k2_hw5 : k2_chk5 i k2_t2 arg8_r0), ∀ (k2_h1 : k2_cond1 i = 1#1), ∀ a, (k2_off24 arg8_r0) a + S1x128x128.size a ≤ S2x128x128.size a := fun i k2_t2 arg8_r0 k2_hw5 k2_h1 => k2_hw5 k2_h1

def k2_off25 (arg7_r0 : BitVec 32) : Fin 3 → Nat :=
  let c2_i32_86_r0 : BitVec 32 := 2#32
  let v134_r0 : BitVec 32 := Scalar.remui arg7_r0 c2_i32_86_r0
  let c0_i32_106_r2 : BitVec 32 := 0#32
  let c0_i32_107_r2 : BitVec 32 := 0#32
  ![v134_r0.toNat, 0, 0]

def k2_chk6 (i : grid2.Coords) (k2_t2 : Fin (k2_t2_loop i).trips) (arg7_r0 : BitVec 32) : Prop :=
  (∀ (k2_h1 : k2_cond1 i = 1#1), ∀ a, (k2_off25 arg7_r0) a + S1x1x128.size a ≤ S2x1x128.size a)
theorem k2_off25_inb : ∀ (i : grid2.Coords) (k2_t2 : Fin (k2_t2_loop i).trips) (arg7_r0 : BitVec 32) (k2_hw6 : k2_chk6 i k2_t2 arg7_r0), ∀ (k2_h1 : k2_cond1 i = 1#1), ∀ a, (k2_off25 arg7_r0) a + S1x1x128.size a ≤ S2x1x128.size a := fun i k2_t2 arg7_r0 k2_hw6 k2_h1 => k2_hw6 k2_h1

def k2_off26 (arg8_r0 : BitVec 32) : Fin 3 → Nat :=
  let c2_i32_104_r0 : BitVec 32 := 2#32
  let v170_r0 : BitVec 32 := Scalar.remui arg8_r0 c2_i32_104_r0
  let c0_i32_105_r0 : BitVec 32 := 0#32
  let c0_i32_106_r0 : BitVec 32 := 0#32
  ![v170_r0.toNat, 0, 0]
def k2_cond14 (i : grid2.Coords) (k2_t2 : Fin (k2_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v141_r0 : BitVec 1 := Scalar.cmpi .ne v84_r0 v95_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k2_t2
  let c1_i32_58_r0 : BitVec 32 := 1#32
  let v80_r0 : BitVec 32 := Scalar.muli c1_i32_58_r0 v5
  let c1_i32_60_r0 : BitVec 32 := 1#32
  let v82_r0 : BitVec 32 := Scalar.subi v80_r0 c1_i32_60_r0
  let v83_r0 : BitVec 1 := Scalar.cmpi .eq arg5_r0 v82_r0
  let v142_r0 : BitVec 1 := Scalar.ori v141_r0 v83_r0
  let v143_r0 : BitVec 32 := Scalar.extui v142_r0
  let c0_i32_90_r0 : BitVec 32 := 0#32
  let v144_r0 : BitVec 1 := Scalar.cmpi .ne v143_r0 c0_i32_90_r0
  v144_r0

def k2_off27 (i : grid2.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let v171_r0 : BitVec 32 := Scalar.muli c128_i32_r0 v84_r0
  let c0_i32_107_r0 : BitVec 32 := 0#32
  ![v171_r0.toNat, 0]
def k2_off28 (arg8_r0 : BitVec 32) : Fin 1 → Nat :=
  let c2_i32_104_r0 : BitVec 32 := 2#32
  let v170_r0 : BitVec 32 := Scalar.remui arg8_r0 c2_i32_104_r0
  ![v170_r0.toNat]
def k2_off29 (arg9_r0 : BitVec 32) : Fin 3 → Nat :=
  let c2_i32_104_r0 : BitVec 32 := 2#32
  let v170_r0 : BitVec 32 := Scalar.remui arg9_r0 c2_i32_104_r0
  let c0_i32_105_r0 : BitVec 32 := 0#32
  let c0_i32_106_r0 : BitVec 32 := 0#32
  ![v170_r0.toNat, 0, 0]
def k2_cond16 (i : grid2.Coords) (k2_t2 : Fin (k2_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32_1 : BitVec 32 := 20#32
  let v6 : BitVec 1 := Scalar.cmpi .slt v3 c20_i32_1
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v84_r0 : BitVec 32 := Scalar.addi arg10_r0 v10
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v154_r0 : BitVec 1 := Scalar.cmpi .ne v84_r0 v90_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k2_t2
  let c0_i32_59_r0 : BitVec 32 := 0#32
  let v81_r0 : BitVec 1 := Scalar.cmpi .eq arg5_r0 c0_i32_59_r0
  let true_96_r0 : BitVec 1 := 1#1
  let v155_r0 : BitVec 1 := Scalar.xori v81_r0 true_96_r0
  let v156_r0 : BitVec 1 := Scalar.andi v154_r0 v155_r0
  let v157_r0 : BitVec 32 := Scalar.extui v156_r0
  let c0_i32_97_r0 : BitVec 32 := 0#32
  let v158_r0 : BitVec 1 := Scalar.cmpi .ne v157_r0 c0_i32_97_r0
  v158_r0

def k2_off30 (i : grid2.Coords) (arg10_r0 : BitVec 32) : Fin 2 → Nat :=
  let c128_i32_r0 : BitVec 32 := 128#32
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let c1_i32_64_r0 : BitVec 32 := 1#32
  let v88_r0 : BitVec 32 := Scalar.subi v5 c1_i32_64_r0
  let v89_r0 : BitVec 32 := Scalar.select v87_r0 v88_r0 v86_r0
  let c20_i32_1 : BitVec 32 := 20#32
  let v6 : BitVec 1 := Scalar.cmpi .slt v3 c20_i32_1
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v90_r0 : BitVec 32 := Scalar.addi v89_r0 v10
  let v171_r0 : BitVec 32 := Scalar.muli c128_i32_r0 v90_r0
  let c0_i32_107_r0 : BitVec 32 := 0#32
  ![v171_r0.toNat, 0]
def k2_off31 (arg9_r0 : BitVec 32) : Fin 1 → Nat :=
  let c2_i32_104_r0 : BitVec 32 := 2#32
  let v170_r0 : BitVec 32 := Scalar.remui arg9_r0 c2_i32_104_r0
  ![v170_r0.toNat]

def k2_chk4 (i : grid2.Coords) (k2_t2 : Fin (k2_t2_loop i).trips) (arg6_r0 : BitVec 32) (arg7_r0 : BitVec 32) (arg8_r0 : BitVec 32) (arg9_r0 : BitVec 32) (arg10_r0 : BitVec 32) : Prop :=
  (∀ (k2_h1 : k2_cond1 i = 1#1), ∀ (k2_h10 : k2_cond10 i k2_t2 arg10_r0 = 1#1), ∀ a, (k2_off18 arg6_r0) a + S1x1x128.size a ≤ S2x1x128.size a) ∧
  (∀ (k2_h1 : k2_cond1 i = 1#1), ∀ (k2_h10 : k2_cond10 i k2_t2 arg10_r0 = 1#1), ∀ a, (k2_off19 i arg10_r0) a + S1x128.size a ≤ S1x204800.size a) ∧
  (∀ (k2_h1 : k2_cond1 i = 1#1), ∀ (k2_h10 : k2_cond10 i k2_t2 arg10_r0 = 1#1), ∀ a, (k2_off20 arg6_r0) a + S1.size a ≤ S2.size a) ∧
  (∀ (k2_h1 : k2_cond1 i = 1#1), ∀ (k2_h11 : k2_cond11 i k2_t2 arg10_r0 = 1#1), ∀ a, (k2_off21 arg7_r0) a + S1x1x128.size a ≤ S2x1x128.size a) ∧
  (∀ (k2_h1 : k2_cond1 i = 1#1), ∀ (k2_h11 : k2_cond11 i k2_t2 arg10_r0 = 1#1), ∀ a, (k2_off22 i arg10_r0) a + S1x128.size a ≤ S1x204800.size a) ∧
  (∀ (k2_h1 : k2_cond1 i = 1#1), ∀ (k2_h11 : k2_cond11 i k2_t2 arg10_r0 = 1#1), ∀ a, (k2_off23 arg7_r0) a + S1.size a ≤ S2.size a) ∧
  (∀ (k2_h1 : k2_cond1 i = 1#1), ∀ (k2_h14 : k2_cond14 i k2_t2 arg10_r0 = 1#1), ∀ a, (k2_off26 arg8_r0) a + S1x128x128.size a ≤ S2x128x128.size a) ∧
  (∀ (k2_h1 : k2_cond1 i = 1#1), ∀ (k2_h14 : k2_cond14 i k2_t2 arg10_r0 = 1#1), ∀ a, (k2_off27 i arg10_r0) a + S128x128.size a ≤ S64000x128.size a) ∧
  (∀ (k2_h1 : k2_cond1 i = 1#1), ∀ (k2_h14 : k2_cond14 i k2_t2 arg10_r0 = 1#1), ∀ a, (k2_off28 arg8_r0) a + S1.size a ≤ S2.size a) ∧
  (∀ (k2_h1 : k2_cond1 i = 1#1), ∀ (k2_h16 : k2_cond16 i k2_t2 arg10_r0 = 1#1), ∀ a, (k2_off29 arg9_r0) a + S1x128x128.size a ≤ S2x128x128.size a) ∧
  (∀ (k2_h1 : k2_cond1 i = 1#1), ∀ (k2_h16 : k2_cond16 i k2_t2 arg10_r0 = 1#1), ∀ a, (k2_off30 i arg10_r0) a + S128x128.size a ≤ S64000x128.size a) ∧
  (∀ (k2_h1 : k2_cond1 i = 1#1), ∀ (k2_h16 : k2_cond16 i k2_t2 arg10_r0 = 1#1), ∀ a, (k2_off31 arg9_r0) a + S1.size a ≤ S2.size a)
theorem k2_off18_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h10 : k2_cond10 i k2_t2 arg10_r0 = 1#1), ∀ a, (k2_off18 arg6_r0) a + S1x1x128.size a ≤ S2x1x128.size a := fun i k2_t2 arg6_r0 arg7_r0 arg8_r0 arg9_r0 arg10_r0 k2_hw4 k2_h1 k2_h10 => k2_hw4.1 k2_h1 k2_h10
theorem k2_off19_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h10 : k2_cond10 i k2_t2 arg10_r0 = 1#1), ∀ a, (k2_off19 i arg10_r0) a + S1x128.size a ≤ S1x204800.size a := fun i k2_t2 arg6_r0 arg7_r0 arg8_r0 arg9_r0 arg10_r0 k2_hw4 k2_h1 k2_h10 => k2_hw4.2.1 k2_h1 k2_h10
theorem k2_off20_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h10 : k2_cond10 i k2_t2 arg10_r0 = 1#1), ∀ a, (k2_off20 arg6_r0) a + S1.size a ≤ S2.size a := fun i k2_t2 arg6_r0 arg7_r0 arg8_r0 arg9_r0 arg10_r0 k2_hw4 k2_h1 k2_h10 => k2_hw4.2.2.1 k2_h1 k2_h10
theorem k2_off21_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h11 : k2_cond11 i k2_t2 arg10_r0 = 1#1), ∀ a, (k2_off21 arg7_r0) a + S1x1x128.size a ≤ S2x1x128.size a := fun i k2_t2 arg6_r0 arg7_r0 arg8_r0 arg9_r0 arg10_r0 k2_hw4 k2_h1 k2_h11 => k2_hw4.2.2.2.1 k2_h1 k2_h11
theorem k2_off22_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h11 : k2_cond11 i k2_t2 arg10_r0 = 1#1), ∀ a, (k2_off22 i arg10_r0) a + S1x128.size a ≤ S1x204800.size a := fun i k2_t2 arg6_r0 arg7_r0 arg8_r0 arg9_r0 arg10_r0 k2_hw4 k2_h1 k2_h11 => k2_hw4.2.2.2.2.1 k2_h1 k2_h11
theorem k2_off23_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h11 : k2_cond11 i k2_t2 arg10_r0 = 1#1), ∀ a, (k2_off23 arg7_r0) a + S1.size a ≤ S2.size a := fun i k2_t2 arg6_r0 arg7_r0 arg8_r0 arg9_r0 arg10_r0 k2_hw4 k2_h1 k2_h11 => k2_hw4.2.2.2.2.2.1 k2_h1 k2_h11
theorem k2_off26_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h14 : k2_cond14 i k2_t2 arg10_r0 = 1#1), ∀ a, (k2_off26 arg8_r0) a + S1x128x128.size a ≤ S2x128x128.size a := fun i k2_t2 arg6_r0 arg7_r0 arg8_r0 arg9_r0 arg10_r0 k2_hw4 k2_h1 k2_h14 => k2_hw4.2.2.2.2.2.2.1 k2_h1 k2_h14
theorem k2_off27_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h14 : k2_cond14 i k2_t2 arg10_r0 = 1#1), ∀ a, (k2_off27 i arg10_r0) a + S128x128.size a ≤ S64000x128.size a := fun i k2_t2 arg6_r0 arg7_r0 arg8_r0 arg9_r0 arg10_r0 k2_hw4 k2_h1 k2_h14 => k2_hw4.2.2.2.2.2.2.2.1 k2_h1 k2_h14
theorem k2_off28_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h14 : k2_cond14 i k2_t2 arg10_r0 = 1#1), ∀ a, (k2_off28 arg8_r0) a + S1.size a ≤ S2.size a := fun i k2_t2 arg6_r0 arg7_r0 arg8_r0 arg9_r0 arg10_r0 k2_hw4 k2_h1 k2_h14 => k2_hw4.2.2.2.2.2.2.2.2.1 k2_h1 k2_h14
theorem k2_off29_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h16 : k2_cond16 i k2_t2 arg10_r0 = 1#1), ∀ a, (k2_off29 arg9_r0) a + S1x128x128.size a ≤ S2x128x128.size a := fun i k2_t2 arg6_r0 arg7_r0 arg8_r0 arg9_r0 arg10_r0 k2_hw4 k2_h1 k2_h16 => k2_hw4.2.2.2.2.2.2.2.2.2.1 k2_h1 k2_h16
theorem k2_off30_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h16 : k2_cond16 i k2_t2 arg10_r0 = 1#1), ∀ a, (k2_off30 i arg10_r0) a + S128x128.size a ≤ S64000x128.size a := fun i k2_t2 arg6_r0 arg7_r0 arg8_r0 arg9_r0 arg10_r0 k2_hw4 k2_h1 k2_h16 => k2_hw4.2.2.2.2.2.2.2.2.2.2.1 k2_h1 k2_h16
theorem k2_off31_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h16 : k2_cond16 i k2_t2 arg10_r0 = 1#1), ∀ a, (k2_off31 arg9_r0) a + S1.size a ≤ S2.size a := fun i k2_t2 arg6_r0 arg7_r0 arg8_r0 arg9_r0 arg10_r0 k2_hw4 k2_h1 k2_h16 => k2_hw4.2.2.2.2.2.2.2.2.2.2.2 k2_h1 k2_h16

def k2_cond18 (i : grid2.Coords) : BitVec 1 :=
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let v11 : BitVec 32 := Scalar.muli c1_i32_4 v5
  let c1_i32_42_r0 : BitVec 32 := 1#32
  let v54_r0 : BitVec 32 := Scalar.subi v11 c1_i32_42_r0
  let c1_i32_43_r0 : BitVec 32 := 1#32
  let v55_r0 : BitVec 32 := Scalar.muli c1_i32_43_r0 v5
  let c1_i32_45_r0 : BitVec 32 := 1#32
  let v57_r0 : BitVec 32 := Scalar.subi v55_r0 c1_i32_45_r0
  let v58_r0 : BitVec 1 := Scalar.cmpi .eq v54_r0 v57_r0
  let v78_r0 : BitVec 32 := Scalar.extui v58_r0
  let c0_i32_57_r0 : BitVec 32 := 0#32
  let v79_r0 : BitVec 1 := Scalar.cmpi .ne v78_r0 c0_i32_57_r0
  v79_r0

def k2_off32 (v48_3_r0 : BitVec 32) : Fin 3 → Nat :=
  let c2_i32_r0 : BitVec 32 := 2#32
  let v80_r0 : BitVec 32 := Scalar.remui v48_3_r0 c2_i32_r0
  let c0_i32_58_r0 : BitVec 32 := 0#32
  let c0_i32_59_r0 : BitVec 32 := 0#32
  ![v80_r0.toNat, 0, 0]

def k2_off33 (i : grid2.Coords) (v48_4_r0 : BitVec 32) : Fin 2 → Nat :=
  let c128_i32_r0 : BitVec 32 := 128#32
  let true_39_r0 : BitVec 1 := 1#1
  let c1_i32_38_r0 : BitVec 32 := 1#32
  let v49_r0 : BitVec 32 := Scalar.subi v48_4_r0 c1_i32_38_r0
  let v50_r0 : BitVec 32 := Scalar.select true_39_r0 v49_r0 v48_4_r0
  let c_m1_i32_40_r0 : BitVec 32 := 4294967295#32
  let v51_r0 : BitVec 1 := Scalar.cmpi .eq v50_r0 c_m1_i32_40_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c20_i32 : BitVec 32 := 20#32
  let v4 : BitVec 1 := Scalar.cmpi .slt v3 c20_i32
  let c16_i32_0 : BitVec 32 := 16#32
  let c15_i32 : BitVec 32 := 15#32
  let v5 : BitVec 32 := Scalar.select v4 c16_i32_0 c15_i32
  let c1_i32_41_r0 : BitVec 32 := 1#32
  let v52_r0 : BitVec 32 := Scalar.subi v5 c1_i32_41_r0
  let v53_r0 : BitVec 32 := Scalar.select v51_r0 v52_r0 v50_r0
  let c20_i32_1 : BitVec 32 := 20#32
  let v6 : BitVec 1 := Scalar.cmpi .slt v3 c20_i32_1
  let v7 : BitVec 32 := Scalar.muli v3 v5
  let c15_i32_2 : BitVec 32 := 15#32
  let v8 : BitVec 32 := Scalar.muli v3 c15_i32_2
  let c20_i32_3 : BitVec 32 := 20#32
  let v9 : BitVec 32 := Scalar.addi v8 c20_i32_3
  let v10 : BitVec 32 := Scalar.select v6 v7 v9
  let v59_r0 : BitVec 32 := Scalar.addi v53_r0 v10
  let v81_r0 : BitVec 32 := Scalar.muli c128_i32_r0 v59_r0
  let c0_i32_60_r0 : BitVec 32 := 0#32
  ![v81_r0.toNat, 0]

def k2_chk8 (i : grid2.Coords) (v48_4_r0 : BitVec 32) : Prop :=
  (∀ (k2_h1 : k2_cond1 i = 1#1), ∀ (k2_h18 : k2_cond18 i = 1#1), ∀ a, (k2_off33 i v48_4_r0) a + S128x128.size a ≤ S64000x128.size a)
theorem k2_off33_inb : ∀ (i : grid2.Coords) (v48_4_r0 : BitVec 32) (k2_hw8 : k2_chk8 i v48_4_r0), ∀ (k2_h1 : k2_cond1 i = 1#1), ∀ (k2_h18 : k2_cond18 i = 1#1), ∀ a, (k2_off33 i v48_4_r0) a + S128x128.size a ≤ S64000x128.size a := fun i v48_4_r0 k2_hw8 k2_h1 k2_h18 => k2_hw8 k2_h1 k2_h18

def k2_off34 (v48_3_r0 : BitVec 32) : Fin 1 → Nat :=
  let c2_i32_r0 : BitVec 32 := 2#32
  let v80_r0 : BitVec 32 := Scalar.remui v48_3_r0 c2_i32_r0
  ![v80_r0.toNat]
def k2_off35 (v48_3_r0 : BitVec 32) : Fin 3 → Nat :=
  let c2_i32_r0 : BitVec 32 := 2#32
  let v80_r0 : BitVec 32 := Scalar.remui v48_3_r0 c2_i32_r0
  let c0_i32_62_r0 : BitVec 32 := 0#32
  let c0_i32_63_r0 : BitVec 32 := 0#32
  ![v80_r0.toNat, 0, 0]

def k2_chk7 (i : grid2.Coords) (v48_3_r0 : BitVec 32) : Prop :=
  (∀ (k2_h1 : k2_cond1 i = 1#1), ∀ (k2_h18 : k2_cond18 i = 1#1), ∀ a, (k2_off32 v48_3_r0) a + S1x128x128.size a ≤ S2x128x128.size a) ∧
  (∀ (k2_h1 : k2_cond1 i = 1#1), ∀ (k2_h18 : k2_cond18 i = 1#1), ∀ a, (k2_off34 v48_3_r0) a + S1.size a ≤ S2.size a) ∧
  (∀ (k2_h1 : k2_cond1 i = 1#1), ∀ (k2_h18 : k2_cond18 i = 1#1), ∀ a, (k2_off35 v48_3_r0) a + S1x128x128.size a ≤ S2x128x128.size a)
theorem k2_off32_inb : ∀ (i : grid2.Coords) (v48_3_r0 : BitVec 32) (k2_hw7 : k2_chk7 i v48_3_r0), ∀ (k2_h1 : k2_cond1 i = 1#1), ∀ (k2_h18 : k2_cond18 i = 1#1), ∀ a, (k2_off32 v48_3_r0) a + S1x128x128.size a ≤ S2x128x128.size a := fun i v48_3_r0 k2_hw7 k2_h1 k2_h18 => k2_hw7.1 k2_h1 k2_h18
theorem k2_off34_inb : ∀ (i : grid2.Coords) (v48_3_r0 : BitVec 32) (k2_hw7 : k2_chk7 i v48_3_r0), ∀ (k2_h1 : k2_cond1 i = 1#1), ∀ (k2_h18 : k2_cond18 i = 1#1), ∀ a, (k2_off34 v48_3_r0) a + S1.size a ≤ S2.size a := fun i v48_3_r0 k2_hw7 k2_h1 k2_h18 => k2_hw7.2.1 k2_h1 k2_h18
theorem k2_off35_inb : ∀ (i : grid2.Coords) (v48_3_r0 : BitVec 32) (k2_hw7 : k2_chk7 i v48_3_r0), ∀ (k2_h1 : k2_cond1 i = 1#1), ∀ (k2_h18 : k2_cond18 i = 1#1), ∀ a, (k2_off35 v48_3_r0) a + S1x128x128.size a ≤ S2x128x128.size a := fun i v48_3_r0 k2_hw7 k2_h1 k2_h18 => k2_hw7.2.2 k2_h1 k2_h18

abbrev grid3 : Pipeline.Grid := ⟨2, ![2, 16], ![false, false]⟩

def k3_cond1 (i : grid3.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v11 : BitVec 32 := Scalar.muli c1_i32_3 v5
  let c0_i32_5_r0 : BitVec 32 := 0#32
  let v14_r0 : BitVec 1 := Scalar.cmpi .sgt v11 c0_i32_5_r0
  let v15_r0 : BitVec 32 := Scalar.extui v14_r0
  let c0_i32_6_r0 : BitVec 32 := 0#32
  let v16_r0 : BitVec 1 := Scalar.cmpi .ne v15_r0 c0_i32_6_r0
  v16_r0

def k3_cond2 (i : grid3.Coords) : BitVec 1 :=
  let true_22_r0 : BitVec 1 := 1#1
  let c1_i32_7_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v17_r0 : BitVec 32 := Scalar.muli c1_i32_7_r0 v5
  let c0_i32_21_r0 : BitVec 32 := 0#32
  let v35_r0 : BitVec 1 := Scalar.cmpi .sgt v17_r0 c0_i32_21_r0
  let v36_r0 : BitVec 1 := Scalar.andi true_22_r0 v35_r0
  let true_23_r0 : BitVec 1 := 1#1
  let v37_r0 : BitVec 1 := Scalar.andi v36_r0 true_23_r0
  let v38_r0 : BitVec 32 := Scalar.extui v37_r0
  let c0_i32_25_r0 : BitVec 32 := 0#32
  let v39_r0 : BitVec 1 := Scalar.cmpi .ne v38_r0 c0_i32_25_r0
  v39_r0

def k3_off1 : Fin 3 → Nat :=
  let c0_i32_24_r0 : BitVec 32 := 0#32
  let c2_i32_r0 : BitVec 32 := 2#32
  let v80_r0 : BitVec 32 := Scalar.remui c0_i32_24_r0 c2_i32_r0
  let c0_i32_57_r0 : BitVec 32 := 0#32
  let c0_i32_58_r0 : BitVec 32 := 0#32
  ![v80_r0.toNat, 0, 0]
def k3_off2 (i : grid3.Coords) : Fin 2 → Nat :=
  let c0_i32_59_r0 : BitVec 32 := 0#32
  let c128_i32_r0 : BitVec 32 := 128#32
  let c0_i32_10_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v7 : BitVec 32 := Scalar.muli v3 v5
  let c6_i32_1 : BitVec 32 := 6#32
  let v8 : BitVec 32 := Scalar.muli v3 c6_i32_1
  let c8_i32_2 : BitVec 32 := 8#32
  let v9 : BitVec 32 := Scalar.addi v8 c8_i32_2
  let v10 : BitVec 32 := Scalar.select v6 v7 v9
  let v20_r0 : BitVec 32 := Scalar.addi c0_i32_10_r0 v10
  let c1400_i32_r0 : BitVec 32 := 1400#32
  let v81_r0 : BitVec 32 := Scalar.addi v20_r0 c1400_i32_r0
  let v82_r0 : BitVec 32 := Scalar.muli c128_i32_r0 v81_r0
  ![0, v82_r0.toNat]
def k3_off3 : Fin 1 → Nat :=
  let c0_i32_24_r0 : BitVec 32 := 0#32
  let c2_i32_r0 : BitVec 32 := 2#32
  let v80_r0 : BitVec 32 := Scalar.remui c0_i32_24_r0 c2_i32_r0
  ![v80_r0.toNat]
@[reducible] def k3_t1_loop (i : grid3.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_35_r0 : BitVec 32 := 1#32
  ⟨c0_i32_29_r0, v46_r0, c1_i32_35_r0⟩
def k3_off4 (arg6_r0 : BitVec 32) : Fin 3 → Nat :=
  let c2_i32_103_r0 : BitVec 32 := 2#32
  let v170_r0 : BitVec 32 := Scalar.remui arg6_r0 c2_i32_103_r0
  let c0_i32_105_r0 : BitVec 32 := 0#32
  let c0_i32_106_r0 : BitVec 32 := 0#32
  ![v170_r0.toNat, 0, 0]
def k3_cond3 (i : grid3.Coords) (k3_t1 : Fin (k3_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v7 : BitVec 32 := Scalar.muli v3 v5
  let c6_i32_1 : BitVec 32 := 6#32
  let v8 : BitVec 32 := Scalar.muli v3 c6_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let c1400_i32_r0 : BitVec 32 := 1400#32
  let v101_r0 : BitVec 32 := Scalar.addi v84_r0 c1400_i32_r0
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let c1400_i32_70_r0 : BitVec 32 := 1400#32
  let v102_r0 : BitVec 32 := Scalar.addi v95_r0 c1400_i32_70_r0
  let v103_r0 : BitVec 1 := Scalar.cmpi .ne v101_r0 v102_r0
  let c0_i32_29_r0 : BitVec 32 := 0#32
  let c1_i32_35_r0 : BitVec 32 := 1#32
  let arg5_r0 : BitVec 32 := Scf.iv c0_i32_29_r0 c1_i32_35_r0 k3_t1
  let c1_i32_57_r0 : BitVec 32 := 1#32
  let v80_r0 : BitVec 32 := Scalar.muli c1_i32_57_r0 v5
  let c2_i32_r0 : BitVec 32 := 2#32
  let v104_r0 : BitVec 32 := Scalar.subi v80_r0 c2_i32_r0
  let c1_i32_71_r0 : BitVec 32 := 1#32
  let v105_r0 : BitVec 32 := Scalar.addi v104_r0 c1_i32_71_r0
  let v106_r0 : BitVec 1 := Scalar.cmpi .sge arg5_r0 v105_r0
  let true_72_r0 : BitVec 1 := 1#1
  let v107_r0 : BitVec 1 := Scalar.xori v106_r0 true_72_r0
  let v108_r0 : BitVec 1 := Scalar.andi v103_r0 v107_r0
  let true_73_r0 : BitVec 1 := 1#1
  let v109_r0 : BitVec 1 := Scalar.andi v108_r0 true_73_r0
  let v110_r0 : BitVec 32 := Scalar.extui v109_r0
  let c0_i32_74_r0 : BitVec 32 := 0#32
  let v111_r0 : BitVec 1 := Scalar.cmpi .ne v110_r0 c0_i32_74_r0
  v111_r0

def k3_off5 (i : grid3.Coords) (arg10_r0 : BitVec 32) : Fin 2 → Nat :=
  let c0_i32_107_r0 : BitVec 32 := 0#32
  let c128_i32_r0 : BitVec 32 := 128#32
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v93_r0 : BitVec 1 := Scalar.cmpi .eq v92_r0 v5
  let c0_i32_66_r0 : BitVec 32 := 0#32
  let v94_r0 : BitVec 32 := Scalar.select v93_r0 c0_i32_66_r0 v92_r0
  let c8_i32_0 : BitVec 32 := 8#32
  let v6 : BitVec 1 := Scalar.cmpi .slt v3 c8_i32_0
  let v7 : BitVec 32 := Scalar.muli v3 v5
  let c6_i32_1 : BitVec 32 := 6#32
  let v8 : BitVec 32 := Scalar.muli v3 c6_i32_1
  let c8_i32_2 : BitVec 32 := 8#32
  let v9 : BitVec 32 := Scalar.addi v8 c8_i32_2
  let v10 : BitVec 32 := Scalar.select v6 v7 v9
  let v95_r0 : BitVec 32 := Scalar.addi v94_r0 v10
  let c1400_i32_104_r0 : BitVec 32 := 1400#32
  let v171_r0 : BitVec 32 := Scalar.addi v95_r0 c1400_i32_104_r0
  let v172_r0 : BitVec 32 := Scalar.muli c128_i32_r0 v171_r0
  ![0, v172_r0.toNat]
def k3_off6 (arg6_r0 : BitVec 32) : Fin 1 → Nat :=
  let c2_i32_103_r0 : BitVec 32 := 2#32
  let v170_r0 : BitVec 32 := Scalar.remui arg6_r0 c2_i32_103_r0
  ![v170_r0.toNat]
def k3_off7 (arg7_r0 : BitVec 32) : Fin 3 → Nat :=
  let c2_i32_104_r0 : BitVec 32 := 2#32
  let v172_r0 : BitVec 32 := Scalar.remui arg7_r0 c2_i32_104_r0
  let c0_i32_105_r0 : BitVec 32 := 0#32
  let c0_i32_106_r0 : BitVec 32 := 0#32
  ![v172_r0.toNat, 0, 0]
def k3_cond4 (i : grid3.Coords) (k3_t1 : Fin (k3_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v7 : BitVec 32 := Scalar.muli v3 v5
  let c6_i32_1 : BitVec 32 := 6#32
  let v8 : BitVec 32 := Scalar.muli v3 c6_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let c1400_i32_r0 : BitVec 32 := 1400#32
  let v101_r0 : BitVec 32 := Scalar.addi v84_r0 c1400_i32_r0
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let c1400_i32_80_r0 : BitVec 32 := 1400#32
  let v121_r0 : BitVec 32 := Scalar.addi v90_r0 c1400_i32_80_r0
  let v122_r0 : BitVec 1 := Scalar.cmpi .ne v101_r0 v121_r0
  let c0_i32_29_r0 : BitVec 32 := 0#32
  let c1_i32_35_r0 : BitVec 32 := 1#32
  let arg5_r0 : BitVec 32 := Scf.iv c0_i32_29_r0 c1_i32_35_r0 k3_t1
  let c0_i32_58_r0 : BitVec 32 := 0#32
  let v81_r0 : BitVec 1 := Scalar.cmpi .eq arg5_r0 c0_i32_58_r0
  let v123_r0 : BitVec 1 := Scalar.ori v122_r0 v81_r0
  let c0_i32_81_r0 : BitVec 32 := 0#32
  let v124_r0 : BitVec 1 := Scalar.cmpi .sge arg5_r0 c0_i32_81_r0
  let v125_r0 : BitVec 1 := Scalar.andi v123_r0 v124_r0
  let v126_r0 : BitVec 32 := Scalar.extui v125_r0
  let c0_i32_82_r0 : BitVec 32 := 0#32
  let v127_r0 : BitVec 1 := Scalar.cmpi .ne v126_r0 c0_i32_82_r0
  v127_r0

def k3_off8 (i : grid3.Coords) (arg10_r0 : BitVec 32) : Fin 2 → Nat :=
  let c0_i32_107_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v7 : BitVec 32 := Scalar.muli v3 v5
  let c6_i32_1 : BitVec 32 := 6#32
  let v8 : BitVec 32 := Scalar.muli v3 c6_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let c1400_i32_103_r0 : BitVec 32 := 1400#32
  let v170_r0 : BitVec 32 := Scalar.addi v84_r0 c1400_i32_103_r0
  let v171_r0 : BitVec 32 := Scalar.muli c128_i32_r0 v170_r0
  ![0, v171_r0.toNat]
def k3_off9 (arg7_r0 : BitVec 32) : Fin 1 → Nat :=
  let c2_i32_104_r0 : BitVec 32 := 2#32
  let v172_r0 : BitVec 32 := Scalar.remui arg7_r0 c2_i32_104_r0
  ![v172_r0.toNat]
def k3_off10 (arg8_r0 : BitVec 32) : Fin 3 → Nat :=
  let c2_i32_86_r0 : BitVec 32 := 2#32
  let v135_r0 : BitVec 32 := Scalar.remui arg8_r0 c2_i32_86_r0
  let c0_i32_103_r1 : BitVec 32 := 0#32
  let c0_i32_104_r1 : BitVec 32 := 0#32
  ![v135_r0.toNat, 0, 0]

def k3_chk2 (i : grid3.Coords) (arg8_r0 : BitVec 32) : Prop :=
  (∀ (k3_h1 : k3_cond1 i = 1#1), ∀ a, (k3_off10 arg8_r0) a + S1x128x128.size a ≤ S2x128x128.size a)
theorem k3_off10_inb : ∀ (i : grid3.Coords) (arg8_r0 : BitVec 32) (k3_hw2 : k3_chk2 i arg8_r0), ∀ (k3_h1 : k3_cond1 i = 1#1), ∀ a, (k3_off10 arg8_r0) a + S1x128x128.size a ≤ S2x128x128.size a := fun i arg8_r0 k3_hw2 k3_h1 => k3_hw2 k3_h1

def k3_off11 (arg7_r0 : BitVec 32) : Fin 3 → Nat :=
  let c2_i32_85_r0 : BitVec 32 := 2#32
  let v134_r0 : BitVec 32 := Scalar.remui arg7_r0 c2_i32_85_r0
  let c0_i32_105_r1 : BitVec 32 := 0#32
  let c0_i32_106_r1 : BitVec 32 := 0#32
  ![v134_r0.toNat, 0, 0]

def k3_chk3 (i : grid3.Coords) (arg7_r0 : BitVec 32) : Prop :=
  (∀ (k3_h1 : k3_cond1 i = 1#1), ∀ a, (k3_off11 arg7_r0) a + S1x1x128.size a ≤ S2x1x128.size a)
theorem k3_off11_inb : ∀ (i : grid3.Coords) (arg7_r0 : BitVec 32) (k3_hw3 : k3_chk3 i arg7_r0), ∀ (k3_h1 : k3_cond1 i = 1#1), ∀ a, (k3_off11 arg7_r0) a + S1x1x128.size a ≤ S2x1x128.size a := fun i arg7_r0 k3_hw3 k3_h1 => k3_hw3 k3_h1

def k3_off12 (arg8_r0 : BitVec 32) : Fin 3 → Nat :=
  let c2_i32_103_r0 : BitVec 32 := 2#32
  let v170_r0 : BitVec 32 := Scalar.remui arg8_r0 c2_i32_103_r0
  let c0_i32_104_r0 : BitVec 32 := 0#32
  let c0_i32_105_r0 : BitVec 32 := 0#32
  ![v170_r0.toNat, 0, 0]
def k3_cond7 (i : grid3.Coords) (k3_t1 : Fin (k3_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v7 : BitVec 32 := Scalar.muli v3 v5
  let c6_i32_1 : BitVec 32 := 6#32
  let v8 : BitVec 32 := Scalar.muli v3 c6_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v141_r0 : BitVec 1 := Scalar.cmpi .ne v84_r0 v95_r0
  let c0_i32_29_r0 : BitVec 32 := 0#32
  let c1_i32_35_r0 : BitVec 32 := 1#32
  let arg5_r0 : BitVec 32 := Scf.iv c0_i32_29_r0 c1_i32_35_r0 k3_t1
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg5_r0 v82_r0
  let v142_r0 : BitVec 1 := Scalar.ori v141_r0 v83_r0
  let v143_r0 : BitVec 32 := Scalar.extui v142_r0
  let c0_i32_89_r0 : BitVec 32 := 0#32
  let v144_r0 : BitVec 1 := Scalar.cmpi .ne v143_r0 c0_i32_89_r0
  v144_r0

def k3_off13 (i : grid3.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v7 : BitVec 32 := Scalar.muli v3 v5
  let c6_i32_1 : BitVec 32 := 6#32
  let v8 : BitVec 32 := Scalar.muli v3 c6_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let v171_r0 : BitVec 32 := Scalar.muli c128_i32_r0 v84_r0
  let c0_i32_106_r0 : BitVec 32 := 0#32
  ![v171_r0.toNat, 0]
def k3_off14 (arg8_r0 : BitVec 32) : Fin 1 → Nat :=
  let c2_i32_103_r0 : BitVec 32 := 2#32
  let v170_r0 : BitVec 32 := Scalar.remui arg8_r0 c2_i32_103_r0
  ![v170_r0.toNat]
def k3_off15 (arg9_r0 : BitVec 32) : Fin 3 → Nat :=
  let c2_i32_103_r0 : BitVec 32 := 2#32
  let v170_r0 : BitVec 32 := Scalar.remui arg9_r0 c2_i32_103_r0
  let c0_i32_104_r0 : BitVec 32 := 0#32
  let c0_i32_105_r0 : BitVec 32 := 0#32
  ![v170_r0.toNat, 0, 0]
def k3_cond9 (i : grid3.Coords) (k3_t1 : Fin (k3_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v7 : BitVec 32 := Scalar.muli v3 v5
  let c6_i32_1 : BitVec 32 := 6#32
  let v8 : BitVec 32 := Scalar.muli v3 c6_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v154_r0 : BitVec 1 := Scalar.cmpi .ne v84_r0 v90_r0
  let c0_i32_29_r0 : BitVec 32 := 0#32
  let c1_i32_35_r0 : BitVec 32 := 1#32
  let arg5_r0 : BitVec 32 := Scf.iv c0_i32_29_r0 c1_i32_35_r0 k3_t1
  let c0_i32_58_r0 : BitVec 32 := 0#32
  let v81_r0 : BitVec 1 := Scalar.cmpi .eq arg5_r0 c0_i32_58_r0
  let true_95_r0 : BitVec 1 := 1#1
  let v155_r0 : BitVec 1 := Scalar.xori v81_r0 true_95_r0
  let v156_r0 : BitVec 1 := Scalar.andi v154_r0 v155_r0
  let v157_r0 : BitVec 32 := Scalar.extui v156_r0
  let c0_i32_96_r0 : BitVec 32 := 0#32
  let v158_r0 : BitVec 1 := Scalar.cmpi .ne v157_r0 c0_i32_96_r0
  v158_r0

def k3_off16 (i : grid3.Coords) (arg10_r0 : BitVec 32) : Fin 2 → Nat :=
  let c128_i32_r0 : BitVec 32 := 128#32
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let c1_i32_63_r0 : BitVec 32 := 1#32
  let v88_r0 : BitVec 32 := Scalar.subi v5 c1_i32_63_r0
  let v89_r0 : BitVec 32 := Scalar.select v87_r0 v88_r0 v86_r0
  let c8_i32_0 : BitVec 32 := 8#32
  let v6 : BitVec 1 := Scalar.cmpi .slt v3 c8_i32_0
  let v7 : BitVec 32 := Scalar.muli v3 v5
  let c6_i32_1 : BitVec 32 := 6#32
  let v8 : BitVec 32 := Scalar.muli v3 c6_i32_1
  let c8_i32_2 : BitVec 32 := 8#32
  let v9 : BitVec 32 := Scalar.addi v8 c8_i32_2
  let v10 : BitVec 32 := Scalar.select v6 v7 v9
  let v90_r0 : BitVec 32 := Scalar.addi v89_r0 v10
  let v171_r0 : BitVec 32 := Scalar.muli c128_i32_r0 v90_r0
  let c0_i32_106_r0 : BitVec 32 := 0#32
  ![v171_r0.toNat, 0]
def k3_off17 (arg9_r0 : BitVec 32) : Fin 1 → Nat :=
  let c2_i32_103_r0 : BitVec 32 := 2#32
  let v170_r0 : BitVec 32 := Scalar.remui arg9_r0 c2_i32_103_r0
  ![v170_r0.toNat]

def k3_chk1 (i : grid3.Coords) (k3_t1 : Fin (k3_t1_loop i).trips) (arg6_r0 : BitVec 32) (arg7_r0 : BitVec 32) (arg8_r0 : BitVec 32) (arg9_r0 : BitVec 32) (arg10_r0 : BitVec 32) : Prop :=
  (∀ (k3_h1 : k3_cond1 i = 1#1), ∀ (k3_h3 : k3_cond3 i k3_t1 arg10_r0 = 1#1), ∀ a, (k3_off4 arg6_r0) a + S1x1x128.size a ≤ S2x1x128.size a) ∧
  (∀ (k3_h1 : k3_cond1 i = 1#1), ∀ (k3_h3 : k3_cond3 i k3_t1 arg10_r0 = 1#1), ∀ a, (k3_off5 i arg10_r0) a + S1x128.size a ≤ S1x204800.size a) ∧
  (∀ (k3_h1 : k3_cond1 i = 1#1), ∀ (k3_h3 : k3_cond3 i k3_t1 arg10_r0 = 1#1), ∀ a, (k3_off6 arg6_r0) a + S1.size a ≤ S2.size a) ∧
  (∀ (k3_h1 : k3_cond1 i = 1#1), ∀ (k3_h4 : k3_cond4 i k3_t1 arg10_r0 = 1#1), ∀ a, (k3_off7 arg7_r0) a + S1x1x128.size a ≤ S2x1x128.size a) ∧
  (∀ (k3_h1 : k3_cond1 i = 1#1), ∀ (k3_h4 : k3_cond4 i k3_t1 arg10_r0 = 1#1), ∀ a, (k3_off8 i arg10_r0) a + S1x128.size a ≤ S1x204800.size a) ∧
  (∀ (k3_h1 : k3_cond1 i = 1#1), ∀ (k3_h4 : k3_cond4 i k3_t1 arg10_r0 = 1#1), ∀ a, (k3_off9 arg7_r0) a + S1.size a ≤ S2.size a) ∧
  (∀ (k3_h1 : k3_cond1 i = 1#1), ∀ (k3_h7 : k3_cond7 i k3_t1 arg10_r0 = 1#1), ∀ a, (k3_off12 arg8_r0) a + S1x128x128.size a ≤ S2x128x128.size a) ∧
  (∀ (k3_h1 : k3_cond1 i = 1#1), ∀ (k3_h7 : k3_cond7 i k3_t1 arg10_r0 = 1#1), ∀ a, (k3_off13 i arg10_r0) a + S128x128.size a ≤ S25600x128.size a) ∧
  (∀ (k3_h1 : k3_cond1 i = 1#1), ∀ (k3_h7 : k3_cond7 i k3_t1 arg10_r0 = 1#1), ∀ a, (k3_off14 arg8_r0) a + S1.size a ≤ S2.size a) ∧
  (∀ (k3_h1 : k3_cond1 i = 1#1), ∀ (k3_h9 : k3_cond9 i k3_t1 arg10_r0 = 1#1), ∀ a, (k3_off15 arg9_r0) a + S1x128x128.size a ≤ S2x128x128.size a) ∧
  (∀ (k3_h1 : k3_cond1 i = 1#1), ∀ (k3_h9 : k3_cond9 i k3_t1 arg10_r0 = 1#1), ∀ a, (k3_off16 i arg10_r0) a + S128x128.size a ≤ S25600x128.size a) ∧
  (∀ (k3_h1 : k3_cond1 i = 1#1), ∀ (k3_h9 : k3_cond9 i k3_t1 arg10_r0 = 1#1), ∀ a, (k3_off17 arg9_r0) a + S1.size a ≤ S2.size a)
theorem k3_off4_inb : ∀ (i : grid3.Coords) (k3_t1 : Fin (k3_t1_loop i).trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i = 1#1), ∀ (k3_h3 : k3_cond3 i k3_t1 arg10_r0 = 1#1), ∀ a, (k3_off4 arg6_r0) a + S1x1x128.size a ≤ S2x1x128.size a := fun i k3_t1 arg6_r0 arg7_r0 arg8_r0 arg9_r0 arg10_r0 k3_hw1 k3_h1 k3_h3 => k3_hw1.1 k3_h1 k3_h3
theorem k3_off5_inb : ∀ (i : grid3.Coords) (k3_t1 : Fin (k3_t1_loop i).trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i = 1#1), ∀ (k3_h3 : k3_cond3 i k3_t1 arg10_r0 = 1#1), ∀ a, (k3_off5 i arg10_r0) a + S1x128.size a ≤ S1x204800.size a := fun i k3_t1 arg6_r0 arg7_r0 arg8_r0 arg9_r0 arg10_r0 k3_hw1 k3_h1 k3_h3 => k3_hw1.2.1 k3_h1 k3_h3
theorem k3_off6_inb : ∀ (i : grid3.Coords) (k3_t1 : Fin (k3_t1_loop i).trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i = 1#1), ∀ (k3_h3 : k3_cond3 i k3_t1 arg10_r0 = 1#1), ∀ a, (k3_off6 arg6_r0) a + S1.size a ≤ S2.size a := fun i k3_t1 arg6_r0 arg7_r0 arg8_r0 arg9_r0 arg10_r0 k3_hw1 k3_h1 k3_h3 => k3_hw1.2.2.1 k3_h1 k3_h3
theorem k3_off7_inb : ∀ (i : grid3.Coords) (k3_t1 : Fin (k3_t1_loop i).trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i = 1#1), ∀ (k3_h4 : k3_cond4 i k3_t1 arg10_r0 = 1#1), ∀ a, (k3_off7 arg7_r0) a + S1x1x128.size a ≤ S2x1x128.size a := fun i k3_t1 arg6_r0 arg7_r0 arg8_r0 arg9_r0 arg10_r0 k3_hw1 k3_h1 k3_h4 => k3_hw1.2.2.2.1 k3_h1 k3_h4
theorem k3_off8_inb : ∀ (i : grid3.Coords) (k3_t1 : Fin (k3_t1_loop i).trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i = 1#1), ∀ (k3_h4 : k3_cond4 i k3_t1 arg10_r0 = 1#1), ∀ a, (k3_off8 i arg10_r0) a + S1x128.size a ≤ S1x204800.size a := fun i k3_t1 arg6_r0 arg7_r0 arg8_r0 arg9_r0 arg10_r0 k3_hw1 k3_h1 k3_h4 => k3_hw1.2.2.2.2.1 k3_h1 k3_h4
theorem k3_off9_inb : ∀ (i : grid3.Coords) (k3_t1 : Fin (k3_t1_loop i).trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i = 1#1), ∀ (k3_h4 : k3_cond4 i k3_t1 arg10_r0 = 1#1), ∀ a, (k3_off9 arg7_r0) a + S1.size a ≤ S2.size a := fun i k3_t1 arg6_r0 arg7_r0 arg8_r0 arg9_r0 arg10_r0 k3_hw1 k3_h1 k3_h4 => k3_hw1.2.2.2.2.2.1 k3_h1 k3_h4
theorem k3_off12_inb : ∀ (i : grid3.Coords) (k3_t1 : Fin (k3_t1_loop i).trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i = 1#1), ∀ (k3_h7 : k3_cond7 i k3_t1 arg10_r0 = 1#1), ∀ a, (k3_off12 arg8_r0) a + S1x128x128.size a ≤ S2x128x128.size a := fun i k3_t1 arg6_r0 arg7_r0 arg8_r0 arg9_r0 arg10_r0 k3_hw1 k3_h1 k3_h7 => k3_hw1.2.2.2.2.2.2.1 k3_h1 k3_h7
theorem k3_off13_inb : ∀ (i : grid3.Coords) (k3_t1 : Fin (k3_t1_loop i).trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i = 1#1), ∀ (k3_h7 : k3_cond7 i k3_t1 arg10_r0 = 1#1), ∀ a, (k3_off13 i arg10_r0) a + S128x128.size a ≤ S25600x128.size a := fun i k3_t1 arg6_r0 arg7_r0 arg8_r0 arg9_r0 arg10_r0 k3_hw1 k3_h1 k3_h7 => k3_hw1.2.2.2.2.2.2.2.1 k3_h1 k3_h7
theorem k3_off14_inb : ∀ (i : grid3.Coords) (k3_t1 : Fin (k3_t1_loop i).trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i = 1#1), ∀ (k3_h7 : k3_cond7 i k3_t1 arg10_r0 = 1#1), ∀ a, (k3_off14 arg8_r0) a + S1.size a ≤ S2.size a := fun i k3_t1 arg6_r0 arg7_r0 arg8_r0 arg9_r0 arg10_r0 k3_hw1 k3_h1 k3_h7 => k3_hw1.2.2.2.2.2.2.2.2.1 k3_h1 k3_h7
theorem k3_off15_inb : ∀ (i : grid3.Coords) (k3_t1 : Fin (k3_t1_loop i).trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i = 1#1), ∀ (k3_h9 : k3_cond9 i k3_t1 arg10_r0 = 1#1), ∀ a, (k3_off15 arg9_r0) a + S1x128x128.size a ≤ S2x128x128.size a := fun i k3_t1 arg6_r0 arg7_r0 arg8_r0 arg9_r0 arg10_r0 k3_hw1 k3_h1 k3_h9 => k3_hw1.2.2.2.2.2.2.2.2.2.1 k3_h1 k3_h9
theorem k3_off16_inb : ∀ (i : grid3.Coords) (k3_t1 : Fin (k3_t1_loop i).trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i = 1#1), ∀ (k3_h9 : k3_cond9 i k3_t1 arg10_r0 = 1#1), ∀ a, (k3_off16 i arg10_r0) a + S128x128.size a ≤ S25600x128.size a := fun i k3_t1 arg6_r0 arg7_r0 arg8_r0 arg9_r0 arg10_r0 k3_hw1 k3_h1 k3_h9 => k3_hw1.2.2.2.2.2.2.2.2.2.2.1 k3_h1 k3_h9
theorem k3_off17_inb : ∀ (i : grid3.Coords) (k3_t1 : Fin (k3_t1_loop i).trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i = 1#1), ∀ (k3_h9 : k3_cond9 i k3_t1 arg10_r0 = 1#1), ∀ a, (k3_off17 arg9_r0) a + S1.size a ≤ S2.size a := fun i k3_t1 arg6_r0 arg7_r0 arg8_r0 arg9_r0 arg10_r0 k3_hw1 k3_h1 k3_h9 => k3_hw1.2.2.2.2.2.2.2.2.2.2.2 k3_h1 k3_h9

@[reducible] def k3_t2_loop (i : grid3.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let v43_r0 : BitVec 32 := Scalar.addi c0_i32_29_r0 v42_r0
  let c1_i32_36_r0 : BitVec 32 := 1#32
  ⟨v46_r0, v43_r0, c1_i32_36_r0⟩
def k3_off18 (arg6_r0 : BitVec 32) : Fin 3 → Nat :=
  let c2_i32_103_r0 : BitVec 32 := 2#32
  let v170_r0 : BitVec 32 := Scalar.remui arg6_r0 c2_i32_103_r0
  let c0_i32_105_r0 : BitVec 32 := 0#32
  let c0_i32_106_r0 : BitVec 32 := 0#32
  ![v170_r0.toNat, 0, 0]
def k3_cond10 (i : grid3.Coords) (k3_t2 : Fin (k3_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v7 : BitVec 32 := Scalar.muli v3 v5
  let c6_i32_1 : BitVec 32 := 6#32
  let v8 : BitVec 32 := Scalar.muli v3 c6_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let c1400_i32_r0 : BitVec 32 := 1400#32
  let v101_r0 : BitVec 32 := Scalar.addi v84_r0 c1400_i32_r0
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let c1400_i32_70_r0 : BitVec 32 := 1400#32
  let v102_r0 : BitVec 32 := Scalar.addi v95_r0 c1400_i32_70_r0
  let v103_r0 : BitVec 1 := Scalar.cmpi .ne v101_r0 v102_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k3_t2
  let c1_i32_57_r0 : BitVec 32 := 1#32
  let v80_r0 : BitVec 32 := Scalar.muli c1_i32_57_r0 v5
  let c2_i32_r0 : BitVec 32 := 2#32
  let v104_r0 : BitVec 32 := Scalar.subi v80_r0 c2_i32_r0
  let c1_i32_71_r0 : BitVec 32 := 1#32
  let v105_r0 : BitVec 32 := Scalar.addi v104_r0 c1_i32_71_r0
  let v106_r0 : BitVec 1 := Scalar.cmpi .sge arg5_r0 v105_r0
  let true_72_r0 : BitVec 1 := 1#1
  let v107_r0 : BitVec 1 := Scalar.xori v106_r0 true_72_r0
  let v108_r0 : BitVec 1 := Scalar.andi v103_r0 v107_r0
  let true_73_r0 : BitVec 1 := 1#1
  let v109_r0 : BitVec 1 := Scalar.andi v108_r0 true_73_r0
  let v110_r0 : BitVec 32 := Scalar.extui v109_r0
  let c0_i32_74_r0 : BitVec 32 := 0#32
  let v111_r0 : BitVec 1 := Scalar.cmpi .ne v110_r0 c0_i32_74_r0
  v111_r0

def k3_off19 (i : grid3.Coords) (arg10_r0 : BitVec 32) : Fin 2 → Nat :=
  let c0_i32_107_r0 : BitVec 32 := 0#32
  let c128_i32_r0 : BitVec 32 := 128#32
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v93_r0 : BitVec 1 := Scalar.cmpi .eq v92_r0 v5
  let c0_i32_66_r0 : BitVec 32 := 0#32
  let v94_r0 : BitVec 32 := Scalar.select v93_r0 c0_i32_66_r0 v92_r0
  let c8_i32_0 : BitVec 32 := 8#32
  let v6 : BitVec 1 := Scalar.cmpi .slt v3 c8_i32_0
  let v7 : BitVec 32 := Scalar.muli v3 v5
  let c6_i32_1 : BitVec 32 := 6#32
  let v8 : BitVec 32 := Scalar.muli v3 c6_i32_1
  let c8_i32_2 : BitVec 32 := 8#32
  let v9 : BitVec 32 := Scalar.addi v8 c8_i32_2
  let v10 : BitVec 32 := Scalar.select v6 v7 v9
  let v95_r0 : BitVec 32 := Scalar.addi v94_r0 v10
  let c1400_i32_104_r0 : BitVec 32 := 1400#32
  let v171_r0 : BitVec 32 := Scalar.addi v95_r0 c1400_i32_104_r0
  let v172_r0 : BitVec 32 := Scalar.muli c128_i32_r0 v171_r0
  ![0, v172_r0.toNat]
def k3_off20 (arg6_r0 : BitVec 32) : Fin 1 → Nat :=
  let c2_i32_103_r0 : BitVec 32 := 2#32
  let v170_r0 : BitVec 32 := Scalar.remui arg6_r0 c2_i32_103_r0
  ![v170_r0.toNat]
def k3_off21 (arg7_r0 : BitVec 32) : Fin 3 → Nat :=
  let c2_i32_104_r0 : BitVec 32 := 2#32
  let v172_r0 : BitVec 32 := Scalar.remui arg7_r0 c2_i32_104_r0
  let c0_i32_105_r0 : BitVec 32 := 0#32
  let c0_i32_106_r0 : BitVec 32 := 0#32
  ![v172_r0.toNat, 0, 0]
def k3_cond11 (i : grid3.Coords) (k3_t2 : Fin (k3_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v7 : BitVec 32 := Scalar.muli v3 v5
  let c6_i32_1 : BitVec 32 := 6#32
  let v8 : BitVec 32 := Scalar.muli v3 c6_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let c1400_i32_r0 : BitVec 32 := 1400#32
  let v101_r0 : BitVec 32 := Scalar.addi v84_r0 c1400_i32_r0
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let c1400_i32_80_r0 : BitVec 32 := 1400#32
  let v121_r0 : BitVec 32 := Scalar.addi v90_r0 c1400_i32_80_r0
  let v122_r0 : BitVec 1 := Scalar.cmpi .ne v101_r0 v121_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k3_t2
  let c0_i32_58_r0 : BitVec 32 := 0#32
  let v81_r0 : BitVec 1 := Scalar.cmpi .eq arg5_r0 c0_i32_58_r0
  let v123_r0 : BitVec 1 := Scalar.ori v122_r0 v81_r0
  let c0_i32_81_r0 : BitVec 32 := 0#32
  let v124_r0 : BitVec 1 := Scalar.cmpi .sge arg5_r0 c0_i32_81_r0
  let v125_r0 : BitVec 1 := Scalar.andi v123_r0 v124_r0
  let v126_r0 : BitVec 32 := Scalar.extui v125_r0
  let c0_i32_82_r0 : BitVec 32 := 0#32
  let v127_r0 : BitVec 1 := Scalar.cmpi .ne v126_r0 c0_i32_82_r0
  v127_r0

def k3_off22 (i : grid3.Coords) (arg10_r0 : BitVec 32) : Fin 2 → Nat :=
  let c0_i32_107_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v7 : BitVec 32 := Scalar.muli v3 v5
  let c6_i32_1 : BitVec 32 := 6#32
  let v8 : BitVec 32 := Scalar.muli v3 c6_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let c1400_i32_103_r0 : BitVec 32 := 1400#32
  let v170_r0 : BitVec 32 := Scalar.addi v84_r0 c1400_i32_103_r0
  let v171_r0 : BitVec 32 := Scalar.muli c128_i32_r0 v170_r0
  ![0, v171_r0.toNat]
def k3_off23 (arg7_r0 : BitVec 32) : Fin 1 → Nat :=
  let c2_i32_104_r0 : BitVec 32 := 2#32
  let v172_r0 : BitVec 32 := Scalar.remui arg7_r0 c2_i32_104_r0
  ![v172_r0.toNat]
def k3_off24 (arg8_r0 : BitVec 32) : Fin 3 → Nat :=
  let c2_i32_86_r0 : BitVec 32 := 2#32
  let v135_r0 : BitVec 32 := Scalar.remui arg8_r0 c2_i32_86_r0
  let c0_i32_103_r2 : BitVec 32 := 0#32
  let c0_i32_104_r2 : BitVec 32 := 0#32
  ![v135_r0.toNat, 0, 0]

def k3_chk5 (i : grid3.Coords) (k3_t2 : Fin (k3_t2_loop i).trips) (arg8_r0 : BitVec 32) : Prop :=
  (∀ (k3_h1 : k3_cond1 i = 1#1), ∀ a, (k3_off24 arg8_r0) a + S1x128x128.size a ≤ S2x128x128.size a)
theorem k3_off24_inb : ∀ (i : grid3.Coords) (k3_t2 : Fin (k3_t2_loop i).trips) (arg8_r0 : BitVec 32) (k3_hw5 : k3_chk5 i k3_t2 arg8_r0), ∀ (k3_h1 : k3_cond1 i = 1#1), ∀ a, (k3_off24 arg8_r0) a + S1x128x128.size a ≤ S2x128x128.size a := fun i k3_t2 arg8_r0 k3_hw5 k3_h1 => k3_hw5 k3_h1

def k3_off25 (arg7_r0 : BitVec 32) : Fin 3 → Nat :=
  let c2_i32_85_r0 : BitVec 32 := 2#32
  let v134_r0 : BitVec 32 := Scalar.remui arg7_r0 c2_i32_85_r0
  let c0_i32_105_r2 : BitVec 32 := 0#32
  let c0_i32_106_r2 : BitVec 32 := 0#32
  ![v134_r0.toNat, 0, 0]

def k3_chk6 (i : grid3.Coords) (k3_t2 : Fin (k3_t2_loop i).trips) (arg7_r0 : BitVec 32) : Prop :=
  (∀ (k3_h1 : k3_cond1 i = 1#1), ∀ a, (k3_off25 arg7_r0) a + S1x1x128.size a ≤ S2x1x128.size a)
theorem k3_off25_inb : ∀ (i : grid3.Coords) (k3_t2 : Fin (k3_t2_loop i).trips) (arg7_r0 : BitVec 32) (k3_hw6 : k3_chk6 i k3_t2 arg7_r0), ∀ (k3_h1 : k3_cond1 i = 1#1), ∀ a, (k3_off25 arg7_r0) a + S1x1x128.size a ≤ S2x1x128.size a := fun i k3_t2 arg7_r0 k3_hw6 k3_h1 => k3_hw6 k3_h1

def k3_off26 (arg8_r0 : BitVec 32) : Fin 3 → Nat :=
  let c2_i32_103_r0 : BitVec 32 := 2#32
  let v170_r0 : BitVec 32 := Scalar.remui arg8_r0 c2_i32_103_r0
  let c0_i32_104_r0 : BitVec 32 := 0#32
  let c0_i32_105_r0 : BitVec 32 := 0#32
  ![v170_r0.toNat, 0, 0]
def k3_cond14 (i : grid3.Coords) (k3_t2 : Fin (k3_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v7 : BitVec 32 := Scalar.muli v3 v5
  let c6_i32_1 : BitVec 32 := 6#32
  let v8 : BitVec 32 := Scalar.muli v3 c6_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v141_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k3_t2
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg5_r0 v82_r0
  let v142_r0 : BitVec 1 := Scalar.ori v141_r0 v83_r0
  let v143_r0 : BitVec 32 := Scalar.extui v142_r0
  let c0_i32_89_r0 : BitVec 32 := 0#32
  let v144_r0 : BitVec 1 := Scalar.cmpi .ne v143_r0 c0_i32_89_r0
  v144_r0

def k3_off27 (i : grid3.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v7 : BitVec 32 := Scalar.muli v3 v5
  let c6_i32_1 : BitVec 32 := 6#32
  let v8 : BitVec 32 := Scalar.muli v3 c6_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let v171_r0 : BitVec 32 := Scalar.muli c128_i32_r0 v84_r0
  let c0_i32_106_r0 : BitVec 32 := 0#32
  ![v171_r0.toNat, 0]
def k3_off28 (arg8_r0 : BitVec 32) : Fin 1 → Nat :=
  let c2_i32_103_r0 : BitVec 32 := 2#32
  let v170_r0 : BitVec 32 := Scalar.remui arg8_r0 c2_i32_103_r0
  ![v170_r0.toNat]
def k3_off29 (arg9_r0 : BitVec 32) : Fin 3 → Nat :=
  let c2_i32_103_r0 : BitVec 32 := 2#32
  let v170_r0 : BitVec 32 := Scalar.remui arg9_r0 c2_i32_103_r0
  let c0_i32_104_r0 : BitVec 32 := 0#32
  let c0_i32_105_r0 : BitVec 32 := 0#32
  ![v170_r0.toNat, 0, 0]
def k3_cond16 (i : grid3.Coords) (k3_t2 : Fin (k3_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_0 : BitVec 32 := 8#32
  let v6 : BitVec 1 := Scalar.cmpi .slt v3 c8_i32_0
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v7 : BitVec 32 := Scalar.muli v3 v5
  let c6_i32_1 : BitVec 32 := 6#32
  let v8 : BitVec 32 := Scalar.muli v3 c6_i32_1
  let c8_i32_2 : BitVec 32 := 8#32
  let v9 : BitVec 32 := Scalar.addi v8 c8_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v154_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k3_t2
  let c0_i32_58_r0 : BitVec 32 := 0#32
  let v81_r0 : BitVec 1 := Scalar.cmpi .eq arg5_r0 c0_i32_58_r0
  let true_95_r0 : BitVec 1 := 1#1
  let v155_r0 : BitVec 1 := Scalar.xori v81_r0 true_95_r0
  let v156_r0 : BitVec 1 := Scalar.andi v154_r0 v155_r0
  let v157_r0 : BitVec 32 := Scalar.extui v156_r0
  let c0_i32_96_r0 : BitVec 32 := 0#32
  let v158_r0 : BitVec 1 := Scalar.cmpi .ne v157_r0 c0_i32_96_r0
  v158_r0

def k3_off30 (i : grid3.Coords) (arg10_r0 : BitVec 32) : Fin 2 → Nat :=
  let c128_i32_r0 : BitVec 32 := 128#32
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let c1_i32_63_r0 : BitVec 32 := 1#32
  let v88_r0 : BitVec 32 := Scalar.subi v5 c1_i32_63_r0
  let v89_r0 : BitVec 32 := Scalar.select v87_r0 v88_r0 v86_r0
  let c8_i32_0 : BitVec 32 := 8#32
  let v6 : BitVec 1 := Scalar.cmpi .slt v3 c8_i32_0
  let v7 : BitVec 32 := Scalar.muli v3 v5
  let c6_i32_1 : BitVec 32 := 6#32
  let v8 : BitVec 32 := Scalar.muli v3 c6_i32_1
  let c8_i32_2 : BitVec 32 := 8#32
  let v9 : BitVec 32 := Scalar.addi v8 c8_i32_2
  let v10 : BitVec 32 := Scalar.select v6 v7 v9
  let v90_r0 : BitVec 32 := Scalar.addi v89_r0 v10
  let v171_r0 : BitVec 32 := Scalar.muli c128_i32_r0 v90_r0
  let c0_i32_106_r0 : BitVec 32 := 0#32
  ![v171_r0.toNat, 0]
def k3_off31 (arg9_r0 : BitVec 32) : Fin 1 → Nat :=
  let c2_i32_103_r0 : BitVec 32 := 2#32
  let v170_r0 : BitVec 32 := Scalar.remui arg9_r0 c2_i32_103_r0
  ![v170_r0.toNat]

def k3_chk4 (i : grid3.Coords) (k3_t2 : Fin (k3_t2_loop i).trips) (arg6_r0 : BitVec 32) (arg7_r0 : BitVec 32) (arg8_r0 : BitVec 32) (arg9_r0 : BitVec 32) (arg10_r0 : BitVec 32) : Prop :=
  (∀ (k3_h1 : k3_cond1 i = 1#1), ∀ (k3_h10 : k3_cond10 i k3_t2 arg10_r0 = 1#1), ∀ a, (k3_off18 arg6_r0) a + S1x1x128.size a ≤ S2x1x128.size a) ∧
  (∀ (k3_h1 : k3_cond1 i = 1#1), ∀ (k3_h10 : k3_cond10 i k3_t2 arg10_r0 = 1#1), ∀ a, (k3_off19 i arg10_r0) a + S1x128.size a ≤ S1x204800.size a) ∧
  (∀ (k3_h1 : k3_cond1 i = 1#1), ∀ (k3_h10 : k3_cond10 i k3_t2 arg10_r0 = 1#1), ∀ a, (k3_off20 arg6_r0) a + S1.size a ≤ S2.size a) ∧
  (∀ (k3_h1 : k3_cond1 i = 1#1), ∀ (k3_h11 : k3_cond11 i k3_t2 arg10_r0 = 1#1), ∀ a, (k3_off21 arg7_r0) a + S1x1x128.size a ≤ S2x1x128.size a) ∧
  (∀ (k3_h1 : k3_cond1 i = 1#1), ∀ (k3_h11 : k3_cond11 i k3_t2 arg10_r0 = 1#1), ∀ a, (k3_off22 i arg10_r0) a + S1x128.size a ≤ S1x204800.size a) ∧
  (∀ (k3_h1 : k3_cond1 i = 1#1), ∀ (k3_h11 : k3_cond11 i k3_t2 arg10_r0 = 1#1), ∀ a, (k3_off23 arg7_r0) a + S1.size a ≤ S2.size a) ∧
  (∀ (k3_h1 : k3_cond1 i = 1#1), ∀ (k3_h14 : k3_cond14 i k3_t2 arg10_r0 = 1#1), ∀ a, (k3_off26 arg8_r0) a + S1x128x128.size a ≤ S2x128x128.size a) ∧
  (∀ (k3_h1 : k3_cond1 i = 1#1), ∀ (k3_h14 : k3_cond14 i k3_t2 arg10_r0 = 1#1), ∀ a, (k3_off27 i arg10_r0) a + S128x128.size a ≤ S25600x128.size a) ∧
  (∀ (k3_h1 : k3_cond1 i = 1#1), ∀ (k3_h14 : k3_cond14 i k3_t2 arg10_r0 = 1#1), ∀ a, (k3_off28 arg8_r0) a + S1.size a ≤ S2.size a) ∧
  (∀ (k3_h1 : k3_cond1 i = 1#1), ∀ (k3_h16 : k3_cond16 i k3_t2 arg10_r0 = 1#1), ∀ a, (k3_off29 arg9_r0) a + S1x128x128.size a ≤ S2x128x128.size a) ∧
  (∀ (k3_h1 : k3_cond1 i = 1#1), ∀ (k3_h16 : k3_cond16 i k3_t2 arg10_r0 = 1#1), ∀ a, (k3_off30 i arg10_r0) a + S128x128.size a ≤ S25600x128.size a) ∧
  (∀ (k3_h1 : k3_cond1 i = 1#1), ∀ (k3_h16 : k3_cond16 i k3_t2 arg10_r0 = 1#1), ∀ a, (k3_off31 arg9_r0) a + S1.size a ≤ S2.size a)
theorem k3_off18_inb : ∀ (i : grid3.Coords) (k3_t2 : Fin (k3_t2_loop i).trips) (arg6_r0 : BitVec 32) (arg7_r0 : BitVec 32) (arg8_r0 : BitVec 32) (arg9_r0 : BitVec 32) (arg10_r0 : BitVec 32) (k3_hw4 : k3_chk4 i k3_t2 arg6_r0 arg7_r0 arg8_r0 arg9_r0 arg10_r0), ∀ (k3_h1 : k3_cond1 i = 1#1), ∀ (k3_h10 : k3_cond10 i k3_t2 arg10_r0 = 1#1), ∀ a, (k3_off18 arg6_r0) a + S1x1x128.size a ≤ S2x1x128.size a := fun i k3_t2 arg6_r0 arg7_r0 arg8_r0 arg9_r0 arg10_r0 k3_hw4 k3_h1 k3_h10 => k3_hw4.1 k3_h1 k3_h10
theorem k3_off19_inb : ∀ (i : grid3.Coords) (k3_t2 : Fin (k3_t2_loop i).trips) (arg6_r0 : BitVec 32) (arg7_r0 : BitVec 32) (arg8_r0 : BitVec 32) (arg9_r0 : BitVec 32) (arg10_r0 : BitVec 32) (k3_hw4 : k3_chk4 i k3_t2 arg6_r0 arg7_r0 arg8_r0 arg9_r0 arg10_r0), ∀ (k3_h1 : k3_cond1 i = 1#1), ∀ (k3_h10 : k3_cond10 i k3_t2 arg10_r0 = 1#1), ∀ a, (k3_off19 i arg10_r0) a + S1x128.size a ≤ S1x204800.size a := fun i k3_t2 arg6_r0 arg7_r0 arg8_r0 arg9_r0 arg10_r0 k3_hw4 k3_h1 k3_h10 => k3_hw4.2.1 k3_h1 k3_h10
theorem k3_off20_inb : ∀ (i : grid3.Coords) (k3_t2 : Fin (k3_t2_loop i).trips) (arg6_r0 : BitVec 32) (arg7_r0 : BitVec 32) (arg8_r0 : BitVec 32) (arg9_r0 : BitVec 32) (arg10_r0 : BitVec 32) (k3_hw4 : k3_chk4 i k3_t2 arg6_r0 arg7_r0 arg8_r0 arg9_r0 arg10_r0), ∀ (k3_h1 : k3_cond1 i = 1#1), ∀ (k3_h10 : k3_cond10 i k3_t2 arg10_r0 = 1#1), ∀ a, (k3_off20 arg6_r0) a + S1.size a ≤ S2.size a := fun i k3_t2 arg6_r0 arg7_r0 arg8_r0 arg9_r0 arg10_r0 k3_hw4 k3_h1 k3_h10 => k3_hw4.2.2.1 k3_h1 k3_h10
theorem k3_off21_inb : ∀ (i : grid3.Coords) (k3_t2 : Fin (k3_t2_loop i).trips) (arg6_r0 : BitVec 32) (arg7_r0 : BitVec 32) (arg8_r0 : BitVec 32) (arg9_r0 : BitVec 32) (arg10_r0 : BitVec 32) (k3_hw4 : k3_chk4 i k3_t2 arg6_r0 arg7_r0 arg8_r0 arg9_r0 arg10_r0), ∀ (k3_h1 : k3_cond1 i = 1#1), ∀ (k3_h11 : k3_cond11 i k3_t2 arg10_r0 = 1#1), ∀ a, (k3_off21 arg7_r0) a + S1x1x128.size a ≤ S2x1x128.size a := fun i k3_t2 arg6_r0 arg7_r0 arg8_r0 arg9_r0 arg10_r0 k3_hw4 k3_h1 k3_h11 => k3_hw4.2.2.2.1 k3_h1 k3_h11
theorem k3_off22_inb : ∀ (i : grid3.Coords) (k3_t2 : Fin (k3_t2_loop i).trips) (arg6_r0 : BitVec 32) (arg7_r0 : BitVec 32) (arg8_r0 : BitVec 32) (arg9_r0 : BitVec 32) (arg10_r0 : BitVec 32) (k3_hw4 : k3_chk4 i k3_t2 arg6_r0 arg7_r0 arg8_r0 arg9_r0 arg10_r0), ∀ (k3_h1 : k3_cond1 i = 1#1), ∀ (k3_h11 : k3_cond11 i k3_t2 arg10_r0 = 1#1), ∀ a, (k3_off22 i arg10_r0) a + S1x128.size a ≤ S1x204800.size a := fun i k3_t2 arg6_r0 arg7_r0 arg8_r0 arg9_r0 arg10_r0 k3_hw4 k3_h1 k3_h11 => k3_hw4.2.2.2.2.1 k3_h1 k3_h11
theorem k3_off23_inb : ∀ (i : grid3.Coords) (k3_t2 : Fin (k3_t2_loop i).trips) (arg6_r0 : BitVec 32) (arg7_r0 : BitVec 32) (arg8_r0 : BitVec 32) (arg9_r0 : BitVec 32) (arg10_r0 : BitVec 32) (k3_hw4 : k3_chk4 i k3_t2 arg6_r0 arg7_r0 arg8_r0 arg9_r0 arg10_r0), ∀ (k3_h1 : k3_cond1 i = 1#1), ∀ (k3_h11 : k3_cond11 i k3_t2 arg10_r0 = 1#1), ∀ a, (k3_off23 arg7_r0) a + S1.size a ≤ S2.size a := fun i k3_t2 arg6_r0 arg7_r0 arg8_r0 arg9_r0 arg10_r0 k3_hw4 k3_h1 k3_h11 => k3_hw4.2.2.2.2.2.1 k3_h1 k3_h11
theorem k3_off26_inb : ∀ (i : grid3.Coords) (k3_t2 : Fin (k3_t2_loop i).trips) (arg6_r0 : BitVec 32) (arg7_r0 : BitVec 32) (arg8_r0 : BitVec 32) (arg9_r0 : BitVec 32) (arg10_r0 : BitVec 32) (k3_hw4 : k3_chk4 i k3_t2 arg6_r0 arg7_r0 arg8_r0 arg9_r0 arg10_r0), ∀ (k3_h1 : k3_cond1 i = 1#1), ∀ (k3_h14 : k3_cond14 i k3_t2 arg10_r0 = 1#1), ∀ a, (k3_off26 arg8_r0) a + S1x128x128.size a ≤ S2x128x128.size a := fun i k3_t2 arg6_r0 arg7_r0 arg8_r0 arg9_r0 arg10_r0 k3_hw4 k3_h1 k3_h14 => k3_hw4.2.2.2.2.2.2.1 k3_h1 k3_h14
theorem k3_off27_inb : ∀ (i : grid3.Coords) (k3_t2 : Fin (k3_t2_loop i).trips) (arg6_r0 : BitVec 32) (arg7_r0 : BitVec 32) (arg8_r0 : BitVec 32) (arg9_r0 : BitVec 32) (arg10_r0 : BitVec 32) (k3_hw4 : k3_chk4 i k3_t2 arg6_r0 arg7_r0 arg8_r0 arg9_r0 arg10_r0), ∀ (k3_h1 : k3_cond1 i = 1#1), ∀ (k3_h14 : k3_cond14 i k3_t2 arg10_r0 = 1#1), ∀ a, (k3_off27 i arg10_r0) a + S128x128.size a ≤ S25600x128.size a := fun i k3_t2 arg6_r0 arg7_r0 arg8_r0 arg9_r0 arg10_r0 k3_hw4 k3_h1 k3_h14 => k3_hw4.2.2.2.2.2.2.2.1 k3_h1 k3_h14
theorem k3_off28_inb : ∀ (i : grid3.Coords) (k3_t2 : Fin (k3_t2_loop i).trips) (arg6_r0 : BitVec 32) (arg7_r0 : BitVec 32) (arg8_r0 : BitVec 32) (arg9_r0 : BitVec 32) (arg10_r0 : BitVec 32) (k3_hw4 : k3_chk4 i k3_t2 arg6_r0 arg7_r0 arg8_r0 arg9_r0 arg10_r0), ∀ (k3_h1 : k3_cond1 i = 1#1), ∀ (k3_h14 : k3_cond14 i k3_t2 arg10_r0 = 1#1), ∀ a, (k3_off28 arg8_r0) a + S1.size a ≤ S2.size a := fun i k3_t2 arg6_r0 arg7_r0 arg8_r0 arg9_r0 arg10_r0 k3_hw4 k3_h1 k3_h14 => k3_hw4.2.2.2.2.2.2.2.2.1 k3_h1 k3_h14
theorem k3_off29_inb : ∀ (i : grid3.Coords) (k3_t2 : Fin (k3_t2_loop i).trips) (arg6_r0 : BitVec 32) (arg7_r0 : BitVec 32) (arg8_r0 : BitVec 32) (arg9_r0 : BitVec 32) (arg10_r0 : BitVec 32) (k3_hw4 : k3_chk4 i k3_t2 arg6_r0 arg7_r0 arg8_r0 arg9_r0 arg10_r0), ∀ (k3_h1 : k3_cond1 i = 1#1), ∀ (k3_h16 : k3_cond16 i k3_t2 arg10_r0 = 1#1), ∀ a, (k3_off29 arg9_r0) a + S1x128x128.size a ≤ S2x128x128.size a := fun i k3_t2 arg6_r0 arg7_r0 arg8_r0 arg9_r0 arg10_r0 k3_hw4 k3_h1 k3_h16 => k3_hw4.2.2.2.2.2.2.2.2.2.1 k3_h1 k3_h16
theorem k3_off30_inb : ∀ (i : grid3.Coords) (k3_t2 : Fin (k3_t2_loop i).trips) (arg6_r0 : BitVec 32) (arg7_r0 : BitVec 32) (arg8_r0 : BitVec 32) (arg9_r0 : BitVec 32) (arg10_r0 : BitVec 32) (k3_hw4 : k3_chk4 i k3_t2 arg6_r0 arg7_r0 arg8_r0 arg9_r0 arg10_r0), ∀ (k3_h1 : k3_cond1 i = 1#1), ∀ (k3_h16 : k3_cond16 i k3_t2 arg10_r0 = 1#1), ∀ a, (k3_off30 i arg10_r0) a + S128x128.size a ≤ S25600x128.size a := fun i k3_t2 arg6_r0 arg7_r0 arg8_r0 arg9_r0 arg10_r0 k3_hw4 k3_h1 k3_h16 => k3_hw4.2.2.2.2.2.2.2.2.2.2.1 k3_h1 k3_h16
theorem k3_off31_inb : ∀ (i : grid3.Coords) (k3_t2 : Fin (k3_t2_loop i).trips) (arg6_r0 : BitVec 32) (arg7_r0 : BitVec 32) (arg8_r0 : BitVec 32) (arg9_r0 : BitVec 32) (arg10_r0 : BitVec 32) (k3_hw4 : k3_chk4 i k3_t2 arg6_r0 arg7_r0 arg8_r0 arg9_r0 arg10_r0), ∀ (k3_h1 : k3_cond1 i = 1#1), ∀ (k3_h16 : k3_cond16 i k3_t2 arg10_r0 = 1#1), ∀ a, (k3_off31 arg9_r0) a + S1.size a ≤ S2.size a := fun i k3_t2 arg6_r0 arg7_r0 arg8_r0 arg9_r0 arg10_r0 k3_hw4 k3_h1 k3_h16 => k3_hw4.2.2.2.2.2.2.2.2.2.2.2 k3_h1 k3_h16

def k3_cond18 (i : grid3.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let v11 : BitVec 32 := Scalar.muli c1_i32_3 v5
  let c1_i32_41_r0 : BitVec 32 := 1#32
  let v54_r0 : BitVec 32 := Scalar.subi v11 c1_i32_41_r0
  let c1_i32_42_r0 : BitVec 32 := 1#32
  let v55_r0 : BitVec 32 := Scalar.muli c1_i32_42_r0 v5
  let c1_i32_44_r0 : BitVec 32 := 1#32
  let v57_r0 : BitVec 32 := Scalar.subi v55_r0 c1_i32_44_r0
  let v58_r0 : BitVec 1 := Scalar.cmpi .eq v54_r0 v57_r0
  let v78_r0 : BitVec 32 := Scalar.extui v58_r0
  let c0_i32_56_r0 : BitVec 32 := 0#32
  let v79_r0 : BitVec 1 := Scalar.cmpi .ne v78_r0 c0_i32_56_r0
  v79_r0

def k3_off32 (v48_3_r0 : BitVec 32) : Fin 3 → Nat :=
  let c2_i32_r0 : BitVec 32 := 2#32
  let v80_r0 : BitVec 32 := Scalar.remui v48_3_r0 c2_i32_r0
  let c0_i32_57_r0 : BitVec 32 := 0#32
  let c0_i32_58_r0 : BitVec 32 := 0#32
  ![v80_r0.toNat, 0, 0]

def k3_off33 (i : grid3.Coords) (v48_4_r0 : BitVec 32) : Fin 2 → Nat :=
  let c128_i32_r0 : BitVec 32 := 128#32
  let true_38_r0 : BitVec 1 := 1#1
  let c1_i32_37_r0 : BitVec 32 := 1#32
  let v49_r0 : BitVec 32 := Scalar.subi v48_4_r0 c1_i32_37_r0
  let v50_r0 : BitVec 32 := Scalar.select true_38_r0 v49_r0 v48_4_r0
  let c_m1_i32_39_r0 : BitVec 32 := 4294967295#32
  let v51_r0 : BitVec 1 := Scalar.cmpi .eq v50_r0 c_m1_i32_39_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c7_i32 : BitVec 32 := 7#32
  let c6_i32 : BitVec 32 := 6#32
  let v5 : BitVec 32 := Scalar.select v4 c7_i32 c6_i32
  let c1_i32_40_r0 : BitVec 32 := 1#32
  let v52_r0 : BitVec 32 := Scalar.subi v5 c1_i32_40_r0
  let v53_r0 : BitVec 32 := Scalar.select v51_r0 v52_r0 v50_r0
  let c8_i32_0 : BitVec 32 := 8#32
  let v6 : BitVec 1 := Scalar.cmpi .slt v3 c8_i32_0
  let v7 : BitVec 32 := Scalar.muli v3 v5
  let c6_i32_1 : BitVec 32 := 6#32
  let v8 : BitVec 32 := Scalar.muli v3 c6_i32_1
  let c8_i32_2 : BitVec 32 := 8#32
  let v9 : BitVec 32 := Scalar.addi v8 c8_i32_2
  let v10 : BitVec 32 := Scalar.select v6 v7 v9
  let v59_r0 : BitVec 32 := Scalar.addi v53_r0 v10
  let v81_r0 : BitVec 32 := Scalar.muli c128_i32_r0 v59_r0
  let c0_i32_59_r0 : BitVec 32 := 0#32
  ![v81_r0.toNat, 0]

def k3_chk8 (i : grid3.Coords) (v48_4_r0 : BitVec 32) : Prop :=
  (∀ (k3_h1 : k3_cond1 i = 1#1), ∀ (k3_h18 : k3_cond18 i = 1#1), ∀ a, (k3_off33 i v48_4_r0) a + S128x128.size a ≤ S25600x128.size a)
theorem k3_off33_inb : ∀ (i : grid3.Coords) (v48_4_r0 : BitVec 32) (k3_hw8 : k3_chk8 i v48_4_r0), ∀ (k3_h1 : k3_cond1 i = 1#1), ∀ (k3_h18 : k3_cond18 i = 1#1), ∀ a, (k3_off33 i v48_4_r0) a + S128x128.size a ≤ S25600x128.size a := fun i v48_4_r0 k3_hw8 k3_h1 k3_h18 => k3_hw8 k3_h1 k3_h18

def k3_off34 (v48_3_r0 : BitVec 32) : Fin 1 → Nat :=
  let c2_i32_r0 : BitVec 32 := 2#32
  let v80_r0 : BitVec 32 := Scalar.remui v48_3_r0 c2_i32_r0
  ![v80_r0.toNat]
def k3_off35 (v48_3_r0 : BitVec 32) : Fin 3 → Nat :=
  let c2_i32_r0 : BitVec 32 := 2#32
  let v80_r0 : BitVec 32 := Scalar.remui v48_3_r0 c2_i32_r0
  let c0_i32_61_r0 : BitVec 32 := 0#32
  let c0_i32_62_r0 : BitVec 32 := 0#32
  ![v80_r0.toNat, 0, 0]

def k3_chk7 (i : grid3.Coords) (v48_3_r0 : BitVec 32) : Prop :=
  (∀ (k3_h1 : k3_cond1 i = 1#1), ∀ (k3_h18 : k3_cond18 i = 1#1), ∀ a, (k3_off32 v48_3_r0) a + S1x128x128.size a ≤ S2x128x128.size a) ∧
  (∀ (k3_h1 : k3_cond1 i = 1#1), ∀ (k3_h18 : k3_cond18 i = 1#1), ∀ a, (k3_off34 v48_3_r0) a + S1.size a ≤ S2.size a) ∧
  (∀ (k3_h1 : k3_cond1 i = 1#1), ∀ (k3_h18 : k3_cond18 i = 1#1), ∀ a, (k3_off35 v48_3_r0) a + S1x128x128.size a ≤ S2x128x128.size a)
theorem k3_off32_inb : ∀ (i : grid3.Coords) (v48_3_r0 : BitVec 32) (k3_hw7 : k3_chk7 i v48_3_r0), ∀ (k3_h1 : k3_cond1 i = 1#1), ∀ (k3_h18 : k3_cond18 i = 1#1), ∀ a, (k3_off32 v48_3_r0) a + S1x128x128.size a ≤ S2x128x128.size a := fun i v48_3_r0 k3_hw7 k3_h1 k3_h18 => k3_hw7.1 k3_h1 k3_h18
theorem k3_off34_inb : ∀ (i : grid3.Coords) (v48_3_r0 : BitVec 32) (k3_hw7 : k3_chk7 i v48_3_r0), ∀ (k3_h1 : k3_cond1 i = 1#1), ∀ (k3_h18 : k3_cond18 i = 1#1), ∀ a, (k3_off34 v48_3_r0) a + S1.size a ≤ S2.size a := fun i v48_3_r0 k3_hw7 k3_h1 k3_h18 => k3_hw7.2.1 k3_h1 k3_h18
theorem k3_off35_inb : ∀ (i : grid3.Coords) (v48_3_r0 : BitVec 32) (k3_hw7 : k3_chk7 i v48_3_r0), ∀ (k3_h1 : k3_cond1 i = 1#1), ∀ (k3_h18 : k3_cond18 i = 1#1), ∀ a, (k3_off35 v48_3_r0) a + S1x128x128.size a ≤ S2x128x128.size a := fun i v48_3_r0 k3_hw7 k3_h1 k3_h18 => k3_hw7.2.2 k3_h1 k3_h18

abbrev grid4 : Pipeline.Grid := ⟨1, ![4], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

abbrev stage4_0 : Fin 2 → Memref sig .tc .vmem S64x200x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S64x200 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S200x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S2x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S64x200x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![5], ![false]⟩

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 3 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

abbrev stage5_0 : Fin 2 → Memref sig .tc .vmem S64x200x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S64x200 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S200x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S2x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S64x200x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![5], ![false]⟩

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_2 (i : grid6.Coords) : Fin 2 → Nat :=
  let arg0 : BitVec 32 := BitVec.ofNat 32 (i 0).val
  let c9_i32 : BitVec 32 := 9#32
  let v0 : BitVec 32 := Scalar.addi arg0 c9_i32
  let c0_i32 : BitVec 32 := 0#32
  let c0_i32_0 : BitVec 32 := 0#32
  ![v0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 3 → Nat :=
  let arg0 : BitVec 32 := BitVec.ofNat 32 (i 0).val
  let c9_i32 : BitVec 32 := 9#32
  let v0 : BitVec 32 := Scalar.addi arg0 c9_i32
  let c0_i32 : BitVec 32 := 0#32
  let c0_i32_0 : BitVec 32 := 0#32
  let c0_i32_1 : BitVec 32 := 0#32
  ![v0.toNat, c0_i32.toNat, c0_i32_0.toNat]

abbrev stage6_0 : Fin 2 → Memref sig .tc .vmem S64x200x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S64x200 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S200x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S2x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S64x200x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![2], ![false]⟩

def cc7_transform_1 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_2 (i : grid7.Coords) : Fin 2 → Nat :=
  let arg0 : BitVec 32 := BitVec.ofNat 32 (i 0).val
  let c14_i32 : BitVec 32 := 14#32
  let v0 : BitVec 32 := Scalar.addi arg0 c14_i32
  let c0_i32 : BitVec 32 := 0#32
  let c0_i32_0 : BitVec 32 := 0#32
  ![v0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 3 → Nat :=
  let arg0 : BitVec 32 := BitVec.ofNat 32 (i 0).val
  let c14_i32 : BitVec 32 := 14#32
  let v0 : BitVec 32 := Scalar.addi arg0 c14_i32
  let c0_i32 : BitVec 32 := 0#32
  let c0_i32_0 : BitVec 32 := 0#32
  let c0_i32_1 : BitVec 32 := 0#32
  ![v0.toNat, c0_i32.toNat, c0_i32_0.toNat]

abbrev stage7_0 : Fin 2 → Memref sig .tc .vmem S64x200x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S64x200 .i32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S200x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S2x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S64x200x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev scKind : Fin 4 → Kind := fun | 0 => .scVector | 1 => .scVector | 2 => .scVector | 3 => .scVector | ⟨_ + 4, h⟩ => absurd h (Nat.not_lt.2 (Nat.le_add_left _ _))
abbrev scNCore : Fin 4 → Nat := fun | 0 => 2 | 1 => 2 | 2 => 2 | 3 => 2 | ⟨_ + 4, h⟩ => absurd h (Nat.not_lt.2 (Nat.le_add_left _ _))
abbrev scNSub : Fin 4 → Nat := fun | 0 => 16 | 1 => 16 | 2 => 16 | 3 => 16 | ⟨_ + 4, h⟩ => absurd h (Nat.not_lt.2 (Nat.le_add_left _ _))
-- ==== KernelIdeal.lean ====
variable {F : FTy → Type} [FloatOps F] [Named F]
def κ : String → Option EReal := fun
  | "inv_sqrt_hidden" => some (((Real.sqrt 128)⁻¹ : ℝ) : EReal)
  | _ => none
-- ==== ReferenceIdeal.lean ====
abbrev S1024x200 : Shape := ⟨2, ![1024, 200]⟩
abbrev S100000x128 : Shape := ⟨2, ![100000, 128]⟩
abbrev S512x128 : Shape := ⟨2, ![512, 128]⟩
abbrev S2x128 : Shape := ⟨2, ![2, 128]⟩
abbrev S128 : Shape := ⟨1, ![128]⟩
abbrev S200 : Shape := ⟨1, ![200]⟩
abbrev S_ : Shape := ⟨0, ![]⟩
abbrev S1024x200x1 : Shape := ⟨3, ![1024, 200, 1]⟩
abbrev S1 : Shape := ⟨1, ![1]⟩
abbrev S1x1x1 : Shape := ⟨3, ![1, 1, 1]⟩
abbrev S1024x200x128 : Shape := ⟨3, ![1024, 200, 128]⟩
abbrev S200x1 : Shape := ⟨2, ![200, 1]⟩
abbrev S1x1 : Shape := ⟨2, ![1, 1]⟩
abbrev S200x128 : Shape := ⟨2, ![200, 128]⟩
abbrev S1x200x128 : Shape := ⟨3, ![1, 200, 128]⟩
abbrev S1x1x128 : Shape := ⟨3, ![1, 1, 128]⟩

abbrev nBuf : Space → Nat
  | .hbm => 129
  | .vmem => 0
  | .smem => 0
  | _ => 0

abbrev hbmTy0_0 (i : Nat) : BufTy := match i % 128 with
  | 0 => ⟨S1024x200, .i32⟩
  | 1 => ⟨S1024x200, .i32⟩
  | 2 => ⟨S100000x128, .f32⟩
  | 3 => ⟨S512x128, .f32⟩
  | 4 => ⟨S2x128, .f32⟩
  | 5 => ⟨S128, .f32⟩
  | 6 => ⟨S128, .f32⟩
  | 7 => ⟨S200, .i32⟩
  | 8 => ⟨S_, .i32⟩
  | 9 => ⟨S1024x200, .i32⟩
  | 10 => ⟨S1024x200, .i1⟩
  | 11 => ⟨S_, .i32⟩
  | 12 => ⟨S1024x200, .i32⟩
  | 13 => ⟨S1024x200, .i32⟩
  | 14 => ⟨S1024x200, .i32⟩
  | 15 => ⟨S1024x200x1, .i32⟩
  | 16 => ⟨S1, .i32⟩
  | 17 => ⟨S_, .i32⟩
  | 18 => ⟨S1024x200x1, .i32⟩
  | 19 => ⟨S1024x200x1, .i1⟩
  | 20 => ⟨S1x1x1, .i32⟩
  | 21 => ⟨S1024x200x1, .i32⟩
  | 22 => ⟨S1024x200x1, .i1⟩
  | 23 => ⟨S1024x200x1, .i1⟩
  | 24 => ⟨S_, .i1⟩
  | 25 => ⟨S1024x200, .i1⟩
  | 26 => ⟨S1024x200x128, .f32⟩
  | 27 => ⟨S1024x200x128, .i1⟩
  | 28 => ⟨S_, .f32⟩
  | 29 => ⟨S1024x200x128, .f32⟩
  | 30 => ⟨S1024x200x128, .f32⟩
  | 31 => ⟨S_, .f32⟩
  | 32 => ⟨S_, .f32⟩
  | 33 => ⟨S1024x200x128, .f32⟩
  | 34 => ⟨S1024x200x128, .f32⟩
  | 35 => ⟨S_, .i32⟩
  | 36 => ⟨S200, .i32⟩
  | 37 => ⟨S200, .i1⟩
  | 38 => ⟨S_, .i32⟩
  | 39 => ⟨S200, .i32⟩
  | 40 => ⟨S200, .i32⟩
  | 41 => ⟨S200, .i32⟩
  | 42 => ⟨S200x1, .i32⟩
  | 43 => ⟨S1, .i32⟩
  | 44 => ⟨S_, .i32⟩
  | 45 => ⟨S200x1, .i32⟩
  | 46 => ⟨S200x1, .i1⟩
  | 47 => ⟨S1x1, .i32⟩
  | 48 => ⟨S200x1, .i32⟩
  | 49 => ⟨S200x1, .i1⟩
  | 50 => ⟨S200x1, .i1⟩
  | 51 => ⟨S_, .i1⟩
  | 52 => ⟨S200, .i1⟩
  | 53 => ⟨S200x128, .f32⟩
  | 54 => ⟨S200x128, .i1⟩
  | 55 => ⟨S_, .f32⟩
  | 56 => ⟨S200x128, .f32⟩
  | 57 => ⟨S200x128, .f32⟩
  | 58 => ⟨S1x200x128, .f32⟩
  | 59 => ⟨S1024x200x128, .f32⟩
  | 60 => ⟨S1024x200x128, .f32⟩
  | 61 => ⟨S_, .i32⟩
  | 62 => ⟨S1024x200, .i32⟩
  | 63 => ⟨S1024x200, .i1⟩
  | 64 => ⟨S_, .i32⟩
  | 65 => ⟨S1024x200, .i32⟩
  | 66 => ⟨S1024x200, .i32⟩
  | 67 => ⟨S1024x200, .i32⟩
  | 68 => ⟨S1024x200x1, .i32⟩
  | 69 => ⟨S1, .i32⟩
  | 70 => ⟨S_, .i32⟩
  | 71 => ⟨S1024x200x1, .i32⟩
  | 72 => ⟨S1024x200x1, .i1⟩
  | 73 => ⟨S1x1x1, .i32⟩
  | 74 => ⟨S1024x200x1, .i32⟩
  | 75 => ⟨S1024x200x1, .i1⟩
  | 76 => ⟨S1024x200x1, .i1⟩
  | 77 => ⟨S_, .i1⟩
  | 78 => ⟨S1024x200, .i1⟩
  | 79 => ⟨S1024x200x128, .f32⟩
  | 80 => ⟨S1024x200x128, .i1⟩
  | 81 => ⟨S_, .f32⟩
  | 82 => ⟨S1024x200x128, .f32⟩
  | 83 => ⟨S1024x200x128, .f32⟩
  | 84 => ⟨S1024x200x128, .f32⟩
  | 85 => ⟨S_, .f32⟩
  | 86 => ⟨S1024x200, .f32⟩
  | 87 => ⟨S1024x200x1, .f32⟩
  | 88 => ⟨S_, .f32⟩
  | 89 => ⟨S1024x200x1, .f32⟩
  | 90 => ⟨S1024x200x1, .f32⟩
  | 91 => ⟨S_, .i32⟩
  | 92 => ⟨S_, .f32⟩
  | 93 => ⟨S1024x200, .f32⟩
  | 94 => ⟨S1024x200x1, .f32⟩
  | 95 => ⟨S_, .f32⟩
  | 96 => ⟨S1024x200x1, .f32⟩
  | 97 => ⟨S1024x200x1, .f32⟩
  | 98 => ⟨S1024x200x128, .f32⟩
  | 99 => ⟨S1024x200x128, .f32⟩
  | 100 => ⟨S1024x200x128, .f32⟩
  | 101 => ⟨S_, .f32⟩
  | 102 => ⟨S_, .f32⟩
  | 103 => ⟨S_, .f32⟩
  | 104 => ⟨S_, .f32⟩
  | 105 => ⟨S1024x200, .f32⟩
  | 106 => ⟨S1024x200x1, .f32⟩
  | 107 => ⟨S1024x200x1, .f32⟩
  | 108 => ⟨S1024x200x1, .f32⟩
  | 109 => ⟨S_, .f32⟩
  | 110 => ⟨S_, .i1⟩
  | 111 => ⟨S_, .f32⟩
  | 112 => ⟨S_, .f32⟩
  | 113 => ⟨S1024x200x1, .f32⟩
  | 114 => ⟨S1024x200x1, .f32⟩
  | 115 => ⟨S1024x200x128, .f32⟩
  | 116 => ⟨S1024x200x128, .f32⟩
  | 117 => ⟨S_, .f32⟩
  | 118 => ⟨S1024x200x1, .f32⟩
  | 119 => ⟨S1024x200x1, .f32⟩
  | 120 => ⟨S1024x200x1, .f32⟩
  | 121 => ⟨S1024x200x128, .f32⟩
  | 122 => ⟨S1024x200x128, .f32⟩
  | 123 => ⟨S1x1x128, .f32⟩
  | 124 => ⟨S1024x200x128, .f32⟩
  | 125 => ⟨S1024x200x128, .f32⟩
  | 126 => ⟨S1x1x128, .f32⟩
  | 127 => ⟨S1024x200x128, .f32⟩
  | _ => ⟨S1024x200, .i32⟩

abbrev hbmTy0_1 (i : Nat) : BufTy := match i % 128 with
  | 0 => ⟨S1024x200x128, .f32⟩
  | _ => ⟨S1024x200, .i32⟩

abbrev hbmTy (i : Nat) : BufTy := match i / 128 with
  | 0 => hbmTy0_0 i
  | 1 => hbmTy0_1 i
  | _ => ⟨S1024x200, .i32⟩

abbrev bufTy : (tb : Table) → Fin (tcTables nBuf tb) → BufTy
  | .hbm, ⟨i, _⟩ => hbmTy i
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v1 : Ref sig .tc := ⟨.hbm, 30, rfl⟩
abbrev main_cst : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_call2_c : Ref sig .tc := ⟨.hbm, 61, rfl⟩
abbrev main_call2_v0 : Ref sig .tc := ⟨.hbm, 62, rfl⟩
abbrev main_call2_v1 : Ref sig .tc := ⟨.hbm, 63, rfl⟩
abbrev main_call2_c_0 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_c_1 : Ref sig .tc := ⟨.hbm, 69, rfl⟩
abbrev main_call2_c_2 : Ref sig .tc := ⟨.hbm, 70, rfl⟩
abbrev main_call2_v6 : Ref sig .tc := ⟨.hbm, 71, rfl⟩
abbrev main_call2_v7 : Ref sig .tc := ⟨.hbm, 72, rfl⟩
abbrev main_call2_v8 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_c_3 : Ref sig .tc := ⟨.hbm, 77, rfl⟩
abbrev main_call2_v12 : Ref sig .tc := ⟨.hbm, 78, rfl⟩
abbrev main_call2_v13 : Ref sig .tc := ⟨.hbm, 79, rfl⟩
abbrev main_call2_v14 : Ref sig .tc := ⟨.hbm, 80, rfl⟩
abbrev main_call2_cst : Ref sig .tc := ⟨.hbm, 81, rfl⟩
abbrev main_call2_v15 : Ref sig .tc := ⟨.hbm, 82, rfl⟩
abbrev main_v9 : Ref sig .tc := ⟨.hbm, 83, rfl⟩
abbrev main_v10 : Ref sig .tc := ⟨.hbm, 84, rfl⟩
abbrev main_cst_0 : Ref sig .tc := ⟨.hbm, 85, rfl⟩
abbrev main_v11 : Ref sig .tc := ⟨.hbm, 86, rfl⟩
abbrev main_v12 : Ref sig .tc := ⟨.hbm, 87, rfl⟩
abbrev main_cst_1 : Ref sig .tc := ⟨.hbm, 88, rfl⟩
abbrev main_v13 : Ref sig .tc := ⟨.hbm, 89, rfl⟩
abbrev main_v14 : Ref sig .tc := ⟨.hbm, 90, rfl⟩
abbrev main_c : Ref sig .tc := ⟨.hbm, 91, rfl⟩
abbrev main_call3_cst : Ref sig .tc := ⟨.hbm, 92, rfl⟩
abbrev main_call3_v0 : Ref sig .tc := ⟨.hbm, 93, rfl⟩
abbrev main_call3_v1 : Ref sig .tc := ⟨.hbm, 94, rfl⟩
abbrev main_call3_cst_0 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_call3_v5 : Ref sig .tc := ⟨.hbm, 99, rfl⟩
abbrev main_call3_v6 : Ref sig .tc := ⟨.hbm, 100, rfl⟩
abbrev main_call3_v7 : Ref sig .tc := ⟨.hbm, 101, rfl⟩
abbrev main_call3_cst_1 : Ref sig .tc := ⟨.hbm, 102, rfl⟩
abbrev main_call3_v8 : Ref sig .tc := ⟨.hbm, 103, rfl⟩
abbrev main_call3_cst_2 : Ref sig .tc := ⟨.hbm, 104, rfl⟩
abbrev main_call3_v9 : Ref sig .tc := ⟨.hbm, 105, rfl⟩
abbrev main_call3_v10 : Ref sig .tc := ⟨.hbm, 106, rfl⟩
abbrev main_call3_v11 : Ref sig .tc := ⟨.hbm, 107, rfl⟩
abbrev main_call3_v12 : Ref sig .tc := ⟨.hbm, 108, rfl⟩
abbrev main_call3_cst_3 : Ref sig .tc := ⟨.hbm, 109, rfl⟩
abbrev main_call3_v13 : Ref sig .tc := ⟨.hbm, 110, rfl⟩
abbrev main_call3_cst_4 : Ref sig .tc := ⟨.hbm, 111, rfl⟩
abbrev main_call3_call0_v0 : Ref sig .tc := ⟨.hbm, 112, rfl⟩
abbrev main_call3_call0_v1 : Ref sig .tc := ⟨.hbm, 113, rfl⟩
abbrev main_v15 : Ref sig .tc := ⟨.hbm, 114, rfl⟩
abbrev main_v16 : Ref sig .tc := ⟨.hbm, 115, rfl⟩
abbrev main_v17 : Ref sig .tc := ⟨.hbm, 116, rfl⟩
abbrev main_cst_2 : Ref sig .tc := ⟨.hbm, 117, rfl⟩
abbrev main_v18 : Ref sig .tc := ⟨.hbm, 118, rfl⟩
abbrev main_v19 : Ref sig .tc := ⟨.hbm, 119, rfl⟩
abbrev main_v20 : Ref sig .tc := ⟨.hbm, 120, rfl⟩
abbrev main_v21 : Ref sig .tc := ⟨.hbm, 121, rfl⟩
abbrev main_v22 : Ref sig .tc := ⟨.hbm, 122, rfl⟩
abbrev main_v23 : Ref sig .tc := ⟨.hbm, 123, rfl⟩
abbrev main_v24 : Ref sig .tc := ⟨.hbm, 124, rfl⟩
abbrev main_v25 : Ref sig .tc := ⟨.hbm, 125, rfl⟩
abbrev main_v26 : Ref sig .tc := ⟨.hbm, 126, rfl⟩
abbrev main_v27 : Ref sig .tc := ⟨.hbm, 127, rfl⟩
abbrev main_v28 : Ref sig .tc := ⟨.hbm, 128, rfl⟩

abbrev nD : Nat := 1
abbrev τ : Topo := Topo.v7x

variable {F : FTy → Type} [FloatOps F]
-- ==== Proof.Norm.lean ====
/-
  The layer norm a TensorCore call computes of one block: its value as a function of the block's rows, segments, position
  rows and segment rows, and the body's run. The four calls' bodies are one text; it is run once.
-/
module

public import proofs.«01_k».proof.Defs
public import proofs.«01_k».proof.Proof.Gen.KernelIdeal
public import proofs.«01_k».proof.Proof.Gen.KernelIdeal.Launch
public import proofs.«01_k».proof.Proof.Gen.KernelIdeal.Skeleton
public import proofs.«01_k».proof.Proof.Gen.KernelIdeal.Points
public import Idealize.ShloMosaic.Lib.SparseCore.Quiescent
public import Idealize.ShloMosaic.Lib.Pipeline.FrameBody
public import Idealize.ShloMosaic.Lib.Pipeline.RegionArraysS
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.Proof.Norm

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The resource algebra: the handshakes' rounds, the pipelines' rounds, the transfers' counters -/

abbrev UH : Type := URounds (GSem nD τ sig) ℕ
abbrev UP : Type := URounds (GSem nD τ sig) Unit
abbrev UU : Type := UH × (UP × Counters)

local notation "𝕄" => MT nD τ sig (HIx 4) (Elt F) ℕ UU ℕ

/-! ## The value -/

/-- Row `k` of the two segment rows. -/
abbrev segRow0 (x3 : Vec F S2x128 .f32) : Vec F S1x128 .f32 := fun i => x3 ((Rect.unit (s := S2x128) ![0, 0] S1x128.size inb_S2x128_S1x128_0_0).emb i)
abbrev segRow1 (x3 : Vec F S2x128 .f32) : Vec F S1x128 .f32 := fun i => x3 ((Rect.unit (s := S2x128) ![1, 0] S1x128.size inb_S2x128_S1x128_1_0).emb i)

/-- The layer norm of a block of 64 sequences. -/
def ln (x0 : Vec F S64x200x128 .f32) (x1 : Vec F S64x200 .i32) (x2 : Vec F S200x128 .f32) (x3 : Vec F S2x128 .f32) : Vec F S64x200x128 .f32 :=
  k4_pay1 (k4_pay2 x0 x1 x2 (segRow0 x3) (segRow1 x3) (segRow0 x3)) (k4_pay3 x0 x1 x2 (segRow0 x3) (segRow1 x3) (segRow0 x3)) (Scalar.ofBits .f32 0x3703126F#32)

theorem ln_of {x0 y0 : Vec F S64x200x128 .f32} {x1 y1 : Vec F S64x200 .i32} {x2 y2 : Vec F S200x128 .f32} {x3 : Vec F S2x128 .f32} {y3 y4 : Vec F S1x128 .f32}
    (e0 : y0 = x0) (e1 : y1 = x1) (e2 : y2 = x2) (e3 : y3 = segRow0 x3) (e4 : y4 = segRow1 x3) :
    k4_pay1 (k4_pay2 y0 y1 y2 y3 y4 y3) (k4_pay3 y0 y1 y2 y3 y4 y3) (Scalar.ofBits .f32 0x3703126F#32) = ln x0 x1 x2 x3 := by
  subst e0 e1 e2 e3 e4; rfl

/-! ## The body -/

section Body

variable (c : Dev nD) (i : grid4.Coords) (arg1 : Memref sig .tc .vmem S64x200x128 .f32) (harg1 : arg1.IsWhole) (arg2 : Memref sig .tc .vmem S64x200 .i32) (harg2 : arg2.IsWhole)
  (arg3 : Memref sig .tc .vmem S200x128 .f32) (harg3 : arg3.IsWhole) (arg4 : Memref sig .tc .vmem S2x128 .f32) (harg4 : arg4.IsWhole) (arg5 : Memref sig .tc .vmem S64x200x128 .f32) (harg5 : arg5.IsWhole)
  (x0 : Vec F S64x200x128 .f32) (x1 : Vec F S64x200 .i32) (x2 : Vec F S200x128 .f32) (x3 : Vec F S2x128 .f32)

set_option maxHeartbeats 2000000 in
theorem body4 (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (ln x0 x1 x2 x3)) -∗ K ⟨⟩))
      ⊢ wp frame (wpE (defs₀ (F := F)) Variants.none c none) E (cc4__ln_body i arg1 harg1 arg2 harg2 arg3 harg3 arg4 harg4 arg5 harg5) K := by
  simp only [cc4__ln_body_eq_skeleton]; unfold cc4__ln_body_skel
  simp only [k4_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg1.eq_unread hf0; obtain rfl := harg2.eq_unread hf1; obtain rfl := harg3.eq_unread hf2; obtain rfl := harg4.eq_unread hf3
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact H4
  ipureintro
  refine (View.read_writes_full _ _ _ _ _).trans ?_
  have e0 : arg1.view.readAt (Elt F) (Rect.unit (s := S64x200x128) ![0, 0, 0] S64x200x128.size inb_S64x200x128_S64x200x128_0_0_0).toLoadRect (harg1.unread x0) = x0 :=
    (View.readAt_full _ _ _).trans hf0
  have e1 : arg2.view.readAt (Elt F) (Rect.unit (s := S64x200) ![0, 0] S64x200.size inb_S64x200_S64x200_0_0).toLoadRect (harg2.unread x1) = x1 :=
    (View.readAt_full _ _ _).trans hf1
  have e2 : arg3.view.readAt (Elt F) (Rect.unit (s := S200x128) ![0, 0] S200x128.size inb_S200x128_S200x128_0_0).toLoadRect (harg3.unread x2) = x2 :=
    (View.readAt_full _ _ _).trans hf2
  have e3 : arg4.view.readAt (Elt F) (Rect.unit (s := S2x128) ![0, 0] S1x128.size inb_S2x128_S1x128_0_0).toLoadRect (harg4.unread x3) = segRow0 x3 :=
    funext fun z => congrFun hf3 _
  have e4 : arg4.view.readAt (Elt F) (Rect.unit (s := S2x128) ![1, 0] S1x128.size inb_S2x128_S1x128_1_0).toLoadRect (harg4.unread x3) = segRow1 x3 :=
    funext fun z => congrFun hf3 _
  exact ln_of e0 e1 e2 e3 e4

end Body

/-- The other three calls' body is the same, with the buffer it writes into beside it. -/
theorem body5_eq (i : grid5.Coords) (j : grid4.Coords) (a0 : Memref sig .tc .hbm S1024x200x128 .f32) (h0 : a0.IsWhole) : (cc5__aliased_ln_body (F := F) i a0 h0) = cc4__ln_body (F := F) j := rfl
theorem body6_eq (i : grid6.Coords) (j : grid4.Coords) (a0 : Memref sig .tc .hbm S1024x200x128 .f32) (h0 : a0.IsWhole) : (cc6__aliased_ln_body (F := F) i a0 h0) = cc4__ln_body (F := F) j := rfl
theorem body7_eq (i : grid7.Coords) (j : grid4.Coords) (a0 : Memref sig .tc .hbm S1024x200x128 .f32) (h0 : a0.IsWhole) : (cc7__aliased_ln_body (F := F) i a0 h0) = cc4__ln_body (F := F) j := rfl

end Cert.Proof.Norm
-- ==== Proof.Gather.lean ====
/-
  The double-buffered gather one SparseCore tile runs, over any signature: what the tile holds between its steps, and a
  rule for each of its six kinds of memory operation. A step's index block is copied into one of two index slots, the
  rows it names are gathered from the table into one of two row slots, and those are copied out to the step's block of
  the result. A slot is either idle (the tile owns its elements and its semaphore is at zero) or busy (its copy is in
  flight). The values are carried along: what comes back of an index copy is the block of the index array, and what
  lands in the result is the table's rows at that block's words.
-/
module

public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Gather

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Transfers

abbrev S2x1x128 : Shape := ⟨3, ![2, 1, 128]⟩
abbrev S1x1x128 : Shape := ⟨3, ![1, 1, 128]⟩
abbrev S1x128 : Shape := ⟨2, ![1, 128]⟩
abbrev S128 : Shape := ⟨1, ![128]⟩
abbrev S2x128x128 : Shape := ⟨3, ![2, 128, 128]⟩
abbrev S1x128x128 : Shape := ⟨3, ![1, 128, 128]⟩
abbrev S128x128 : Shape := ⟨2, ![128, 128]⟩
abbrev S2 : Shape := ⟨1, ![2]⟩
abbrev S1 : Shape := ⟨1, ![1]⟩
abbrev S0 : Shape := ⟨0, ![]⟩
/-- The table's, the index array's and the result's shapes. -/
abbrev STab : Shape := ⟨2, ![100000, 128]⟩
abbrev SIdx : Shape := ⟨2, ![1, 204800]⟩
abbrev SOut (r : ℕ) : Shape := ⟨2, ![r, 128]⟩

theorem sqI : S1x1x128.Squeezes S1x128 := by decide
theorem sqL : S1x128.Squeezes S128 := by decide
theorem sqO : S1x128x128.Squeezes S128x128 := by decide
theorem sqS : S1.Squeezes S0 := by decide
theorem gath : STab.Gathers 0 S128x128 := by decide

variable {nD : Nat} {τ : Topo} {sig : RefSig} {Ix : Type} [DecidableEq Ix] {F : FTy → Type} {U : Type} [URA U] [CountersIn U] {Λ : Labels}
variable {defs : Defs nD τ sig (Elt F) Λ} (𝒱 : Variants) (bd : Option 𝒱.V) (ι : Ix)
variable (d : Dev nD) (cc : Fin τ.nSC) (ss : Fin τ.nSub) {r : ℕ}

local notation "𝕄" => MT nD τ sig Ix (Elt F) ℕ U ℕ

variable (tab : Memref sig .scVector .hbm STab .f32) (ix : Memref sig .scVector .hbm SIdx .i32) (out : Memref sig .scVector .hbm (SOut r) .f32)
variable (al : Memref sig .scVector .vmem S2x1x128 .i32) (ab : Memref sig .scVector .vmem S2x128x128 .f32)
variable (vi vo : DmaSems sig S2) (vg : DmaSems sig S0)

/-! ## The views the steps address -/

/-- An offset's block lies within its array. -/
abbrev InI (o : Fin 3 → ℕ) : Prop := ∀ a, o a + S1x1x128.size a ≤ S2x1x128.size a
abbrev InO (o : Fin 3 → ℕ) : Prop := ∀ a, o a + S1x128x128.size a ≤ S2x128x128.size a
abbrev InX (o : Fin 2 → ℕ) : Prop := ∀ a, o a + S1x128.size a ≤ SIdx.size a
abbrev InR (r : ℕ) (o : Fin 2 → ℕ) : Prop := ∀ a, o a + S128x128.size a ≤ (SOut r).size a

abbrev slotI (o : Fin 3 → ℕ) (h : ∀ a, o a + S1x1x128.size a ≤ S2x1x128.size a) : Memref sig .scVector .vmem S1x128 .i32 :=
  (al.slice (Rect.unit (s := S2x1x128) o S1x1x128.size h) (fun _ => rfl)).squeeze S1x128 sqI
abbrev listI (o : Fin 3 → ℕ) (h : ∀ a, o a + S1x1x128.size a ≤ S2x1x128.size a) : Memref sig .scVector .vmem S128 .i32 :=
  ((slotI al o h).slice (Rect.unit (s := S1x128) ![0, 0] S1x128.size (by decide)) (fun _ => rfl)).squeeze S128 sqL
abbrev slotO (o : Fin 3 → ℕ) (h : ∀ a, o a + S1x128x128.size a ≤ S2x128x128.size a) : Memref sig .scVector .vmem S128x128 .f32 :=
  (ab.slice (Rect.unit (s := S2x128x128) o S1x128x128.size h) (fun _ => rfl)).squeeze S128x128 sqO
abbrev blkI (o : Fin 2 → ℕ) (h : ∀ a, o a + S1x128.size a ≤ SIdx.size a) : Memref sig .scVector .hbm S1x128 .i32 :=
  ix.slice (Rect.unit (s := SIdx) o S1x128.size h) (fun _ => rfl)
abbrev blkO (o : Fin 2 → ℕ) (h : ∀ a, o a + S128x128.size a ≤ (SOut r).size a) : Memref sig .scVector .hbm S128x128 .f32 :=
  out.slice (Rect.unit (s := SOut r) o S128x128.size h) (fun _ => rfl)
abbrev tabV : Memref sig .scVector .hbm STab .f32 := tab.slice (Rect.unit (s := STab) ![0, 0] STab.size (by decide)) (fun _ => rfl)
abbrev semS (v : DmaSems sig S2) (o : Fin 1 → ℕ) (h : ∀ a, o a + S1.size a ≤ S2.size a) : DmaSem sig :=
  ((v.slice (Rect.unit (s := S2) o S1.size h)).squeeze S0 sqS).sem

/-! ## What the tile holds -/

/-- The waits this tile has entered, none of them at another index than `ι` but those it came with. -/
def Ow (c : Thread nD τ) (O : CellTallies nD τ sig Ix) (W : Waits sig Ix) : sProp 𝕄 :=
  iprop(∃ W', ⌜∀ p ∈ W', p ∈ W ∨ p.2 = ι⌝ ∗ owes c O W')

theorem Ow_intro (c : Thread nD τ) (O : CellTallies nD τ sig Ix) (W : Waits sig Ix) : owes c O W ⊢ (Ow ι c O W : sProp 𝕄) := by
  unfold Ow
  iintro H; iexists W; isplitr
  · ipureintro; exact fun p hp => .inl hp
  · iexact H

/-- An index slot with the words of block `ob` of the index array in it. -/
def SlotI (o : Fin 3 → ℕ) (h : InI o) (w : S1x128.Idx → Elt F .i32) : sProp 𝕄 :=
  iprop(∃ f, ⌜(slotI al o h).view.read (Elt F) f = w⌝
    ∗ (slotI al o h).view.loc (V d cc ss) ↦[(slotI al o h).view.set]{fullShare} f)
/-- An index slot with anything in it. -/
def SlotI₀ (o : Fin 3 → ℕ) (h : InI o) : sProp 𝕄 :=
  iprop(∃ f, (slotI al o h).view.loc (V d cc ss) ↦[(slotI al o h).view.set]{fullShare} f)
/-- A row slot with the rows `w` in it, and with anything. -/
def SlotO (o : Fin 3 → ℕ) (h : InO o) (w : S128x128.Idx → Elt F .f32) : sProp 𝕄 :=
  iprop(∃ f, ⌜(slotO ab o h).view.read (Elt F) f = w⌝
    ∗ (slotO ab o h).view.loc (V d cc ss) ↦[(slotO ab o h).view.set]{fullShare} f)
def SlotO₀ (o : Fin 3 → ℕ) (h : InO o) : sProp 𝕄 :=
  iprop(∃ f, (slotO ab o h).view.loc (V d cc ss) ↦[(slotO ab o h).view.set]{fullShare} f)
/-- The result's block at `ob` with the rows `w` in it, and with anything. -/
def BlkO (ob : Fin 2 → ℕ) (hb : InR r ob) (w : S128x128.Idx → Elt F .f32) : sProp 𝕄 :=
  iprop(∃ f, ⌜(blkO out ob hb).view.read (Elt F) f = w⌝
    ∗ (blkO out ob hb).view.loc (V d cc ss) ↦[(blkO out ob hb).view.set]{fullShare} f)
def BlkO₀ (ob : Fin 2 → ℕ) (hb : InR r ob) : sProp 𝕄 :=
  iprop(∃ f, (blkO out ob hb).view.loc (V d cc ss) ↦[(blkO out ob hb).view.set]{fullShare} f)

/-- An index copy in flight: it will deliver the slot with the block's words, and the block's share back. -/
def FlI (q : PosShare TreeShare) (fi : Buf (Elt F) (ix.view.loc (V d cc ss))) (sm : DmaSem sig) (o : Fin 3 → ℕ) (h : InI o) (ob : Fin 2 → ℕ) (hb : InX ob) : sProp 𝕄 :=
  iprop(Flight countersEmb (V d cc ss) (.dma sm) ι (slotI al o h).view.dmaCredit
      iprop(SlotI d cc ss al o h ((blkI ix ob hb).view.read (Elt F) fi) ∗ (ix.view.loc (V d cc ss) ↦[(blkI ix ob hb).view.set]{q} fi))
    ∗ (ix.view.loc (V d cc ss) ↦[Finset.univ \ (blkI ix ob hb).view.set]{q} fi))

/-- A copy of a row slot to the result in flight: it will deliver the block with the slot's rows, and the slot. -/
def FlO (sm : DmaSem sig) (o : Fin 3 → ℕ) (h : InO o) (ob : Fin 2 → ℕ) (hb : InR r ob) (w : S128x128.Idx → Elt F .f32) : sProp 𝕄 :=
  Flight countersEmb (V d cc ss) (.dma sm) ι (blkO out ob hb).view.dmaCredit
      iprop(BlkO d cc ss out ob hb w ∗ SlotO₀ d cc ss ab o h)

/-- The table's rows at a list of words. -/
def rowsAt (T : STab.Idx → Elt F .f32) (w : S1x128.Idx → Elt F .i32) : S128x128.Idx → Elt F .f32 := fun x =>
  T fun a => match a with
    | 0 => Fin.ofNat 100000 (w fun b => match b with | 0 => (0 : Fin 1) | 1 => (x 0 : Fin 128)).toNat
    | 1 => (x 1 : Fin 128)

/-- The gather in flight: it will deliver the row slot with the table's rows at the index slot's words, and the table's
    and the index slot's elements back. -/
def FlG (qt : PosShare TreeShare) (ft : Buf (Elt F) (tab.view.loc (V d cc ss))) (sm : DmaSem sig) (oi : Fin 3 → ℕ) (hi : InI oi)
    (oo : Fin 3 → ℕ) (ho : InO oo) (w : S1x128.Idx → Elt F .i32) : sProp 𝕄 :=
  iprop(∃ f, ⌜(slotI al oi hi).view.read (Elt F) f = w⌝
    ∗ Flight countersEmb (V d cc ss) (.dma sm) ι (slotO ab oo ho).view.dmaCredit
      iprop(SlotO d cc ss ab oo ho (rowsAt (tab.view.read (Elt F) ft) w) ∗ (tab.view.loc (V d cc ss) ↦[(tabV tab).view.set]{qt} ft)
        ∗ ((slotI al oi hi).view.loc (V d cc ss) ↦[(listI al oi hi).view.set]{fullShare} f))
    ∗ (tab.view.loc (V d cc ss) ↦[Finset.univ \ (tabV tab).view.set]{qt} ft)
    ∗ ((slotI al oi hi).view.loc (V d cc ss) ↦[(slotI al oi hi).view.set \ (listI al oi hi).view.set]{fullShare} f))

/-! ## The steps -/

theorem listI_set_subset (o : Fin 3 → ℕ) (h : InI o) : (listI al o h).view.set ⊆ (slotI al o h).view.set := by
  show ((((slotI al o h).view.slice _).reshape S128 _).set) ⊆ _
  rw [View.set_reshape]; exact View.set_slice_subset _ _

theorem reshape_row (hn : S128.numel = S1x128.numel) (x : S128.Idx) :
    Shape.reshapeEquiv hn x = (fun b => match b with | 0 => (0 : Fin 1) | 1 => (x 0 : Fin 128)) := by
  refine (Shape.reshapeEquiv_cons_one (d := ![128]) hn x).trans ?_
  funext b; match b with
  | 0 => rfl
  | 1 => rfl

theorem listI_read (o : Fin 3 → ℕ) (h : InI o) (f : (slotI al o h).view.ty.Contents (Elt F)) (x : S128.Idx) :
    (listI al o h).view.read (Elt F) f x = (slotI al o h).view.read (Elt F) f (fun b => match b with | 0 => (0 : Fin 1) | 1 => (x 0 : Fin 128)) := by
  rw [View.read_apply, View.read_apply]
  have he : (listI al o h).view.emb x = (slotI al o h).view.emb (fun b => match b with | 0 => (0 : Fin 1) | 1 => (x 0 : Fin 128)) := by
    show (slotI al o h).view.emb ((Rect.unit (s := S1x128) ![0, 0] S1x128.size (by decide)).emb (Shape.reshapeEquiv _ x)) = _
    rw [reshape_row]
    congr 1
    funext b; apply Fin.ext
    rw [Rect.emb_apply]
    match b with
    | 0 => rfl
    | 1 => simp
  rw [he]

theorem tabV_read (f : tab.view.ty.Contents (Elt F)) (x : STab.Idx) : (tabV tab).view.read (Elt F) f x = tab.view.read (Elt F) f x := by
  rw [View.read_apply, View.read_apply]
  have he : (tabV tab).view.emb x = tab.view.emb x := by
    show tab.view.emb ((Rect.unit (s := STab) ![0, 0] STab.size (by decide)).emb x) = _
    congr 1
    funext b; apply Fin.ext
    rw [Rect.emb_apply]
    match b with
    | 0 => simp
    | 1 => simp
  rw [he]

section Steps
variable {α : Type} {O : CellTallies nD τ sig Ix} {W : Waits sig Ix}

theorem issueI {Q : α → sProp 𝕄} {q : PosShare TreeShare} {fi : Buf (Elt F) (ix.view.loc (V d cc ss))} {sm : DmaSem sig} {o : Fin 3 → ℕ} {h : InI o} {ob : Fin 2 → ℕ} {hb : InX ob} {hsrc hdst hsem}
    {k : PUnit → Prog (TpuEff nD τ sig (Elt F) Λ (V d cc ss).2) α} :
    (iprop(SlotI₀ d cc ss al o h ∗ (ix.view.loc (V d cc ss) ↦{q} fi) ∗ semVal (V d cc ss, .dma sm) 0) : sProp 𝕄)
      ⊢ iprop((FlI ι d cc ss ix al q fi sm o h ob hb -∗ wp frame (wpE defs 𝒱 (V d cc ss) bd) Set.univ (k ⟨⟩) Q)
        -∗ wp frame (wpE defs 𝒱 (V d cc ss) bd) Set.univ
          (.op (.enqueueDma (p := (V d cc ss).2) (blkI ix ob hb) (.here (slotI al o h)) (.dma sm) hsrc hdst hsem) k) Q) := by
  unfold SlotI₀ FlI
  iintro ⟨⟨%f, Hs⟩, Hi, Hv⟩ Hk
  ihave Hi' := (pointsTo_split_subset (q := q) (f := fi) (S := Finset.univ) (Finset.subset_univ (blkI ix ob hb).view.set)).1 $$ Hi
  icases Hi' with ⟨Hb, Hr⟩
  iapply (wp_dmaLocal countersEmb 𝒱 (V d cc ss) bd ι (slotI al o h).view.dmaCredit rfl (View.dmaCredit_pos _ (by decide)) (Finset.Subset.refl _)) $$ [Hs Hb Hv]
  · isplitl [Hb]; · iexact Hb
    isplitl [Hs]; · iexact Hs
    iexact Hv
  iintro Hf
  iapply Hk
  isplitl [Hf]
  · iapply (Flight_mono ?_) $$ Hf
    unfold SlotI
    iintro ⟨Hs, Hb⟩
    isplitl [Hs]
    · iexists ((slotI al o h).view.write (Elt F) f ((blkI ix ob hb).view.read (Elt F) fi) Finset.univ); isplitr
      · ipureintro; exact View.read_write_univ _ _
      · iexact Hs
    · iexact Hb
  · iexact Hr

theorem waitI {Q : α → sProp 𝕄} {q : PosShare TreeShare} {fi : Buf (Elt F) (ix.view.loc (V d cc ss))} {sm : DmaSem sig} {o : Fin 3 → ℕ} {h : InI o} {ob : Fin 2 → ℕ} {hb : InX ob}
    {o' : Fin 3 → ℕ} {h' : InI o'} {s' : Shape} {e' : EltTy} {sp' : Space} {srcw : Memref sig .scVector sp' s' e'} {hsrc hdst}
    {k : PUnit → Prog (TpuEff nD τ sig (Elt F) Λ (V d cc ss).2) α} :
    (iprop(FlI ι d cc ss ix al q fi sm o h ob hb ∗ Ow ι (V d cc ss) O W ∗ MayWaits (V d cc ss) ι O) : sProp 𝕄)
      ⊢ iprop((iprop(SlotI d cc ss al o h ((blkI ix ob hb).view.read (Elt F) fi) ∗ (ix.view.loc (V d cc ss) ↦{q} fi)
            ∗ semVal (V d cc ss, .dma sm) 0 ∗ Ow ι (V d cc ss) O W) -∗ wp frame (wpE defs 𝒱 (V d cc ss) bd) Set.univ (k ⟨⟩) Q)
        -∗ wp frame (wpE defs 𝒱 (V d cc ss) bd) Set.univ
          (.op (.waitDma2 (p := (V d cc ss).2) sm srcw (slotI al o' h') hsrc hdst) k) Q) := by
  unfold FlI Ow
  iintro ⟨⟨Hf, Hr⟩, ⟨%W', %hW', HO⟩, Hmw⟩ Hk
  ihave Hm := (MayWaits.elim (.dma sm)) $$ Hmw
  iapply (wp_waitLocalO countersEmb 𝒱 (V d cc ss) bd (srcw := srcw) (dstw := slotI al o' h') (hsrc := hsrc) (hdst := hdst) ι (N := (slotI al o h).view.dmaCredit) rfl) $$ [Hf HO Hm]
  · isplitl [Hf]; · iexact Hf
    isplitl [HO]; · iexact HO
    iexact Hm
  iintro ⟨⟨Hs, Hb⟩, Hv, HO⟩
  iapply Hk
  isplitl [Hs]; · iexact Hs
  isplitl [Hb Hr]
  · iapply (pointsTo_split_subset (q := q) (f := fi) (S := Finset.univ) (Finset.subset_univ (blkI ix ob hb).view.set)).2
    isplitl [Hb]; · iexact Hb
    iexact Hr
  isplitl [Hv]; · iexact Hv
  iexists (insert (SemLoc.dma sm, ι) W')
  isplitr
  · ipureintro
    intro p hp
    rcases Finset.mem_insert.mp hp with rfl | hp
    · exact .inr rfl
    · exact hW' p hp
  · iexact HO

theorem issueO {Q : α → sProp 𝕄} {w : S128x128.Idx → Elt F .f32} {sm : DmaSem sig} {o : Fin 3 → ℕ} {h : InO o} {ob : Fin 2 → ℕ} {hb : InR r ob} {hsrc hdst hsem}
    {k : PUnit → Prog (TpuEff nD τ sig (Elt F) Λ (V d cc ss).2) α} :
    (iprop(SlotO d cc ss ab o h w ∗ BlkO₀ d cc ss out ob hb ∗ semVal (V d cc ss, .dma sm) 0) : sProp 𝕄)
      ⊢ iprop((FlO ι d cc ss out ab sm o h ob hb w -∗ wp frame (wpE defs 𝒱 (V d cc ss) bd) Set.univ (k ⟨⟩) Q)
        -∗ wp frame (wpE defs 𝒱 (V d cc ss) bd) Set.univ
          (.op (.enqueueDma (p := (V d cc ss).2) (slotO ab o h) (.here (blkO out ob hb)) (.dma sm) hsrc hdst hsem) k) Q) := by
  unfold SlotO BlkO₀ FlO
  iintro ⟨⟨%f, %hf, Hs⟩, ⟨%fb, Hb⟩, Hv⟩ Hk
  iapply (wp_dmaLocal countersEmb 𝒱 (V d cc ss) bd ι (blkO out ob hb).view.dmaCredit rfl (View.dmaCredit_pos _ (by decide)) (Finset.Subset.refl _)) $$ [Hs Hb Hv]
  · isplitl [Hs]; · iexact Hs
    isplitl [Hb]; · iexact Hb
    iexact Hv
  iintro Hf
  iapply Hk
  iapply (Flight_mono ?_) $$ Hf
  unfold BlkO SlotO₀
  iintro ⟨Hb, Hs⟩
  isplitl [Hb]
  · iexists ((blkO out ob hb).view.write (Elt F) fb ((slotO ab o h).view.read (Elt F) f) Finset.univ); isplitr
    · ipureintro; exact (View.read_write_univ _ _).trans hf
    · iexact Hb
  · iexists f; iexact Hs

theorem waitO {Q : α → sProp 𝕄} {w : S128x128.Idx → Elt F .f32} {sm : DmaSem sig} {o : Fin 3 → ℕ} {h : InO o} {ob : Fin 2 → ℕ} {hb : InR r ob}
    {o' : Fin 2 → ℕ} {h' : InR r o'} {s' : Shape} {e' : EltTy} {sp' : Space} {srcw : Memref sig .scVector sp' s' e'} {hsrc hdst}
    {k : PUnit → Prog (TpuEff nD τ sig (Elt F) Λ (V d cc ss).2) α} :
    (iprop(FlO ι d cc ss out ab sm o h ob hb w ∗ Ow ι (V d cc ss) O W ∗ MayWaits (V d cc ss) ι O) : sProp 𝕄)
      ⊢ iprop((iprop(BlkO d cc ss out ob hb w ∗ SlotO₀ d cc ss ab o h ∗ semVal (V d cc ss, .dma sm) 0 ∗ Ow ι (V d cc ss) O W)
          -∗ wp frame (wpE defs 𝒱 (V d cc ss) bd) Set.univ (k ⟨⟩) Q)
        -∗ wp frame (wpE defs 𝒱 (V d cc ss) bd) Set.univ
          (.op (.waitDma2 (p := (V d cc ss).2) sm srcw (blkO out o' h') hsrc hdst) k) Q) := by
  unfold FlO Ow
  iintro ⟨Hf, ⟨%W', %hW', HO⟩, Hmw⟩ Hk
  ihave Hm := (MayWaits.elim (.dma sm)) $$ Hmw
  iapply (wp_waitLocalO countersEmb 𝒱 (V d cc ss) bd (srcw := srcw) (dstw := blkO out o' h') (hsrc := hsrc) (hdst := hdst) ι (N := (blkO out ob hb).view.dmaCredit) rfl) $$ [Hf HO Hm]
  · isplitl [Hf]; · iexact Hf
    isplitl [HO]; · iexact HO
    iexact Hm
  iintro ⟨⟨Hb, Hs⟩, Hv, HO⟩
  iapply Hk
  isplitl [Hb]; · iexact Hb
  isplitl [Hs]; · iexact Hs
  isplitl [Hv]; · iexact Hv
  iexists (insert (SemLoc.dma sm, ι) W')
  isplitr
  · ipureintro
    intro p hp
    rcases Finset.mem_insert.mp hp with rfl | hp
    · exact .inr rfl
    · exact hW' p hp
  · iexact HO

theorem gatherStart {Q : α → sProp 𝕄} {qt : PosShare TreeShare} {ft : Buf (Elt F) (tab.view.loc (V d cc ss))} {w : S1x128.Idx → Elt F .i32} {sm : DmaSem sig}
    {oi : Fin 3 → ℕ} {hi : InI oi} {oo : Fin 3 → ℕ} {ho : InO oo} {hp hn hsrc he hsp hr}
    (hw : ∀ x, (w x).toNat < 100000)
    (hcr : ∀ s' : Shape, sig.dmaCredit .scVector (Kind.scVector.table .vmem) (slotO ab oo ho).view.buf s' .f32 = s'.numel * (EltTy.f32 : EltTy).bits)
    {k : PUnit → Prog (TpuEff nD τ sig (Elt F) Λ (V d cc ss).2) α} :
    (iprop(SlotI d cc ss al oi hi w ∗ SlotO₀ d cc ss ab oo ho ∗ (tab.view.loc (V d cc ss) ↦{qt} ft) ∗ semVal (V d cc ss, .dma sm) 0) : sProp 𝕄)
      ⊢ iprop((FlG ι d cc ss tab al ab qt ft sm oi hi oo ho w -∗ wp frame (wpE defs 𝒱 (V d cc ss) bd) Set.univ (k ⟨⟩) Q)
        -∗ wp frame (wpE defs 𝒱 (V d cc ss) bd) Set.univ
          (SparseCore.enqueueIndirectGather (p := (V d cc ss).2) hp (tabV tab) (slotO ab oo ho) gath (listI al oi hi) hn sm hsrc he hsp hr >>= k) Q) := by
  unfold SlotI SlotO₀ FlG
  iintro ⟨⟨%f, %hf, Hs⟩, ⟨%fo, Ho⟩, Ht, Hv⟩ Hk
  ihave Ht' := (pointsTo_split_subset (q := qt) (f := ft) (S := Finset.univ) (Finset.subset_univ (tabV tab).view.set)).1 $$ Ht
  icases Ht' with ⟨Ht, Htr⟩
  ihave Hs' := (pointsTo_split_subset (q := fullShare) (f := f) (listI_set_subset al oi hi)).1 $$ Hs
  icases Hs' with ⟨Hs, Hsr⟩
  have hin : ∀ x, ((listI al oi hi).view.read (Elt F) f x).toNat < STab.size gath.axis := by
    intro x; rw [listI_read, hf]; exact hw _
  have hpay : SparseCore.gatherPayload gath ((tabV tab).view.read (Elt F) ft) (SparseCore.rows ((listI al oi hi).view.read (Elt F) f) hn hin)
      = rowsAt (tab.view.read (Elt F) ft) w := by
    funext x
    unfold SparseCore.gatherPayload rowsAt
    rw [tabV_read]
    congr 1
    funext a; apply Fin.ext
    match a with
    | 0 =>
      refine (congrArg Fin.val (Shape.Gathers.idx_axis gath _ x)).trans ?_
      show ((listI al oi hi).view.read (Elt F) f _).toNat = _
      rw [listI_read, hf, Fin.val_ofNat, Nat.mod_eq_of_lt (hw _)]
      congr 3
      funext b
      match b with
      | 0 => rfl
      | 1 =>
        apply Fin.ext
        rw [← Shape.rowMajor_val_one, Equiv.apply_symm_apply]; rfl
    | 1 => exact Shape.Gathers.idx_of_ne gath _ x 1 (by decide)
  iapply (SparseCore.wp_indirectGatherLocal countersEmb 𝒱 (V d cc ss) bd (src := tabV tab) (dst := slotO ab oo ho) (hg := gath) (offs := listI al oi hi) (hn := hn)
    (hp := hp) (hsrc := hsrc) (he := he) (hsp := hsp) (hr := hr) ι (slotO ab oo ho).view.dmaCredit
    (SparseCore.sum_rowCredit_eq_dmaCredit (slotO ab oo ho) gath.axis' hcr) (by decide) hin) $$ [Ht Ho Hs Hv]
  · isplitl [Ht]; · iexact Ht
    isplitl [Ho]; · iexact Ho
    isplitl [Hs]; · iexact Hs
    iexact Hv
  iintro Hf
  iapply Hk
  iexists f
  isplitr; · ipureintro; exact hf
  isplitl [Hf]
  · iapply (Flight_mono ?_) $$ Hf
    unfold SlotO
    iintro ⟨Ho, Ht, Hs⟩
    isplitl [Ho]
    · iexists ((slotO ab oo ho).view.write (Elt F) fo (SparseCore.gatherPayload gath ((tabV tab).view.read (Elt F) ft)
        (SparseCore.rows ((listI al oi hi).view.read (Elt F) f) hn hin)) Finset.univ); isplitr
      · ipureintro; exact (View.read_write_univ _ _).trans hpay
      · iexact Ho
    isplitl [Ht]; · iexact Ht
    iexact Hs
  isplitl [Htr]; · iexact Htr
  iexact Hsr

theorem gatherStart' {Q : PUnit → sProp 𝕄} {qt : PosShare TreeShare} {ft : Buf (Elt F) (tab.view.loc (V d cc ss))} {w : S1x128.Idx → Elt F .i32} {sm : DmaSem sig}
    {oi : Fin 3 → ℕ} {hi : InI oi} {oo : Fin 3 → ℕ} {ho : InO oo} {hp hn hsrc he hsp hr}
    (hw : ∀ x, (w x).toNat < 100000)
    (hcr : ∀ s' : Shape, sig.dmaCredit .scVector (Kind.scVector.table .vmem) ab.view.buf s' .f32 = s'.numel * (EltTy.f32 : EltTy).bits) :
    (iprop(SlotI d cc ss al oi hi w ∗ SlotO₀ d cc ss ab oo ho ∗ (tab.view.loc (V d cc ss) ↦{qt} ft) ∗ semVal (V d cc ss, .dma sm) 0) : sProp 𝕄)
      ⊢ iprop((FlG ι d cc ss tab al ab qt ft sm oi hi oo ho w -∗ Q ⟨⟩)
        -∗ wp frame (wpE defs 𝒱 (V d cc ss) bd) Set.univ
          (SparseCore.enqueueIndirectGather (p := (V d cc ss).2) hp (tabV tab) (slotO ab oo ho) gath (listI al oi hi) hn sm hsrc he hsp hr) Q) := by
  iintro H Hk
  have e := gatherStart 𝒱 bd ι d cc ss tab al ab (defs := defs) (Q := Q) (qt := qt) (ft := ft) (sm := sm) (hi := hi) (oo := oo) (ho := ho) (hp := hp) (hn := hn) (hsrc := hsrc)
    (he := he) (hsp := hsp) (hr := hr) hw hcr (k := fun _ => pure ⟨⟩)
  rw [show ∀ p : Prog (TpuEff nD τ sig (Elt F) Λ (V d cc ss).2) PUnit, (p >>= fun _ => pure ⟨⟩) = p from fun p => bind_pure p] at e
  iapply e $$ H
  iintro Hf
  rw [wp_pure]; imodintro
  iapply Hk
  iexact Hf

theorem gatherWait {Q : α → sProp 𝕄} {qt : PosShare TreeShare} {ft : Buf (Elt F) (tab.view.loc (V d cc ss))} {w : S1x128.Idx → Elt F .i32} {sm : DmaSem sig}
    {oi : Fin 3 → ℕ} {hi : InI oi} {oo : Fin 3 → ℕ} {ho : InO oo}
    {o' : Fin 3 → ℕ} {h' : InO o'} {s' : Shape} {e' : EltTy} {sp' : Space} {srcw : Memref sig .scVector sp' s' e'} {hsrc hdst}
    {k : PUnit → Prog (TpuEff nD τ sig (Elt F) Λ (V d cc ss).2) α} :
    (iprop(FlG ι d cc ss tab al ab qt ft sm oi hi oo ho w ∗ Ow ι (V d cc ss) O W ∗ MayWaits (V d cc ss) ι O) : sProp 𝕄)
      ⊢ iprop((iprop(SlotI d cc ss al oi hi w ∗ SlotO d cc ss ab oo ho (rowsAt (tab.view.read (Elt F) ft) w) ∗ (tab.view.loc (V d cc ss) ↦{qt} ft)
            ∗ semVal (V d cc ss, .dma sm) 0 ∗ Ow ι (V d cc ss) O W)
          -∗ wp frame (wpE defs 𝒱 (V d cc ss) bd) Set.univ (k ⟨⟩) Q)
        -∗ wp frame (wpE defs 𝒱 (V d cc ss) bd) Set.univ
          (.op (.waitDma2 (p := (V d cc ss).2) sm srcw (slotO ab o' h') hsrc hdst) k) Q) := by
  unfold FlG Ow
  iintro ⟨⟨%f, %hf, Hf, Htr, Hsr⟩, ⟨%W', %hW', HO⟩, Hmw⟩ Hk
  ihave Hm := (MayWaits.elim (.dma sm)) $$ Hmw
  iapply (wp_waitLocalO countersEmb 𝒱 (V d cc ss) bd (srcw := srcw) (dstw := slotO ab o' h') (hsrc := hsrc) (hdst := hdst) ι (N := (slotO ab oo ho).view.dmaCredit) rfl) $$ [Hf HO Hm]
  · isplitl [Hf]; · iexact Hf
    isplitl [HO]; · iexact HO
    iexact Hm
  iintro ⟨⟨Ho, Ht, Hs⟩, Hv, HO⟩
  iapply Hk
  isplitl [Hs Hsr]
  · unfold SlotI
    iexists f
    isplitr; · ipureintro; exact hf
    iapply (pointsTo_split_subset (q := fullShare) (f := f) (listI_set_subset al oi hi)).2
    isplitl [Hs]; · iexact Hs
    iexact Hsr
  isplitl [Ho]; · iexact Ho
  isplitl [Ht Htr]
  · iapply (pointsTo_split_subset (q := qt) (f := ft) (S := Finset.univ) (Finset.subset_univ (tabV tab).view.set)).2
    isplitl [Ht]; · iexact Ht
    iexact Htr
  isplitl [Hv]; · iexact Hv
  iexists (insert (SemLoc.dma sm, ι) W')
  isplitr
  · ipureintro
    intro p hp
    rcases Finset.mem_insert.mp hp with rfl | hp
    · exact .inr rfl
    · exact hW' p hp
  · iexact HO

end Steps

/-! ## What the tile holds between its steps -/

section Sums
variable {M : Type} [URA M]
theorem range_last (t : ℕ) (A : ℕ → sProp M) : bigSep (Finset.range (t + 1)) A = iprop(A t ∗ bigSep (Finset.range t) A) := by
  rw [Finset.range_add_one]; exact bigSep_insert Finset.notMem_range_self
theorem Ico_first {a b : ℕ} (h : a < b) (A : ℕ → sProp M) : bigSep (Finset.Ico a b) A = iprop(A a ∗ bigSep (Finset.Ico (a + 1) b) A) := by
  rw [show Finset.Ico a b = insert a (Finset.Ico (a + 1) b) by ext x; simp only [Finset.mem_insert, Finset.mem_Ico]; omega]
  exact bigSep_insert (by simp)
end Sums

section Inv

/-- The offset of step `t`'s slot, of its semaphore, of its index block and of its result block: its slot is `t`'s
    parity, its blocks are numbered from `bi` and `bs` (cut at the array's last block, where no step of the tile goes). -/
abbrev oS (t : ℕ) : Fin 3 → ℕ := ![t % 2, 0, 0]
abbrev oM (t : ℕ) : Fin 1 → ℕ := ![t % 2]
abbrev oX (bi t : ℕ) : Fin 2 → ℕ := ![0, 128 * min (bi + t) 1599]
abbrev oR (r bs t : ℕ) : Fin 2 → ℕ := ![128 * min (bs + t) (r / 128 - 1), 0]

theorem inS (t : ℕ) : InI (oS t) := fun a => match a with
  | 0 => by show t % 2 + 1 ≤ 2; omega
  | 1 => by show 0 + 1 ≤ 1; omega
  | 2 => by show 0 + 128 ≤ 128; omega
theorem inS' (t : ℕ) : InO (oS t) := fun a => match a with
  | 0 => by show t % 2 + 1 ≤ 2; omega
  | 1 => by show 0 + 128 ≤ 128; omega
  | 2 => by show 0 + 128 ≤ 128; omega
theorem inM (t : ℕ) : ∀ a, oM t a + S1.size a ≤ S2.size a := fun a => match a with
  | 0 => by show t % 2 + 1 ≤ 2; omega
theorem inX (bi t : ℕ) : InX (oX bi t) := fun a => match a with
  | 0 => by show 0 + 1 ≤ 1; omega
  | 1 => by show 128 * min (bi + t) 1599 + 128 ≤ 204800; omega
theorem inR (hr : 128 ≤ r) (bs t : ℕ) : InR r (oR r bs t) := fun a => match a with
  | 0 => by show 128 * min (bs + t) (r / 128 - 1) + 128 ≤ r; omega
  | 1 => by show 0 + 128 ≤ 128; omega

abbrev semT (v : DmaSems sig S2) (t : ℕ) : DmaSem sig := semS v (oM t) (inM t)

variable (q : ℕ → PosShare TreeShare) (qt : PosShare TreeShare) (ft : Buf (Elt F) (tab.view.loc (V d cc ss))) (fi : Buf (Elt F) (ix.view.loc (V d cc ss)))
variable (hr : 128 ≤ r) (bs bi n t : ℕ) (O : CellTallies nD τ sig Ix) (W : Waits sig Ix)

/-- The words of step `t`'s index block, and the table's rows at them. -/
def wordsAt : S1x128.Idx → Elt F .i32 := (blkI ix (oX bi t) (inX bi t)).view.read (Elt F) fi
def rowsOf : S128x128.Idx → Elt F .f32 := rowsAt (tab.view.read (Elt F) ft) (wordsAt d cc ss ix fi bi t)

/-- The index slot of parity `t`, idle: its elements, its share of the index array, its semaphore at zero. -/
def IdleI : sProp 𝕄 :=
  iprop(SlotI₀ d cc ss al (oS t) (inS t) ∗ (ix.view.loc (V d cc ss) ↦{q (t % 2)} fi) ∗ semVal (V d cc ss, .dma (semT vi t)) 0)
/-- The index slot of parity `t` while step `t`'s copy into it is in flight. -/
def BusyI : sProp 𝕄 := FlI ι d cc ss ix al (q (t % 2)) fi (semT vi t) (oS t) (inS t) (oX bi t) (inX bi t)
/-- The row slot of parity `t`, idle. -/
def IdleO : sProp 𝕄 := iprop(SlotO₀ d cc ss ab (oS t) (inS' t) ∗ semVal (V d cc ss, .dma (semT vo t)) 0)
/-- The row slot of parity `t` while step `t`'s copy out of it is in flight. -/
def BusyO : sProp 𝕄 := FlO ι d cc ss out ab (semT vo t) (oS t) (inS' t) (oR r bs t) (inR hr bs t) (rowsOf d cc ss tab ix ft fi bi t)
/-- Step `t`'s block of the result, written, and not. -/
def Done : sProp 𝕄 := BlkO d cc ss out (oR r bs t) (inR hr bs t) (rowsOf d cc ss tab ix ft fi bi t)
def Todo : sProp 𝕄 := BlkO₀ d cc ss out (oR r bs t) (inR hr bs t)

theorem IdleI_add_two : (IdleI d cc ss ix al vi q fi (t + 2) : sProp 𝕄) = IdleI d cc ss ix al vi q fi t := by
  have e : (t + 2) % 2 = t % 2 := by omega
  unfold IdleI; simp only [oS, oM, semT, e]
theorem IdleO_add_two : (IdleO (F := F) d cc ss ab vo (t + 2) : sProp 𝕄) = IdleO d cc ss ab vo t := by
  have e : (t + 2) % 2 = t % 2 := by omega
  unfold IdleO; simp only [oS, oM, semT, e]

/-- The index slot whose copy step `t` waits for: in flight while there is a step `t`. -/
def StI : sProp 𝕄 := if t < n then BusyI ι d cc ss ix al vi q fi bi t else IdleI d cc ss ix al vi q fi t
/-- The row slot of the other parity than step `t`'s: in flight from step `t - 1`, if there was one. -/
def StO : ℕ → sProp 𝕄
  | 0 => IdleO d cc ss ab vo 1
  | t + 1 => BusyO ι d cc ss tab ix out ab vo ft fi hr bs bi t

theorem StI_pos (ht : t < n) : (StI ι d cc ss ix al vi q fi bi n t : sProp 𝕄) = BusyI ι d cc ss ix al vi q fi bi t := if_pos ht
theorem StI_neg (ht : ¬ t < n) : (StI ι d cc ss ix al vi q fi bi n t : sProp 𝕄) = IdleI d cc ss ix al vi q fi t := if_neg ht
theorem StO_zero : (StO ι d cc ss tab ix out ab vo ft fi hr bs bi 0 : sProp 𝕄) = IdleO d cc ss ab vo 1 := rfl

/-- The tile before step `t` of its `n`. -/
def Inv : sProp 𝕄 :=
  iprop(StI ι d cc ss ix al vi q fi bi n t ∗ IdleI d cc ss ix al vi q fi (t + 1)
    ∗ StO ι d cc ss tab ix out ab vo ft fi hr bs bi t ∗ IdleO d cc ss ab vo t
    ∗ bigSep (Finset.range (t - 1)) (Done d cc ss tab ix out ft fi hr bs bi)
    ∗ bigSep (Finset.Ico t n) (Todo d cc ss out hr bs)
    ∗ (tab.view.loc (V d cc ss) ↦{qt} ft) ∗ semVal (V d cc ss, .dma vg.sem) 0
    ∗ Ow ι (V d cc ss) O W)

variable {α : Type} {bd}
theorem stepA {Q : PUnit → sProp 𝕄} {c3 : BitVec 1} {o4 : Fin 3 → ℕ} {o5 : Fin 2 → ℕ} {o6 : Fin 1 → ℕ} (h3 : c3 = 1#1 ↔ t < n) (e4 : o4 = oS t) (e5 : t < n → o5 = oX bi t) (e6 : o6 = oM t)
    {i4 : c3 = 1#1 → InI o4} {i5 : c3 = 1#1 → InX o5} {i6 : c3 = 1#1 → ∀ a, o6 a + S1.size a ≤ S2.size a} :
    (IdleI d cc ss ix al vi q fi t : sProp 𝕄)
      ⊢ iprop((StI ι d cc ss ix al vi q fi bi n t -∗ Q ⟨⟩) -∗ wp frame (wpE defs 𝒱 (V d cc ss) bd) Set.univ
        (if h : c3 = 1#1 then Prog.lift (TpuEff.enqueueDma (p := (V d cc ss).2) (blkI ix o5 (i5 h)) (.here (slotI al o4 (i4 h))) (.dma (semS vi o6 (i6 h)))
          (View.wordExact_bits rfl) ((View.wordExact_bits rfl).reshape _ _) ⟨Or.inl rfl, trivial⟩) else pure ⟨⟩) Q) := by
  subst e4 e6
  by_cases h : t < n
  · have hc := h3.mpr h
    rw [dif_pos hc]
    obtain rfl := e5 h
    unfold StI IdleI BusyI
    rw [if_pos h]
    iintro ⟨Hs, Hi, Hv⟩ Hk
    iapply (issueI 𝒱 bd ι d cc ss ix al) $$ [Hs Hi Hv]
    · isplitl [Hs]; · iexact Hs
      isplitl [Hi]; · iexact Hi
      iexact Hv
    iintro Hf
    rw [wp_ret]; imodintro
    iapply Hk
    iexact Hf
  · have hc : ¬ c3 = 1#1 := fun e => h (h3.mp e)
    rw [dif_neg hc]
    unfold StI
    rw [if_neg h]
    iintro HI Hk
    rw [wp_pure]; imodintro
    iapply Hk
    iexact HI

theorem stepE {Q : PUnit → sProp 𝕄} {c9 : BitVec 1} {o16 : Fin 2 → ℕ} {o15 : Fin 3 → ℕ} {o17 : Fin 1 → ℕ} (h9 : c9 = 1#1 ↔ 0 < t) (e17 : 0 < t → o17 = oM (t - 1))
    {i15 : c9 = 1#1 → InO o15} {i16 : c9 = 1#1 → InR r o16} {i17 : c9 = 1#1 → ∀ a, o17 a + S1.size a ≤ S2.size a} :
    (iprop(StO ι d cc ss tab ix out ab vo ft fi hr bs bi t ∗ bigSep (Finset.range (t - 1)) (Done d cc ss tab ix out ft fi hr bs bi)
        ∗ Ow ι (V d cc ss) O W ∗ MayWaits (V d cc ss) ι O) : sProp 𝕄)
      ⊢ iprop((iprop(IdleO d cc ss ab vo (t + 1) ∗ bigSep (Finset.range t) (Done d cc ss tab ix out ft fi hr bs bi)
        ∗ Ow ι (V d cc ss) O W) -∗ Q ⟨⟩) -∗ wp frame (wpE defs 𝒱 (V d cc ss) bd) Set.univ
        (if h : c9 = 1#1 then Prog.lift (TpuEff.waitDma2 (p := (V d cc ss).2) (semS vo o17 (i17 h)) (slotO ab o15 (i15 h)) (blkO out o16 (i16 h))
          ((View.wordExact_bits rfl).reshape _ _) (View.wordExact_bits rfl)) else pure ⟨⟩) Q) := by
  cases t with
  | zero =>
    have hc : ¬ c9 = 1#1 := fun e => absurd (h9.mp e) (by omega)
    rw [dif_neg hc]
    iintro ⟨HS, HD, HW, -⟩ Hk
    rw [wp_pure]; imodintro
    iapply Hk
    isplitl [HS]; · iapply (Entails.of_eq (StO_zero ι d cc ss tab ix out ab vo ft fi hr bs bi)) $$ HS
    isplitl [HD]; · iexact HD
    iexact HW
  | succ t =>
    have hc := h9.mpr (Nat.succ_pos t)
    rw [dif_pos hc]
    obtain rfl := e17 (Nat.succ_pos t)
    unfold StO BusyO
    iintro ⟨HS, HD, HW, Hmw⟩ Hk
    iapply (waitO 𝒱 bd ι d cc ss out ab (O := O) (W := W)) $$ [HS HW Hmw]
    · isplitl [HS]; · iexact HS
      isplitl [HW]; · iexact HW
      iexact Hmw
    iintro ⟨Hb, Hs, Hv, HW⟩
    rw [wp_ret]; imodintro
    iapply Hk
    isplitl [Hs Hv]
    · rw [IdleO_add_two]; unfold IdleO
      isplitl [Hs]; · iexact Hs
      iexact Hv
    isplitl [HD Hb]
    · iapply (Entails.of_eq (range_last t _).symm)
      isplitl [Hb]; · unfold Done; iexact Hb
      iexact HD
    iexact HW

set_option maxHeartbeats 4000000 in
/-- One step: the next index block's copy is issued, this step's waited for, its rows gathered, their copy to the
    result issued, and the previous step's waited for. -/
theorem trip {c3 c4 c7 c9 : BitVec 1} {o4 o7 o10 o11 o11' o12 o15 : Fin 3 → ℕ} {o5 o8 o13 o16 : Fin 2 → ℕ} {o6 o9' o14 o17 : Fin 1 → ℕ} {R : sProp 𝕄}
    (ht : t < n)
    (hw : ∀ t x, (wordsAt d cc ss ix fi bi t x).toNat < 100000)
    (hcr : ∀ s' : Shape, sig.dmaCredit .scVector (Kind.scVector.table .vmem) ab.view.buf s' .f32 = s'.numel * (EltTy.f32 : EltTy).bits)
    (h3 : c3 = 1#1 ↔ t + 1 < n) (h4 : c4 = 1#1) (h7 : c7 = 1#1) (h9 : c9 = 1#1 ↔ 0 < t)
    (e4 : o4 = oS (t + 1)) (e5 : t + 1 < n → o5 = oX bi (t + 1)) (e6 : o6 = oM (t + 1)) (e9' : o9' = oM t)
    (e10 : o10 = oS t) (e11 : o11 = oS t) (e12 : o12 = oS t) (e13 : o13 = oR r bs t) (e14 : o14 = oM t)
    (e17 : 0 < t → o17 = oM (t - 1))
    {i4 : c3 = 1#1 → InI o4} {i5 : c3 = 1#1 → InX o5} {i6 : c3 = 1#1 → ∀ a, o6 a + S1.size a ≤ S2.size a}
    {i7 : c4 = 1#1 → InI o7} {i8 : c4 = 1#1 → InX o8} {i9' : c4 = 1#1 → ∀ a, o9' a + S1.size a ≤ S2.size a}
    {i10 : InO o10} {i11 : InI o11} {g1 g2 g3 g4 g5 g6}
    {s' : Shape} {e' : EltTy} {sp' : Space} {srcw : Memref sig .scVector sp' s' e'} {i11' : InO o11'} {p6 p7}
    {i12 : c7 = 1#1 → InO o12} {i13 : c7 = 1#1 → InR r o13} {i14 : c7 = 1#1 → ∀ a, o14 a + S1.size a ≤ S2.size a}
    {i15 : c9 = 1#1 → InO o15} {i16 : c9 = 1#1 → InR r o16} {i17 : c9 = 1#1 → ∀ a, o17 a + S1.size a ≤ S2.size a}
    (hR : Inv ι d cc ss tab ix out al ab vi vo vg q qt ft fi hr bs bi n (t + 1) O W ⊢ R) :
    (iprop(Inv ι d cc ss tab ix out al ab vi vo vg q qt ft fi hr bs bi n t O W ∗ MayWaits (V d cc ss) ι O) : sProp 𝕄)
      ⊢ wp frame (wpE defs 𝒱 (V d cc ss) bd) Set.univ
        (if h : c3 = 1#1 then Prog.lift (TpuEff.enqueueDma (p := (V d cc ss).2) (blkI ix o5 (i5 h)) (.here (slotI al o4 (i4 h))) (.dma (semS vi o6 (i6 h))) (View.wordExact_bits rfl) ((View.wordExact_bits rfl).reshape _ _) ⟨Or.inl rfl, trivial⟩) else pure ⟨⟩) fun _ =>
        wp frame (wpE defs 𝒱 (V d cc ss) bd) Set.univ
        (if h : c4 = 1#1 then Prog.lift (TpuEff.waitDma2 (p := (V d cc ss).2) (semS vi o9' (i9' h)) (blkI ix o8 (i8 h)) (slotI al o7 (i7 h)) (View.wordExact_bits rfl) ((View.wordExact_bits rfl).reshape _ _)) else pure ⟨⟩) fun _ =>
        wp frame (wpE defs 𝒱 (V d cc ss) bd) Set.univ
        (SparseCore.enqueueIndirectGather (p := (V d cc ss).2) g1 (tabV tab) (slotO ab o10 i10) gath (listI al o11 i11) g2 vg.sem g3 g4 g5 g6) fun _ =>
        wp frame (wpE defs 𝒱 (V d cc ss) bd) Set.univ
        (SparseCore.waitIndirectGather (p := (V d cc ss).2) vg.sem srcw (slotO ab o11' i11') p6 p7) fun _ =>
        wp frame (wpE defs 𝒱 (V d cc ss) bd) Set.univ
        (if h : c7 = 1#1 then Prog.lift (TpuEff.enqueueDma (p := (V d cc ss).2) (slotO ab o12 (i12 h)) (.here (blkO out o13 (i13 h))) (.dma (semS vo o14 (i14 h))) ((View.wordExact_bits rfl).reshape _ _) (View.wordExact_bits rfl) ⟨Or.inl rfl, trivial⟩) else pure ⟨⟩) fun _ =>
        wp frame (wpE defs 𝒱 (V d cc ss) bd) Set.univ
        (if h : c9 = 1#1 then Prog.lift (TpuEff.waitDma2 (p := (V d cc ss).2) (semS vo o17 (i17 h)) (slotO ab o15 (i15 h)) (blkO out o16 (i16 h)) ((View.wordExact_bits rfl).reshape _ _) (View.wordExact_bits rfl)) else pure ⟨⟩) fun _ => R := by
  subst e4 e6 e9' e10 e11 e12 e13 e14
  rw [dif_pos h4, dif_pos h7]
  iintro ⟨HI, #Hmw⟩
  unfold Inv
  icases HI with ⟨HSI, HI1, HSO, HO, HD, HT, Ht, Hg, HW⟩
  iapply (stepA 𝒱 ι d cc ss ix al vi q fi bi n (t + 1) h3 rfl e5 rfl) $$ HI1
  iintro HI1
  ihave HSI := (Entails.of_eq (StI_pos ι d cc ss ix al vi q fi bi n t ht)) $$ HSI
  iapply (waitI 𝒱 bd ι d cc ss ix al (O := O) (W := W)) $$ [HSI HW]
  · unfold BusyI
    isplitl [HSI]; · iexact HSI
    isplitl [HW]; · iexact HW
    iexact Hmw
  iintro ⟨Hs, Hx, Hv, HW⟩
  unfold IdleO
  icases HO with ⟨Hso, Hvo⟩
  rw [wp_ret]; imodintro
  iapply (gatherStart' 𝒱 bd ι d cc ss tab al ab (hw t) hcr) $$ [Hs Hso Ht Hg]
  · isplitl [Hs]; · iexact Hs
    isplitl [Hso]; · iexact Hso
    isplitl [Ht]; · iexact Ht
    iexact Hg
  iintro HF
  iapply (gatherWait 𝒱 bd ι d cc ss tab al ab (O := O) (W := W)) $$ [HF HW]
  · isplitl [HF]; · iexact HF
    isplitl [HW]; · iexact HW
    iexact Hmw
  iintro ⟨Hs, Hso, Ht, Hg, HW⟩
  rw [wp_ret]; imodintro
  ihave HT := (Entails.of_eq (Ico_first ht (Todo d cc ss out hr bs))) $$ HT
  icases HT with ⟨Hb, HT⟩
  unfold Todo
  iapply (issueO 𝒱 bd ι d cc ss out ab) $$ [Hso Hb Hvo]
  · isplitl [Hso]; · iexact Hso
    isplitl [Hb]; · iexact Hb
    iexact Hvo
  iintro Hf
  rw [wp_ret]; imodintro
  iapply (stepE 𝒱 ι d cc ss tab ix out ab vo ft fi hr bs bi t O W h9 e17) $$ [HSO HD HW]
  · isplitl [HSO]; · iexact HSO
    isplitl [HD]; · iexact HD
    isplitl [HW]; · iexact HW
    iexact Hmw
  iintro ⟨HO, HD, HW⟩
  iapply hR
  unfold Inv
  isplitl [HI1]; · iexact HI1
  isplitl [Hs Hx Hv]
  · rw [IdleI_add_two]; unfold IdleI
    isplitl [Hs]
    · unfold SlotI SlotI₀
      icases Hs with ⟨%f, -, Hs⟩
      iexists f; iexact Hs
    isplitl [Hx]; · iexact Hx
    iexact Hv
  isplitl [Hf]
  · unfold StO BusyO rowsOf; iexact Hf
  isplitl [HO]; · iexact HO
  isplitl [HD]; · iexact HD
  isplitl [HT]; · iexact HT
  isplitl [Ht]; · iexact Ht
  isplitl [Hg]; · iexact Hg
  iexact HW

/-- The tile with nothing of its own in flight. -/
def Idle : sProp 𝕄 :=
  iprop(IdleI d cc ss ix al vi q fi 0 ∗ IdleI d cc ss ix al vi q fi 1 ∗ IdleO d cc ss ab vo 0 ∗ IdleO d cc ss ab vo 1
    ∗ (tab.view.loc (V d cc ss) ↦{qt} ft) ∗ semVal (V d cc ss, .dma vg.sem) 0 ∗ Ow ι (V d cc ss) O W)

/-- Before the first step: its index block's copy is issued. -/
theorem start {Q : PUnit → sProp 𝕄} {c2 : BitVec 1} {o1 : Fin 3 → ℕ} {o2 : Fin 2 → ℕ} {o3 : Fin 1 → ℕ} (hn : 0 < n) (h2 : c2 = 1#1)
    (e1 : o1 = oS 0) (e2 : o2 = oX bi 0) (e3 : o3 = oM 0)
    {i1 : c2 = 1#1 → InI o1} {i2 : c2 = 1#1 → InX o2} {i3 : c2 = 1#1 → ∀ a, o3 a + S1.size a ≤ S2.size a} :
    (iprop(Idle ι d cc ss tab ix al ab vi vo vg q qt ft fi O W ∗ bigSep (Finset.range n) (Todo d cc ss out hr bs)) : sProp 𝕄)
      ⊢ iprop((Inv ι d cc ss tab ix out al ab vi vo vg q qt ft fi hr bs bi n 0 O W -∗ Q ⟨⟩) -∗ wp frame (wpE defs 𝒱 (V d cc ss) bd) Set.univ
        (if h : c2 = 1#1 then Prog.lift (TpuEff.enqueueDma (p := (V d cc ss).2) (blkI ix o2 (i2 h)) (.here (slotI al o1 (i1 h))) (.dma (semS vi o3 (i3 h)))
          (View.wordExact_bits rfl) ((View.wordExact_bits rfl).reshape _ _) ⟨Or.inl rfl, trivial⟩) else pure ⟨⟩) Q) := by
  unfold Idle
  iintro ⟨⟨HI0, HI1, HO0, HO1, Ht, Hg, HW⟩, HT⟩ Hk
  iapply (stepA 𝒱 ι d cc ss ix al vi q fi bi n 0 (iff_of_true h2 hn) e1 (fun _ => e2) e3) $$ HI0
  iintro HI0
  iapply Hk
  unfold Inv
  isplitl [HI0]; · iexact HI0
  isplitl [HI1]; · iexact HI1
  isplitl [HO1]; · iapply (Entails.of_eq (StO_zero ι d cc ss tab ix out ab vo ft fi hr bs bi).symm) $$ HO1
  isplitl [HO0]; · iexact HO0
  isplitr; · iempintro
  isplitl [HT]
  · iapply (Entails.of_eq (congrArg (fun S => bigSep S (Todo d cc ss out hr bs)) (Finset.range_eq_Ico n))) $$ HT
  isplitl [Ht]; · iexact Ht
  isplitl [Hg]; · iexact Hg
  iexact HW

theorem IdleI_swap : (iprop(IdleI d cc ss ix al vi q fi n ∗ IdleI d cc ss ix al vi q fi (n + 1)) : sProp 𝕄)
    ⊢ iprop(IdleI d cc ss ix al vi q fi 0 ∗ IdleI d cc ss ix al vi q fi 1) := by
  induction n with
  | zero => exact .rfl
  | succ n ih =>
    refine BIBase.Entails.trans ?_ ih
    rw [show n + 1 + 1 = n + 2 from rfl, IdleI_add_two]
    exact sep_comm.1
theorem IdleO_swap : (iprop(IdleO (F := F) d cc ss ab vo n ∗ IdleO d cc ss ab vo (n + 1)) : sProp 𝕄)
    ⊢ iprop(IdleO d cc ss ab vo 0 ∗ IdleO d cc ss ab vo 1) := by
  induction n with
  | zero => exact .rfl
  | succ n ih =>
    refine BIBase.Entails.trans ?_ ih
    rw [show n + 1 + 1 = n + 2 from rfl, IdleO_add_two]
    exact sep_comm.1

/-- After the last step: its copy to the result is waited for. -/
theorem finish {Q : PUnit → sProp 𝕄} {c9 : BitVec 1} {o16 : Fin 2 → ℕ} {o15 : Fin 3 → ℕ} {o17 : Fin 1 → ℕ} (hn : 0 < n) (h9 : c9 = 1#1) (e17 : o17 = oM (n - 1))
    {i15 : c9 = 1#1 → InO o15} {i16 : c9 = 1#1 → InR r o16} {i17 : c9 = 1#1 → ∀ a, o17 a + S1.size a ≤ S2.size a} :
    (iprop(Inv ι d cc ss tab ix out al ab vi vo vg q qt ft fi hr bs bi n n O W ∗ MayWaits (V d cc ss) ι O) : sProp 𝕄)
      ⊢ iprop((iprop(Idle ι d cc ss tab ix al ab vi vo vg q qt ft fi O W ∗ bigSep (Finset.range n) (Done d cc ss tab ix out ft fi hr bs bi)) -∗ Q ⟨⟩)
        -∗ wp frame (wpE defs 𝒱 (V d cc ss) bd) Set.univ
        (if h : c9 = 1#1 then Prog.lift (TpuEff.waitDma2 (p := (V d cc ss).2) (semS vo o17 (i17 h)) (slotO ab o15 (i15 h)) (blkO out o16 (i16 h))
          ((View.wordExact_bits rfl).reshape _ _) (View.wordExact_bits rfl)) else pure ⟨⟩) Q) := by
  unfold Inv Idle
  iintro ⟨⟨HI0, HI1, HSO, HO, HD, -, Ht, Hg, HW⟩, Hmw⟩ Hk
  iapply (stepE 𝒱 ι d cc ss tab ix out ab vo ft fi hr bs bi n O W (iff_of_true h9 hn) (fun _ => e17)) $$ [HSO HD HW Hmw]
  · isplitl [HSO]; · iexact HSO
    isplitl [HD]; · iexact HD
    isplitl [HW]; · iexact HW
    iexact Hmw
  iintro ⟨HO', HD, HW⟩
  iapply Hk
  ihave HI0 := (Entails.of_eq (StI_neg ι d cc ss ix al vi q fi bi n n (Nat.lt_irrefl n))) $$ HI0
  ihave HI := (IdleI_swap d cc ss ix al vi q fi n) $$ [HI0 HI1]
  · isplitl [HI0]; · iexact HI0
    iexact HI1
  ihave HOO := (IdleO_swap d cc ss ab vo n) $$ [HO HO']
  · isplitl [HO]; · iexact HO
    iexact HO'
  icases HI with ⟨HI0, HI1⟩
  icases HOO with ⟨HO0, HO1⟩
  isplitr [HD]
  · isplitl [HI0]; · iexact HI0
    isplitl [HI1]; · iexact HI1
    isplitl [HO0]; · iexact HO0
    isplitl [HO1]; · iexact HO1
    isplitl [Ht]; · iexact Ht
    isplitl [Hg]; · iexact Hg
    iexact HW
  · iexact HD

/-! ## The two slots are their buffer, the blocks their part of the result -/

theorem rects_I : Disjoint (Rect.unit (s := S2x1x128) (oS 0) S1x1x128.size (inS 0)).set (Rect.unit (s := S2x1x128) (oS 1) S1x1x128.size (inS 1)).set
    ∧ (Rect.unit (s := S2x1x128) (oS 0) S1x1x128.size (inS 0)).set ∪ (Rect.unit (s := S2x1x128) (oS 1) S1x1x128.size (inS 1)).set = Finset.univ := by
  refine ⟨Finset.disjoint_left.mpr fun i h0 h1 => ?_, Finset.eq_univ_of_forall fun i => ?_⟩
  · have a0 : 0 ≤ (i 0 : ℕ) ∧ (i 0 : ℕ) < 0 + 1 := Rect.mem_set_unit.mp h0 0
    have a1 : 1 ≤ (i 0 : ℕ) ∧ (i 0 : ℕ) < 1 + 1 := Rect.mem_set_unit.mp h1 0
    omega
  · have b0 : (i 0 : ℕ) < 2 := (i 0).isLt
    have b1 : (i 1 : ℕ) < 1 := (i 1).isLt
    have b2 : (i 2 : ℕ) < 128 := (i 2).isLt
    rw [Finset.mem_union, Rect.mem_set_unit, Rect.mem_set_unit]
    rcases Nat.lt_or_ge (i 0 : ℕ) 1 with h | h
    · left; intro a; match a with
      | 0 => show 0 ≤ (i 0 : ℕ) ∧ (i 0 : ℕ) < 0 + 1; omega
      | 1 => show 0 ≤ (i 1 : ℕ) ∧ (i 1 : ℕ) < 0 + 1; omega
      | 2 => show 0 ≤ (i 2 : ℕ) ∧ (i 2 : ℕ) < 0 + 128; omega
    · right; intro a; match a with
      | 0 => show 1 ≤ (i 0 : ℕ) ∧ (i 0 : ℕ) < 1 + 1; omega
      | 1 => show 0 ≤ (i 1 : ℕ) ∧ (i 1 : ℕ) < 0 + 1; omega
      | 2 => show 0 ≤ (i 2 : ℕ) ∧ (i 2 : ℕ) < 0 + 128; omega

theorem slots_I (hv : al.view.set = Finset.univ) :
    Disjoint (slotI al (oS 0) (inS 0)).view.set (slotI al (oS 1) (inS 1)).view.set
      ∧ (slotI al (oS 0) (inS 0)).view.set ∪ (slotI al (oS 1) (inS 1)).view.set = Finset.univ := by
  have e : ∀ t, (slotI al (oS t) (inS t)).view.set = (Rect.unit (s := S2x1x128) (oS t) S1x1x128.size (inS t)).set.map al.view.emb := by
    intro t
    show ((al.view.slice _).reshape S1x128 _).set = _
    rw [View.set_reshape, View.set_slice]
  rw [e 0, e 1]
  refine ⟨(Finset.disjoint_map _).mpr rects_I.1, ?_⟩
  rw [← Finset.map_union, rects_I.2]
  exact hv

theorem rects_O : Disjoint (Rect.unit (s := S2x128x128) (oS 0) S1x128x128.size (inS' 0)).set (Rect.unit (s := S2x128x128) (oS 1) S1x128x128.size (inS' 1)).set
    ∧ (Rect.unit (s := S2x128x128) (oS 0) S1x128x128.size (inS' 0)).set ∪ (Rect.unit (s := S2x128x128) (oS 1) S1x128x128.size (inS' 1)).set = Finset.univ := by
  refine ⟨Finset.disjoint_left.mpr fun i h0 h1 => ?_, Finset.eq_univ_of_forall fun i => ?_⟩
  · have a0 : 0 ≤ (i 0 : ℕ) ∧ (i 0 : ℕ) < 0 + 1 := Rect.mem_set_unit.mp h0 0
    have a1 : 1 ≤ (i 0 : ℕ) ∧ (i 0 : ℕ) < 1 + 1 := Rect.mem_set_unit.mp h1 0
    omega
  · have b0 : (i 0 : ℕ) < 2 := (i 0).isLt
    have b1 : (i 1 : ℕ) < 128 := (i 1).isLt
    have b2 : (i 2 : ℕ) < 128 := (i 2).isLt
    rw [Finset.mem_union, Rect.mem_set_unit, Rect.mem_set_unit]
    rcases Nat.lt_or_ge (i 0 : ℕ) 1 with h | h
    · left; intro a; match a with
      | 0 => show 0 ≤ (i 0 : ℕ) ∧ (i 0 : ℕ) < 0 + 1; omega
      | 1 => show 0 ≤ (i 1 : ℕ) ∧ (i 1 : ℕ) < 0 + 128; omega
      | 2 => show 0 ≤ (i 2 : ℕ) ∧ (i 2 : ℕ) < 0 + 128; omega
    · right; intro a; match a with
      | 0 => show 1 ≤ (i 0 : ℕ) ∧ (i 0 : ℕ) < 1 + 1; omega
      | 1 => show 0 ≤ (i 1 : ℕ) ∧ (i 1 : ℕ) < 0 + 128; omega
      | 2 => show 0 ≤ (i 2 : ℕ) ∧ (i 2 : ℕ) < 0 + 128; omega

theorem slots_O (hv : ab.view.set = Finset.univ) :
    Disjoint (slotO ab (oS 0) (inS' 0)).view.set (slotO ab (oS 1) (inS' 1)).view.set
      ∧ (slotO ab (oS 0) (inS' 0)).view.set ∪ (slotO ab (oS 1) (inS' 1)).view.set = Finset.univ := by
  have e : ∀ t, (slotO ab (oS t) (inS' t)).view.set = (Rect.unit (s := S2x128x128) (oS t) S1x128x128.size (inS' t)).set.map ab.view.emb := by
    intro t
    show ((ab.view.slice _).reshape S128x128 _).set = _
    rw [View.set_reshape, View.set_slice]
  rw [e 0, e 1]
  refine ⟨(Finset.disjoint_map _).mpr rects_O.1, ?_⟩
  rw [← Finset.map_union, rects_O.2]
  exact hv

theorem two_sets {ℓ : Loc nD τ sig} {A B : Finset (Idx ℓ)} (h : Disjoint A B ∧ A ∪ B = Finset.univ) :
    (iprop(∃ f, ℓ ↦{fullShare} f) : sProp 𝕄) ⊣⊢ iprop((∃ f : Buf (Elt F) ℓ, ℓ ↦[A]{fullShare} f) ∗ ∃ f : Buf (Elt F) ℓ, ℓ ↦[B]{fullShare} f) := by
  constructor
  · iintro ⟨%f, H⟩
    rw [← h.2]
    ihave H := (pointsTo_union h.1).1 $$ H
    icases H with ⟨H1, H2⟩
    isplitl [H1]
    · iexists f; iexact H1
    · iexists f; iexact H2
  · iintro ⟨⟨%f, H1⟩, ⟨%g, H2⟩⟩
    iexists (B.piecewise g f)
    rw [← h.2]
    iapply (pointsTo_join h.1)
    isplitl [H1]; · iexact H1
    iexact H2

/-- The tile's own buffers and semaphores, its shares of the table and of the index array, are the tile at rest. -/
theorem Idle_iff (hal : al.view.set = Finset.univ) (hab : ab.view.set = Finset.univ) :
    (Idle ι d cc ss tab ix al ab vi vo vg q qt ft fi O W : sProp 𝕄)
      ⊣⊢ iprop((∃ f : Buf (Elt F) (al.view.loc (V d cc ss)), al.view.loc (V d cc ss) ↦{fullShare} f)
          ∗ (∃ f : Buf (Elt F) (ab.view.loc (V d cc ss)), ab.view.loc (V d cc ss) ↦{fullShare} f)
          ∗ (tab.view.loc (V d cc ss) ↦{qt} ft) ∗ (ix.view.loc (V d cc ss) ↦{q 0} fi) ∗ (ix.view.loc (V d cc ss) ↦{q 1} fi)
          ∗ semVal (V d cc ss, .dma (semT vi 0)) 0 ∗ semVal (V d cc ss, .dma (semT vi 1)) 0
          ∗ semVal (V d cc ss, .dma (semT vo 0)) 0 ∗ semVal (V d cc ss, .dma (semT vo 1)) 0
          ∗ semVal (V d cc ss, .dma vg.sem) 0 ∗ Ow ι (V d cc ss) O W) := by
  unfold Idle IdleI IdleO SlotI₀ SlotO₀
  constructor
  · iintro ⟨⟨Ha0, Hx0, Hi0⟩, ⟨Ha1, Hx1, Hi1⟩, ⟨Hb0, Ho0⟩, ⟨Hb1, Ho1⟩, Ht, Hg, HW⟩
    isplitl [Ha0 Ha1]
    · iapply (two_sets (slots_I al hal)).2
      isplitl [Ha0]; · iexact Ha0
      iexact Ha1
    isplitl [Hb0 Hb1]
    · iapply (two_sets (slots_O ab hab)).2
      isplitl [Hb0]; · iexact Hb0
      iexact Hb1
    isplitl [Ht]; · iexact Ht
    isplitl [Hx0]; · iexact Hx0
    isplitl [Hx1]; · iexact Hx1
    isplitl [Hi0]; · iexact Hi0
    isplitl [Hi1]; · iexact Hi1
    isplitl [Ho0]; · iexact Ho0
    isplitl [Ho1]; · iexact Ho1
    isplitl [Hg]; · iexact Hg
    iexact HW
  · iintro ⟨Ha, Hb, Ht, Hx0, Hx1, Hi0, Hi1, Ho0, Ho1, Hg, HW⟩
    ihave Ha := (two_sets (slots_I al hal)).1 $$ Ha
    ihave Hb := (two_sets (slots_O ab hab)).1 $$ Hb
    icases Ha with ⟨Ha0, Ha1⟩
    icases Hb with ⟨Hb0, Hb1⟩
    isplitl [Ha0 Hx0 Hi0]
    · isplitl [Ha0]; · iexact Ha0
      isplitl [Hx0]; · iexact Hx0
      iexact Hi0
    isplitl [Ha1 Hx1 Hi1]
    · isplitl [Ha1]; · iexact Ha1
      isplitl [Hx1]; · iexact Hx1
      iexact Hi1
    isplitl [Hb0 Ho0]
    · isplitl [Hb0]; · iexact Hb0
      iexact Ho0
    isplitl [Hb1 Ho1]
    · isplitl [Hb1]; · iexact Hb1
      iexact Ho1
    isplitl [Ht]; · iexact Ht
    isplitl [Hg]; · iexact Hg
    iexact HW

/-- The rows of the result the tile writes: its blocks'. -/
def Part : Finset (Idx (out.view.loc (V d cc ss))) := (Finset.range n).biUnion fun t => (blkO out (oR r bs t) (inR hr bs t)).view.set

theorem Part_disjoint (hb : bs + n ≤ r / 128) : ∀ t ∈ Finset.range n, ∀ t' ∈ Finset.range n, t ≠ t' →
    Disjoint (blkO out (oR r bs t) (inR hr bs t)).view.set (blkO out (oR r bs t') (inR hr bs t')).view.set := by
  intro t ht t' ht' hne
  have e : ∀ t, (blkO out (oR r bs t) (inR hr bs t)).view.set = (Rect.unit (s := SOut r) (oR r bs t) S128x128.size (inR hr bs t)).set.map out.view.emb :=
    fun t => View.set_slice _ _
  rw [e t, e t']
  refine (Finset.disjoint_map _).mpr (Finset.disjoint_left.mpr fun i h0 h1 => ?_)
  have a0 : 128 * min (bs + t) (r / 128 - 1) ≤ (i 0 : ℕ) ∧ (i 0 : ℕ) < 128 * min (bs + t) (r / 128 - 1) + 128 := Rect.mem_set_unit.mp h0 0
  have a1 : 128 * min (bs + t') (r / 128 - 1) ≤ (i 0 : ℕ) ∧ (i 0 : ℕ) < 128 * min (bs + t') (r / 128 - 1) + 128 := Rect.mem_set_unit.mp h1 0
  rw [Finset.mem_range] at ht ht'
  omega

theorem Todo_of_part (hb : bs + n ≤ r / 128) (f : Buf (Elt F) (out.view.loc (V d cc ss))) :
    (out.view.loc (V d cc ss) ↦[Part d cc ss out hr bs n]{fullShare} f : sProp 𝕄) ⊢ bigSep (Finset.range n) (Todo d cc ss out hr bs) := by
  unfold Part
  rw [pointsTo_biUnion _ _ (Part_disjoint out hr bs n hb)]
  refine bigSep_mono fun t _ => ?_
  unfold Todo BlkO₀
  change (_ : sProp 𝕄) ⊢ _
  iintro H; iexists f; iexact H

theorem part_of_Done (hb : bs + n ≤ r / 128) (f : Buf (Elt F) (out.view.loc (V d cc ss)))
    (hf : ∀ t < n, (blkO out (oR r bs t) (inR hr bs t)).view.read (Elt F) f = rowsOf d cc ss tab ix ft fi bi t) :
    bigSep (Finset.range n) (Done d cc ss tab ix out ft fi hr bs bi) ⊢ (out.view.loc (V d cc ss) ↦[Part d cc ss out hr bs n]{fullShare} f : sProp 𝕄) := by
  unfold Part
  rw [pointsTo_biUnion _ _ (Part_disjoint out hr bs n hb)]
  refine bigSep_mono fun t ht => ?_
  unfold Done BlkO
  change (_ : sProp 𝕄) ⊢ _
  iintro ⟨%g, %hg, H⟩
  iapply (Entails.of_eq (pointsTo_congr (fun i hi => ?_))) $$ H
  obtain ⟨x, -, rfl⟩ := Finset.mem_map.mp hi
  have e := congrFun (hg.trans (hf t (Finset.mem_range.mp ht)).symm) x
  rw [View.read_apply, View.read_apply] at e
  exact (cast_inj _).mp e

end Inv

/-! ## The workers' shares of the blocks, the words a task carries, its program's branches -/

/-- How many of `32 m + e` blocks worker `w` takes, and its first. -/
def nOf (e m : ℕ) (c : Fin 2) (s : Fin 16) : ℕ := if c.val * 16 + s.val < e then m + 1 else m
def bOf (e m : ℕ) (c : Fin 2) (s : Fin 16) : ℕ := (c.val * 16 + s.val) * m + min (c.val * 16 + s.val) e

/-- Worker `c*16 + s` by its grid point and by its core and subcore. -/
def at0 (c : Fin 2) (s : Fin 16) : (⟨2, ![2, 16], ![false, false]⟩ : Pipeline.Grid).Coords :=
  fun | 0 => c | 1 => s | ⟨_ + 2, h⟩ => absurd h (Nat.not_lt.2 (Nat.le_add_left _ _))
abbrev cc0 (c : Fin 2) (s : Fin 16) : Fin Topo.v7x.nSC := (at0 c s 0).castLE (by decide)
abbrev ss0 (c : Fin 2) (s : Fin 16) : Fin Topo.v7x.nSub := (at0 c s 1).castLE (by decide)

/-- The loop's carried words before step `t`. -/
def accAt (n t : ℕ) : BitVec 32 × BitVec 32 × BitVec 32 × BitVec 32 × BitVec 32 :=
  (BitVec.ofNat 32 (min (t + 1) n), BitVec.ofNat 32 t, BitVec.ofNat 32 t, BitVec.ofNat 32 (t - 1), if t < n then BitVec.ofNat 32 t else 0#32)

/-- The worker's count and first block, as its task computes them. -/
def w3 (c : Fin 2) (s : Fin 16) : BitVec 32 := Scalar.addi (Scalar.addi 0#32 (Scalar.muli (BitVec.ofNat 32 s.val) 1#32)) (Scalar.muli (BitVec.ofNat 32 c.val) 16#32)
abbrev w5 (e m : ℕ) (c : Fin 2) (s : Fin 16) : BitVec 32 :=
  Scalar.select (Scalar.cmpi .slt (w3 c s) (BitVec.ofNat 32 e)) (BitVec.ofNat 32 (m + 1)) (BitVec.ofNat 32 m)
abbrev w10 (e m : ℕ) (c : Fin 2) (s : Fin 16) : BitVec 32 :=
  Scalar.select (Scalar.cmpi .slt (w3 c s) (BitVec.ofNat 32 e)) (Scalar.muli (w3 c s) (w5 e m c s)) (Scalar.addi (Scalar.muli (w3 c s) (BitVec.ofNat 32 m)) (BitVec.ofNat 32 e))

/-- A branch both of whose ends go on the same way. -/
theorem dite_goes_on {M : Type → Type 1} [Monad M] [LawfulMonad M] {α : Type} {p : Prop} [Decidable p] {A : p → M PUnit} {k : M α} :
    (if h : p then (A h >>= fun _ => k) else k) = ((if h : p then A h else pure ⟨⟩) >>= fun _ => k) := by
  split
  · rfl
  · rw [pure_bind]

/-- A check that holds. -/
theorem wp_check (th : Thread nD τ) (bd : Option 𝒱.V) {P : Prop} {dp : Decidable P} (h : P) {Q : PLift P → sProp 𝕄} :
    Q ⟨h⟩ ⊢ wp frame (wpE defs 𝒱 th bd) Set.univ (Prog.lift (TpuEff.assume P dp)) Q := by
  refine BIBase.Entails.trans ?_ (wp_assume 𝒱 th bd Set.univ h)
  rw [wp_ret]
  iintro H; imodintro; iexact H

/-- A counted loop whose carried words are known before each step. -/
theorem loop (th : Thread nD τ) (bd : Option 𝒱.V) {w : ℕ} {σ : Type} (l : Scf.Loop w) (hok : l.OK) (init : σ)
    (body : Fin l.trips → σ → Prog (TpuEff nD τ sig (Elt F) Λ th.2) σ) (n : ℕ) (A : ℕ → σ) (J : ℕ → sProp 𝕄) (M : sProp 𝕄)
    (hl : l.trips = n) (hi : init = A 0)
    (hb : ∀ t : Fin l.trips, iprop(J t.val ∗ M) ⊢ wp frame (wpE defs 𝒱 th bd) Set.univ (body t (A t.val)) fun a => iprop(⌜a = A (t.val + 1)⌝ ∗ J (t.val + 1)))
    (hM : M ⊢ iprop(M ∗ M)) {Q : σ → sProp 𝕄} :
    (iprop((J 0 ∗ M) ∗ (J n -∗ Q (A n))) : sProp 𝕄) ⊢ wp frame (wpE defs 𝒱 th bd) Set.univ (l.for hok init body) Q := by
  subst hl hi
  refine BIBase.Entails.trans ?_ (Scf.wp_for _ _ _ _ _ _ _ _ _ (fun t a => iprop(⌜a = A t⌝ ∗ J t ∗ M)) ?_)
  · iintro ⟨⟨HJ, HM⟩, HQ⟩
    isplitl [HJ HM]
    · isplitr; · ipureintro; rfl
      isplitl [HJ]; · iexact HJ
      iexact HM
    · iintro %a ⟨%ha, HJ, -⟩
      subst ha
      iapply HQ $$ HJ
  · intro t a
    refine BIBase.Entails.trans ?_ (wp_wand_r (Q := fun a => iprop(⌜a = A (t.val + 1)⌝ ∗ J (t.val + 1))) _ _ _)
    iintro ⟨%ha, HJ, HM⟩
    subst ha
    ihave HM := hM $$ HM
    icases HM with ⟨HM, HM'⟩
    isplitl [HJ HM]
    · iapply (hb t) $$ [HJ HM]
      isplitl [HJ]; · iexact HJ
      iexact HM
    · iintro %a ⟨%ha, HJ⟩
      isplitr; · ipureintro; exact ha
      isplitl [HJ]; · iexact HJ
      iexact HM'

end Cert.Proof.Gather
-- ==== Proof.Split.lean ====
/-
  How a gather call's result is dealt to the 32 tiles, by rows: tile `(c, s)` has `128 * nOf` of them from `128 * bOf` on,
  a core the union of its tiles', and the two cores all of them. And what the call leaves there: each row is the table's
  row at the word of the index array that stands `128 * step0` places further on.
-/
module

public import proofs.«01_k».proof.Proof.Gather

@[expose] public section

noncomputable section

namespace Cert.Proof.Gather

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Transfers

variable {nD : Nat} {τ : Topo} {sig : RefSig} {Ix : Type} [DecidableEq Ix] {F : FTy → Type} {U : Type} [URA U] [CountersIn U] {Λ : Labels}

/-! ## The rows -/

/-- The rows of `n` blocks of 128 from block `lo` on. -/
def rowSet (r lo n : ℕ) : Finset (SOut r).Idx := Finset.univ.filter fun i => 128 * lo ≤ (i 0 : ℕ) ∧ (i 0 : ℕ) < 128 * (lo + n)

theorem mem_rowSet {r lo n : ℕ} {i : (SOut r).Idx} : i ∈ rowSet r lo n ↔ 128 * lo ≤ (i 0 : ℕ) ∧ (i 0 : ℕ) < 128 * (lo + n) := by
  unfold rowSet; rw [Finset.mem_filter]; exact and_iff_right (Finset.mem_univ _)

/-- A tile's rows, and a core's. -/
def tileSet (r e m : ℕ) (c : Fin 2) (s : Fin 16) : Finset (SOut r).Idx := rowSet r (bOf e m c s) (nOf e m c s)
def coreSet (r e m : ℕ) (c : Fin 2) : Finset (SOut r).Idx := Finset.univ.biUnion (tileSet r e m c)

/-- The tiles' blocks are apart and are all `32 m + e` blocks. -/
structure Deals (e m : ℕ) : Prop where
  apart : ∀ c s c' s', (c, s) ≠ (c', s') → bOf e m c s + nOf e m c s ≤ bOf e m c' s' ∨ bOf e m c' s' + nOf e m c' s' ≤ bOf e m c s
  all : ∀ k : Fin (32 * m + e), ∃ c s, bOf e m c s ≤ k.val ∧ k.val < bOf e m c s + nOf e m c s
  within : ∀ c s, bOf e m c s + nOf e m c s ≤ 32 * m + e

theorem deals_16_12 : Deals 16 12 := ⟨by decide +kernel, by decide +kernel, by decide +kernel⟩
theorem deals_20_15 : Deals 20 15 := ⟨by decide +kernel, by decide +kernel, by decide +kernel⟩
theorem deals_8_6 : Deals 8 6 := ⟨by decide +kernel, by decide +kernel, by decide +kernel⟩

variable {r e m : ℕ}

theorem tileSet_disjoint (h : Deals e m) {c c' : Fin 2} {s s' : Fin 16} (hne : (c, s) ≠ (c', s')) :
    Disjoint (tileSet r e m c s) (tileSet r e m c' s') := by
  refine Finset.disjoint_left.mpr fun i h0 h1 => ?_
  unfold tileSet at h0 h1
  rw [mem_rowSet] at h0 h1
  have := h.apart c s c' s' hne
  omega

theorem coreSet_disjoint (h : Deals e m) {c c' : Fin 2} (hne : c ≠ c') : Disjoint (coreSet r e m c) (coreSet r e m c') := by
  unfold coreSet
  rw [Finset.disjoint_biUnion_left]
  intro s _
  rw [Finset.disjoint_biUnion_right]
  exact fun s' _ => tileSet_disjoint h fun e => hne (congrArg Prod.fst e)

theorem coreSet_cover (h : Deals e m) (hr : r = 128 * (32 * m + e)) :
    (Finset.univ : Finset (Fin 2)).biUnion (coreSet r e m) = Finset.univ := by
  refine Finset.eq_univ_iff_forall.mpr fun i => ?_
  have hi : (i 0 : ℕ) < r := (i 0).isLt
  obtain ⟨c, s, h0, h1⟩ := h.all ⟨(i 0 : ℕ) / 128, by omega⟩
  refine Finset.mem_biUnion.mpr ⟨c, Finset.mem_univ _, Finset.mem_biUnion.mpr ⟨s, Finset.mem_univ _, ?_⟩⟩
  unfold tileSet; rw [mem_rowSet]
  dsimp only at h0 h1
  omega

local notation "𝕄" => MT nD τ sig Ix (Elt F) ℕ U ℕ

variable (d : Dev nD) (cc : Fin τ.nSC) (ss : Fin τ.nSub)
variable (tab : Memref sig .scVector .hbm STab .f32) (ix : Memref sig .scVector .hbm SIdx .i32) (out : Memref sig .scVector .hbm (SOut r) .f32)

/-- The blocks a tile writes are its rows. -/
theorem Part_eq (h : Deals e m) (hr : r = 128 * (32 * m + e)) (hr' : 128 ≤ r) (c : Fin 2) (s : Fin 16) :
    Part d cc ss out hr' (bOf e m c s) (nOf e m c s) = (tileSet r e m c s).map out.view.emb := by
  have hw := h.within c s
  have es : ∀ t, (blkO out (oR r (bOf e m c s) t) (inR hr' (bOf e m c s) t)).view.set
      = (Rect.unit (s := SOut r) (oR r (bOf e m c s) t) S128x128.size (inR hr' (bOf e m c s) t)).set.map out.view.emb := fun t => View.set_slice _ _
  ext j
  unfold Part tileSet
  simp only [Finset.mem_biUnion, Finset.mem_range, es, Finset.mem_map]
  constructor
  · rintro ⟨t, ht, i, hi, rfl⟩
    refine ⟨i, ?_, rfl⟩
    have a0 : 128 * min (bOf e m c s + t) (r / 128 - 1) ≤ (i 0 : ℕ) ∧ (i 0 : ℕ) < 128 * min (bOf e m c s + t) (r / 128 - 1) + 128 := Rect.mem_set_unit.mp hi 0
    rw [mem_rowSet]
    omega
  · rintro ⟨i, hi, rfl⟩
    rw [mem_rowSet] at hi
    refine ⟨(i 0 : ℕ) / 128 - bOf e m c s, by omega, i, Rect.mem_set_unit.mpr fun a => ?_, rfl⟩
    match a with
    | 0 =>
      show 128 * min (bOf e m c s + ((i 0 : ℕ) / 128 - bOf e m c s)) (r / 128 - 1) ≤ (i 0 : ℕ)
        ∧ (i 0 : ℕ) < 128 * min (bOf e m c s + ((i 0 : ℕ) / 128 - bOf e m c s)) (r / 128 - 1) + 128
      omega
    | 1 => exact ⟨Nat.zero_le _, by simpa using (i 1).isLt⟩

/-! ## The values -/

/-- The word of the index array row `i` of the result is fetched by. -/
def word (fi : SIdx.Idx → Elt F .i32) (st i : ℕ) : Elt F .i32 := fi (fun | 0 => (0 : Fin 1) | 1 => (Fin.ofNat 204800 (128 * st + i) : Fin 204800))

/-- What a gather call leaves: each row is the table's at its word. -/
def gathered (T : STab.Idx → Elt F .f32) (fi : SIdx.Idx → Elt F .i32) (st : ℕ) : (SOut r).Idx → Elt F .f32 := fun i =>
  T (fun | 0 => (Fin.ofNat 100000 (word fi st (i 0)).toNat : Fin 100000) | 1 => i 1)

theorem slice_read {s : Shape} {k : EltTy} {κ : Kind} {sp : Space} (v : Memref sig κ sp s k) (rc : Rect s) (hs) (f : v.view.ty.Contents (Elt F)) (x : rc.shape.Idx) :
    (v.slice rc hs).view.read (Elt F) f x = v.view.read (Elt F) f (rc.emb x) := rfl

theorem blkO_read (h : Deals e m) (hr : r = 128 * (32 * m + e)) (hr' : 128 ≤ r) (c : Fin 2) (s : Fin 16) (st : ℕ) (hst : st + (32 * m + e) ≤ 1600)
    (ft : Buf (Elt F) (tab.view.loc (V d cc ss))) (fi : Buf (Elt F) (ix.view.loc (V d cc ss))) (f : Buf (Elt F) (out.view.loc (V d cc ss)))
    (hf : ∀ i, out.view.read (Elt F) f i = gathered (tab.view.read (Elt F) ft) (ix.view.read (Elt F) fi) st i) :
    ∀ t < nOf e m c s, (blkO out (oR r (bOf e m c s) t) (inR hr' (bOf e m c s) t)).view.read (Elt F) f
      = rowsOf d cc ss tab ix ft fi (st + bOf e m c s) t := by
  intro t ht
  have hw := h.within c s
  funext x
  refine (slice_read out (Rect.unit (s := SOut r) (oR r (bOf e m c s) t) S128x128.size (inR hr' (bOf e m c s) t)) (fun _ => rfl) f x).trans ((hf _).trans ?_)
  unfold rowsOf rowsAt gathered word wordsAt
  rw [slice_read ix]
  have hx : (x 0 : ℕ) < 128 := (x 0).isLt
  congr 1
  funext a
  match a with
  | 0 =>
    show (Fin.ofNat 100000 _ : Fin 100000) = Fin.ofNat 100000 _
    congr 3
    funext b
    match b with
    | 0 => exact Subsingleton.elim (α := Fin 1) _ _
    | 1 =>
      apply Fin.ext
      rw [Rect.emb_apply, Rect.emb_apply]
      show (128 * st + (128 * min (bOf e m c s + t) (r / 128 - 1) + 1 * (x 0 : ℕ))) % 204800 = 128 * min (st + bOf e m c s + t) 1599 + 1 * (x 0 : ℕ)
      omega
  | 1 =>
    apply Fin.ext
    rw [Rect.emb_apply]
    show 0 + 1 * (x 1 : ℕ) = (x 1 : ℕ)
    omega

/-- Every word a tile reads is one of the index array's. -/
theorem wordsAt_lt (fi : Buf (Elt F) (ix.view.loc (V d cc ss))) (h : ∀ j, (ix.view.read (Elt F) fi j).toNat < 100000) (bi t : ℕ) (x : S1x128.Idx) :
    (wordsAt d cc ss ix fi bi t x).toNat < 100000 := by
  unfold wordsAt; rw [slice_read]; exact h _

/-! ## One tile's task, from its run -/

variable (ι : Ix) (al : Memref sig .scVector .vmem S2x1x128 .i32) (ab : Memref sig .scVector .vmem S2x128x128 .f32)
variable (vi vo : DmaSems sig S2) (vg : DmaSems sig S0)
variable {defs : Defs nD τ sig (Elt F) Λ} (𝒱 : Variants)

/-- What the task leaves of its scoped storage beside the five semaphores and the two buffers it uses is `RB` and `RS`. -/
theorem task {Lv SB SS RB RS : sProp 𝕄} {O : CellTallies nD τ sig Ix} {W : Waits sig Ix} (h : Deals e m) (hr : r = 128 * (32 * m + e)) (hr' : 128 ≤ r)
    (c : Fin 2) (s : Fin 16) (st : ℕ) (hst : st + (32 * m + e) ≤ 1600)
    (hLv : Lv ⊢ MayWaits (V d cc ss) ι O) (hal : al.view.set = Finset.univ) (hab : ab.view.set = Finset.univ)
    (hSB : SB = iprop((∃ f : Buf (Elt F) (al.view.loc (V d cc ss)), al.view.loc (V d cc ss) ↦{fullShare} f)
      ∗ (∃ f : Buf (Elt F) (ab.view.loc (V d cc ss)), ab.view.loc (V d cc ss) ↦{fullShare} f) ∗ RB))
    (hSS : SS = iprop(semVal (V d cc ss, .dma (semT vi 0)) 0 ∗ semVal (V d cc ss, .dma (semT vi 1)) 0
          ∗ semVal (V d cc ss, .dma (semT vo 0)) 0 ∗ semVal (V d cc ss, .dma (semT vo 1)) 0
          ∗ semVal (V d cc ss, .dma vg.sem) 0 ∗ RS))
    (qt qx : PosShare TreeShare) (ft : Buf (Elt F) (tab.view.loc (V d cc ss))) (fi : Buf (Elt F) (ix.view.loc (V d cc ss)))
    (fo f : Buf (Elt F) (out.view.loc (V d cc ss)))
    (hf : ∀ i, out.view.read (Elt F) f i = gathered (tab.view.read (Elt F) ft) (ix.view.read (Elt F) fi) st i)
    {p : Prog (TpuEff nD τ sig (Elt F) Λ (.scVector cc ss)) PUnit}
    (hp : ∀ q : ℕ → PosShare TreeShare, (iprop(Idle ι d cc ss tab ix al ab vi vo vg q qt ft fi O W
          ∗ bigSep (Finset.range (nOf e m c s)) (Todo d cc ss out hr' (bOf e m c s)) ∗ MayWaits (V d cc ss) ι O) : sProp 𝕄)
        ⊢ wp frame (wpE defs 𝒱 (V d cc ss) none) Set.univ p
          fun _ => iprop(Idle ι d cc ss tab ix al ab vi vo vg q qt ft fi O W
            ∗ bigSep (Finset.range (nOf e m c s)) (Done d cc ss tab ix out ft fi hr' (bOf e m c s) (st + bOf e m c s)))) :
    (iprop(Lv ∗ emp ∗ ((tab.view.loc (V d cc ss) ↦{qt} ft) ∗ (ix.view.loc (V d cc ss) ↦{qx} fi)
          ∗ out.view.loc (V d cc ss) ↦[(tileSet r e m c s).map out.view.emb]{fullShare} fo)
        ∗ SB ∗ SS ∗ owes (V d cc ss) O W) : sProp 𝕄)
      ⊢ wp frame (wpE defs 𝒱 (V d cc ss) none) Set.univ p
          fun _ => iprop(((tab.view.loc (V d cc ss) ↦{qt} ft) ∗ (ix.view.loc (V d cc ss) ↦{qx} fi)
              ∗ out.view.loc (V d cc ss) ↦[(tileSet r e m c s).map out.view.emb]{fullShare} f)
            ∗ SB ∗ SS ∗ ∃ W', ⌜∀ p ∈ W', p ∈ W ∨ p.2 = ι⌝ ∗ owes (V d cc ss) O W') := by
  have hn : bOf e m c s + nOf e m c s ≤ r / 128 := by have := h.within c s; omega
  have two : ∀ (ℓ : Loc nD τ sig) (g : Buf (Elt F) ℓ), (ℓ ↦{qx} g : sProp 𝕄)
      = iprop((ℓ ↦{dealOf qx (Finset.univ : Finset (Fin 2)) 0} g) ∗ ℓ ↦{dealOf qx (Finset.univ : Finset (Fin 2)) 1} g) := by
    intro ℓ g
    rw [pointsTo_deal (Finset.univ : Finset (Fin 2)) ⟨0, Finset.mem_univ _⟩ qx,
      show (Finset.univ : Finset (Fin 2)) = insert 0 {1} from rfl, SparseCore.bigSep_insert' (by decide), bigSep_singleton]
  rw [hSB, hSS, ← Part_eq d cc ss out h hr hr' c s, two (ix.view.loc (V d cc ss)) fi]
  refine BIBase.Entails.trans ?_ (wp_wand_r (Q := fun _ => iprop(Idle ι d cc ss tab ix al ab vi vo vg (fun t => dealOf qx (Finset.univ : Finset (Fin 2)) (Fin.ofNat 2 t)) qt ft fi O W
            ∗ bigSep (Finset.range (nOf e m c s)) (Done d cc ss tab ix out ft fi hr' (bOf e m c s) (st + bOf e m c s)))) _ _ _)
  iintro ⟨HL, -, ⟨Ht, ⟨Hx0, Hx1⟩, Ho⟩, ⟨Ha, Hb, HB⟩, ⟨S0, S1, S2, S3, S4, HS⟩, HO⟩
  isplitl [HL Ht Hx0 Hx1 Ho Ha Hb S0 S1 S2 S3 S4 HO]
  · iapply (hp fun t => dealOf qx (Finset.univ : Finset (Fin 2)) (Fin.ofNat 2 t))
    isplitl [Ht Hx0 Hx1 Ha Hb S0 S1 S2 S3 S4 HO]
    · iapply (Idle_iff ι d cc ss tab ix al ab vi vo vg _ qt ft fi O W hal hab).2
      isplitl [Ha]; · iexact Ha
      isplitl [Hb]; · iexact Hb
      isplitl [Ht]; · iexact Ht
      isplitl [Hx0]; · iexact Hx0
      isplitl [Hx1]; · iexact Hx1
      isplitl [S0]; · iexact S0
      isplitl [S1]; · iexact S1
      isplitl [S2]; · iexact S2
      isplitl [S3]; · iexact S3
      isplitl [S4]; · iexact S4
      iapply (Ow_intro ι (V d cc ss) O W); iexact HO
    isplitl [Ho]
    · iapply (Todo_of_part d cc ss out hr' (bOf e m c s) (nOf e m c s) hn fo); iexact Ho
    · iapply hLv; iexact HL
  iintro %_ ⟨HI, HD⟩
  ihave HI := (Idle_iff ι d cc ss tab ix al ab vi vo vg (fun t => dealOf qx (Finset.univ : Finset (Fin 2)) (Fin.ofNat 2 t)) qt ft fi O W hal hab).1 $$ HI
  icases HI with ⟨Ha, Hb, Ht, Hx0, Hx1, S0, S1, S2, S3, S4, HO⟩
  isplitl [Ht Hx0 Hx1 HD]
  · isplitl [Ht]; · iexact Ht
    isplitl [Hx0 Hx1]
    · isplitl [Hx0]; · iexact Hx0
      iexact Hx1
    iapply (part_of_Done d cc ss tab ix out ft fi hr' (bOf e m c s) (st + bOf e m c s) (nOf e m c s) hn f
      (blkO_read d cc ss tab ix out h hr hr' c s st hst ft fi f hf)); iexact HD
  isplitl [Ha Hb HB]
  · isplitl [Ha]; · iexact Ha
    isplitl [Hb]; · iexact Hb
    iexact HB
  isplitl [S0 S1 S2 S3 S4 HS]
  · isplitl [S0]; · iexact S0
    isplitl [S1]; · iexact S1
    isplitl [S2]; · iexact S2
    isplitl [S3]; · iexact S3
    isplitl [S4]; · iexact S4
    iexact HS
  unfold Ow
  iexact HO

/-- Five of a family taken out of it. -/
theorem peel5 {M A : Type} [URA M] [DecidableEq A] {s : Finset A} {a b c d e : A} (hnd : [a, b, c, d, e].Nodup) (hm : ∀ x ∈ [a, b, c, d, e], x ∈ s) (Φ : A → sProp M) :
    bigSep s Φ = iprop(Φ a ∗ Φ b ∗ Φ c ∗ Φ d ∗ Φ e ∗ bigSep (((((s.erase a).erase b).erase c).erase d).erase e) Φ) := by
  simp only [List.nodup_cons, List.mem_cons, List.not_mem_nil, or_false, not_or, not_false_eq_true, List.nodup_nil, and_true] at hnd
  obtain ⟨⟨ab, ac, ad, ae⟩, ⟨bc, bd, be⟩, ⟨cd, ce⟩, de⟩ := hnd
  have ha := hm a (by simp); have hb := hm b (by simp); have hc := hm c (by simp); have hd := hm d (by simp); have he := hm e (by simp)
  rw [SparseCore.bigSep_erase' ha, SparseCore.bigSep_erase' (i := b) (by simp [hb, Ne.symm ab]), SparseCore.bigSep_erase' (i := c) (by simp [hc, Ne.symm ac, Ne.symm bc]),
    SparseCore.bigSep_erase' (i := d) (by simp [hd, Ne.symm ad, Ne.symm bd, Ne.symm cd]), SparseCore.bigSep_erase' (i := e) (by simp [he, Ne.symm ae, Ne.symm be, Ne.symm ce, Ne.symm de])]

end Cert.Proof.Gather
-- ==== Proof.Tile0.lean ====
/-
  Gather call 0's task, `KernelIdeal`: its words and offsets in closed form, and its run from the generic gather
  (Gather.lean).
-/
module

public import proofs.«01_k».proof.Defs
public import proofs.«01_k».proof.Proof.Gather
public import proofs.«01_k».proof.Proof.Gen.KernelIdeal
public import proofs.«01_k».proof.Proof.Gen.KernelIdeal.Skeleton
public import Idealize.ShloMosaic.Lib.Pipeline.TableIdle

@[expose] public section

noncomputable section

namespace Cert.Proof.Tile0

open Cert.KernelIdeal Cert.KernelIdeal.Gen
open Cert.Proof
open Cert.Proof.Gather (nOf bOf accAt w5 w10 at0 cc0 ss0 dite_goes_on wp_check)
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type}

theorem trips0 : ∀ (c : Fin 2) (s : Fin 16), (k0_t1_loop (at0 c s)).trips = nOf 16 12 c s ∧ (k0_t2_loop (at0 c s)).trips = 0
    ∧ k0_cond1 (at0 c s) = 1#1 ∧ k0_cond2 (at0 c s) = 1#1 ∧ k0_cond18 (at0 c s) = 1#1
    ∧ k0_off1 = Gather.oS 0 ∧ k0_off2 (at0 c s) = Gather.oX (0 + bOf 16 12 c s) 0 ∧ k0_off3 = Gather.oM 0
    ∧ k0_off34 (accAt (nOf 16 12 c s) (nOf 16 12 c s)).2.2.2.1 = Gather.oM (nOf 16 12 c s - 1) := by
  decide +kernel

theorem words0 : ∀ (c : Fin 2) (s : Fin 16) (t : Fin (k0_t1_loop (at0 c s)).trips),
    let n := nOf 16 12 c s
    let b := bOf 16 12 c s
    let a := accAt n t.val
    (k0_cond3 (at0 c s) t a.2.2.2.2 = 1#1 ↔ t.val + 1 < n) ∧ k0_cond4 (at0 c s) t a.2.2.2.2 = 1#1
    ∧ k0_cond7 (at0 c s) t a.2.2.2.2 = 1#1 ∧ (k0_cond9 (at0 c s) t a.2.2.2.2 = 1#1 ↔ 0 < t.val)
    ∧ k0_off4 a.1 = Gather.oS (t.val + 1) ∧ (t.val + 1 < n → k0_off5 (at0 c s) a.2.2.2.2 = Gather.oX (0 + b) (t.val + 1))
    ∧ k0_off6 a.1 = Gather.oM (t.val + 1) ∧ k0_off9 a.2.1 = Gather.oM t.val ∧ k0_off10 a.2.2.1 = Gather.oS t.val ∧ k0_off11 a.2.1 = Gather.oS t.val
    ∧ k0_off12 a.2.2.1 = Gather.oS t.val ∧ k0_off13 (at0 c s) a.2.2.2.2 = Gather.oR 51200 b t.val ∧ k0_off14 a.2.2.1 = Gather.oM t.val
    ∧ (0 < t.val → k0_off17 a.2.2.2.1 = Gather.oM (t.val - 1)) := by
  decide +kernel

theorem chks0 : ∀ (c : Fin 2) (s : Fin 16) (t : Fin (k0_t1_loop (at0 c s)).trips),
    let a := accAt (nOf 16 12 c s) t.val
    k0_chk3 (at0 c s) a.2.1 ∧ k0_chk2 (at0 c s) a.2.2.1 ∧ k0_chk1 (at0 c s) t a.1 a.2.1 a.2.2.1 a.2.2.2.1 a.2.2.2.2 := by
  decide +kernel

theorem chksEnd0 : ∀ (c : Fin 2) (s : Fin 16),
    let a := accAt (nOf 16 12 c s) (nOf 16 12 c s)
    k0_chk8 (at0 c s) a.2.2.2.2 ∧ k0_chk7 (at0 c s) a.2.2.2.1 := by
  decide +kernel

variable {Ix U : Type} [DecidableEq Ix] [URA U] [CountersIn U] (ι : Ix) (d : Dev nD)
local notation "𝕄" => MT nD τ sig Ix (Elt F) ℕ U ℕ

variable [FloatOps F] [Named F]
variable (tab : Memref sig .scVector .hbm S100000x128 .f32) (htab : tab.IsWhole) (ix : Memref sig .scVector .hbm S1x204800 .i32) (hix : ix.IsWhole)
variable (al : Memref sig .scVector .vmem S2x1x128 .i32) (hal : al.IsWhole) (ab : Memref sig .scVector .vmem S2x128x128 .f32) (hab : ab.IsWhole)
variable (vi vo : DmaSems sig S2) (vg vg' : DmaSems sig S_)

section K0
variable (out : Memref sig .scVector .hbm S51200x128 .f32) (hout : out.IsWhole) (c : Fin 2) (s : Fin 16)
variable (q : ℕ → PosShare TreeShare) (qt : PosShare TreeShare) (ft : Buf (Elt F) (tab.view.loc (V d (cc0 c s) (ss0 c s)))) (fi : Buf (Elt F) (ix.view.loc (V d (cc0 c s) (ss0 c s))))
variable (O : CellTallies nD τ sig Ix) (W : Waits sig Ix)

abbrev inv0 (t : ℕ) : sProp 𝕄 := Gather.Inv ι d (cc0 c s) (ss0 c s) tab ix out al ab vi vo vg q qt ft fi (by decide) (bOf 16 12 c s) (0 + bOf 16 12 c s) (nOf 16 12 c s) t O W

set_option maxHeartbeats 4000000 in
theorem trip0 (h1 : k0_cond1 (at0 c s) = 1#1) (t : Fin (k0_t1_loop (at0 c s)).trips)
    (hw : ∀ t x, (Gather.wordsAt d (cc0 c s) (ss0 c s) ix fi (0 + bOf 16 12 c s) t x).toNat < 100000)
    (hcr : ∀ s' : Shape, sig.dmaCredit .scVector (Kind.scVector.table .vmem) ab.view.buf s' .f32 = s'.numel * (EltTy.f32 : EltTy).bits) (v41 v30 v31 v32 v33 v34 v45 : BitVec 32) :
    (iprop(inv0 ι d tab ix al ab vi vo vg out c s q qt ft fi O W t.val ∗ MayWaits (V d (cc0 c s) (ss0 c s)) ι O) : sProp 𝕄)
      ⊢ wp frame (wpE defs₀ Variants.none (V d (cc0 c s) (ss0 c s)) none) Set.univ
        (k0_t1_body (at0 c s) tab htab ix hix out hout al hal vi ab hab vo vg vg' (w5 16 12 c s) (w10 16 12 c s) (Scalar.muli 1#32 (w5 16 12 c s)) h1
          v41 0#32 v31 v32 v33 v34 v45 t (accAt (nOf 16 12 c s) t.val))
        fun a => iprop(⌜a = accAt (nOf 16 12 c s) (t.val + 1)⌝ ∗ inv0 ι d tab ix al ab vi vo vg out c s q qt ft fi O W (t.val + 1)) := by
  obtain ⟨k3, k2, k1⟩ := chks0 c s t
  unfold k0_t1_body
  dsimp only
  rw [k0_part1_eq_skeleton, k0_part2_eq_skeleton, k0_part3_eq_skeleton]
  unfold k0_part1_skel k0_part2_skel k0_part3_skel
  simp only [dite_goes_on, ite_self, bind_assoc, pure_bind, wp_bind]
  refine BIBase.Entails.trans ?_ (wp_check Variants.none _ none k3)
  refine BIBase.Entails.trans ?_ (wp_check Variants.none _ none k2)
  refine BIBase.Entails.trans ?_ (wp_check Variants.none _ none k1)
  obtain ⟨h3, h4, h7, h9, e4, e5, e6, e9, e10, e11, e12, e13, e14, e17⟩ := words0 c s t
  have ht : t.val < nOf 16 12 c s := (trips0 c s).1 ▸ t.isLt
  refine Gather.trip Variants.none ι d (cc0 c s) (ss0 c s) tab ix out al ab vi vo vg q qt ft fi (by decide) (bOf 16 12 c s) (0 + bOf 16 12 c s) (nOf 16 12 c s) t.val O W
    ht hw hcr h3 h4 h7 h9 e4 e5 e6 e9 e10 e11 e12 e13 e14 e17 ?_
  rw [wp_pure]
  iintro HI; imodintro
  isplitr
  · ipureintro
    clear * -; clear trip0 fi ft
    revert c s t
    decide +kernel
  · iexact HI

abbrev idle0 : sProp 𝕄 := Gather.Idle ι d (cc0 c s) (ss0 c s) tab ix al ab vi vo vg q qt ft fi O W
abbrev todo0 : sProp 𝕄 := bigSep (Finset.range (nOf 16 12 c s)) (Gather.Todo d (cc0 c s) (ss0 c s) out (by decide) (bOf 16 12 c s))
abbrev done0 : sProp 𝕄 := bigSep (Finset.range (nOf 16 12 c s)) (Gather.Done d (cc0 c s) (ss0 c s) tab ix out ft fi (by decide) (bOf 16 12 c s) (0 + bOf 16 12 c s))

set_option maxHeartbeats 4000000 in
theorem tile0
    (hw : ∀ t x, (Gather.wordsAt d (cc0 c s) (ss0 c s) ix fi (0 + bOf 16 12 c s) t x).toNat < 100000)
    (hcr : ∀ s' : Shape, sig.dmaCredit .scVector (Kind.scVector.table .vmem) ab.view.buf s' .f32 = s'.numel * (EltTy.f32 : EltTy).bits) :
    (iprop(idle0 ι d tab ix al ab vi vo vg c s q qt ft fi O W ∗ todo0 d out c s ∗ MayWaits (V d (cc0 c s) (ss0 c s)) ι O) : sProp 𝕄)
      ⊢ wp frame (wpE defs₀ Variants.none (V d (cc0 c s) (ss0 c s)) none) Set.univ
        (cc0_gather_kernel (at0 c s) tab htab ix hix out hout al hal vi ab hab vo vg vg')
        fun _ => iprop(idle0 ι d tab ix al ab vi vo vg c s q qt ft fi O W ∗ done0 d tab ix out c s ft fi) := by
  obtain ⟨n1, n2, h1, h2, h18, e1, e2, e3, e34⟩ := trips0 c s
  have hn : 0 < nOf 16 12 c s := (by decide : ∀ c s, 0 < nOf 16 12 c s) c s
  rw [cc0_gather_kernel_eq_skeleton]
  unfold cc0_gather_kernel_skel
  dsimp only
  rw [dif_pos h1, k0_part7_eq_skeleton, k0_part8_eq_skeleton]
  unfold k0_part7_skel k0_part8_skel
  simp only [dite_goes_on, ite_self, dite_eq_ite, bind_assoc, pure_bind, wp_bind, Scf.for_trips0 _ _ n2]
  iintro ⟨HI, HT, #Hmw⟩
  iapply (Gather.start Variants.none ι d (cc0 c s) (ss0 c s) tab ix out al ab vi vo vg q qt ft fi (by decide) (bOf 16 12 c s) (0 + bOf 16 12 c s) (nOf 16 12 c s) O W
    hn h2 e1 e2 e3) $$ [HI HT]
  · isplitl [HI]; · iexact HI
    iexact HT
  iintro HI
  iapply (Gather.loop Variants.none (V d (cc0 c s) (ss0 c s)) none (k0_t1_loop (at0 c s)) _ _ _ (nOf 16 12 c s) (accAt (nOf 16 12 c s))
    (inv0 ι d tab ix al ab vi vo vg out c s q qt ft fi O W) (MayWaits (V d (cc0 c s) (ss0 c s)) ι O) n1 ?_ ?_ ?_)
  · clear * -; clear tile0 fi ft; revert c s; decide +kernel
  · intro t
    exact trip0 ι d tab htab ix hix al hal ab hab vi vo vg vg' out hout c s q qt ft fi O W h1 t hw hcr _ 0#32 _ _ _ _ _
  · iintro #H
    isplitl <;> iexact H
  isplitl [HI]
  · isplitl [HI]; · iexact HI
    iexact Hmw
  iintro HI
  obtain ⟨k8, k7⟩ := chksEnd0 c s
  rw [wp_ret]; imodintro
  iapply (wp_check Variants.none _ none k8)
  iapply (wp_check Variants.none _ none k7)
  iapply (Gather.finish Variants.none ι d (cc0 c s) (ss0 c s) tab ix out al ab vi vo vg q qt ft fi (by decide) (bOf 16 12 c s) (0 + bOf 16 12 c s) (nOf 16 12 c s) O W
    hn h18 e34) $$ [HI]
  · isplitl [HI]; · iexact HI
    iexact Hmw
  iintro ⟨HI, HD⟩
  rw [wp_pure]; imodintro
  isplitl [HI]; · iexact HI
  iexact HD

end K0

end Cert.Proof.Tile0
-- ==== Proof.Tile1.lean ====
/-
  Gather call 1's task, `KernelIdeal`: its words and offsets in closed form, and its run from the generic gather
  (Gather.lean).
-/
module

public import proofs.«01_k».proof.Defs
public import proofs.«01_k».proof.Proof.Gather
public import proofs.«01_k».proof.Proof.Gen.KernelIdeal
public import proofs.«01_k».proof.Proof.Gen.KernelIdeal.Skeleton
public import Idealize.ShloMosaic.Lib.Pipeline.TableIdle

@[expose] public section

noncomputable section

namespace Cert.Proof.Tile1

open Cert.KernelIdeal Cert.KernelIdeal.Gen
open Cert.Proof
open Cert.Proof.Gather (nOf bOf accAt w5 w10 at0 cc0 ss0 dite_goes_on wp_check)
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type}

theorem trips1 : ∀ (c : Fin 2) (s : Fin 16), (k1_t1_loop (at0 c s)).trips = nOf 20 15 c s ∧ (k1_t2_loop (at0 c s)).trips = 0
    ∧ k1_cond1 (at0 c s) = 1#1 ∧ k1_cond2 (at0 c s) = 1#1 ∧ k1_cond18 (at0 c s) = 1#1
    ∧ k1_off1 = Gather.oS 0 ∧ k1_off2 (at0 c s) = Gather.oX (400 + bOf 20 15 c s) 0 ∧ k1_off3 = Gather.oM 0
    ∧ k1_off34 (accAt (nOf 20 15 c s) (nOf 20 15 c s)).2.2.2.1 = Gather.oM (nOf 20 15 c s - 1) := by
  decide +kernel

theorem words1 : ∀ (c : Fin 2) (s : Fin 16) (t : Fin (k1_t1_loop (at0 c s)).trips),
    let n := nOf 20 15 c s
    let b := bOf 20 15 c s
    let a := accAt n t.val
    (k1_cond3 (at0 c s) t a.2.2.2.2 = 1#1 ↔ t.val + 1 < n) ∧ k1_cond4 (at0 c s) t a.2.2.2.2 = 1#1
    ∧ k1_cond7 (at0 c s) t a.2.2.2.2 = 1#1 ∧ (k1_cond9 (at0 c s) t a.2.2.2.2 = 1#1 ↔ 0 < t.val)
    ∧ k1_off4 a.1 = Gather.oS (t.val + 1) ∧ (t.val + 1 < n → k1_off5 (at0 c s) a.2.2.2.2 = Gather.oX (400 + b) (t.val + 1))
    ∧ k1_off6 a.1 = Gather.oM (t.val + 1) ∧ k1_off9 a.2.1 = Gather.oM t.val ∧ k1_off10 a.2.2.1 = Gather.oS t.val ∧ k1_off11 a.2.1 = Gather.oS t.val
    ∧ k1_off12 a.2.2.1 = Gather.oS t.val ∧ k1_off13 (at0 c s) a.2.2.2.2 = Gather.oR 64000 b t.val ∧ k1_off14 a.2.2.1 = Gather.oM t.val
    ∧ (0 < t.val → k1_off17 a.2.2.2.1 = Gather.oM (t.val - 1)) := by
  decide +kernel

theorem chks1 : ∀ (c : Fin 2) (s : Fin 16) (t : Fin (k1_t1_loop (at0 c s)).trips),
    let a := accAt (nOf 20 15 c s) t.val
    k1_chk3 (at0 c s) a.2.1 ∧ k1_chk2 (at0 c s) a.2.2.1 ∧ k1_chk1 (at0 c s) t a.1 a.2.1 a.2.2.1 a.2.2.2.1 a.2.2.2.2 := by
  decide +kernel

theorem chksEnd1 : ∀ (c : Fin 2) (s : Fin 16),
    let a := accAt (nOf 20 15 c s) (nOf 20 15 c s)
    k1_chk8 (at0 c s) a.2.2.2.2 ∧ k1_chk7 (at0 c s) a.2.2.2.1 := by
  decide +kernel

variable {Ix U : Type} [DecidableEq Ix] [URA U] [CountersIn U] (ι : Ix) (d : Dev nD)
local notation "𝕄" => MT nD τ sig Ix (Elt F) ℕ U ℕ

variable [FloatOps F] [Named F]
variable (tab : Memref sig .scVector .hbm S100000x128 .f32) (htab : tab.IsWhole) (ix : Memref sig .scVector .hbm S1x204800 .i32) (hix : ix.IsWhole)
variable (al : Memref sig .scVector .vmem S2x1x128 .i32) (hal : al.IsWhole) (ab : Memref sig .scVector .vmem S2x128x128 .f32) (hab : ab.IsWhole)
variable (vi vo : DmaSems sig S2) (vg vg' : DmaSems sig S_)

section K1
variable (out : Memref sig .scVector .hbm S64000x128 .f32) (hout : out.IsWhole) (c : Fin 2) (s : Fin 16)
variable (q : ℕ → PosShare TreeShare) (qt : PosShare TreeShare) (ft : Buf (Elt F) (tab.view.loc (V d (cc0 c s) (ss0 c s)))) (fi : Buf (Elt F) (ix.view.loc (V d (cc0 c s) (ss0 c s))))
variable (O : CellTallies nD τ sig Ix) (W : Waits sig Ix)

abbrev inv1 (t : ℕ) : sProp 𝕄 := Gather.Inv ι d (cc0 c s) (ss0 c s) tab ix out al ab vi vo vg q qt ft fi (by decide) (bOf 20 15 c s) (400 + bOf 20 15 c s) (nOf 20 15 c s) t O W

set_option maxHeartbeats 4000000 in
theorem trip1 (h1 : k1_cond1 (at0 c s) = 1#1) (t : Fin (k1_t1_loop (at0 c s)).trips)
    (hw : ∀ t x, (Gather.wordsAt d (cc0 c s) (ss0 c s) ix fi (400 + bOf 20 15 c s) t x).toNat < 100000)
    (hcr : ∀ s' : Shape, sig.dmaCredit .scVector (Kind.scVector.table .vmem) ab.view.buf s' .f32 = s'.numel * (EltTy.f32 : EltTy).bits) (v41 v30 v31 v32 v33 v34 v45 : BitVec 32) :
    (iprop(inv1 ι d tab ix al ab vi vo vg out c s q qt ft fi O W t.val ∗ MayWaits (V d (cc0 c s) (ss0 c s)) ι O) : sProp 𝕄)
      ⊢ wp frame (wpE defs₀ Variants.none (V d (cc0 c s) (ss0 c s)) none) Set.univ
        (k1_t1_body (at0 c s) tab htab ix hix out hout al hal vi ab hab vo vg vg' (w5 20 15 c s) (w10 20 15 c s) (Scalar.muli 1#32 (w5 20 15 c s)) h1
          v41 0#32 v31 v32 v33 v34 v45 t (accAt (nOf 20 15 c s) t.val))
        fun a => iprop(⌜a = accAt (nOf 20 15 c s) (t.val + 1)⌝ ∗ inv1 ι d tab ix al ab vi vo vg out c s q qt ft fi O W (t.val + 1)) := by
  obtain ⟨k3, k2, k1⟩ := chks1 c s t
  unfold k1_t1_body
  dsimp only
  rw [k1_part1_eq_skeleton, k1_part2_eq_skeleton, k1_part3_eq_skeleton]
  unfold k1_part1_skel k1_part2_skel k1_part3_skel
  simp only [dite_goes_on, ite_self, bind_assoc, pure_bind, wp_bind]
  refine BIBase.Entails.trans ?_ (wp_check Variants.none _ none k3)
  refine BIBase.Entails.trans ?_ (wp_check Variants.none _ none k2)
  refine BIBase.Entails.trans ?_ (wp_check Variants.none _ none k1)
  obtain ⟨h3, h4, h7, h9, e4, e5, e6, e9, e10, e11, e12, e13, e14, e17⟩ := words1 c s t
  have ht : t.val < nOf 20 15 c s := (trips1 c s).1 ▸ t.isLt
  refine Gather.trip Variants.none ι d (cc0 c s) (ss0 c s) tab ix out al ab vi vo vg q qt ft fi (by decide) (bOf 20 15 c s) (400 + bOf 20 15 c s) (nOf 20 15 c s) t.val O W
    ht hw hcr h3 h4 h7 h9 e4 e5 e6 e9 e10 e11 e12 e13 e14 e17 ?_
  rw [wp_pure]
  iintro HI; imodintro
  isplitr
  · ipureintro
    clear * -; clear trip1 fi ft
    revert c s t
    decide +kernel
  · iexact HI

abbrev idle1 : sProp 𝕄 := Gather.Idle ι d (cc0 c s) (ss0 c s) tab ix al ab vi vo vg q qt ft fi O W
abbrev todo1 : sProp 𝕄 := bigSep (Finset.range (nOf 20 15 c s)) (Gather.Todo d (cc0 c s) (ss0 c s) out (by decide) (bOf 20 15 c s))
abbrev done1 : sProp 𝕄 := bigSep (Finset.range (nOf 20 15 c s)) (Gather.Done d (cc0 c s) (ss0 c s) tab ix out ft fi (by decide) (bOf 20 15 c s) (400 + bOf 20 15 c s))

set_option maxHeartbeats 4000000 in
theorem tile1
    (hw : ∀ t x, (Gather.wordsAt d (cc0 c s) (ss0 c s) ix fi (400 + bOf 20 15 c s) t x).toNat < 100000)
    (hcr : ∀ s' : Shape, sig.dmaCredit .scVector (Kind.scVector.table .vmem) ab.view.buf s' .f32 = s'.numel * (EltTy.f32 : EltTy).bits) :
    (iprop(idle1 ι d tab ix al ab vi vo vg c s q qt ft fi O W ∗ todo1 d out c s ∗ MayWaits (V d (cc0 c s) (ss0 c s)) ι O) : sProp 𝕄)
      ⊢ wp frame (wpE defs₀ Variants.none (V d (cc0 c s) (ss0 c s)) none) Set.univ
        (cc1_gather_kernel (at0 c s) tab htab ix hix out hout al hal vi ab hab vo vg vg')
        fun _ => iprop(idle1 ι d tab ix al ab vi vo vg c s q qt ft fi O W ∗ done1 d tab ix out c s ft fi) := by
  obtain ⟨n1, n2, h1, h2, h18, e1, e2, e3, e34⟩ := trips1 c s
  have hn : 0 < nOf 20 15 c s := (by decide : ∀ c s, 0 < nOf 20 15 c s) c s
  rw [cc1_gather_kernel_eq_skeleton]
  unfold cc1_gather_kernel_skel
  dsimp only
  rw [dif_pos h1, k1_part7_eq_skeleton, k1_part8_eq_skeleton]
  unfold k1_part7_skel k1_part8_skel
  simp only [dite_goes_on, ite_self, dite_eq_ite, bind_assoc, pure_bind, wp_bind, Scf.for_trips0 _ _ n2]
  iintro ⟨HI, HT, #Hmw⟩
  iapply (Gather.start Variants.none ι d (cc0 c s) (ss0 c s) tab ix out al ab vi vo vg q qt ft fi (by decide) (bOf 20 15 c s) (400 + bOf 20 15 c s) (nOf 20 15 c s) O W
    hn h2 e1 e2 e3) $$ [HI HT]
  · isplitl [HI]; · iexact HI
    iexact HT
  iintro HI
  iapply (Gather.loop Variants.none (V d (cc0 c s) (ss0 c s)) none (k1_t1_loop (at0 c s)) _ _ _ (nOf 20 15 c s) (accAt (nOf 20 15 c s))
    (inv1 ι d tab ix al ab vi vo vg out c s q qt ft fi O W) (MayWaits (V d (cc0 c s) (ss0 c s)) ι O) n1 ?_ ?_ ?_)
  · clear * -; clear tile1 fi ft; revert c s; decide +kernel
  · intro t
    exact trip1 ι d tab htab ix hix al hal ab hab vi vo vg vg' out hout c s q qt ft fi O W h1 t hw hcr _ 0#32 _ _ _ _ _
  · iintro #H
    isplitl <;> iexact H
  isplitl [HI]
  · isplitl [HI]; · iexact HI
    iexact Hmw
  iintro HI
  obtain ⟨k8, k7⟩ := chksEnd1 c s
  rw [wp_ret]; imodintro
  iapply (wp_check Variants.none _ none k8)
  iapply (wp_check Variants.none _ none k7)
  iapply (Gather.finish Variants.none ι d (cc0 c s) (ss0 c s) tab ix out al ab vi vo vg q qt ft fi (by decide) (bOf 20 15 c s) (400 + bOf 20 15 c s) (nOf 20 15 c s) O W
    hn h18 e34) $$ [HI]
  · isplitl [HI]; · iexact HI
    iexact Hmw
  iintro ⟨HI, HD⟩
  rw [wp_pure]; imodintro
  isplitl [HI]; · iexact HI
  iexact HD

end K1

end Cert.Proof.Tile1
-- ==== Proof.Tile2.lean ====
/-
  Gather call 2's task, `KernelIdeal`: its words and offsets in closed form, and its run from the generic gather
  (Gather.lean).
-/
module

public import proofs.«01_k».proof.Defs
public import proofs.«01_k».proof.Proof.Gather
public import proofs.«01_k».proof.Proof.Gen.KernelIdeal
public import proofs.«01_k».proof.Proof.Gen.KernelIdeal.Skeleton
public import Idealize.ShloMosaic.Lib.Pipeline.TableIdle

@[expose] public section

noncomputable section

namespace Cert.Proof.Tile2

open Cert.KernelIdeal Cert.KernelIdeal.Gen
open Cert.Proof
open Cert.Proof.Gather (nOf bOf accAt w5 w10 at0 cc0 ss0 dite_goes_on wp_check)
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type}

theorem trips2 : ∀ (c : Fin 2) (s : Fin 16), (k2_t1_loop (at0 c s)).trips = nOf 20 15 c s ∧ (k2_t2_loop (at0 c s)).trips = 0
    ∧ k2_cond1 (at0 c s) = 1#1 ∧ k2_cond2 (at0 c s) = 1#1 ∧ k2_cond18 (at0 c s) = 1#1
    ∧ k2_off1 = Gather.oS 0 ∧ k2_off2 (at0 c s) = Gather.oX (900 + bOf 20 15 c s) 0 ∧ k2_off3 = Gather.oM 0
    ∧ k2_off34 (accAt (nOf 20 15 c s) (nOf 20 15 c s)).2.2.2.1 = Gather.oM (nOf 20 15 c s - 1) := by
  decide +kernel

theorem words2 : ∀ (c : Fin 2) (s : Fin 16) (t : Fin (k2_t1_loop (at0 c s)).trips),
    let n := nOf 20 15 c s
    let b := bOf 20 15 c s
    let a := accAt n t.val
    (k2_cond3 (at0 c s) t a.2.2.2.2 = 1#1 ↔ t.val + 1 < n) ∧ k2_cond4 (at0 c s) t a.2.2.2.2 = 1#1
    ∧ k2_cond7 (at0 c s) t a.2.2.2.2 = 1#1 ∧ (k2_cond9 (at0 c s) t a.2.2.2.2 = 1#1 ↔ 0 < t.val)
    ∧ k2_off4 a.1 = Gather.oS (t.val + 1) ∧ (t.val + 1 < n → k2_off5 (at0 c s) a.2.2.2.2 = Gather.oX (900 + b) (t.val + 1))
    ∧ k2_off6 a.1 = Gather.oM (t.val + 1) ∧ k2_off9 a.2.1 = Gather.oM t.val ∧ k2_off10 a.2.2.1 = Gather.oS t.val ∧ k2_off11 a.2.1 = Gather.oS t.val
    ∧ k2_off12 a.2.2.1 = Gather.oS t.val ∧ k2_off13 (at0 c s) a.2.2.2.2 = Gather.oR 64000 b t.val ∧ k2_off14 a.2.2.1 = Gather.oM t.val
    ∧ (0 < t.val → k2_off17 a.2.2.2.1 = Gather.oM (t.val - 1)) := by
  decide +kernel

theorem chks2 : ∀ (c : Fin 2) (s : Fin 16) (t : Fin (k2_t1_loop (at0 c s)).trips),
    let a := accAt (nOf 20 15 c s) t.val
    k2_chk3 (at0 c s) a.2.1 ∧ k2_chk2 (at0 c s) a.2.2.1 ∧ k2_chk1 (at0 c s) t a.1 a.2.1 a.2.2.1 a.2.2.2.1 a.2.2.2.2 := by
  decide +kernel

theorem chksEnd2 : ∀ (c : Fin 2) (s : Fin 16),
    let a := accAt (nOf 20 15 c s) (nOf 20 15 c s)
    k2_chk8 (at0 c s) a.2.2.2.2 ∧ k2_chk7 (at0 c s) a.2.2.2.1 := by
  decide +kernel

variable {Ix U : Type} [DecidableEq Ix] [URA U] [CountersIn U] (ι : Ix) (d : Dev nD)
local notation "𝕄" => MT nD τ sig Ix (Elt F) ℕ U ℕ

variable [FloatOps F] [Named F]
variable (tab : Memref sig .scVector .hbm S100000x128 .f32) (htab : tab.IsWhole) (ix : Memref sig .scVector .hbm S1x204800 .i32) (hix : ix.IsWhole)
variable (al : Memref sig .scVector .vmem S2x1x128 .i32) (hal : al.IsWhole) (ab : Memref sig .scVector .vmem S2x128x128 .f32) (hab : ab.IsWhole)
variable (vi vo : DmaSems sig S2) (vg vg' : DmaSems sig S_)

section K2
variable (out : Memref sig .scVector .hbm S64000x128 .f32) (hout : out.IsWhole) (c : Fin 2) (s : Fin 16)
variable (q : ℕ → PosShare TreeShare) (qt : PosShare TreeShare) (ft : Buf (Elt F) (tab.view.loc (V d (cc0 c s) (ss0 c s)))) (fi : Buf (Elt F) (ix.view.loc (V d (cc0 c s) (ss0 c s))))
variable (O : CellTallies nD τ sig Ix) (W : Waits sig Ix)

abbrev inv2 (t : ℕ) : sProp 𝕄 := Gather.Inv ι d (cc0 c s) (ss0 c s) tab ix out al ab vi vo vg q qt ft fi (by decide) (bOf 20 15 c s) (900 + bOf 20 15 c s) (nOf 20 15 c s) t O W

set_option maxHeartbeats 4000000 in
theorem trip2 (h1 : k2_cond1 (at0 c s) = 1#1) (t : Fin (k2_t1_loop (at0 c s)).trips)
    (hw : ∀ t x, (Gather.wordsAt d (cc0 c s) (ss0 c s) ix fi (900 + bOf 20 15 c s) t x).toNat < 100000)
    (hcr : ∀ s' : Shape, sig.dmaCredit .scVector (Kind.scVector.table .vmem) ab.view.buf s' .f32 = s'.numel * (EltTy.f32 : EltTy).bits) (v41 v30 v31 v32 v33 v34 v45 : BitVec 32) :
    (iprop(inv2 ι d tab ix al ab vi vo vg out c s q qt ft fi O W t.val ∗ MayWaits (V d (cc0 c s) (ss0 c s)) ι O) : sProp 𝕄)
      ⊢ wp frame (wpE defs₀ Variants.none (V d (cc0 c s) (ss0 c s)) none) Set.univ
        (k2_t1_body (at0 c s) tab htab ix hix out hout al hal vi ab hab vo vg vg' (w5 20 15 c s) (w10 20 15 c s) (Scalar.muli 1#32 (w5 20 15 c s)) h1
          v41 0#32 v31 v32 v33 v34 v45 t (accAt (nOf 20 15 c s) t.val))
        fun a => iprop(⌜a = accAt (nOf 20 15 c s) (t.val + 1)⌝ ∗ inv2 ι d tab ix al ab vi vo vg out c s q qt ft fi O W (t.val + 1)) := by
  obtain ⟨k3, k2, k1⟩ := chks2 c s t
  unfold k2_t1_body
  dsimp only
  rw [k2_part1_eq_skeleton, k2_part2_eq_skeleton, k2_part3_eq_skeleton]
  unfold k2_part1_skel k2_part2_skel k2_part3_skel
  simp only [dite_goes_on, ite_self, bind_assoc, pure_bind, wp_bind]
  refine BIBase.Entails.trans ?_ (wp_check Variants.none _ none k3)
  refine BIBase.Entails.trans ?_ (wp_check Variants.none _ none k2)
  refine BIBase.Entails.trans ?_ (wp_check Variants.none _ none k1)
  obtain ⟨h3, h4, h7, h9, e4, e5, e6, e9, e10, e11, e12, e13, e14, e17⟩ := words2 c s t
  have ht : t.val < nOf 20 15 c s := (trips2 c s).1 ▸ t.isLt
  refine Gather.trip Variants.none ι d (cc0 c s) (ss0 c s) tab ix out al ab vi vo vg q qt ft fi (by decide) (bOf 20 15 c s) (900 + bOf 20 15 c s) (nOf 20 15 c s) t.val O W
    ht hw hcr h3 h4 h7 h9 e4 e5 e6 e9 e10 e11 e12 e13 e14 e17 ?_
  rw [wp_pure]
  iintro HI; imodintro
  isplitr
  · ipureintro
    clear * -; clear trip2 fi ft
    revert c s t
    decide +kernel
  · iexact HI

abbrev idle2 : sProp 𝕄 := Gather.Idle ι d (cc0 c s) (ss0 c s) tab ix al ab vi vo vg q qt ft fi O W
abbrev todo2 : sProp 𝕄 := bigSep (Finset.range (nOf 20 15 c s)) (Gather.Todo d (cc0 c s) (ss0 c s) out (by decide) (bOf 20 15 c s))
abbrev done2 : sProp 𝕄 := bigSep (Finset.range (nOf 20 15 c s)) (Gather.Done d (cc0 c s) (ss0 c s) tab ix out ft fi (by decide) (bOf 20 15 c s) (900 + bOf 20 15 c s))

set_option maxHeartbeats 4000000 in
theorem tile2
    (hw : ∀ t x, (Gather.wordsAt d (cc0 c s) (ss0 c s) ix fi (900 + bOf 20 15 c s) t x).toNat < 100000)
    (hcr : ∀ s' : Shape, sig.dmaCredit .scVector (Kind.scVector.table .vmem) ab.view.buf s' .f32 = s'.numel * (EltTy.f32 : EltTy).bits) :
    (iprop(idle2 ι d tab ix al ab vi vo vg c s q qt ft fi O W ∗ todo2 d out c s ∗ MayWaits (V d (cc0 c s) (ss0 c s)) ι O) : sProp 𝕄)
      ⊢ wp frame (wpE defs₀ Variants.none (V d (cc0 c s) (ss0 c s)) none) Set.univ
        (cc2_gather_kernel (at0 c s) tab htab ix hix out hout al hal vi ab hab vo vg vg')
        fun _ => iprop(idle2 ι d tab ix al ab vi vo vg c s q qt ft fi O W ∗ done2 d tab ix out c s ft fi) := by
  obtain ⟨n1, n2, h1, h2, h18, e1, e2, e3, e34⟩ := trips2 c s
  have hn : 0 < nOf 20 15 c s := (by decide : ∀ c s, 0 < nOf 20 15 c s) c s
  rw [cc2_gather_kernel_eq_skeleton]
  unfold cc2_gather_kernel_skel
  dsimp only
  rw [dif_pos h1, k2_part7_eq_skeleton, k2_part8_eq_skeleton]
  unfold k2_part7_skel k2_part8_skel
  simp only [dite_goes_on, ite_self, dite_eq_ite, bind_assoc, pure_bind, wp_bind, Scf.for_trips0 _ _ n2]
  iintro ⟨HI, HT, #Hmw⟩
  iapply (Gather.start Variants.none ι d (cc0 c s) (ss0 c s) tab ix out al ab vi vo vg q qt ft fi (by decide) (bOf 20 15 c s) (900 + bOf 20 15 c s) (nOf 20 15 c s) O W
    hn h2 e1 e2 e3) $$ [HI HT]
  · isplitl [HI]; · iexact HI
    iexact HT
  iintro HI
  iapply (Gather.loop Variants.none (V d (cc0 c s) (ss0 c s)) none (k2_t1_loop (at0 c s)) _ _ _ (nOf 20 15 c s) (accAt (nOf 20 15 c s))
    (inv2 ι d tab ix al ab vi vo vg out c s q qt ft fi O W) (MayWaits (V d (cc0 c s) (ss0 c s)) ι O) n1 ?_ ?_ ?_)
  · clear * -; clear tile2 fi ft; revert c s; decide +kernel
  · intro t
    exact trip2 ι d tab htab ix hix al hal ab hab vi vo vg vg' out hout c s q qt ft fi O W h1 t hw hcr _ 0#32 _ _ _ _ _
  · iintro #H
    isplitl <;> iexact H
  isplitl [HI]
  · isplitl [HI]; · iexact HI
    iexact Hmw
  iintro HI
  obtain ⟨k8, k7⟩ := chksEnd2 c s
  rw [wp_ret]; imodintro
  iapply (wp_check Variants.none _ none k8)
  iapply (wp_check Variants.none _ none k7)
  iapply (Gather.finish Variants.none ι d (cc0 c s) (ss0 c s) tab ix out al ab vi vo vg q qt ft fi (by decide) (bOf 20 15 c s) (900 + bOf 20 15 c s) (nOf 20 15 c s) O W
    hn h18 e34) $$ [HI]
  · isplitl [HI]; · iexact HI
    iexact Hmw
  iintro ⟨HI, HD⟩
  rw [wp_pure]; imodintro
  isplitl [HI]; · iexact HI
  iexact HD

end K2

end Cert.Proof.Tile2
-- ==== Proof.Tile3.lean ====
/-
  Gather call 3's task, `KernelIdeal`: its words and offsets in closed form, and its run from the generic gather
  (Gather.lean).
-/
module

public import proofs.«01_k».proof.Defs
public import proofs.«01_k».proof.Proof.Gather
public import proofs.«01_k».proof.Proof.Gen.KernelIdeal
public import proofs.«01_k».proof.Proof.Gen.KernelIdeal.Skeleton
public import Idealize.ShloMosaic.Lib.Pipeline.TableIdle

@[expose] public section

noncomputable section

namespace Cert.Proof.Tile3

open Cert.KernelIdeal Cert.KernelIdeal.Gen
open Cert.Proof
open Cert.Proof.Gather (nOf bOf accAt w5 w10 at0 cc0 ss0 dite_goes_on wp_check)
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type}

theorem trips3 : ∀ (c : Fin 2) (s : Fin 16), (k3_t1_loop (at0 c s)).trips = nOf 8 6 c s ∧ (k3_t2_loop (at0 c s)).trips = 0
    ∧ k3_cond1 (at0 c s) = 1#1 ∧ k3_cond2 (at0 c s) = 1#1 ∧ k3_cond18 (at0 c s) = 1#1
    ∧ k3_off1 = Gather.oS 0 ∧ k3_off2 (at0 c s) = Gather.oX (1400 + bOf 8 6 c s) 0 ∧ k3_off3 = Gather.oM 0
    ∧ k3_off34 (accAt (nOf 8 6 c s) (nOf 8 6 c s)).2.2.2.1 = Gather.oM (nOf 8 6 c s - 1) := by
  decide +kernel

theorem words3 : ∀ (c : Fin 2) (s : Fin 16) (t : Fin (k3_t1_loop (at0 c s)).trips),
    let n := nOf 8 6 c s
    let b := bOf 8 6 c s
    let a := accAt n t.val
    (k3_cond3 (at0 c s) t a.2.2.2.2 = 1#1 ↔ t.val + 1 < n) ∧ k3_cond4 (at0 c s) t a.2.2.2.2 = 1#1
    ∧ k3_cond7 (at0 c s) t a.2.2.2.2 = 1#1 ∧ (k3_cond9 (at0 c s) t a.2.2.2.2 = 1#1 ↔ 0 < t.val)
    ∧ k3_off4 a.1 = Gather.oS (t.val + 1) ∧ (t.val + 1 < n → k3_off5 (at0 c s) a.2.2.2.2 = Gather.oX (1400 + b) (t.val + 1))
    ∧ k3_off6 a.1 = Gather.oM (t.val + 1) ∧ k3_off9 a.2.1 = Gather.oM t.val ∧ k3_off10 a.2.2.1 = Gather.oS t.val ∧ k3_off11 a.2.1 = Gather.oS t.val
    ∧ k3_off12 a.2.2.1 = Gather.oS t.val ∧ k3_off13 (at0 c s) a.2.2.2.2 = Gather.oR 25600 b t.val ∧ k3_off14 a.2.2.1 = Gather.oM t.val
    ∧ (0 < t.val → k3_off17 a.2.2.2.1 = Gather.oM (t.val - 1)) := by
  decide +kernel

theorem chks3 : ∀ (c : Fin 2) (s : Fin 16) (t : Fin (k3_t1_loop (at0 c s)).trips),
    let a := accAt (nOf 8 6 c s) t.val
    k3_chk3 (at0 c s) a.2.1 ∧ k3_chk2 (at0 c s) a.2.2.1 ∧ k3_chk1 (at0 c s) t a.1 a.2.1 a.2.2.1 a.2.2.2.1 a.2.2.2.2 := by
  decide +kernel

theorem chksEnd3 : ∀ (c : Fin 2) (s : Fin 16),
    let a := accAt (nOf 8 6 c s) (nOf 8 6 c s)
    k3_chk8 (at0 c s) a.2.2.2.2 ∧ k3_chk7 (at0 c s) a.2.2.2.1 := by
  decide +kernel

variable {Ix U : Type} [DecidableEq Ix] [URA U] [CountersIn U] (ι : Ix) (d : Dev nD)
local notation "𝕄" => MT nD τ sig Ix (Elt F) ℕ U ℕ

variable [FloatOps F] [Named F]
variable (tab : Memref sig .scVector .hbm S100000x128 .f32) (htab : tab.IsWhole) (ix : Memref sig .scVector .hbm S1x204800 .i32) (hix : ix.IsWhole)
variable (al : Memref sig .scVector .vmem S2x1x128 .i32) (hal : al.IsWhole) (ab : Memref sig .scVector .vmem S2x128x128 .f32) (hab : ab.IsWhole)
variable (vi vo : DmaSems sig S2) (vg vg' : DmaSems sig S_)

section K3
variable (out : Memref sig .scVector .hbm S25600x128 .f32) (hout : out.IsWhole) (c : Fin 2) (s : Fin 16)
variable (q : ℕ → PosShare TreeShare) (qt : PosShare TreeShare) (ft : Buf (Elt F) (tab.view.loc (V d (cc0 c s) (ss0 c s)))) (fi : Buf (Elt F) (ix.view.loc (V d (cc0 c s) (ss0 c s))))
variable (O : CellTallies nD τ sig Ix) (W : Waits sig Ix)

abbrev inv3 (t : ℕ) : sProp 𝕄 := Gather.Inv ι d (cc0 c s) (ss0 c s) tab ix out al ab vi vo vg q qt ft fi (by decide) (bOf 8 6 c s) (1400 + bOf 8 6 c s) (nOf 8 6 c s) t O W

set_option maxHeartbeats 4000000 in
theorem trip3 (h1 : k3_cond1 (at0 c s) = 1#1) (t : Fin (k3_t1_loop (at0 c s)).trips)
    (hw : ∀ t x, (Gather.wordsAt d (cc0 c s) (ss0 c s) ix fi (1400 + bOf 8 6 c s) t x).toNat < 100000)
    (hcr : ∀ s' : Shape, sig.dmaCredit .scVector (Kind.scVector.table .vmem) ab.view.buf s' .f32 = s'.numel * (EltTy.f32 : EltTy).bits) (v41 v30 v31 v32 v33 v34 v45 : BitVec 32) :
    (iprop(inv3 ι d tab ix al ab vi vo vg out c s q qt ft fi O W t.val ∗ MayWaits (V d (cc0 c s) (ss0 c s)) ι O) : sProp 𝕄)
      ⊢ wp frame (wpE defs₀ Variants.none (V d (cc0 c s) (ss0 c s)) none) Set.univ
        (k3_t1_body (at0 c s) tab htab ix hix out hout al hal vi ab hab vo vg vg' (w5 8 6 c s) (w10 8 6 c s) (Scalar.muli 1#32 (w5 8 6 c s)) h1
          v41 0#32 v31 v32 v33 v34 v45 t (accAt (nOf 8 6 c s) t.val))
        fun a => iprop(⌜a = accAt (nOf 8 6 c s) (t.val + 1)⌝ ∗ inv3 ι d tab ix al ab vi vo vg out c s q qt ft fi O W (t.val + 1)) := by
  obtain ⟨k3, k2, k1⟩ := chks3 c s t
  unfold k3_t1_body
  dsimp only
  rw [k3_part1_eq_skeleton, k3_part2_eq_skeleton, k3_part3_eq_skeleton]
  unfold k3_part1_skel k3_part2_skel k3_part3_skel
  simp only [dite_goes_on, ite_self, bind_assoc, pure_bind, wp_bind]
  refine BIBase.Entails.trans ?_ (wp_check Variants.none _ none k3)
  refine BIBase.Entails.trans ?_ (wp_check Variants.none _ none k2)
  refine BIBase.Entails.trans ?_ (wp_check Variants.none _ none k1)
  obtain ⟨h3, h4, h7, h9, e4, e5, e6, e9, e10, e11, e12, e13, e14, e17⟩ := words3 c s t
  have ht : t.val < nOf 8 6 c s := (trips3 c s).1 ▸ t.isLt
  refine Gather.trip Variants.none ι d (cc0 c s) (ss0 c s) tab ix out al ab vi vo vg q qt ft fi (by decide) (bOf 8 6 c s) (1400 + bOf 8 6 c s) (nOf 8 6 c s) t.val O W
    ht hw hcr h3 h4 h7 h9 e4 e5 e6 e9 e10 e11 e12 e13 e14 e17 ?_
  rw [wp_pure]
  iintro HI; imodintro
  isplitr
  · ipureintro
    clear * -; clear trip3 fi ft
    revert c s t
    decide +kernel
  · iexact HI

abbrev idle3 : sProp 𝕄 := Gather.Idle ι d (cc0 c s) (ss0 c s) tab ix al ab vi vo vg q qt ft fi O W
abbrev todo3 : sProp 𝕄 := bigSep (Finset.range (nOf 8 6 c s)) (Gather.Todo d (cc0 c s) (ss0 c s) out (by decide) (bOf 8 6 c s))
abbrev done3 : sProp 𝕄 := bigSep (Finset.range (nOf 8 6 c s)) (Gather.Done d (cc0 c s) (ss0 c s) tab ix out ft fi (by decide) (bOf 8 6 c s) (1400 + bOf 8 6 c s))

set_option maxHeartbeats 4000000 in
theorem tile3
    (hw : ∀ t x, (Gather.wordsAt d (cc0 c s) (ss0 c s) ix fi (1400 + bOf 8 6 c s) t x).toNat < 100000)
    (hcr : ∀ s' : Shape, sig.dmaCredit .scVector (Kind.scVector.table .vmem) ab.view.buf s' .f32 = s'.numel * (EltTy.f32 : EltTy).bits) :
    (iprop(idle3 ι d tab ix al ab vi vo vg c s q qt ft fi O W ∗ todo3 d out c s ∗ MayWaits (V d (cc0 c s) (ss0 c s)) ι O) : sProp 𝕄)
      ⊢ wp frame (wpE defs₀ Variants.none (V d (cc0 c s) (ss0 c s)) none) Set.univ
        (cc3_gather_kernel (at0 c s) tab htab ix hix out hout al hal vi ab hab vo vg vg')
        fun _ => iprop(idle3 ι d tab ix al ab vi vo vg c s q qt ft fi O W ∗ done3 d tab ix out c s ft fi) := by
  obtain ⟨n1, n2, h1, h2, h18, e1, e2, e3, e34⟩ := trips3 c s
  have hn : 0 < nOf 8 6 c s := (by decide : ∀ c s, 0 < nOf 8 6 c s) c s
  rw [cc3_gather_kernel_eq_skeleton]
  unfold cc3_gather_kernel_skel
  dsimp only
  rw [dif_pos h1, k3_part7_eq_skeleton, k3_part8_eq_skeleton]
  unfold k3_part7_skel k3_part8_skel
  simp only [dite_goes_on, ite_self, dite_eq_ite, bind_assoc, pure_bind, wp_bind, Scf.for_trips0 _ _ n2]
  iintro ⟨HI, HT, #Hmw⟩
  iapply (Gather.start Variants.none ι d (cc0 c s) (ss0 c s) tab ix out al ab vi vo vg q qt ft fi (by decide) (bOf 8 6 c s) (1400 + bOf 8 6 c s) (nOf 8 6 c s) O W
    hn h2 e1 e2 e3) $$ [HI HT]
  · isplitl [HI]; · iexact HI
    iexact HT
  iintro HI
  iapply (Gather.loop Variants.none (V d (cc0 c s) (ss0 c s)) none (k3_t1_loop (at0 c s)) _ _ _ (nOf 8 6 c s) (accAt (nOf 8 6 c s))
    (inv3 ι d tab ix al ab vi vo vg out c s q qt ft fi O W) (MayWaits (V d (cc0 c s) (ss0 c s)) ι O) n1 ?_ ?_ ?_)
  · clear * -; clear tile3 fi ft; revert c s; decide +kernel
  · intro t
    exact trip3 ι d tab htab ix hix al hal ab hab vi vo vg vg' out hout c s q qt ft fi O W h1 t hw hcr _ 0#32 _ _ _ _ _
  · iintro #H
    isplitl <;> iexact H
  isplitl [HI]
  · isplitl [HI]; · iexact HI
    iexact Hmw
  iintro HI
  obtain ⟨k8, k7⟩ := chksEnd3 c s
  rw [wp_ret]; imodintro
  iapply (wp_check Variants.none _ none k8)
  iapply (wp_check Variants.none _ none k7)
  iapply (Gather.finish Variants.none ι d (cc0 c s) (ss0 c s) tab ix out al ab vi vo vg q qt ft fi (by decide) (bOf 8 6 c s) (1400 + bOf 8 6 c s) (nOf 8 6 c s) O W
    hn h18 e34) $$ [HI]
  · isplitl [HI]; · iexact HI
    iexact Hmw
  iintro ⟨HI, HD⟩
  rw [wp_pure]; imodintro
  isplitl [HI]; · iexact HI
  iexact HD

end K3

end Cert.Proof.Tile3
-- ==== Proof.Launch.lean ====
/-
  The four gather calls as the SparseCores run them: what each core and each tile is handed of the table, the words and the
  call's result, each tile's task from its run, and the dealing of a core's part to its tiles.
-/
module

public import proofs.«01_k».proof.Proof.Norm
public import proofs.«01_k».proof.Proof.Split
public import proofs.«01_k».proof.Proof.Tile0
public import proofs.«01_k».proof.Proof.Tile1
public import proofs.«01_k».proof.Proof.Tile2
public import proofs.«01_k».proof.Proof.Tile3

@[expose] public section

set_option maxRecDepth 16384

noncomputable section

namespace Cert.Proof.Launch

open Cert.KernelIdeal Cert.KernelIdeal.Gen
open Cert.Proof
open Cert.Proof.Norm (UH UP UU)
open Cert.Proof.Gather (nOf bOf at0 cc0 ss0 tileSet coreSet gathered peel5 semT)
open Idealize.ShloMosaic
open Idealize.ShloMosaic.SparseCore (V)
open Idealize.ShloMosaic.SparseCore.Cfg (HIx ownCells mem_ownCells ownRefs ownSems0 ownBufs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] [Named F]

local notation "𝕄" => MT nD τ sig (HIx 4) (Elt F) ℕ UU ℕ

/-! ## The program, to the launch theorem -/

abbrev ΛP : Labels := Pipeline.Sig Λ₀ (Fin 4) fun p => (pcfgs (F := F) p).Adm
abbrev K : SparseCore.Cfg τ sig (ΛP (F := F)) 4 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

theorem nCore_eq (q : Fin 4) : (K (F := F)).nCore q = 2 := match q with | 0 => rfl | 1 => rfl | 2 => rfl | 3 => rfl
theorem nSub_eq (q : Fin 4) : (K (F := F)).nSub q = 16 := match q with | 0 => rfl | 1 => rfl | 2 => rfl | 3 => rfl
abbrev core (q : Fin 4) (c : Fin ((K (F := F)).nCore q)) : Fin 2 := Fin.cast (nCore_eq q) c
abbrev tile (q : Fin 4) (i : Fin ((K (F := F)).nSub q)) : Fin 16 := Fin.cast (nSub_eq q) i

/-! ## The buffers -/

variable (m : (ℓ : Loc nD τ sig) → Buf (Elt F) ℓ)

abbrev tLoc (d : Dev nD) : Loc nD τ sig := (SparseCore.T d).loc main_arg2
abbrev xLoc (d : Dev nD) : Loc nD τ sig := (SparseCore.T d).loc main_v0
abbrev oRef : Fin 4 → Ref sig .tc := fun | 0 => main_v1 | 1 => main_v3 | 2 => main_v5 | 3 => main_v7
abbrev oLoc (q : Fin 4) (d : Dev nD) : Loc nD τ sig := (SparseCore.T d).loc (oRef q)

/-- The words, one row of them. -/
def words (d : Dev nD) : Buf (Elt F) (xLoc d) :=
  (StableHlo.reshape (Val := Elt F) main_arg0 main_v0 (rfl : (.i32 : EltTy) = .i32) shapeCasts_S1024x200_S1x204800).result (fun b => m (d, b)) (Proc.devRef .tc main_v0)

/-- Every word names a row of the table. -/
def InRange : Prop := ∀ (d : Dev nD) (j : S1x204800.Idx), (words m d j).toNat < 100000

/-- A tile's rows of a call's result. -/
def tset (q : Fin 4) (d : Dev nD) (c : Fin 2) (s : Fin 16) : Finset (Idx (oLoc q d)) :=
  match q with
  | 0 => tileSet 51200 16 12 c s
  | 1 => tileSet 64000 20 15 c s
  | 2 => tileSet 64000 20 15 c s
  | 3 => tileSet 25600 8 6 c s
/-- A core's. -/
def cset (q : Fin 4) (d : Dev nD) (c : Fin 2) : Finset (Idx (oLoc q d)) := Finset.univ.biUnion (tset q d c)

/-- The rows a call gathers. -/
def rows (q : Fin 4) (d : Dev nD) : Buf (Elt F) (oLoc q d) :=
  match q with
  | 0 => gathered (F := F) (r := 51200) (m (tLoc d)) (words m d) 0
  | 1 => gathered (F := F) (r := 64000) (m (tLoc d)) (words m d) 400
  | 2 => gathered (F := F) (r := 64000) (m (tLoc d)) (words m d) 900
  | 3 => gathered (F := F) (r := 25600) (m (tLoc d)) (words m d) 1400

theorem tset_disjoint (q : Fin 4) (d : Dev nD) (c : Fin 2) : ∀ s ∈ (Finset.univ : Finset (Fin 16)), ∀ s' ∈ (Finset.univ : Finset (Fin 16)), s ≠ s' → Disjoint (tset q d c s) (tset q d c s') :=
  fun s _ s' _ h => have hne : (c, s) ≠ (c, s') := fun e => h (Prod.ext_iff.mp e).2
    match q with
    | 0 => Gather.tileSet_disjoint Gather.deals_16_12 hne
    | 1 => Gather.tileSet_disjoint Gather.deals_20_15 hne
    | 2 => Gather.tileSet_disjoint Gather.deals_20_15 hne
    | 3 => Gather.tileSet_disjoint Gather.deals_8_6 hne

theorem cset_disjoint (q : Fin 4) (d : Dev nD) : ∀ c ∈ (Finset.univ : Finset (Fin 2)), ∀ c' ∈ (Finset.univ : Finset (Fin 2)), c ≠ c' → Disjoint (cset q d c) (cset q d c') :=
  fun c _ c' _ h =>
    match q with
    | 0 => Gather.coreSet_disjoint Gather.deals_16_12 h
    | 1 => Gather.coreSet_disjoint Gather.deals_20_15 h
    | 2 => Gather.coreSet_disjoint Gather.deals_20_15 h
    | 3 => Gather.coreSet_disjoint Gather.deals_8_6 h

theorem cset_cover (q : Fin 4) (d : Dev nD) : (Finset.univ : Finset (Fin 2)).biUnion (cset q d) = Finset.univ :=
  match q with
  | 0 => Gather.coreSet_cover Gather.deals_16_12 rfl
  | 1 => Gather.coreSet_cover Gather.deals_20_15 rfl
  | 2 => Gather.coreSet_cover Gather.deals_20_15 rfl
  | 3 => Gather.coreSet_cover Gather.deals_8_6 rfl

/-! ## What is handed over -/

abbrev cq (c : Fin 2) : PosShare TreeShare := dealOf fullShare (Finset.univ : Finset (Fin 2)) c
abbrev tq (c : Fin 2) (s : Fin 16) : PosShare TreeShare := dealOf (cq c) (Finset.univ : Finset (Fin 16)) s

/-- The table and the words at a share, and some rows of a call's result. -/
def three (q : Fin 4) (d : Dev nD) (sh : PosShare TreeShare) (R : Finset (Idx (oLoc q d))) (f : Buf (Elt F) (oLoc q d)) : sProp 𝕄 :=
  iprop((tLoc d ↦{sh} m (tLoc d)) ∗ (xLoc d ↦{sh} words m d) ∗ oLoc q d ↦[R]{fullShare} f)

theorem three_tiles (q : Fin 4) (d : Dev nD) (c : Fin 2) (f : Buf (Elt F) (oLoc q d)) :
    three m q d (cq c) (cset q d c) f = bigSep Finset.univ fun s : Fin 16 => three m q d (tq c s) (tset q d c s) f := by
  unfold three cset
  rw [bigSep_sep', bigSep_sep', pointsTo_deal (Finset.univ : Finset (Fin 16)) ⟨0, Finset.mem_univ _⟩ (cq c),
    pointsTo_deal (Finset.univ : Finset (Fin 16)) ⟨0, Finset.mem_univ _⟩ (cq c), pointsTo_biUnion Finset.univ (tset q d c) (tset_disjoint q d c)]

theorem three_cores (q : Fin 4) (d : Dev nD) (f : Buf (Elt F) (oLoc q d)) :
    three m q d fullShare Finset.univ f = bigSep Finset.univ fun c : Fin 2 => three m q d (cq c) (cset q d c) f := by
  conv_lhs => rw [← cset_cover q d]
  unfold three
  rw [bigSep_sep', bigSep_sep', pointsTo_deal (Finset.univ : Finset (Fin 2)) ⟨0, Finset.mem_univ _⟩ fullShare,
    pointsTo_deal (Finset.univ : Finset (Fin 2)) ⟨0, Finset.mem_univ _⟩ fullShare, pointsTo_biUnion Finset.univ (cset q d) (cset_disjoint q d)]

/-- A core takes the table and the words at its share and its rows of the result as they were, and gives them back gathered;
    so does each of its tiles. -/
def P : (K (F := F)).Pay (nD := nD) (Val := Elt F) (Name := ℕ) (U := UU) where
  st q d c := three m q d (cq (core q c)) (cset q d (core q c)) (m (oLoc q d))
  dn q d c := three m q d (cq (core q c)) (cset q d (core q c)) (rows m q d)
  go q d c i := three m q d (tq (core q c) (tile q i)) (tset q d (core q c) (tile q i)) (m (oLoc q d))
  td q d c i := three m q d (tq (core q c) (tile q i)) (tset q d (core q c) (tile q i)) (rows m q d)
  x := fun _ _ => iprop(emp)

instance P_storable : (P (F := F) m).IsStorable where
  st q d c := by unfold P three; exact inferInstance
  dn q d c := by unfold P three; exact inferInstance
  go q d c i := by unfold P three; exact inferInstance
  td q d c i := by unfold P three; exact inferInstance

theorem bigSep_cores (q : Fin 4) (Φ : Fin 2 → sProp 𝕄) : (bigSep Finset.univ fun c : Fin ((K (F := F)).nCore q) => Φ (core q c)) = bigSep Finset.univ Φ :=
  match q with
  | 0 => bigSep_congr fun _ _ => rfl | 1 => bigSep_congr fun _ _ => rfl | 2 => bigSep_congr fun _ _ => rfl | 3 => bigSep_congr fun _ _ => rfl
theorem bigSep_tiles (q : Fin 4) (Φ : Fin 16 → sProp 𝕄) : (bigSep Finset.univ fun i : Fin ((K (F := F)).nSub q) => Φ (tile q i)) = bigSep Finset.univ Φ :=
  match q with
  | 0 => bigSep_congr fun _ _ => rfl | 1 => bigSep_congr fun _ _ => rfl | 2 => bigSep_congr fun _ _ => rfl | 3 => bigSep_congr fun _ _ => rfl

theorem st_all (q : Fin 4) (d : Dev nD) : (bigSep Finset.univ fun c => (P m).st q d c) = three m q d fullShare Finset.univ (m (oLoc q d)) :=
  (bigSep_cores q fun c => three m q d (cq c) (cset q d c) (m (oLoc q d))).trans (three_cores m q d _).symm
theorem dn_all (q : Fin 4) (d : Dev nD) : (bigSep Finset.univ fun c => (P m).dn q d c) = three m q d fullShare Finset.univ (rows m q d) :=
  (bigSep_cores q fun c => three m q d (cq c) (cset q d c) (rows m q d)).trans (three_cores m q d _).symm

theorem vecSplit (q : Fin 4) : (K (F := F)).VecSplit' (P m) q := by
  intro d c
  have hgo : (bigSep Finset.univ fun i => (P m).go q d c i) = three m q d (cq (core q c)) (cset q d (core q c)) (m (oLoc q d)) :=
    (bigSep_tiles q fun s => three m q d (tq (core q c) s) (tset q d (core q c) s) (m (oLoc q d))).trans (three_tiles m q d _ _).symm
  have htd : (bigSep Finset.univ fun i => (P m).td q d c i) = three m q d (cq (core q c)) (cset q d (core q c)) (rows m q d) :=
    (bigSep_tiles q fun s => three m q d (tq (core q c) s) (tset q d (core q c) s) (rows m q d)).trans (three_tiles m q d _ _).symm
  rw [hgo, htd]
  show three m q d (cq (core q c)) (cset q d (core q c)) (m (oLoc q d)) ⊢ |={Set.univ}=> iprop(three m q d (cq (core q c)) (cset q d (core q c)) (m (oLoc q d))
    ∗ (three m q d (cq (core q c)) (cset q d (core q c)) (rows m q d) -∗ three m q d (cq (core q c)) (cset q d (core q c)) (rows m q d)))
  iintro H; imodintro
  isplitl [H]; · iexact H
  iintro H; iexact H

/-! ## The storage a task uses -/

theorem sems_peel (d : Dev nD) (c : Fin τ.nSC) (s : Fin τ.nSub) (x0 x1 x2 x3 x4 : DmaSem sig) (hnd : [x0, x1, x2, x3, x4].Nodup)
    (hs : ∀ x ∈ [x0, x1, x2, x3, x4], (SemLoc.dma x : SemLoc sig).isScoped .scVector = true) :
    ∃ R : sProp 𝕄, ownSems0 (V d c s) = iprop(semVal (V d c s, .dma x0) 0 ∗ semVal (V d c s, .dma x1) 0 ∗ semVal (V d c s, .dma x2) 0
      ∗ semVal (V d c s, .dma x3) 0 ∗ semVal (V d c s, .dma x4) 0 ∗ R) := by
  refine ⟨_, (peel5 (s := ownCells (V d c s)) (a := (V d c s, .dma x0)) (b := (V d c s, .dma x1)) (c := (V d c s, .dma x2)) (d := (V d c s, .dma x3)) (e := (V d c s, .dma x4)) ?_ ?_ fun g => semVal g 0)⟩
  · have h : (List.map (fun x : DmaSem sig => ((V d c s, .dma x) : GSem nD τ sig)) [x0, x1, x2, x3, x4]).Nodup :=
      hnd.map fun a b e => by injection e with _ e; injection e
    exact h
  · intro g hg
    have h : g ∈ List.map (fun x : DmaSem sig => ((V d c s, .dma x) : GSem nD τ sig)) [x0, x1, x2, x3, x4] := hg
    obtain ⟨x, hx, rfl⟩ := List.mem_map.mp h
    exact mem_ownCells.mpr ⟨rfl, hs x hx⟩

theorem bufs_peel (d : Dev nD) (c : Fin τ.nSC) (s : Fin τ.nSub) (a b : Ref sig .scVector) (hab : b ≠ a)
    (ha : (Proc.scVector c s).devRef a ∈ ownRefs (τ := τ) (sig := sig) (.scVector c s)) (hb : (Proc.scVector c s).devRef b ∈ ownRefs (τ := τ) (sig := sig) (.scVector c s)) :
    ∃ R : sProp 𝕄, ownBufs (V d c s) = iprop((∃ f : Buf (Elt F) ((V d c s).loc a), (V d c s).loc a ↦{fullShare} f) ∗ (∃ f : Buf (Elt F) ((V d c s).loc b), (V d c s).loc b ↦{fullShare} f) ∗ R) := by
  refine ⟨bigSep (((ownRefs (τ := τ) (sig := sig) (.scVector c s)).erase ((Proc.scVector c s).devRef a)).erase ((Proc.scVector c s).devRef b))
    fun b => iprop(∃ f : Buf (Elt F) ((d, b) : Loc nD τ sig), ((d, b) : Loc nD τ sig) ↦{fullShare} f), ?_⟩
  unfold ownBufs
  refine (SparseCore.bigSep_erase' ha).trans ?_
  rw [SparseCore.bigSep_erase' (Finset.mem_erase.mpr ⟨fun e => absurd (Proc.devRef_injective _ e) hab, hb⟩)]

end Cert.Proof.Launch
-- ==== Proof.Tasks.lean ====
/-
  The four gather calls' tasks: on every tile, from its part to its rows gathered.
-/
module

public import proofs.«01_k».proof.Proof.Launch
public import proofs.«01_k».proof.Proof.Split
public import proofs.«01_k».proof.Proof.Tile0
public import proofs.«01_k».proof.Proof.Tile1
public import proofs.«01_k».proof.Proof.Tile2
public import proofs.«01_k».proof.Proof.Tile3

@[expose] public section

set_option maxRecDepth 16384

noncomputable section

namespace Cert.Proof.Launch

open Cert.KernelIdeal Cert.KernelIdeal.Gen
open Cert.Proof
open Cert.Proof.Norm (UH UP UU)
open Cert.Proof.Gather (nOf bOf at0 cc0 ss0 tileSet coreSet gathered peel5 semT)
open Idealize.ShloMosaic
open Idealize.ShloMosaic.SparseCore (V)
open Idealize.ShloMosaic.SparseCore.Cfg (HIx ownCells mem_ownCells ownRefs ownSems0 ownBufs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] [Named F]

local notation "𝕄" => MT nD τ sig (HIx 4) (Elt F) ℕ UU ℕ

/-! ## The tasks -/

attribute [local irreducible] cc0_gather_kernel cc1_gather_kernel cc2_gather_kernel cc3_gather_kernel

section Tasks

variable (m : (ℓ : Loc nD τ sig) → Buf (Elt F) ℓ) (c : Fin 2) (s : Fin 16) (O : CellTallies nD τ sig (HIx 4)) (W : Waits sig (HIx 4))

abbrev tab : Memref sig .scVector .hbm S100000x128 .f32 := Memref.whole main_arg2_scv
abbrev idx : Memref sig .scVector .hbm S1x204800 .i32 := Memref.whole main_v0_scv

/-- What a call's task does with its part. -/
abbrev DoesTask (q : Fin 4) (p : (d : Dev nD) → Prog (TpuEff nD τ sig (Elt F) Λ₀ (.scVector (cc0 c s) (ss0 c s))) PUnit) : Prop :=
  ∀ d : Dev nD, (iprop(levAts (K (F := F)).L (K (F := F)).lev ∗ emp ∗ three m q d (tq c s) (tset q d c s) (m (oLoc q d))
        ∗ scopedBufs (V d (cc0 c s) (ss0 c s)) ∗ scopedSems0 (V d (cc0 c s) (ss0 c s)) ∗ owes (V d (cc0 c s) (ss0 c s)) O W) : sProp 𝕄)
      ⊢ wp frame (wpE (defs₀ (F := F)) 𝒱₀ (V d (cc0 c s) (ss0 c s)) none) Set.univ (p d)
          fun _ => iprop(three m q d (tq c s) (tset q d c s) (rows m q d)
            ∗ scopedBufs (V d (cc0 c s) (ss0 c s)) ∗ scopedSems0 (V d (cc0 c s) (ss0 c s))
            ∗ ∃ W', ⌜∀ p ∈ W', p ∈ W ∨ p.2 = none⌝ ∗ owes (V d (cc0 c s) (ss0 c s)) O W')

abbrev body0 := cc0_gather_kernel (F := F) (at0 c s) tab (Memref.isWhole_whole _) idx (Memref.isWhole_whole _) (Memref.whole main_v1_scv) (Memref.isWhole_whole _)
  (Memref.whole cc0_scoped0) (Memref.isWhole_whole _) cc0_scoped1 (Memref.whole cc0_scoped2) (Memref.isWhole_whole _) cc0_scoped3 cc0_scoped4 cc0_scoped5

theorem task0 (hw : InRange m) (hO : ∀ g, O g none = 0) : DoesTask m c s O W 0 fun _ => body0 c s := by
  intro d
  rw [(K (F := F)).scopedBufs_V facts d (cc0 c s) (ss0 c s), SparseCore.Cfg.scopedSems0_V (Val := Elt F) d (cc0 c s) (ss0 c s)]
  obtain ⟨RS, hS⟩ := sems_peel (F := F) d (cc0 c s) (ss0 c s) (semT cc0_scoped1 0) (semT cc0_scoped1 1) (semT cc0_scoped3 0) (semT cc0_scoped3 1) cc0_scoped4.sem
    (by decide) (by decide)
  obtain ⟨RB, hB⟩ := bufs_peel (F := F) d (cc0 c s) (ss0 c s) cc0_scoped0 cc0_scoped2 (by decide) (SparseCore.Cfg.mem_ownRefs_of_owner rfl) (SparseCore.Cfg.mem_ownRefs_of_owner rfl)
  have hL : levAts (K (F := F)).L (K (F := F)).lev ⊢ (MayWaits (V d (cc0 c s) (ss0 c s)) (default : HIx 4) O : sProp 𝕄) := (K (F := F)).mayWaits_none (thr := V d (cc0 c s) (ss0 c s)) hO
  have hr : ∀ i, (Memref.whole main_v1_scv).view.read (Elt F) (rows m 0 d) i
      = gathered (F := F) (r := 51200) ((tab).view.read (Elt F) (m (tLoc d))) ((idx).view.read (Elt F) (words m d)) 0 i := fun _ => by
    rw [View.read_whole, View.read_whole, View.read_whole]; rfl
  have hi : ∀ t x, (Gather.wordsAt d (cc0 c s) (ss0 c s) idx (words m d) (0 + bOf 16 12 c s) t x).toNat < 100000 := fun t x =>
    Gather.wordsAt_lt d (cc0 c s) (ss0 c s) idx (words m d) (fun j => by rw [View.read_whole]; exact hw d j) _ t x
  have hc : ∀ s' : Shape, sig.dmaCredit .scVector (Kind.scVector.table .vmem) (Memref.whole cc0_scoped2 : Memref sig .scVector .vmem _ _).view.buf s' .f32 = s'.numel * (EltTy.f32 : EltTy).bits := fun _ => rfl
  have hp := fun q => @Tile0.tile0 F (HIx 4) UU _ _ _ default d _ _ tab (Memref.isWhole_whole main_arg2_scv) idx (Memref.isWhole_whole main_v0_scv) (Memref.whole cc0_scoped0) (Memref.isWhole_whole cc0_scoped0)
      (Memref.whole cc0_scoped2) (Memref.isWhole_whole cc0_scoped2) cc0_scoped1 cc0_scoped3 cc0_scoped4 cc0_scoped5 (Memref.whole main_v1_scv) (Memref.isWhole_whole main_v1_scv) c s q (tq c s)
      (m (tLoc d)) (words m d) O W hi hc
  have k1 := Gather.task (F := F) (Ix := HIx 4) (U := UU) (r := 51200) (e := 16) (m := 12) d (cc0 c s) (ss0 c s) tab idx (Memref.whole main_v1_scv) default (Memref.whole cc0_scoped0) (Memref.whole cc0_scoped2)
    cc0_scoped1 cc0_scoped3 cc0_scoped4 (defs := defs₀) 𝒱₀ (Lv := levAts (K (F := F)).L (K (F := F)).lev) (O := O) (W := W)
    (RS := RS) (RB := RB) (SB := ownBufs (V d (cc0 c s) (ss0 c s))) (SS := ownSems0 (V d (cc0 c s) (ss0 c s)))
  have k2 := k1 Gather.deals_16_12
  have k3 := k2 rfl
  have k4 := k3 (by decide) c s 0 (by decide)
  have k5 := k4 hL
  have k6 := k5 (View.set_whole cc0_scoped0) (View.set_whole cc0_scoped2)
  have k7 := k6 hB hS (tq c s) (tq c s)
  have k8 := k7 (m (tLoc d)) (words m d)
  have k9 := k8 (m (oLoc 0 d)) (rows m 0 d)
  have key := k9 hr hp
  rw [show (tileSet 51200 16 12 c s).map (Memref.whole main_v1_scv).view.emb = tset 0 d c s from Finset.map_refl] at key
  exact key

abbrev body1 := cc1_gather_kernel (F := F) (at0 c s) tab (Memref.isWhole_whole _) idx (Memref.isWhole_whole _) (Memref.whole main_v3_scv) (Memref.isWhole_whole _)
  (Memref.whole cc1_scoped0) (Memref.isWhole_whole _) cc1_scoped1 (Memref.whole cc1_scoped2) (Memref.isWhole_whole _) cc1_scoped3 cc1_scoped4 cc1_scoped5

theorem task1 (hw : InRange m) (hO : ∀ g, O g none = 0) : DoesTask m c s O W 1 fun _ => body1 c s := by
  intro d
  rw [(K (F := F)).scopedBufs_V facts d (cc0 c s) (ss0 c s), SparseCore.Cfg.scopedSems0_V (Val := Elt F) d (cc0 c s) (ss0 c s)]
  obtain ⟨RS, hS⟩ := sems_peel (F := F) d (cc0 c s) (ss0 c s) (semT cc1_scoped1 0) (semT cc1_scoped1 1) (semT cc1_scoped3 0) (semT cc1_scoped3 1) cc1_scoped4.sem
    (by decide) (by decide)
  obtain ⟨RB, hB⟩ := bufs_peel (F := F) d (cc0 c s) (ss0 c s) cc1_scoped0 cc1_scoped2 (by decide) (SparseCore.Cfg.mem_ownRefs_of_owner rfl) (SparseCore.Cfg.mem_ownRefs_of_owner rfl)
  have hL : levAts (K (F := F)).L (K (F := F)).lev ⊢ (MayWaits (V d (cc0 c s) (ss0 c s)) (default : HIx 4) O : sProp 𝕄) := (K (F := F)).mayWaits_none (thr := V d (cc0 c s) (ss0 c s)) hO
  have hr : ∀ i, (Memref.whole main_v3_scv).view.read (Elt F) (rows m 1 d) i
      = gathered (F := F) (r := 64000) ((tab).view.read (Elt F) (m (tLoc d))) ((idx).view.read (Elt F) (words m d)) 400 i := fun _ => by
    rw [View.read_whole, View.read_whole, View.read_whole]; rfl
  have hi : ∀ t x, (Gather.wordsAt d (cc0 c s) (ss0 c s) idx (words m d) (400 + bOf 20 15 c s) t x).toNat < 100000 := fun t x =>
    Gather.wordsAt_lt d (cc0 c s) (ss0 c s) idx (words m d) (fun j => by rw [View.read_whole]; exact hw d j) _ t x
  have hc : ∀ s' : Shape, sig.dmaCredit .scVector (Kind.scVector.table .vmem) (Memref.whole cc1_scoped2 : Memref sig .scVector .vmem _ _).view.buf s' .f32 = s'.numel * (EltTy.f32 : EltTy).bits := fun _ => rfl
  have hp := fun q => @Tile1.tile1 F (HIx 4) UU _ _ _ default d _ _ tab (Memref.isWhole_whole main_arg2_scv) idx (Memref.isWhole_whole main_v0_scv) (Memref.whole cc1_scoped0) (Memref.isWhole_whole cc1_scoped0)
      (Memref.whole cc1_scoped2) (Memref.isWhole_whole cc1_scoped2) cc1_scoped1 cc1_scoped3 cc1_scoped4 cc1_scoped5 (Memref.whole main_v3_scv) (Memref.isWhole_whole main_v3_scv) c s q (tq c s)
      (m (tLoc d)) (words m d) O W hi hc
  have k1 := Gather.task (F := F) (Ix := HIx 4) (U := UU) (r := 64000) (e := 20) (m := 15) d (cc0 c s) (ss0 c s) tab idx (Memref.whole main_v3_scv) default (Memref.whole cc1_scoped0) (Memref.whole cc1_scoped2)
    cc1_scoped1 cc1_scoped3 cc1_scoped4 (defs := defs₀) 𝒱₀ (Lv := levAts (K (F := F)).L (K (F := F)).lev) (O := O) (W := W)
    (RS := RS) (RB := RB) (SB := ownBufs (V d (cc0 c s) (ss0 c s))) (SS := ownSems0 (V d (cc0 c s) (ss0 c s)))
  have k2 := k1 Gather.deals_20_15
  have k3 := k2 rfl
  have k4 := k3 (by decide) c s 400 (by decide)
  have k5 := k4 hL
  have k6 := k5 (View.set_whole cc1_scoped0) (View.set_whole cc1_scoped2)
  have k7 := k6 hB hS (tq c s) (tq c s)
  have k8 := k7 (m (tLoc d)) (words m d)
  have k9 := k8 (m (oLoc 1 d)) (rows m 1 d)
  have key := k9 hr hp
  rw [show (tileSet 64000 20 15 c s).map (Memref.whole main_v3_scv).view.emb = tset 1 d c s from Finset.map_refl] at key
  exact key

abbrev body2 := cc2_gather_kernel (F := F) (at0 c s) tab (Memref.isWhole_whole _) idx (Memref.isWhole_whole _) (Memref.whole main_v5_scv) (Memref.isWhole_whole _)
  (Memref.whole cc2_scoped0) (Memref.isWhole_whole _) cc2_scoped1 (Memref.whole cc2_scoped2) (Memref.isWhole_whole _) cc2_scoped3 cc2_scoped4 cc2_scoped5

theorem task2 (hw : InRange m) (hO : ∀ g, O g none = 0) : DoesTask m c s O W 2 fun _ => body2 c s := by
  intro d
  rw [(K (F := F)).scopedBufs_V facts d (cc0 c s) (ss0 c s), SparseCore.Cfg.scopedSems0_V (Val := Elt F) d (cc0 c s) (ss0 c s)]
  obtain ⟨RS, hS⟩ := sems_peel (F := F) d (cc0 c s) (ss0 c s) (semT cc2_scoped1 0) (semT cc2_scoped1 1) (semT cc2_scoped3 0) (semT cc2_scoped3 1) cc2_scoped4.sem
    (by decide) (by decide)
  obtain ⟨RB, hB⟩ := bufs_peel (F := F) d (cc0 c s) (ss0 c s) cc2_scoped0 cc2_scoped2 (by decide) (SparseCore.Cfg.mem_ownRefs_of_owner rfl) (SparseCore.Cfg.mem_ownRefs_of_owner rfl)
  have hL : levAts (K (F := F)).L (K (F := F)).lev ⊢ (MayWaits (V d (cc0 c s) (ss0 c s)) (default : HIx 4) O : sProp 𝕄) := (K (F := F)).mayWaits_none (thr := V d (cc0 c s) (ss0 c s)) hO
  have hr : ∀ i, (Memref.whole main_v5_scv).view.read (Elt F) (rows m 2 d) i
      = gathered (F := F) (r := 64000) ((tab).view.read (Elt F) (m (tLoc d))) ((idx).view.read (Elt F) (words m d)) 900 i := fun _ => by
    rw [View.read_whole, View.read_whole, View.read_whole]; rfl
  have hi : ∀ t x, (Gather.wordsAt d (cc0 c s) (ss0 c s) idx (words m d) (900 + bOf 20 15 c s) t x).toNat < 100000 := fun t x =>
    Gather.wordsAt_lt d (cc0 c s) (ss0 c s) idx (words m d) (fun j => by rw [View.read_whole]; exact hw d j) _ t x
  have hc : ∀ s' : Shape, sig.dmaCredit .scVector (Kind.scVector.table .vmem) (Memref.whole cc2_scoped2 : Memref sig .scVector .vmem _ _).view.buf s' .f32 = s'.numel * (EltTy.f32 : EltTy).bits := fun _ => rfl
  have hp := fun q => @Tile2.tile2 F (HIx 4) UU _ _ _ default d _ _ tab (Memref.isWhole_whole main_arg2_scv) idx (Memref.isWhole_whole main_v0_scv) (Memref.whole cc2_scoped0) (Memref.isWhole_whole cc2_scoped0)
      (Memref.whole cc2_scoped2) (Memref.isWhole_whole cc2_scoped2) cc2_scoped1 cc2_scoped3 cc2_scoped4 cc2_scoped5 (Memref.whole main_v5_scv) (Memref.isWhole_whole main_v5_scv) c s q (tq c s)
      (m (tLoc d)) (words m d) O W hi hc
  have k1 := Gather.task (F := F) (Ix := HIx 4) (U := UU) (r := 64000) (e := 20) (m := 15) d (cc0 c s) (ss0 c s) tab idx (Memref.whole main_v5_scv) default (Memref.whole cc2_scoped0) (Memref.whole cc2_scoped2)
    cc2_scoped1 cc2_scoped3 cc2_scoped4 (defs := defs₀) 𝒱₀ (Lv := levAts (K (F := F)).L (K (F := F)).lev) (O := O) (W := W)
    (RS := RS) (RB := RB) (SB := ownBufs (V d (cc0 c s) (ss0 c s))) (SS := ownSems0 (V d (cc0 c s) (ss0 c s)))
  have k2 := k1 Gather.deals_20_15
  have k3 := k2 rfl
  have k4 := k3 (by decide) c s 900 (by decide)
  have k5 := k4 hL
  have k6 := k5 (View.set_whole cc2_scoped0) (View.set_whole cc2_scoped2)
  have k7 := k6 hB hS (tq c s) (tq c s)
  have k8 := k7 (m (tLoc d)) (words m d)
  have k9 := k8 (m (oLoc 2 d)) (rows m 2 d)
  have key := k9 hr hp
  rw [show (tileSet 64000 20 15 c s).map (Memref.whole main_v5_scv).view.emb = tset 2 d c s from Finset.map_refl] at key
  exact key

abbrev body3 := cc3_gather_kernel (F := F) (at0 c s) tab (Memref.isWhole_whole _) idx (Memref.isWhole_whole _) (Memref.whole main_v7_scv) (Memref.isWhole_whole _)
  (Memref.whole cc3_scoped0) (Memref.isWhole_whole _) cc3_scoped1 (Memref.whole cc3_scoped2) (Memref.isWhole_whole _) cc3_scoped3 cc3_scoped4 cc3_scoped5

theorem task3 (hw : InRange m) (hO : ∀ g, O g none = 0) : DoesTask m c s O W 3 fun _ => body3 c s := by
  intro d
  rw [(K (F := F)).scopedBufs_V facts d (cc0 c s) (ss0 c s), SparseCore.Cfg.scopedSems0_V (Val := Elt F) d (cc0 c s) (ss0 c s)]
  obtain ⟨RS, hS⟩ := sems_peel (F := F) d (cc0 c s) (ss0 c s) (semT cc3_scoped1 0) (semT cc3_scoped1 1) (semT cc3_scoped3 0) (semT cc3_scoped3 1) cc3_scoped4.sem
    (by decide) (by decide)
  obtain ⟨RB, hB⟩ := bufs_peel (F := F) d (cc0 c s) (ss0 c s) cc3_scoped0 cc3_scoped2 (by decide) (SparseCore.Cfg.mem_ownRefs_of_owner rfl) (SparseCore.Cfg.mem_ownRefs_of_owner rfl)
  have hL : levAts (K (F := F)).L (K (F := F)).lev ⊢ (MayWaits (V d (cc0 c s) (ss0 c s)) (default : HIx 4) O : sProp 𝕄) := (K (F := F)).mayWaits_none (thr := V d (cc0 c s) (ss0 c s)) hO
  have hr : ∀ i, (Memref.whole main_v7_scv).view.read (Elt F) (rows m 3 d) i
      = gathered (F := F) (r := 25600) ((tab).view.read (Elt F) (m (tLoc d))) ((idx).view.read (Elt F) (words m d)) 1400 i := fun _ => by
    rw [View.read_whole, View.read_whole, View.read_whole]; rfl
  have hi : ∀ t x, (Gather.wordsAt d (cc0 c s) (ss0 c s) idx (words m d) (1400 + bOf 8 6 c s) t x).toNat < 100000 := fun t x =>
    Gather.wordsAt_lt d (cc0 c s) (ss0 c s) idx (words m d) (fun j => by rw [View.read_whole]; exact hw d j) _ t x
  have hc : ∀ s' : Shape, sig.dmaCredit .scVector (Kind.scVector.table .vmem) (Memref.whole cc3_scoped2 : Memref sig .scVector .vmem _ _).view.buf s' .f32 = s'.numel * (EltTy.f32 : EltTy).bits := fun _ => rfl
  have hp := fun q => @Tile3.tile3 F (HIx 4) UU _ _ _ default d _ _ tab (Memref.isWhole_whole main_arg2_scv) idx (Memref.isWhole_whole main_v0_scv) (Memref.whole cc3_scoped0) (Memref.isWhole_whole cc3_scoped0)
      (Memref.whole cc3_scoped2) (Memref.isWhole_whole cc3_scoped2) cc3_scoped1 cc3_scoped3 cc3_scoped4 cc3_scoped5 (Memref.whole main_v7_scv) (Memref.isWhole_whole main_v7_scv) c s q (tq c s)
      (m (tLoc d)) (words m d) O W hi hc
  have k1 := Gather.task (F := F) (Ix := HIx 4) (U := UU) (r := 25600) (e := 8) (m := 6) d (cc0 c s) (ss0 c s) tab idx (Memref.whole main_v7_scv) default (Memref.whole cc3_scoped0) (Memref.whole cc3_scoped2)
    cc3_scoped1 cc3_scoped3 cc3_scoped4 (defs := defs₀) 𝒱₀ (Lv := levAts (K (F := F)).L (K (F := F)).lev) (O := O) (W := W)
    (RS := RS) (RB := RB) (SB := ownBufs (V d (cc0 c s) (ss0 c s))) (SS := ownSems0 (V d (cc0 c s) (ss0 c s)))
  have k2 := k1 Gather.deals_8_6
  have k3 := k2 rfl
  have k4 := k3 (by decide) c s 1400 (by decide)
  have k5 := k4 hL
  have k6 := k5 (View.set_whole cc3_scoped0) (View.set_whole cc3_scoped2)
  have k7 := k6 hB hS (tq c s) (tq c s)
  have k8 := k7 (m (tLoc d)) (words m d)
  have k9 := k8 (m (oLoc 3 d)) (rows m 3 d)
  have key := k9 hr hp
  rw [show (tileSet 25600 8 6 c s).map (Memref.whole main_v7_scv).view.emb = tset 3 d c s from Finset.map_refl] at key
  exact key

end Tasks

end Cert.Proof.Launch
-- ==== Proof.Duty.lean ====
/-
  What the launch asks for: the tasks at the program's own table, and the ghost state the launch starts from.
-/
module

public import proofs.«01_k».proof.Proof.Launch
public import proofs.«01_k».proof.Proof.Tasks
public import Idealize.ShloMosaic.Lib.Pipeline.Sound
public import Idealize.ShloMosaic.Lib.Pipeline.Kit
public import proofs.«01_k».proof.Proof.Split
public import proofs.«01_k».proof.Proof.Tile0
public import proofs.«01_k».proof.Proof.Tile1
public import proofs.«01_k».proof.Proof.Tile2
public import proofs.«01_k».proof.Proof.Tile3

@[expose] public section

set_option maxRecDepth 16384

noncomputable section

namespace Cert.Proof.Launch

open Cert.KernelIdeal Cert.KernelIdeal.Gen
open Cert.Proof
open Cert.Proof.Norm (UH UP UU)
open Cert.Proof.Gather (nOf bOf at0 cc0 ss0 tileSet coreSet gathered peel5 semT)
open Idealize.ShloMosaic
open Idealize.ShloMosaic.SparseCore (V)
open Idealize.ShloMosaic.SparseCore.Cfg (HIx ownCells mem_ownCells ownRefs ownSems0 ownBufs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] [Named F]

local notation "𝕄" => MT nD τ sig (HIx 4) (Elt F) ℕ UU ℕ

variable (m : (ℓ : Loc nD τ sig) → Buf (Elt F) ℓ)

/-! ## The tasks at the table -/

theorem vector0 (c : Fin 2) (s : Fin 16) : defs₀ (F := F) (.scVector (cc0 c s) (ss0 c s)) 0 () = body0 c s :=
  (show _ = SparseCore.onTile hcore0 hsub0 (fun c s => body0 (F := F) c s) ⟨⟩ (cc0 c s) (ss0 c s) from rfl).trans
    (dif_pos ⟨(at0 c s 0).isLt, (at0 c s 1).isLt⟩)
theorem vector1 (c : Fin 2) (s : Fin 16) : defs₀ (F := F) (.scVector (cc0 c s) (ss0 c s)) 1 () = body1 c s :=
  (show _ = SparseCore.onTile hcore1 hsub1 (fun c s => body1 (F := F) c s) ⟨⟩ (cc0 c s) (ss0 c s) from rfl).trans
    (dif_pos ⟨(at0 c s 0).isLt, (at0 c s 1).isLt⟩)
theorem vector2 (c : Fin 2) (s : Fin 16) : defs₀ (F := F) (.scVector (cc0 c s) (ss0 c s)) 2 () = body2 c s :=
  (show _ = SparseCore.onTile hcore2 hsub2 (fun c s => body2 (F := F) c s) ⟨⟩ (cc0 c s) (ss0 c s) from rfl).trans
    (dif_pos ⟨(at0 c s 0).isLt, (at0 c s 1).isLt⟩)
theorem vector3 (c : Fin 2) (s : Fin 16) : defs₀ (F := F) (.scVector (cc0 c s) (ss0 c s)) 3 () = body3 c s :=
  (show _ = SparseCore.onTile hcore3 hsub3 (fun c s => body3 (F := F) c s) ⟨⟩ (cc0 c s) (ss0 c s) from rfl).trans
    (dif_pos ⟨(at0 c s 0).isLt, (at0 c s 1).isLt⟩)

attribute [local irreducible] cc0_gather_kernel cc1_gather_kernel cc2_gather_kernel cc3_gather_kernel

theorem obl_post {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl0 (hw : InRange m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector (cc0 (core (F := F) 0 c) (tile (F := F) 0 i)) (ss0 (core (F := F) 0 c) (tile (F := F) 0 i))) 0 ())) _
  rw [vector0]
  refine BIBase.Entails.trans ?_ (Pipeline.wp_liftProg (D (F := F)) (Pipeline.defs_kernel pcfgs defs₀) 𝒱₀ _ Set.univ none _ _)
  exact (task0 m (core (F := F) 0 c) (tile (F := F) 0 i) O W hw hO d).trans (wp_mono frame _ _ fun _ => obl_post (q := 0))

theorem tileObl1 (hw : InRange m) : (K (F := F)).TileObl (D (F := F)) 𝒱 (P m) v₀ 1 := by
  intro d c i O W hO _ _
  simp only [show (P m).ox = fun _ _ => 0 from rfl, add_zero]
  change _ ⊢ wp _ _ _ (Pipeline.liftProg (defs₀ (F := F) (.scVector (cc0 (core (F := F) 1 c) (tile (F := F) 1 i)) (ss0 (core (F := F) 1 c) (tile (F := F) 1 i))) 1 ())) _
  rw [vector1]
  refine BIBase.Entails.trans ?_ (Pipeline.wp_liftProg (D (F := F)) (Pipeline.defs_kernel pcfgs defs₀) 𝒱₀ _ Set.univ none _ _)
  exact (task1 m (core (F := F) 1 c) (tile (F := F) 1 i) O W hw hO d).trans (wp_mono frame _ _ fun _ => obl_post (q := 1))

theorem tileObl2 (hw : InRange m) : (K (F := F)).TileObl (D (F := F)) 𝒱 (P m) v₀ 2 := by
  intro d c i O W hO _ _
  simp only [show (P m).ox = fun _ _ => 0 from rfl, add_zero]
  change _ ⊢ wp _ _ _ (Pipeline.liftProg (defs₀ (F := F) (.scVector (cc0 (core (F := F) 2 c) (tile (F := F) 2 i)) (ss0 (core (F := F) 2 c) (tile (F := F) 2 i))) 2 ())) _
  rw [vector2]
  refine BIBase.Entails.trans ?_ (Pipeline.wp_liftProg (D (F := F)) (Pipeline.defs_kernel pcfgs defs₀) 𝒱₀ _ Set.univ none _ _)
  exact (task2 m (core (F := F) 2 c) (tile (F := F) 2 i) O W hw hO d).trans (wp_mono frame _ _ fun _ => obl_post (q := 2))

theorem tileObl3 (hw : InRange m) : (K (F := F)).TileObl (D (F := F)) 𝒱 (P m) v₀ 3 := by
  intro d c i O W hO _ _
  simp only [show (P m).ox = fun _ _ => 0 from rfl, add_zero]
  change _ ⊢ wp _ _ _ (Pipeline.liftProg (defs₀ (F := F) (.scVector (cc0 (core (F := F) 3 c) (tile (F := F) 3 i)) (ss0 (core (F := F) 3 c) (tile (F := F) 3 i))) 3 ())) _
  rw [vector3]
  refine BIBase.Entails.trans ?_ (Pipeline.wp_liftProg (D (F := F)) (Pipeline.defs_kernel pcfgs defs₀) 𝒱₀ _ Set.univ none _ _)
  exact (task3 m (core (F := F) 3 c) (tile (F := F) 3 i) O W hw hO d).trans (wp_mono frame _ _ fun _ => obl_post (q := 3))

/-! ## The ghost state the launch starts from -/

abbrev EH : Emb UH 𝕄 := embL
abbrev EP : Emb UP 𝕄 := (Emb.inl : Emb UP (UP × Counters)).trans embR
abbrev adm : Dev nD → (p : Fin 4) → (pcfgs (F := F) p).Adm := fun _ p => (cfgs p).toPCfg_adm

instance EP_landsIn : (EP (F := F)).LandsIn (upEmb : UEmb _ 𝕄) := by
  unfold EP embR; infer_instance

def u₀ : UU := (initOf (K (F := F)).hsCells (K (F := F)).hsToks, (initOf (Pipeline.cells cfgs cellOf_inj) (Pipeline.launchToks cfgs cellOf_inj), 1))

/-- What device `d`'s TensorCore is dealt for the four pipelines. -/
def G (d : Dev nD) : sProp 𝕄 :=
  iprop((bigSep Finset.univ fun p : Fin 4 => Pipeline.cellsGhost cfgs (EP (F := F)) p d) ∗ bigSep Finset.univ fun p : Fin 4 => Pipeline.toksInit cfgs (EP (F := F)) p d)

theorem hu₀ : (ownU (u₀ (F := F)) : sProp 𝕄)
    ⊢ |={Set.univ}=> iprop(BI.own (EH (F := F) (initOf (K (F := F)).hsCells (K (F := F)).hsToks)) ∗ (bigSep Finset.univ fun d : Dev nD => G (F := F) d)
        ∗ bigSep Finset.univ fun thr : Thread nD τ => bigSep Finset.univ fun q : Fin 4 => (P m).x q thr) := by
  unfold u₀
  iintro Hu
  ihave H := (ownU_pair _ _) $$ Hu
  icases H with ⟨HH, HK⟩
  ihave H2 := (own_pair_emb _ _ _) $$ HK
  icases H2 with ⟨HP, -⟩
  imod (Pipeline.fund_ghost cfgs (EP (F := F)) cellOf_inj) $$ HP with ⟨HC, HT⟩
  imodintro
  isplitl [HH]; · iexact HH
  isplitl [HC HT]
  · rw [show (bigSep Finset.univ fun d : Dev nD => G (F := F) d) = iprop((bigSep Finset.univ fun d : Dev nD => bigSep Finset.univ fun p : Fin 4 => Pipeline.cellsGhost cfgs (EP (F := F)) p d)
        ∗ bigSep Finset.univ fun d : Dev nD => bigSep Finset.univ fun p : Fin 4 => Pipeline.toksInit cfgs (EP (F := F)) p d) from bigSep_sep' _ _ _]
    isplitl [HC]; · iexact HC
    iexact HT
  · rw [show (bigSep Finset.univ fun thr : Thread nD τ => bigSep Finset.univ fun q : Fin 4 => (P m).x q thr) = iprop(emp) from
      (bigSep_congr fun _ _ => bigSep_emp_const _).trans (bigSep_emp_const _)]
    iempintro

end Cert.Proof.Launch
-- ==== Proof.Norm4.lean ====
/-
  TensorCore call 4: the contents of its windows over the grid, and its body at every point.
-/
module

public import proofs.«01_k».proof.Proof.Norm

@[expose] public section

set_option maxRecDepth 16384

noncomputable section

namespace Cert.Proof.Norm.C4

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig (HIx 4) (Elt F) ℕ UU ℕ

-- the buffers as the call finds them
variable (V : Valuation τ sig (Elt F))

/-- The window's block of its array at a grid point. -/
def blk (w : Fin cfg4.W) (t : Fin cfg4.N) : ((cfg4.win w).xblock (cfg4.grid.coords t)).Idx → Elt F (cfg4.win w).elt :=
  ((cfg4.win w).blk t).view.read (Elt F) (V (Proc.devRef .tc (Pipeline.arrRef spec4 w)))

/-- Anything, for what no transfer writes; the position block is never cut, so nothing of this is left. -/
def any2 : (cfg4.win 2).block.Idx → Elt F (cfg4.win 2).elt := fun _ => Classical.choice inferInstance

/-- The position rows the call works on. -/
def pos (t : Fin cfg4.N) : (cfg4.win 2).block.Idx → Elt F (cfg4.win 2).elt := (cfg4.win 2).fill (cfg4.grid.coords t) any2 (blk V 2 t)

theorem uncut : ∀ (t : Fin cfg4.N) (a : Fin (cfg4.win 2).shape.rank), (cfg4.win 2).xsize (cfg4.grid.coords t) a = (cfg4.win 2).size a := by decide +kernel

theorem moved (t : Fin cfg4.N) (j : (cfg4.win 2).block.Idx) : (cfg4.win 2).moved (cfg4.grid.coords t) j = true :=
  ((cfg4.win 2).moved_iff _ j).mpr fun a => by rw [uncut t a]; exact (j a).isLt

theorem fill_any (t : Fin cfg4.N) (d d' : (cfg4.win 2).block.Idx → Elt F (cfg4.win 2).elt) (g : ((cfg4.win 2).xblock (cfg4.grid.coords t)).Idx → Elt F (cfg4.win 2).elt) :
    (cfg4.win 2).fill (cfg4.grid.coords t) d g = (cfg4.win 2).fill (cfg4.grid.coords t) d' g := by
  funext j; unfold Pipeline.Window.fill; rw [dif_pos (moved t j), dif_pos (moved t j)]

/-- The contents over the grid: each input window's buffer keeps its block, the output's ends at the layer norm of the inputs'. -/
def dat (c : Dev nD) : Dat τ (Elt F) (HIx 4) ℕ UU ℕ cfg4 c where
  A w := V (Proc.devRef .tc (Pipeline.arrRef spec4 w))
  after w t := match w with
    | ⟨0, _⟩ => blk V 0 t
    | ⟨1, _⟩ => blk V 1 t
    | ⟨2, _⟩ => pos V t
    | ⟨3, _⟩ => blk V 3 t
    | ⟨4, _⟩ => ln (blk V 0 t) (blk V 1 t) (pos V t) (blk V 3 t)
  Φ _ := Pipeline.scopedRest spec4 c
  q _ := fullShare
  owed _ := 0

variable (c : Dev nD)

theorem A_eq (w : Fin cfg4.W) : (dat V c).A w = V (Proc.devRef .tc (Pipeline.arrRef spec4 w)) := by dsimp only [dat]
theorem after0 (t : Fin cfg4.N) : (dat V c).after 0 t = blk V 0 t := by dsimp only [dat]
theorem after1 (t : Fin cfg4.N) : (dat V c).after 1 t = blk V 1 t := by dsimp only [dat]
theorem after2 (t : Fin cfg4.N) : (dat V c).after 2 t = pos V t := by dsimp only [dat]
theorem after3 (t : Fin cfg4.N) : (dat V c).after 3 t = blk V 3 t := by dsimp only [dat]
theorem after4 (t : Fin cfg4.N) : (dat V c).after 4 t = ln (blk V 0 t) (blk V 1 t) (pos V t) (blk V 3 t) := by dsimp only [dat]

theorem before0 (t : Fin cfg4.N) (d) : (dat V c).before 0 t d = blk V 0 t :=
  ((dat V c).before_in_eq_fetched 0 rfl (fun _ => rfl) (fun _ _ _ => rfl) (fun t => by rw [after0]; unfold Dat.blockOf blk; rw [A_eq]; try rfl) t d).trans
    (by unfold Dat.fetched Dat.blockOf blk; rw [A_eq]; try rfl)
theorem before1 (t : Fin cfg4.N) (d) : (dat V c).before 1 t d = blk V 1 t :=
  ((dat V c).before_in_eq_fetched 1 rfl (fun _ => rfl) (fun _ _ _ => rfl) (fun t => by rw [after1]; unfold Dat.blockOf blk; rw [A_eq]; try rfl) t d).trans
    (by unfold Dat.fetched Dat.blockOf blk; rw [A_eq]; try rfl)
theorem before2 (t : Fin cfg4.N) (d) : (dat V c).before 2 t d = pos V t :=
  ((dat V c).before_in_eq_fetched 2 rfl (fun _ => rfl)
    (fun t t' h => funext fun a => congrArg (fun n => Pipeline.Clip.of n ((cfg4.win 2).size a) (S512x128.size a)) (congrFun h a))
    (fun t => by rw [after2]; unfold pos; rw [Pipeline.Window.cut_fill]; unfold Dat.blockOf blk; rw [A_eq]; try rfl) t d).trans
    (by unfold Dat.fetched pos; rw [fill_any t d any2]; unfold Dat.blockOf blk; rw [A_eq]; try rfl)
theorem before3 (t : Fin cfg4.N) (d) : (dat V c).before 3 t d = blk V 3 t :=
  ((dat V c).before_in_eq_fetched 3 rfl (fun _ => rfl) (fun _ _ _ => rfl) (fun t => by rw [after3]; unfold Dat.blockOf blk; rw [A_eq]; try rfl) t d).trans
    (by unfold Dat.fetched Dat.blockOf blk; rw [A_eq]; try rfl)

/-- What the body takes at a point. -/
def takes (t : Fin cfg4.N) : sProp 𝕄 :=
  iprop((dat V c).Φ t.castSucc ∗ (dat V c).owesAt default t.castSucc
    ∗ (∃ d, owns (c : Thread nD τ) (st4_0 t) fullShare ((dat V c).before 0 t d)) ∗ (∃ d, owns (c : Thread nD τ) (st4_1 t) fullShare ((dat V c).before 1 t d))
    ∗ (∃ d, owns (c : Thread nD τ) (st4_2 t) fullShare ((dat V c).before 2 t d)) ∗ (∃ d, owns (c : Thread nD τ) (st4_3 t) fullShare ((dat V c).before 3 t d))
    ∗ (∃ d, owns (c : Thread nD τ) (st4_4 t) fullShare ((dat V c).before 4 t d)))

/-- What it gives back. -/
def hands (t : Fin cfg4.N) : sProp 𝕄 :=
  iprop((dat V c).Φ t.succ ∗ (dat V c).owesAt default t.succ
    ∗ owns (c : Thread nD τ) (st4_0 t) fullShare ((dat V c).after 0 t) ∗ owns (c : Thread nD τ) (st4_1 t) fullShare ((dat V c).after 1 t)
    ∗ owns (c : Thread nD τ) (st4_2 t) fullShare ((dat V c).after 2 t) ∗ owns (c : Thread nD τ) (st4_3 t) fullShare ((dat V c).after 3 t)
    ∗ owns (c : Thread nD τ) (st4_4 t) fullShare ((dat V c).after 4 t))

theorem at_point (t : Fin cfg4.N) :
    takes V c t ⊢ wp frame (wpE (defs₀ (F := F)) Variants.none c none) Set.univ (bodyAt4 t) (fun _ => hands V c t) := by
  unfold takes hands bodyAt4
  simp only [before0, before1, before2, before3]
  rw [show (dat V c).Φ t.succ = (dat V c).Φ t.castSucc from rfl, show (dat V c).owesAt default t.succ = (dat V c).owesAt default t.castSucc from rfl,
    after0, after1, after2, after3, after4]
  iintro ⟨HΦ, Ho, ⟨%d0, H0⟩, ⟨%d1, H1⟩, ⟨%d2, H2⟩, ⟨%d3, H3⟩, ⟨%d4, H4⟩⟩
  iapply body4 c (grid4.coords t) _ _ _ _ _ _ _ _ _ _ (blk V 0 t) (blk V 1 t) (pos V t) (blk V 3 t) Set.univ _
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem row (t : Fin cfg4.N) : defs₀ (F := F) .tc cfg4.body (cfg4.bodyArgs t (cfg4.slots t)) = bodyAt4 t := rfl

theorem obligation : BodyObligation (dat V c) (defs₀ (F := F)) Variants.none default Set.univ := fun t => by
  rw [bigSep_W4, bigSep_W4, row]
  exact triple_restated (at_point V c t) rfl .rfl fun _ => .rfl

end Cert.Proof.Norm.C4
-- ==== Proof.Norm5.lean ====
/-
  TensorCore call 5: the contents of its windows over the grid, and its body at every point.
-/
module

public import proofs.«01_k».proof.Proof.Norm

@[expose] public section

set_option maxRecDepth 16384

noncomputable section

namespace Cert.Proof.Norm.C5

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig (HIx 4) (Elt F) ℕ UU ℕ

-- the buffers as the call finds them
variable (V : Valuation τ sig (Elt F))

/-- The window's block of its array at a grid point. -/
def blk (w : Fin cfg5.W) (t : Fin cfg5.N) : ((cfg5.win w).xblock (cfg5.grid.coords t)).Idx → Elt F (cfg5.win w).elt :=
  ((cfg5.win w).blk t).view.read (Elt F) (V (Proc.devRef .tc (Pipeline.arrRef spec5 w)))

/-- Anything, for what no transfer writes; the position block is never cut, so nothing of this is left. -/
def any2 : (cfg5.win 2).block.Idx → Elt F (cfg5.win 2).elt := fun _ => Classical.choice inferInstance

/-- The position rows the call works on. -/
def pos (t : Fin cfg5.N) : (cfg5.win 2).block.Idx → Elt F (cfg5.win 2).elt := (cfg5.win 2).fill (cfg5.grid.coords t) any2 (blk V 2 t)

theorem uncut : ∀ (t : Fin cfg5.N) (a : Fin (cfg5.win 2).shape.rank), (cfg5.win 2).xsize (cfg5.grid.coords t) a = (cfg5.win 2).size a := by decide +kernel

theorem moved (t : Fin cfg5.N) (j : (cfg5.win 2).block.Idx) : (cfg5.win 2).moved (cfg5.grid.coords t) j = true :=
  ((cfg5.win 2).moved_iff _ j).mpr fun a => by rw [uncut t a]; exact (j a).isLt

theorem fill_any (t : Fin cfg5.N) (d d' : (cfg5.win 2).block.Idx → Elt F (cfg5.win 2).elt) (g : ((cfg5.win 2).xblock (cfg5.grid.coords t)).Idx → Elt F (cfg5.win 2).elt) :
    (cfg5.win 2).fill (cfg5.grid.coords t) d g = (cfg5.win 2).fill (cfg5.grid.coords t) d' g := by
  funext j; unfold Pipeline.Window.fill; rw [dif_pos (moved t j), dif_pos (moved t j)]

/-- The contents over the grid: each input window's buffer keeps its block, the output's ends at the layer norm of the inputs'. -/
def dat (c : Dev nD) : Dat τ (Elt F) (HIx 4) ℕ UU ℕ cfg5 c where
  A w := V (Proc.devRef .tc (Pipeline.arrRef spec5 w))
  after w t := match w with
    | ⟨0, _⟩ => blk V 0 t
    | ⟨1, _⟩ => blk V 1 t
    | ⟨2, _⟩ => pos V t
    | ⟨3, _⟩ => blk V 3 t
    | ⟨4, _⟩ => ln (blk V 0 t) (blk V 1 t) (pos V t) (blk V 3 t)
  Φ _ := Pipeline.scopedRest spec5 c
  q _ := fullShare
  owed _ := 0

variable (c : Dev nD)

theorem A_eq (w : Fin cfg5.W) : (dat V c).A w = V (Proc.devRef .tc (Pipeline.arrRef spec5 w)) := by dsimp only [dat]
theorem after0 (t : Fin cfg5.N) : (dat V c).after 0 t = blk V 0 t := by dsimp only [dat]
theorem after1 (t : Fin cfg5.N) : (dat V c).after 1 t = blk V 1 t := by dsimp only [dat]
theorem after2 (t : Fin cfg5.N) : (dat V c).after 2 t = pos V t := by dsimp only [dat]
theorem after3 (t : Fin cfg5.N) : (dat V c).after 3 t = blk V 3 t := by dsimp only [dat]
theorem after4 (t : Fin cfg5.N) : (dat V c).after 4 t = ln (blk V 0 t) (blk V 1 t) (pos V t) (blk V 3 t) := by dsimp only [dat]

theorem before0 (t : Fin cfg5.N) (d) : (dat V c).before 0 t d = blk V 0 t :=
  ((dat V c).before_in_eq_fetched 0 rfl (fun _ => rfl) (fun _ _ _ => rfl) (fun t => by rw [after0]; unfold Dat.blockOf blk; rw [A_eq]; try rfl) t d).trans
    (by unfold Dat.fetched Dat.blockOf blk; rw [A_eq]; try rfl)
theorem before1 (t : Fin cfg5.N) (d) : (dat V c).before 1 t d = blk V 1 t :=
  ((dat V c).before_in_eq_fetched 1 rfl (fun _ => rfl) (fun _ _ _ => rfl) (fun t => by rw [after1]; unfold Dat.blockOf blk; rw [A_eq]; try rfl) t d).trans
    (by unfold Dat.fetched Dat.blockOf blk; rw [A_eq]; try rfl)
theorem before2 (t : Fin cfg5.N) (d) : (dat V c).before 2 t d = pos V t :=
  ((dat V c).before_in_eq_fetched 2 rfl (fun _ => rfl)
    (fun t t' h => funext fun a => congrArg (fun n => Pipeline.Clip.of n ((cfg5.win 2).size a) (S512x128.size a)) (congrFun h a))
    (fun t => by rw [after2]; unfold pos; rw [Pipeline.Window.cut_fill]; unfold Dat.blockOf blk; rw [A_eq]; try rfl) t d).trans
    (by unfold Dat.fetched pos; rw [fill_any t d any2]; unfold Dat.blockOf blk; rw [A_eq]; try rfl)
theorem before3 (t : Fin cfg5.N) (d) : (dat V c).before 3 t d = blk V 3 t :=
  ((dat V c).before_in_eq_fetched 3 rfl (fun _ => rfl) (fun _ _ _ => rfl) (fun t => by rw [after3]; unfold Dat.blockOf blk; rw [A_eq]; try rfl) t d).trans
    (by unfold Dat.fetched Dat.blockOf blk; rw [A_eq]; try rfl)

/-- What the body takes at a point. -/
def takes (t : Fin cfg5.N) : sProp 𝕄 :=
  iprop((dat V c).Φ t.castSucc ∗ (dat V c).owesAt default t.castSucc
    ∗ (∃ d, owns (c : Thread nD τ) (st5_0 t) fullShare ((dat V c).before 0 t d)) ∗ (∃ d, owns (c : Thread nD τ) (st5_1 t) fullShare ((dat V c).before 1 t d))
    ∗ (∃ d, owns (c : Thread nD τ) (st5_2 t) fullShare ((dat V c).before 2 t d)) ∗ (∃ d, owns (c : Thread nD τ) (st5_3 t) fullShare ((dat V c).before 3 t d))
    ∗ (∃ d, owns (c : Thread nD τ) (st5_4 t) fullShare ((dat V c).before 4 t d)))

/-- What it gives back. -/
def hands (t : Fin cfg5.N) : sProp 𝕄 :=
  iprop((dat V c).Φ t.succ ∗ (dat V c).owesAt default t.succ
    ∗ owns (c : Thread nD τ) (st5_0 t) fullShare ((dat V c).after 0 t) ∗ owns (c : Thread nD τ) (st5_1 t) fullShare ((dat V c).after 1 t)
    ∗ owns (c : Thread nD τ) (st5_2 t) fullShare ((dat V c).after 2 t) ∗ owns (c : Thread nD τ) (st5_3 t) fullShare ((dat V c).after 3 t)
    ∗ owns (c : Thread nD τ) (st5_4 t) fullShare ((dat V c).after 4 t))

theorem at_point (t : Fin cfg5.N) :
    takes V c t ⊢ wp frame (wpE (defs₀ (F := F)) Variants.none c none) Set.univ (bodyAt5 t) (fun _ => hands V c t) := by
  unfold takes hands bodyAt5
  simp only [before0, before1, before2, before3]
  rw [show (dat V c).Φ t.succ = (dat V c).Φ t.castSucc from rfl, show (dat V c).owesAt default t.succ = (dat V c).owesAt default t.castSucc from rfl,
    after0, after1, after2, after3, after4]
  rw [body5_eq _ (grid4.coords t4_0)]
  iintro ⟨HΦ, Ho, ⟨%d0, H0⟩, ⟨%d1, H1⟩, ⟨%d2, H2⟩, ⟨%d3, H3⟩, ⟨%d4, H4⟩⟩
  iapply body4 c (grid4.coords t4_0) _ _ _ _ _ _ _ _ _ _ (blk V 0 t) (blk V 1 t) (pos V t) (blk V 3 t) Set.univ _
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem row (t : Fin cfg5.N) : defs₀ (F := F) .tc cfg5.body (cfg5.bodyArgs t (cfg5.slots t)) = bodyAt5 t := rfl

theorem obligation : BodyObligation (dat V c) (defs₀ (F := F)) Variants.none default Set.univ := fun t => by
  rw [bigSep_W5, bigSep_W5, row]
  exact triple_restated (at_point V c t) rfl .rfl fun _ => .rfl

end Cert.Proof.Norm.C5
-- ==== Proof.Norm6.lean ====
/-
  TensorCore call 6: the contents of its windows over the grid, and its body at every point.
-/
module

public import proofs.«01_k».proof.Proof.Norm

@[expose] public section

set_option maxRecDepth 16384

noncomputable section

namespace Cert.Proof.Norm.C6

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig (HIx 4) (Elt F) ℕ UU ℕ

-- the buffers as the call finds them
variable (V : Valuation τ sig (Elt F))

/-- The window's block of its array at a grid point. -/
def blk (w : Fin cfg6.W) (t : Fin cfg6.N) : ((cfg6.win w).xblock (cfg6.grid.coords t)).Idx → Elt F (cfg6.win w).elt :=
  ((cfg6.win w).blk t).view.read (Elt F) (V (Proc.devRef .tc (Pipeline.arrRef spec6 w)))

/-- Anything, for what no transfer writes; the position block is never cut, so nothing of this is left. -/
def any2 : (cfg6.win 2).block.Idx → Elt F (cfg6.win 2).elt := fun _ => Classical.choice inferInstance

/-- The position rows the call works on. -/
def pos (t : Fin cfg6.N) : (cfg6.win 2).block.Idx → Elt F (cfg6.win 2).elt := (cfg6.win 2).fill (cfg6.grid.coords t) any2 (blk V 2 t)

theorem uncut : ∀ (t : Fin cfg6.N) (a : Fin (cfg6.win 2).shape.rank), (cfg6.win 2).xsize (cfg6.grid.coords t) a = (cfg6.win 2).size a := by decide +kernel

theorem moved (t : Fin cfg6.N) (j : (cfg6.win 2).block.Idx) : (cfg6.win 2).moved (cfg6.grid.coords t) j = true :=
  ((cfg6.win 2).moved_iff _ j).mpr fun a => by rw [uncut t a]; exact (j a).isLt

theorem fill_any (t : Fin cfg6.N) (d d' : (cfg6.win 2).block.Idx → Elt F (cfg6.win 2).elt) (g : ((cfg6.win 2).xblock (cfg6.grid.coords t)).Idx → Elt F (cfg6.win 2).elt) :
    (cfg6.win 2).fill (cfg6.grid.coords t) d g = (cfg6.win 2).fill (cfg6.grid.coords t) d' g := by
  funext j; unfold Pipeline.Window.fill; rw [dif_pos (moved t j), dif_pos (moved t j)]

/-- The contents over the grid: each input window's buffer keeps its block, the output's ends at the layer norm of the inputs'. -/
def dat (c : Dev nD) : Dat τ (Elt F) (HIx 4) ℕ UU ℕ cfg6 c where
  A w := V (Proc.devRef .tc (Pipeline.arrRef spec6 w))
  after w t := match w with
    | ⟨0, _⟩ => blk V 0 t
    | ⟨1, _⟩ => blk V 1 t
    | ⟨2, _⟩ => pos V t
    | ⟨3, _⟩ => blk V 3 t
    | ⟨4, _⟩ => ln (blk V 0 t) (blk V 1 t) (pos V t) (blk V 3 t)
  Φ _ := Pipeline.scopedRest spec6 c
  q _ := fullShare
  owed _ := 0

variable (c : Dev nD)

theorem A_eq (w : Fin cfg6.W) : (dat V c).A w = V (Proc.devRef .tc (Pipeline.arrRef spec6 w)) := by dsimp only [dat]
theorem after0 (t : Fin cfg6.N) : (dat V c).after 0 t = blk V 0 t := by dsimp only [dat]
theorem after1 (t : Fin cfg6.N) : (dat V c).after 1 t = blk V 1 t := by dsimp only [dat]
theorem after2 (t : Fin cfg6.N) : (dat V c).after 2 t = pos V t := by dsimp only [dat]
theorem after3 (t : Fin cfg6.N) : (dat V c).after 3 t = blk V 3 t := by dsimp only [dat]
theorem after4 (t : Fin cfg6.N) : (dat V c).after 4 t = ln (blk V 0 t) (blk V 1 t) (pos V t) (blk V 3 t) := by dsimp only [dat]

theorem before0 (t : Fin cfg6.N) (d) : (dat V c).before 0 t d = blk V 0 t :=
  ((dat V c).before_in_eq_fetched 0 rfl (fun _ => rfl) (fun _ _ _ => rfl) (fun t => by rw [after0]; unfold Dat.blockOf blk; rw [A_eq]; try rfl) t d).trans
    (by unfold Dat.fetched Dat.blockOf blk; rw [A_eq]; try rfl)
theorem before1 (t : Fin cfg6.N) (d) : (dat V c).before 1 t d = blk V 1 t :=
  ((dat V c).before_in_eq_fetched 1 rfl (fun _ => rfl) (fun _ _ _ => rfl) (fun t => by rw [after1]; unfold Dat.blockOf blk; rw [A_eq]; try rfl) t d).trans
    (by unfold Dat.fetched Dat.blockOf blk; rw [A_eq]; try rfl)
theorem before2 (t : Fin cfg6.N) (d) : (dat V c).before 2 t d = pos V t :=
  ((dat V c).before_in_eq_fetched 2 rfl (fun _ => rfl)
    (fun t t' h => funext fun a => congrArg (fun n => Pipeline.Clip.of n ((cfg6.win 2).size a) (S512x128.size a)) (congrFun h a))
    (fun t => by rw [after2]; unfold pos; rw [Pipeline.Window.cut_fill]; unfold Dat.blockOf blk; rw [A_eq]; try rfl) t d).trans
    (by unfold Dat.fetched pos; rw [fill_any t d any2]; unfold Dat.blockOf blk; rw [A_eq]; try rfl)
theorem before3 (t : Fin cfg6.N) (d) : (dat V c).before 3 t d = blk V 3 t :=
  ((dat V c).before_in_eq_fetched 3 rfl (fun _ => rfl) (fun _ _ _ => rfl) (fun t => by rw [after3]; unfold Dat.blockOf blk; rw [A_eq]; try rfl) t d).trans
    (by unfold Dat.fetched Dat.blockOf blk; rw [A_eq]; try rfl)

/-- What the body takes at a point. -/
def takes (t : Fin cfg6.N) : sProp 𝕄 :=
  iprop((dat V c).Φ t.castSucc ∗ (dat V c).owesAt default t.castSucc
    ∗ (∃ d, owns (c : Thread nD τ) (st6_0 t) fullShare ((dat V c).before 0 t d)) ∗ (∃ d, owns (c : Thread nD τ) (st6_1 t) fullShare ((dat V c).before 1 t d))
    ∗ (∃ d, owns (c : Thread nD τ) (st6_2 t) fullShare ((dat V c).before 2 t d)) ∗ (∃ d, owns (c : Thread nD τ) (st6_3 t) fullShare ((dat V c).before 3 t d))
    ∗ (∃ d, owns (c : Thread nD τ) (st6_4 t) fullShare ((dat V c).before 4 t d)))

/-- What it gives back. -/
def hands (t : Fin cfg6.N) : sProp 𝕄 :=
  iprop((dat V c).Φ t.succ ∗ (dat V c).owesAt default t.succ
    ∗ owns (c : Thread nD τ) (st6_0 t) fullShare ((dat V c).after 0 t) ∗ owns (c : Thread nD τ) (st6_1 t) fullShare ((dat V c).after 1 t)
    ∗ owns (c : Thread nD τ) (st6_2 t) fullShare ((dat V c).after 2 t) ∗ owns (c : Thread nD τ) (st6_3 t) fullShare ((dat V c).after 3 t)
    ∗ owns (c : Thread nD τ) (st6_4 t) fullShare ((dat V c).after 4 t))

theorem at_point (t : Fin cfg6.N) :
    takes V c t ⊢ wp frame (wpE (defs₀ (F := F)) Variants.none c none) Set.univ (bodyAt6 t) (fun _ => hands V c t) := by
  unfold takes hands bodyAt6
  simp only [before0, before1, before2, before3]
  rw [show (dat V c).Φ t.succ = (dat V c).Φ t.castSucc from rfl, show (dat V c).owesAt default t.succ = (dat V c).owesAt default t.castSucc from rfl,
    after0, after1, after2, after3, after4]
  rw [body6_eq _ (grid4.coords t4_0)]
  iintro ⟨HΦ, Ho, ⟨%d0, H0⟩, ⟨%d1, H1⟩, ⟨%d2, H2⟩, ⟨%d3, H3⟩, ⟨%d4, H4⟩⟩
  iapply body4 c (grid4.coords t4_0) _ _ _ _ _ _ _ _ _ _ (blk V 0 t) (blk V 1 t) (pos V t) (blk V 3 t) Set.univ _
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem row (t : Fin cfg6.N) : defs₀ (F := F) .tc cfg6.body (cfg6.bodyArgs t (cfg6.slots t)) = bodyAt6 t := rfl

theorem obligation : BodyObligation (dat V c) (defs₀ (F := F)) Variants.none default Set.univ := fun t => by
  rw [bigSep_W6, bigSep_W6, row]
  exact triple_restated (at_point V c t) rfl .rfl fun _ => .rfl

end Cert.Proof.Norm.C6
-- ==== Proof.Norm7.lean ====
/-
  TensorCore call 7: the contents of its windows over the grid, and its body at every point.
-/
module

public import proofs.«01_k».proof.Proof.Norm

@[expose] public section

set_option maxRecDepth 16384

noncomputable section

namespace Cert.Proof.Norm.C7

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig (HIx 4) (Elt F) ℕ UU ℕ

-- the buffers as the call finds them
variable (V : Valuation τ sig (Elt F))

/-- The window's block of its array at a grid point. -/
def blk (w : Fin cfg7.W) (t : Fin cfg7.N) : ((cfg7.win w).xblock (cfg7.grid.coords t)).Idx → Elt F (cfg7.win w).elt :=
  ((cfg7.win w).blk t).view.read (Elt F) (V (Proc.devRef .tc (Pipeline.arrRef spec7 w)))

/-- Anything, for what no transfer writes; the position block is never cut, so nothing of this is left. -/
def any2 : (cfg7.win 2).block.Idx → Elt F (cfg7.win 2).elt := fun _ => Classical.choice inferInstance

/-- The position rows the call works on. -/
def pos (t : Fin cfg7.N) : (cfg7.win 2).block.Idx → Elt F (cfg7.win 2).elt := (cfg7.win 2).fill (cfg7.grid.coords t) any2 (blk V 2 t)

theorem uncut : ∀ (t : Fin cfg7.N) (a : Fin (cfg7.win 2).shape.rank), (cfg7.win 2).xsize (cfg7.grid.coords t) a = (cfg7.win 2).size a := by decide +kernel

theorem moved (t : Fin cfg7.N) (j : (cfg7.win 2).block.Idx) : (cfg7.win 2).moved (cfg7.grid.coords t) j = true :=
  ((cfg7.win 2).moved_iff _ j).mpr fun a => by rw [uncut t a]; exact (j a).isLt

theorem fill_any (t : Fin cfg7.N) (d d' : (cfg7.win 2).block.Idx → Elt F (cfg7.win 2).elt) (g : ((cfg7.win 2).xblock (cfg7.grid.coords t)).Idx → Elt F (cfg7.win 2).elt) :
    (cfg7.win 2).fill (cfg7.grid.coords t) d g = (cfg7.win 2).fill (cfg7.grid.coords t) d' g := by
  funext j; unfold Pipeline.Window.fill; rw [dif_pos (moved t j), dif_pos (moved t j)]

/-- The contents over the grid: each input window's buffer keeps its block, the output's ends at the layer norm of the inputs'. -/
def dat (c : Dev nD) : Dat τ (Elt F) (HIx 4) ℕ UU ℕ cfg7 c where
  A w := V (Proc.devRef .tc (Pipeline.arrRef spec7 w))
  after w t := match w with
    | ⟨0, _⟩ => blk V 0 t
    | ⟨1, _⟩ => blk V 1 t
    | ⟨2, _⟩ => pos V t
    | ⟨3, _⟩ => blk V 3 t
    | ⟨4, _⟩ => ln (blk V 0 t) (blk V 1 t) (pos V t) (blk V 3 t)
  Φ _ := Pipeline.scopedRest spec7 c
  q _ := fullShare
  owed _ := 0

variable (c : Dev nD)

theorem A_eq (w : Fin cfg7.W) : (dat V c).A w = V (Proc.devRef .tc (Pipeline.arrRef spec7 w)) := by dsimp only [dat]
theorem after0 (t : Fin cfg7.N) : (dat V c).after 0 t = blk V 0 t := by dsimp only [dat]
theorem after1 (t : Fin cfg7.N) : (dat V c).after 1 t = blk V 1 t := by dsimp only [dat]
theorem after2 (t : Fin cfg7.N) : (dat V c).after 2 t = pos V t := by dsimp only [dat]
theorem after3 (t : Fin cfg7.N) : (dat V c).after 3 t = blk V 3 t := by dsimp only [dat]
theorem after4 (t : Fin cfg7.N) : (dat V c).after 4 t = ln (blk V 0 t) (blk V 1 t) (pos V t) (blk V 3 t) := by dsimp only [dat]

theorem before0 (t : Fin cfg7.N) (d) : (dat V c).before 0 t d = blk V 0 t :=
  ((dat V c).before_in_eq_fetched 0 rfl (fun _ => rfl) (fun _ _ _ => rfl) (fun t => by rw [after0]; unfold Dat.blockOf blk; rw [A_eq]; try rfl) t d).trans
    (by unfold Dat.fetched Dat.blockOf blk; rw [A_eq]; try rfl)
theorem before1 (t : Fin cfg7.N) (d) : (dat V c).before 1 t d = blk V 1 t :=
  ((dat V c).before_in_eq_fetched 1 rfl (fun _ => rfl) (fun _ _ _ => rfl) (fun t => by rw [after1]; unfold Dat.blockOf blk; rw [A_eq]; try rfl) t d).trans
    (by unfold Dat.fetched Dat.blockOf blk; rw [A_eq]; try rfl)
theorem before2 (t : Fin cfg7.N) (d) : (dat V c).before 2 t d = pos V t :=
  ((dat V c).before_in_eq_fetched 2 rfl (fun _ => rfl)
    (fun t t' h => funext fun a => congrArg (fun n => Pipeline.Clip.of n ((cfg7.win 2).size a) (S512x128.size a)) (congrFun h a))
    (fun t => by rw [after2]; unfold pos; rw [Pipeline.Window.cut_fill]; unfold Dat.blockOf blk; rw [A_eq]; try rfl) t d).trans
    (by unfold Dat.fetched pos; rw [fill_any t d any2]; unfold Dat.blockOf blk; rw [A_eq]; try rfl)
theorem before3 (t : Fin cfg7.N) (d) : (dat V c).before 3 t d = blk V 3 t :=
  ((dat V c).before_in_eq_fetched 3 rfl (fun _ => rfl) (fun _ _ _ => rfl) (fun t => by rw [after3]; unfold Dat.blockOf blk; rw [A_eq]; try rfl) t d).trans
    (by unfold Dat.fetched Dat.blockOf blk; rw [A_eq]; try rfl)

/-- What the body takes at a point. -/
def takes (t : Fin cfg7.N) : sProp 𝕄 :=
  iprop((dat V c).Φ t.castSucc ∗ (dat V c).owesAt default t.castSucc
    ∗ (∃ d, owns (c : Thread nD τ) (st7_0 t) fullShare ((dat V c).before 0 t d)) ∗ (∃ d, owns (c : Thread nD τ) (st7_1 t) fullShare ((dat V c).before 1 t d))
    ∗ (∃ d, owns (c : Thread nD τ) (st7_2 t) fullShare ((dat V c).before 2 t d)) ∗ (∃ d, owns (c : Thread nD τ) (st7_3 t) fullShare ((dat V c).before 3 t d))
    ∗ (∃ d, owns (c : Thread nD τ) (st7_4 t) fullShare ((dat V c).before 4 t d)))

/-- What it gives back. -/
def hands (t : Fin cfg7.N) : sProp 𝕄 :=
  iprop((dat V c).Φ t.succ ∗ (dat V c).owesAt default t.succ
    ∗ owns (c : Thread nD τ) (st7_0 t) fullShare ((dat V c).after 0 t) ∗ owns (c : Thread nD τ) (st7_1 t) fullShare ((dat V c).after 1 t)
    ∗ owns (c : Thread nD τ) (st7_2 t) fullShare ((dat V c).after 2 t) ∗ owns (c : Thread nD τ) (st7_3 t) fullShare ((dat V c).after 3 t)
    ∗ owns (c : Thread nD τ) (st7_4 t) fullShare ((dat V c).after 4 t))

theorem at_point (t : Fin cfg7.N) :
    takes V c t ⊢ wp frame (wpE (defs₀ (F := F)) Variants.none c none) Set.univ (bodyAt7 t) (fun _ => hands V c t) := by
  unfold takes hands bodyAt7
  simp only [before0, before1, before2, before3]
  rw [show (dat V c).Φ t.succ = (dat V c).Φ t.castSucc from rfl, show (dat V c).owesAt default t.succ = (dat V c).owesAt default t.castSucc from rfl,
    after0, after1, after2, after3, after4]
  rw [body7_eq _ (grid4.coords t4_0)]
  iintro ⟨HΦ, Ho, ⟨%d0, H0⟩, ⟨%d1, H1⟩, ⟨%d2, H2⟩, ⟨%d3, H3⟩, ⟨%d4, H4⟩⟩
  iapply body4 c (grid4.coords t4_0) _ _ _ _ _ _ _ _ _ _ (blk V 0 t) (blk V 1 t) (pos V t) (blk V 3 t) Set.univ _
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem row (t : Fin cfg7.N) : defs₀ (F := F) .tc cfg7.body (cfg7.bodyArgs t (cfg7.slots t)) = bodyAt7 t := rfl

theorem obligation : BodyObligation (dat V c) (defs₀ (F := F)) Variants.none default Set.univ := fun t => by
  rw [bigSep_W7, bigSep_W7, row]
  exact triple_restated (at_point V c t) rfl .rfl fun _ => .rfl

end Cert.Proof.Norm.C7
-- ==== Proof.Around.lean ====
/-
  The four layer-norm calls as segments of the main program, each between two states of the buffers.
-/
module

public import proofs.«01_k».proof.Proof.Launch
public import proofs.«01_k».proof.Proof.Duty
public import proofs.«01_k».proof.Proof.Norm4
public import proofs.«01_k».proof.Proof.Norm5
public import proofs.«01_k».proof.Proof.Norm6
public import proofs.«01_k».proof.Proof.Norm7
public import Idealize.ShloMosaic.Lib.Pipeline.RegionArraysS
public import proofs.«01_k».proof.Proof.Tasks
public import Idealize.ShloMosaic.Lib.Pipeline.Sound
public import Idealize.ShloMosaic.Lib.Pipeline.Kit
public import proofs.«01_k».proof.Proof.Split
public import proofs.«01_k».proof.Proof.Tile0
public import proofs.«01_k».proof.Proof.Tile1
public import proofs.«01_k».proof.Proof.Tile2
public import proofs.«01_k».proof.Proof.Tile3

@[expose] public section

set_option maxRecDepth 16384

noncomputable section

namespace Cert.Proof.Launch

open Cert.KernelIdeal Cert.KernelIdeal.Gen
open Cert.Proof
open Cert.Proof.Norm (UH UP UU)
open Cert.Proof.Gather (nOf bOf at0 cc0 ss0 tileSet coreSet gathered peel5 semT)
open Idealize.ShloMosaic
open Idealize.ShloMosaic.SparseCore (V)
open Idealize.ShloMosaic.Pipeline (Dat BodyObligationLoose RegionSeg afterRegion arrRef arrRefs ucRefs LevelCut)
open TcCoe
open Idealize.ShloMosaic.SparseCore.Cfg (HIx ownCells mem_ownCells ownRefs ownSems0 ownBufs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] [Named F]

local notation "𝕄" => MT nD τ sig (HIx 4) (Elt F) ℕ UU ℕ

attribute [local irreducible] cc0_gather_kernel cc1_gather_kernel cc2_gather_kernel cc3_gather_kernel

abbrev adm0 : (p : Fin 4) → (pcfgs (F := F) p).Adm := fun p => (cfgs p).toPCfg_adm

-- the buffers as a call finds them, on each device
variable (W : Dev nD → Valuation τ sig (Elt F))

/-- The four calls' contents over their grids, from one state of the buffers. -/
def pd : (p : Fin 4) → (c : Dev nD) → Dat τ (Elt F) (HIx 4) ℕ UU ℕ (Pipeline.pin (pcfgs (F := F)) adm0 p) c
  | 0 => fun c => Norm.C4.dat (W c) c
  | 1 => fun c => Norm.C5.dat (W c) c
  | 2 => fun c => Norm.C6.dat (W c) c
  | 3 => fun c => Norm.C7.dat (W c) c

theorem kit : (p : Fin 4) → Pipeline.PLaunchFacts (nD := nD) (τ := τ) (pcfgs (F := F)) p
  | 0 => launch4.toP | 1 => launch5.toP | 2 => launch6.toP | 3 => launch7.toP

theorem body_at : (p : Fin 4) → (c : Dev nD) → BodyObligationLoose (pd W p c) (defs₀ (F := F)) 𝒱₀ default Set.univ
  | 0, c => (Norm.C4.obligation (W c) c).loose
  | 1, c => (Norm.C5.obligation (W c) c).loose
  | 2, c => (Norm.C6.obligation (W c) c).loose
  | 3, c => (Norm.C7.obligation (W c) c).loose

theorem owed_at : (p : Fin 4) → (c : Dev nD) → ∀ t, (pd W p c).owed t = 0
  | 0, _ => fun _ => rfl | 1, _ => fun _ => rfl | 2, _ => fun _ => rfl | 3, _ => fun _ => rfl
theorem recorded_at : (p : Fin 4) → (c : Dev nD) → (pd W p c).recorded 0 = Set.univ
  | 0, _ => rfl | 1, _ => rfl | 2, _ => rfl | 3, _ => rfl
theorem share_at : (p : Fin 4) → (c : Dev nD) → ∀ w, (pd W p c).share w = fullShare
  | 0, c => (Norm.C4.dat (W c) c).share_full fun _ => rfl
  | 1, c => (Norm.C5.dat (W c) c).share_full fun _ => rfl
  | 2, c => (Norm.C6.dat (W c) c).share_full fun _ => rfl
  | 3, c => (Norm.C7.dat (W c) c).share_full fun _ => rfl
theorem rest0 (c : Dev nD) (t) : (Norm.C4.dat (W c) c).Φ t = Pipeline.scopedRest spec4 c := by dsimp only [Norm.C4.dat]
theorem rest1 (c : Dev nD) (t) : (Norm.C5.dat (W c) c).Φ t = Pipeline.scopedRest spec5 c := by dsimp only [Norm.C5.dat]
theorem rest2 (c : Dev nD) (t) : (Norm.C6.dat (W c) c).Φ t = Pipeline.scopedRest spec6 c := by dsimp only [Norm.C6.dat]
theorem rest3 (c : Dev nD) (t) : (Norm.C7.dat (W c) c).Φ t = Pipeline.scopedRest spec7 c := by dsimp only [Norm.C7.dat]

theorem emp_in (A : sProp 𝕄) : iprop(A ∗ emp) ⊢ A := sep_elim_left
theorem emp_out (A : sProp 𝕄) : A ⊢ iprop(A ∗ emp) := by
  iintro H; isplitl; · iexact H
  iempintro

theorem start_at : (p : Fin 4) → (c : Dev nD) → ∀ w, (pd W p c).A w = W c (Proc.devRef .tc (arrRef (Pipeline.pin (pcfgs (F := F)) adm0 p).spec w))
  | 0, _ => fun _ => rfl | 1, _ => fun _ => rfl | 2, _ => fun _ => rfl | 3, _ => fun _ => rfl

theorem cut_at (p : Fin 4) : LevelCut (pcfgs (F := F)) adm0 (default : HIx 4) (K (F := F)).L (K (F := F)).lev p (fun _ : Dev nD => (0 : CellTallies nD τ sig (HIx 4))) (fun _ => 0) where
  hι _ _ _ := Finset.mem_univ _
  hιb _ _ _ := le_refl _
  hD _ _ _ h := absurd h (Nat.lt_irrefl 0)

theorem entry_at : (p : Fin 4) → (c : Dev nD) → iprop(Pipeline.scopedRest (Pipeline.pin (pcfgs (F := F)) adm0 p).spec c ∗ emp) ⊢ (pd W p c).Φ 0
  | 0, c => (emp_in _).trans (Entails.of_eq (rest0 W c _).symm) | 1, c => (emp_in _).trans (Entails.of_eq (rest1 W c _).symm)
  | 2, c => (emp_in _).trans (Entails.of_eq (rest2 W c _).symm) | 3, c => (emp_in _).trans (Entails.of_eq (rest3 W c _).symm)
theorem exit_at : (p : Fin 4) → (c : Dev nD) → (pd W p c).Φ (Fin.last (Pipeline.pin (pcfgs (F := F)) adm0 p).N) ⊢ iprop(Pipeline.scopedRest (Pipeline.pin (pcfgs (F := F)) adm0 p).spec c ∗ emp)
  | 0, c => (Entails.of_eq (rest0 W c _)).trans (emp_out _) | 1, c => (Entails.of_eq (rest1 W c _)).trans (emp_out _)
  | 2, c => (Entails.of_eq (rest2 W c _)).trans (emp_out _) | 3, c => (Entails.of_eq (rest3 W c _)).trans (emp_out _)

/-- A layer-norm call as a segment, `R` riding beside it. -/
def seg (p : Fin 4) (R : Dev nD → sProp 𝕄) : RegionSeg (pcfgs (F := F)) adm0 (pd W) (default : HIx 4) (defs₀ (F := F)) 𝒱₀ (K (F := F)).L (K (F := F)).lev p :=
  RegionSeg.ofHeldIn (pcfgs (F := F)) adm0 (pd W) (default : HIx 4) (defs₀ (F := F)) 𝒱₀ (K (F := F)).L (K (F := F)).lev p (fun _ => 0) (ucRefs τ sig) (fun _ => iprop(emp)) (fun _ => iprop(emp))
    (kit p) rfl (body_at W p) (owed_at W p) (recorded_at W p) (share_at W p) (entry_at W p) (exit_at W p) (fun _ => 0) (cut_at p) R W (fun c w => start_at W p c w)

theorem arrs_at (p : Fin 4) : arrRefs (τ := τ) (pcfgs (F := F) p).spec ⊆ ucRefs τ sig :=
  Pipeline.arrRefs_sub_ucRefs _ fun w => (kit (F := F) p).win.arr_unscoped w

theorem seg_pre (p : Fin 4) (R : Dev nD → sProp 𝕄) (d : Dev nD) :
    iprop(StableHlo.held (d.tc : Thread nD τ) (ucRefs τ sig) (W d) ∗ ((∃ Wd, owes (d : Thread nD τ) 0 Wd) ∗ emp ∗ R d)) ⊢ (seg W p R).pre d :=
  RegionSeg.ofHeldIn_pre (pcs := pcfgs (F := F)) (a := adm0) (pdats := pd W) (ι := (default : HIx 4)) (defs₀ := defs₀ (F := F)) (𝒱₀ := 𝒱₀) (L := (K (F := F)).L) (lv := (K (F := F)).lev)
    (p := p) (D := fun _ => 0) (S := ucRefs τ sig) (arrs_at p) (X := fun _ => iprop(emp)) (Y := fun _ => iprop(emp)) (kit := kit p) (hK := rfl) (hbody := body_at W p) (howed := owed_at W p)
    (hrec := recorded_at W p) (hshare := share_at W p) (hin := entry_at W p) (hout := exit_at W p) (b := fun _ => 0) (hcut := cut_at p) (R := R) (W := W) (hW := fun c w => start_at W p c w) d
theorem seg_post (p : Fin 4) (R : Dev nD → sProp 𝕄) (d : Dev nD) :
    (seg W p R).post d ⊢ iprop(StableHlo.held (d.tc : Thread nD τ) (ucRefs τ sig) (afterRegion (pd W p d) (W d)) ∗ ((∃ Wd, owes (d : Thread nD τ) 0 Wd) ∗ emp ∗ R d)) :=
  RegionSeg.ofHeldIn_post (pcs := pcfgs (F := F)) (a := adm0) (pdats := pd W) (ι := (default : HIx 4)) (defs₀ := defs₀ (F := F)) (𝒱₀ := 𝒱₀) (L := (K (F := F)).L) (lv := (K (F := F)).lev)
    (p := p) (D := fun _ => 0) (S := ucRefs τ sig) (arrs_at p) (X := fun _ => iprop(emp)) (Y := fun _ => iprop(emp)) (kit := kit p) (hK := rfl) (hbody := body_at W p) (howed := owed_at W p)
    (hrec := recorded_at W p) (hshare := share_at W p) (hin := entry_at W p) (hout := exit_at W p) (b := fun _ => 0) (hcut := cut_at p) (R := R) (W := W) (hW := fun c w => start_at W p c w) d

/-- A layer-norm call of the main program: from a state of the buffers to the state after it. -/
theorem norm_call [∀ e, Nonempty (Elt F e)] (p : Fin 4) (d : Dev nD) (Q : PUnit → sProp 𝕄) :
    iprop((iprop(boundary (SparseCore.T d) ∗ StableHlo.held (SparseCore.T d) (ucRefs τ sig) (afterRegion (pd W p d) (W d)) ∗ (∃ Wd, owes (SparseCore.T d) 0 Wd)) -∗ Q ⟨⟩)
        ∗ boundary (SparseCore.T d) ∗ StableHlo.held (SparseCore.T d) (ucRefs τ sig) (W d) ∗ (∃ Wd, owes (SparseCore.T d) 0 Wd) ∗ levAts (K (F := F)).L (K (F := F)).lev
        ∗ Pipeline.cellsGhost cfgs (EP (F := F)) p d ∗ Pipeline.toksInit cfgs (EP (F := F)) p d)
      ⊢ wp frame (wpE ((K (F := F)).defs (D (F := F))) 𝒱 (SparseCore.T d) none) Set.univ (Prog.lift (.customCall (SparseCore.inner (Pipeline.entry p)) ())) Q := by
  refine BIBase.Entails.trans ?_ ((K (F := F)).wp_liftProg (D (F := F)) 𝒱 (SparseCore.T d) Set.univ none (Prog.lift (.customCall (Pipeline.entry p) ())) Q)
  refine BIBase.Entails.trans ?_ (RegionSeg.wp (pcfgs (F := F)) adm0 (pd W) (default : HIx 4) cellOf_inj (EP (F := F)) (defs₀ (F := F)) 𝒱₀ (K (F := F)).L (K (F := F)).lev (seg W p fun _ => iprop(emp)) d none
    (fun u hu => nomatch hu) .ret Q)
  iintro ⟨Hk, Hb, Hh, Ho, Hl, Hc, Ht⟩
  isplitl [Hk]
  · iintro ⟨Hb, Hp⟩
    ihave Hp' := (seg_post W p (fun _ => iprop(emp)) d) $$ Hp
    icases Hp' with ⟨Hh, Ho, -, -⟩
    rw [wp_ret]; imodintro
    iapply Hk
    isplitl [Hb]; · iexact Hb
    isplitl [Hh]; · iexact Hh
    iexact Ho
  isplitl [Hb]; · iexact Hb
  isplitl [Hh Ho]
  · iapply (seg_pre W p (fun _ => iprop(emp)) d)
    isplitl [Hh]; · iexact Hh
    isplitl [Ho]; · iexact Ho
    isplitr; · iempintro
    iempintro
  isplitl [Hl]; · iexact Hl
  isplitl [Hc]; · iexact Hc
  iexact Ht

end Cert.Proof.Launch
-- ==== Proof.Main.lean ====
/-
  The main program's run: four gather calls, then four layer-norm calls, the buffers' contents followed throughout.
-/
module

public import proofs.«01_k».proof.Proof.Launch
public import proofs.«01_k».proof.Proof.Duty
public import proofs.«01_k».proof.Proof.Around
public import proofs.«01_k».proof.Proof.Norm4
public import proofs.«01_k».proof.Proof.Norm5
public import proofs.«01_k».proof.Proof.Norm6
public import proofs.«01_k».proof.Proof.Norm7
public import Idealize.ShloMosaic.Lib.Pipeline.RegionArraysS
public import proofs.«01_k».proof.Proof.Tasks
public import Idealize.ShloMosaic.Lib.Pipeline.Sound
public import Idealize.ShloMosaic.Lib.Pipeline.Kit
public import proofs.«01_k».proof.Proof.Split
public import proofs.«01_k».proof.Proof.Tile0
public import proofs.«01_k».proof.Proof.Tile1
public import proofs.«01_k».proof.Proof.Tile2
public import proofs.«01_k».proof.Proof.Tile3

@[expose] public section

set_option maxRecDepth 16384

noncomputable section

namespace Cert.Proof.Launch

open Cert.KernelIdeal Cert.KernelIdeal.Gen
open Cert.Proof
open Cert.Proof.Norm (UH UP UU)
open Cert.Proof.Gather (nOf bOf at0 cc0 ss0 tileSet coreSet gathered peel5 semT)
open Idealize.ShloMosaic
open Idealize.ShloMosaic.SparseCore (V)
open Idealize.ShloMosaic.Pipeline (Dat BodyObligationLoose RegionSeg afterRegion arrRef arrRefs ucRefs LevelCut)
open TcCoe
open Idealize.ShloMosaic.SparseCore.Cfg (HIx ownCells mem_ownCells ownRefs ownSems0 ownBufs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] [Named F]

local notation "𝕄" => MT nD τ sig (HIx 4) (Elt F) ℕ UU ℕ

variable (m : (ℓ : Loc nD τ sig) → Buf (Elt F) ℓ) (ρ : Dev nD → PrngReg)

abbrev UC : Finset (DevRef τ sig) := ucRefs τ sig
abbrev tR : DevRef τ sig := Proc.devRef .tc main_arg2
abbrev xR : DevRef τ sig := Proc.devRef .tc main_v0
abbrev oR (q : Fin 4) : DevRef τ sig := Proc.devRef .tc (oRef q)

/-! ## The operations between the calls -/

abbrev op0 : HloOp τ sig (Elt F) := StableHlo.reshape main_arg0 main_v0 (rfl : (.i32 : EltTy) = .i32) shapeCasts_S1024x200_S1x204800
abbrev op1 : HloOp τ sig (Elt F) := StableHlo.reshape main_v1 main_v2 (rfl : (.f32 : EltTy) = .f32) shapeCasts_S51200x128_S256x200x128
abbrev op2 : HloOp τ sig (Elt F) := StableHlo.reshape main_v3 main_v4 (rfl : (.f32 : EltTy) = .f32) shapeCasts_S64000x128_S320x200x128
abbrev op3 : HloOp τ sig (Elt F) := StableHlo.reshape main_v5 main_v6 (rfl : (.f32 : EltTy) = .f32) shapeCasts_S64000x128_S320x200x128
abbrev op4 : HloOp τ sig (Elt F) := StableHlo.reshape main_v7 main_v8 (rfl : (.f32 : EltTy) = .f32) shapeCasts_S25600x128_S128x200x128
abbrev op5 : HloOp τ sig (Elt F) := StableHlo.unary main_v9 main_v10 id
abbrev op6 : HloOp τ sig (Elt F) := StableHlo.unary main_v10 main_v11 id
abbrev op7 : HloOp τ sig (Elt F) := StableHlo.unary main_v11 main_v12 id

/-! ## The buffers' contents, item by item -/

def V0 (d : Dev nD) : Valuation τ sig (Elt F) := fun b => m (d, b)
def V1 (d : Dev nD) : Valuation τ sig (Elt F) := (op0 (F := F)).result (V0 m d)
def V2 (d : Dev nD) : Valuation τ sig (Elt F) := Function.update (V1 m d) (oR 0) (rows m 0 d)
def V3 (d : Dev nD) : Valuation τ sig (Elt F) := (op1 (F := F)).result (V2 m d)
def V4 (d : Dev nD) : Valuation τ sig (Elt F) := Function.update (V3 m d) (oR 1) (rows m 1 d)
def V5 (d : Dev nD) : Valuation τ sig (Elt F) := (op2 (F := F)).result (V4 m d)
def V6 (d : Dev nD) : Valuation τ sig (Elt F) := Function.update (V5 m d) (oR 2) (rows m 2 d)
def V7 (d : Dev nD) : Valuation τ sig (Elt F) := (op3 (F := F)).result (V6 m d)
def V8 (d : Dev nD) : Valuation τ sig (Elt F) := Function.update (V7 m d) (oR 3) (rows m 3 d)
def V9 (d : Dev nD) : Valuation τ sig (Elt F) := (op4 (F := F)).result (V8 m d)
def V10 (d : Dev nD) : Valuation τ sig (Elt F) := afterRegion (pd (V9 m) 0 d) (V9 m d)
def V11 (d : Dev nD) : Valuation τ sig (Elt F) := (op5 (F := F)).result (V10 m d)
def V12 (d : Dev nD) : Valuation τ sig (Elt F) := afterRegion (pd (V11 m) 1 d) (V11 m d)
def V13 (d : Dev nD) : Valuation τ sig (Elt F) := (op6 (F := F)).result (V12 m d)
def V14 (d : Dev nD) : Valuation τ sig (Elt F) := afterRegion (pd (V13 m) 2 d) (V13 m d)
def V15 (d : Dev nD) : Valuation τ sig (Elt F) := (op7 (F := F)).result (V14 m d)
def V16 (d : Dev nD) : Valuation τ sig (Elt F) := afterRegion (pd (V15 m) 3 d) (V15 m d)

/-- What an operation of this program writes: its last buffer, and no other. -/
theorem same0 (V : Valuation τ sig (Elt F)) (r : Ref sig .tc) (h : r ≠ main_v0) : (op0 (F := F)).result V (Proc.devRef .tc r) = V (Proc.devRef .tc r) :=
  HloOp.result_of_not_mem _ _ fun hm => h (Proc.devRef_injective _ (Finset.mem_singleton.mp hm))
theorem same1 (V : Valuation τ sig (Elt F)) (r : Ref sig .tc) (h : r ≠ main_v2) : (op1 (F := F)).result V (Proc.devRef .tc r) = V (Proc.devRef .tc r) :=
  HloOp.result_of_not_mem _ _ fun hm => h (Proc.devRef_injective _ (Finset.mem_singleton.mp hm))
theorem same2 (V : Valuation τ sig (Elt F)) (r : Ref sig .tc) (h : r ≠ main_v4) : (op2 (F := F)).result V (Proc.devRef .tc r) = V (Proc.devRef .tc r) :=
  HloOp.result_of_not_mem _ _ fun hm => h (Proc.devRef_injective _ (Finset.mem_singleton.mp hm))
theorem same3 (V : Valuation τ sig (Elt F)) (r : Ref sig .tc) (h : r ≠ main_v6) : (op3 (F := F)).result V (Proc.devRef .tc r) = V (Proc.devRef .tc r) :=
  HloOp.result_of_not_mem _ _ fun hm => h (Proc.devRef_injective _ (Finset.mem_singleton.mp hm))
theorem same4 (V : Valuation τ sig (Elt F)) (r : Ref sig .tc) (h : r ≠ main_v8) : (op4 (F := F)).result V (Proc.devRef .tc r) = V (Proc.devRef .tc r) :=
  HloOp.result_of_not_mem _ _ fun hm => h (Proc.devRef_injective _ (Finset.mem_singleton.mp hm))
theorem same5 (V : Valuation τ sig (Elt F)) (r : Ref sig .tc) (h : r ≠ main_v10) : (op5 (F := F)).result V (Proc.devRef .tc r) = V (Proc.devRef .tc r) :=
  HloOp.result_of_not_mem _ _ fun hm => h (Proc.devRef_injective _ (Finset.mem_singleton.mp hm))
theorem same6 (V : Valuation τ sig (Elt F)) (r : Ref sig .tc) (h : r ≠ main_v11) : (op6 (F := F)).result V (Proc.devRef .tc r) = V (Proc.devRef .tc r) :=
  HloOp.result_of_not_mem _ _ fun hm => h (Proc.devRef_injective _ (Finset.mem_singleton.mp hm))
theorem same7 (V : Valuation τ sig (Elt F)) (r : Ref sig .tc) (h : r ≠ main_v12) : (op7 (F := F)).result V (Proc.devRef .tc r) = V (Proc.devRef .tc r) :=
  HloOp.result_of_not_mem _ _ fun hm => h (Proc.devRef_injective _ (Finset.mem_singleton.mp hm))

theorem upd (V : Valuation τ sig (Elt F)) (q : Fin 4) (v) (r : Ref sig .tc) (h : r ≠ oRef q) : Function.update V (oR q) v (Proc.devRef .tc r) = V (Proc.devRef .tc r) :=
  Function.update_of_ne (fun e => h (Proc.devRef_injective _ e)) _ _

/-- What a layer-norm call leaves as it was: every buffer but its result. -/
abbrev nRef : Fin 4 → Ref sig .tc := fun | 0 => main_v9 | 1 => main_v10 | 2 => main_v11 | 3 => main_v12
theorem ins_at (p : Fin 4) : ∀ w, arrRef (Pipeline.pin (pcfgs (F := F)) adm0 p).spec w ≠ nRef p → ((Pipeline.pin (pcfgs (F := F)) adm0 p).win w).isOut = false := by
  match p with
  | 0 => exact fun w => match w with | 0 => fun _ => rfl | 1 => fun _ => rfl | 2 => fun _ => rfl | 3 => fun _ => rfl | 4 => fun h => absurd rfl h
  | 1 => exact fun w => match w with | 0 => fun _ => rfl | 1 => fun _ => rfl | 2 => fun _ => rfl | 3 => fun _ => rfl | 4 => fun h => absurd rfl h
  | 2 => exact fun w => match w with | 0 => fun _ => rfl | 1 => fun _ => rfl | 2 => fun _ => rfl | 3 => fun _ => rfl | 4 => fun h => absurd rfl h
  | 3 => exact fun w => match w with | 0 => fun _ => rfl | 1 => fun _ => rfl | 2 => fun _ => rfl | 3 => fun _ => rfl | 4 => fun h => absurd rfl h
theorem keeps (W : Dev nD → Valuation τ sig (Elt F)) (p : Fin 4) (d : Dev nD) (r : Ref sig .tc) (h : r ≠ nRef p) :
    afterRegion (pd W p d) (W d) (Proc.devRef .tc r) = W d (Proc.devRef .tc r) :=
  Pipeline.afterRegion_keeps (pd W p d) (W d) (kit (F := F) p).win.arr_inj (start_at W p d) r fun w e => ins_at (F := F) p w (by rw [e]; exact h)

/-! ## The table, the words and a result before each gather call -/

theorem V1_x (d : Dev nD) : V1 m d xR = words m d := rfl
theorem V1_at (d : Dev nD) (r : Ref sig .tc) (h : r ≠ main_v0) : V1 m d (Proc.devRef .tc r) = m (d, Proc.devRef .tc r) := same0 _ _ h

theorem V3_at (d : Dev nD) (r : Ref sig .tc) (h : r ≠ main_v2) (h' : r ≠ main_v1) : V3 m d (Proc.devRef .tc r) = V1 m d (Proc.devRef .tc r) :=
  (same1 _ _ h).trans (upd _ 0 _ _ h')
theorem V5_at (d : Dev nD) (r : Ref sig .tc) (h : r ≠ main_v4) (h' : r ≠ main_v3) : V5 m d (Proc.devRef .tc r) = V3 m d (Proc.devRef .tc r) :=
  (same2 _ _ h).trans (upd _ 1 _ _ h')
theorem V7_at (d : Dev nD) (r : Ref sig .tc) (h : r ≠ main_v6) (h' : r ≠ main_v5) : V7 m d (Proc.devRef .tc r) = V5 m d (Proc.devRef .tc r) :=
  (same3 _ _ h).trans (upd _ 2 _ _ h')
theorem V9_at (d : Dev nD) (r : Ref sig .tc) (h : r ≠ main_v8) (h' : r ≠ main_v7) : V9 m d (Proc.devRef .tc r) = V7 m d (Proc.devRef .tc r) :=
  (same4 _ _ h).trans (upd _ 3 _ _ h')
theorem V11_at (d : Dev nD) (r : Ref sig .tc) (h : r ≠ main_v10) (h' : r ≠ main_v9) : V11 m d (Proc.devRef .tc r) = V9 m d (Proc.devRef .tc r) :=
  (same5 _ _ h).trans (keeps (V9 m) 0 d r h')
theorem V13_at (d : Dev nD) (r : Ref sig .tc) (h : r ≠ main_v11) (h' : r ≠ main_v10) : V13 m d (Proc.devRef .tc r) = V11 m d (Proc.devRef .tc r) :=
  (same6 _ _ h).trans (keeps (V11 m) 1 d r h')
theorem V15_at (d : Dev nD) (r : Ref sig .tc) (h : r ≠ main_v12) (h' : r ≠ main_v11) : V15 m d (Proc.devRef .tc r) = V13 m d (Proc.devRef .tc r) :=
  (same7 _ _ h).trans (keeps (V13 m) 2 d r h')
theorem V16_at (d : Dev nD) (r : Ref sig .tc) (h : r ≠ main_v12) : V16 m d (Proc.devRef .tc r) = V15 m d (Proc.devRef .tc r) := keeps (V15 m) 3 d r h

/-! ## A gather call -/

theorem held_three (q : Fin 4) (d : Dev nD) (V : Valuation τ sig (Elt F)) (ht : V tR = m (tLoc d)) (hx : V xR = words m d) :
    (StableHlo.held (SparseCore.T d) ({tR, xR, oR q} : Finset (DevRef τ sig)) V : sProp 𝕄) = three m q d fullShare Finset.univ (V (oR q)) := by
  unfold StableHlo.held three
  rw [SparseCore.bigSep_insert' (by revert q; decide), SparseCore.bigSep_insert' (by revert q; decide), bigSep_singleton, ht, hx]
theorem three_sub (q : Fin 4) : ({tR, xR, oR q} : Finset (DevRef τ sig)) ⊆ UC := by revert q; decide

theorem tR_ne (q : Fin 4) : tR ≠ oR q := by revert q; decide
theorem xR_ne (q : Fin 4) : xR ≠ oR q := by revert q; decide

theorem gather_call (κ : GSem nD τ sig → ℕ) (d : Dev nD) (q : Fin 4) (V : Valuation τ sig (Elt F)) (ht : V tR = m (tLoc d)) (hx : V xR = words m d) (ho : V (oR q) = m (oLoc q d))
    (Q : PUnit → sProp 𝕄) :
    iprop((K (F := F)).ctx (EH (F := F)) (P m) κ ∗ (K (F := F)).tcSt (EH (F := F)) d q.val ∗ StableHlo.held (SparseCore.T d) UC V
        ∗ (((K (F := F)).tcSt (EH (F := F)) d (q.val + 1) ∗ StableHlo.held (SparseCore.T d) UC (Function.update V (oR q) (rows m q d))) -∗ Q ⟨⟩))
      ⊢ wp frame (wpE ((K (F := F)).defs (D (F := F))) 𝒱 (SparseCore.T d) none) Set.univ ((K (F := F)).run d q) Q := by
  have hne1 : tR ≠ oR q := tR_ne q
  have hne2 : xR ≠ oR q := xR_ne q
  rw [StableHlo.held_sub_split (SparseCore.T d) (three_sub q) V, held_three m q d V ht hx, ho,
    StableHlo.held_sub_split (SparseCore.T d) (three_sub q) (Function.update V (oR q) (rows m q d)),
    held_three m q d (Function.update V (oR q) (rows m q d)) ((Function.update_of_ne hne1 _ _).trans ht) ((Function.update_of_ne hne2 _ _).trans hx), Function.update_self,
    StableHlo.held_congr (SparseCore.T d) (S := UC \ {tR, xR, oR q}) (V := Function.update V (oR q) (rows m q d)) (V' := V)
      (fun b hb => Function.update_of_ne (fun e => (Finset.mem_sdiff.mp hb).2 (by rw [e]; simp)) _ _)]
  iintro ⟨#Hctx, Hst, ⟨H3, Hrest⟩, Hk⟩
  iapply ((K (F := F)).wp_run (D (F := F)) 𝒱 (EH := EH (F := F)) (P := P m) κ d q) $$ [Hst H3 Hrest Hk]
  isplitr; · iexact Hctx
  isplitl [Hst]; · iexact Hst
  isplitl [H3]
  · rw [st_all]; iexact H3
  rw [dn_all]
  iintro ⟨Hst, H3⟩
  iapply Hk
  isplitl [Hst]; · iexact Hst
  isplitl [H3]; · iexact H3
  iexact Hrest

/-! ## The calls' records, opened after the last gather -/

theorem place_le (g : GSem nD τ sig) : (K (F := F)).place g ≤ 6 := by
  unfold SparseCore.Cfg.place
  split <;> (try split_ifs) <;> omega

theorem Otc_done (d : Dev nD) : (K (F := F)).Otc d 4 = 0 := by
  unfold SparseCore.Cfg.Otc
  exact Finset.sum_eq_zero fun q _ => if_neg (by omega)

theorem below (d : Dev nD) (W : Waits sig (HIx 4)) : (K (F := F)).WBelow (SparseCore.T d) W (8 * 4) := fun p _ => by
  match p with
  | (s, none) => exact Nat.zero_le _
  | (s, some q) =>
    show 8 * q.val + (K (F := F)).place (SparseCore.T d, s) + 1 ≤ 32
    have := place_le (F := F) (SparseCore.T d, s)
    omega

/-- Beside what the core owes, what its record holds. -/
def stRest (d : Dev nD) : sProp 𝕄 :=
  iprop(atPos (EH (F := F)) ((K (F := F)).doneCell d) 4 ∅ 0 ∗ reached (EH (F := F)) ((K (F := F)).doneCell d) 4
    ∗ (bigSep Finset.univ fun c : Fin τ.nSC => reached (EH (F := F)) ((K (F := F)).startCell d c) ((K (F := F)).sRank c 4))
    ∗ bigSep (SparseCore.Cfg.callsFrom (Q := 4) 4) fun q => bigSep Finset.univ fun c : Fin ((K (F := F)).nCore q) =>
        iprop(dutyTok (EH (F := F)) ((K (F := F)).startCell d ((K (F := F)).core q c)) ((K (F := F)).sRank ((K (F := F)).core q c) q.val) 0
          ∗ cred (tallyAt ((K (F := F)).doneCell d) (some q) 1)))

theorem st_open (d : Dev nD) : (K (F := F)).tcSt (EH (F := F)) d 4 ⊢ iprop((∃ Wd, owes (SparseCore.T d) 0 Wd) ∗ stRest (F := F) d) := by
  unfold SparseCore.Cfg.tcSt stRest
  rw [Otc_done]
  iintro ⟨⟨%W, -, Ho⟩, Hr⟩
  isplitl [Ho]; · iexists W; iexact Ho
  iexact Hr
theorem st_close (d : Dev nD) : iprop((∃ Wd, owes (SparseCore.T d) 0 Wd) ∗ stRest (F := F) d) ⊢ (K (F := F)).tcSt (EH (F := F)) d 4 := by
  unfold SparseCore.Cfg.tcSt stRest
  rw [Otc_done]
  iintro ⟨⟨%W, Ho⟩, Hr⟩
  isplitl [Ho]
  · iexists W; isplitr
    · ipureintro; exact below d W
    iexact Ho
  iexact Hr

theorem four (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

/-! ## The main program -/

theorem start_held (d : Dev nD) : (unscopedBufs d (fun b => m ((SparseCore.T d).loc b)) : sProp 𝕄) = StableHlo.held (SparseCore.T d) UC (V0 m d) :=
  Pipeline.unscopedBufs_held d (V0 m d)

abbrev FIN (d : Dev nD) : sProp 𝕄 := StableHlo.held (SparseCore.T d) UC (V16 m d)

set_option maxHeartbeats 1000000 in
theorem hmain [∀ e, Nonempty (Elt F e)] (κ : GSem nD τ sig → ℕ) (d : Dev nD) :
    iprop((K (F := F)).ctx (EH (F := F)) (P m) κ ∗ (K (F := F)).tcSt (EH (F := F)) d 0 ∗ (K (F := F)).tcRes m ρ d ∗ G (F := F) d)
      ⊢ wp frame (wpE ((K (F := F)).defs (D (F := F))) 𝒱 (SparseCore.T d) none) Set.univ (main d)
          fun _ => iprop((K (F := F)).tcSt (EH (F := F)) d 4 ∗ FIN m d ∗ (K (F := F)).tcEnd d) := by
  unfold SparseCore.Cfg.tcRes SparseCore.Cfg.tcEnd G
  rw [start_held, four, four]
  simp only [main, wp_bind, wp_pure]
  iintro ⟨#Hctx, Hst, ⟨Hb, Hh, Hts, -⟩, ⟨Hg0, Hg1, Hg2, Hg3⟩, ⟨Ht0, Ht1, Ht2, Ht3⟩⟩
  iapply (StableHlo.wp_hlo_within 𝒱 (SparseCore.T d) none Set.univ (op := op0) (S := UC) (Pipeline.sub_ucRefs _ (StableHlo.reshape_bufs_sub ..)) (V := V0 m d)) $$ [Hb Hh]
  · isplitl [Hb]; · iexact Hb
    iexact Hh
  iintro ⟨Hb, Hh⟩
  rw [wp_ret]; imodintro
  iapply (gather_call m κ d 0 (V1 m d) (V1_at m d main_arg2 (by decide)) (V1_x m d) (V1_at m d main_v1 (by decide))) $$ [Hst Hh Hb Hts Hg0 Hg1 Hg2 Hg3 Ht0 Ht1 Ht2 Ht3]
  isplitr; · iexact Hctx
  isplitl [Hst]; · iexact Hst
  isplitl [Hh]; · iexact Hh
  iintro ⟨Hst, Hh⟩
  iapply (StableHlo.wp_hlo_within 𝒱 (SparseCore.T d) none Set.univ (op := op1) (S := UC) (Pipeline.sub_ucRefs _ (StableHlo.reshape_bufs_sub ..)) (V := V2 m d)) $$ [Hb Hh]
  · isplitl [Hb]; · iexact Hb
    iexact Hh
  iintro ⟨Hb, Hh⟩
  rw [wp_ret]; imodintro
  iapply (gather_call m κ d 1 (V3 m d) ((V3_at m d main_arg2 (by decide) (by decide)).trans (V1_at m d main_arg2 (by decide))) ((V3_at m d main_v0 (by decide) (by decide)).trans (V1_x m d)) ((V3_at m d main_v3 (by decide) (by decide)).trans (V1_at m d main_v3 (by decide)))) $$ [Hst Hh Hb Hts Hg0 Hg1 Hg2 Hg3 Ht0 Ht1 Ht2 Ht3]
  isplitr; · iexact Hctx
  isplitl [Hst]; · iexact Hst
  isplitl [Hh]; · iexact Hh
  iintro ⟨Hst, Hh⟩
  iapply (StableHlo.wp_hlo_within 𝒱 (SparseCore.T d) none Set.univ (op := op2) (S := UC) (Pipeline.sub_ucRefs _ (StableHlo.reshape_bufs_sub ..)) (V := V4 m d)) $$ [Hb Hh]
  · isplitl [Hb]; · iexact Hb
    iexact Hh
  iintro ⟨Hb, Hh⟩
  rw [wp_ret]; imodintro
  iapply (gather_call m κ d 2 (V5 m d) ((V5_at m d main_arg2 (by decide) (by decide)).trans ((V3_at m d main_arg2 (by decide) (by decide)).trans (V1_at m d main_arg2 (by decide)))) ((V5_at m d main_v0 (by decide) (by decide)).trans ((V3_at m d main_v0 (by decide) (by decide)).trans (V1_x m d))) ((V5_at m d main_v5 (by decide) (by decide)).trans ((V3_at m d main_v5 (by decide) (by decide)).trans (V1_at m d main_v5 (by decide))))) $$ [Hst Hh Hb Hts Hg0 Hg1 Hg2 Hg3 Ht0 Ht1 Ht2 Ht3]
  isplitr; · iexact Hctx
  isplitl [Hst]; · iexact Hst
  isplitl [Hh]; · iexact Hh
  iintro ⟨Hst, Hh⟩
  iapply (StableHlo.wp_hlo_within 𝒱 (SparseCore.T d) none Set.univ (op := op3) (S := UC) (Pipeline.sub_ucRefs _ (StableHlo.reshape_bufs_sub ..)) (V := V6 m d)) $$ [Hb Hh]
  · isplitl [Hb]; · iexact Hb
    iexact Hh
  iintro ⟨Hb, Hh⟩
  rw [wp_ret]; imodintro
  iapply (gather_call m κ d 3 (V7 m d) ((V7_at m d main_arg2 (by decide) (by decide)).trans ((V5_at m d main_arg2 (by decide) (by decide)).trans ((V3_at m d main_arg2 (by decide) (by decide)).trans (V1_at m d main_arg2 (by decide))))) ((V7_at m d main_v0 (by decide) (by decide)).trans ((V5_at m d main_v0 (by decide) (by decide)).trans ((V3_at m d main_v0 (by decide) (by decide)).trans (V1_x m d)))) ((V7_at m d main_v7 (by decide) (by decide)).trans ((V5_at m d main_v7 (by decide) (by decide)).trans ((V3_at m d main_v7 (by decide) (by decide)).trans (V1_at m d main_v7 (by decide)))))) $$ [Hst Hh Hb Hts Hg0 Hg1 Hg2 Hg3 Ht0 Ht1 Ht2 Ht3]
  isplitr; · iexact Hctx
  isplitl [Hst]; · iexact Hst
  isplitl [Hh]; · iexact Hh
  iintro ⟨Hst, Hh⟩
  iapply (StableHlo.wp_hlo_within 𝒱 (SparseCore.T d) none Set.univ (op := op4) (S := UC) (Pipeline.sub_ucRefs _ (StableHlo.reshape_bufs_sub ..)) (V := V8 m d)) $$ [Hb Hh]
  · isplitl [Hb]; · iexact Hb
    iexact Hh
  iintro ⟨Hb, Hh⟩
  rw [wp_ret]; imodintro
  ihave Hst' := (st_open (F := F) d) $$ [Hst]; · iexact Hst
  icases Hst' with ⟨Ho, Hr⟩
  ihave #Hl := ((K (F := F)).ctx_levAts (EH := EH (F := F)) (P := P m) κ) $$ Hctx
  iapply (norm_call (V9 m) 0 d) $$ [Hb Hh Ho Hr Hts Hg0 Ht0 Hg1 Ht1 Hg2 Ht2 Hg3 Ht3]
  isplitr [Hb Hh Ho Hg0 Ht0]
  swap
  · isplitl [Hb]; · iexact Hb
    isplitl [Hh]; · iexact Hh
    isplitl [Ho]; · iexact Ho
    isplitr; · iexact Hl
    isplitl [Hg0]; · iexact Hg0
    iexact Ht0
  iintro ⟨Hb, Hh, Ho⟩
  iapply (StableHlo.wp_hlo_within 𝒱 (SparseCore.T d) none Set.univ (op := op5) (S := UC) (Pipeline.sub_ucRefs _ (StableHlo.unary_bufs_sub ..)) (V := V10 m d)) $$ [Hb Hh]
  · isplitl [Hb]; · iexact Hb
    iexact Hh
  iintro ⟨Hb, Hh⟩
  rw [wp_ret]; imodintro
  iapply (norm_call (V11 m) 1 d) $$ [Hb Hh Ho Hr Hts Hg1 Ht1 Hg2 Ht2 Hg3 Ht3]
  isplitr [Hb Hh Ho Hg1 Ht1]
  swap
  · isplitl [Hb]; · iexact Hb
    isplitl [Hh]; · iexact Hh
    isplitl [Ho]; · iexact Ho
    isplitr; · iexact Hl
    isplitl [Hg1]; · iexact Hg1
    iexact Ht1
  iintro ⟨Hb, Hh, Ho⟩
  iapply (StableHlo.wp_hlo_within 𝒱 (SparseCore.T d) none Set.univ (op := op6) (S := UC) (Pipeline.sub_ucRefs _ (StableHlo.unary_bufs_sub ..)) (V := V12 m d)) $$ [Hb Hh]
  · isplitl [Hb]; · iexact Hb
    iexact Hh
  iintro ⟨Hb, Hh⟩
  rw [wp_ret]; imodintro
  iapply (norm_call (V13 m) 2 d) $$ [Hb Hh Ho Hr Hts Hg2 Ht2 Hg3 Ht3]
  isplitr [Hb Hh Ho Hg2 Ht2]
  swap
  · isplitl [Hb]; · iexact Hb
    isplitl [Hh]; · iexact Hh
    isplitl [Ho]; · iexact Ho
    isplitr; · iexact Hl
    isplitl [Hg2]; · iexact Hg2
    iexact Ht2
  iintro ⟨Hb, Hh, Ho⟩
  iapply (StableHlo.wp_hlo_within 𝒱 (SparseCore.T d) none Set.univ (op := op7) (S := UC) (Pipeline.sub_ucRefs _ (StableHlo.unary_bufs_sub ..)) (V := V14 m d)) $$ [Hb Hh]
  · isplitl [Hb]; · iexact Hb
    iexact Hh
  iintro ⟨Hb, Hh⟩
  rw [wp_ret]; imodintro
  iapply (norm_call (V15 m) 3 d) $$ [Hb Hh Ho Hr Hts Hg3 Ht3]
  isplitr [Hb Hh Ho Hg3 Ht3]
  swap
  · isplitl [Hb]; · iexact Hb
    isplitl [Hh]; · iexact Hh
    isplitl [Ho]; · iexact Ho
    isplitr; · iexact Hl
    isplitl [Hg3]; · iexact Hg3
    iexact Ht3
  iintro ⟨Hb, Hh, Ho⟩
  imodintro
  isplitl [Ho Hr]
  · iapply (st_close (F := F) d)
    isplitl [Ho]; · iexact Ho
    iexact Hr
  isplitl [Hh]; · iexact Hh
  isplitl [Hb] <;> iassumption

/-- What the claims read of device `d`'s final state. -/
def fq (d : Dev nD) (s' : Phys nD τ sig (Elt F)) : Prop := ∀ b ∈ UC, s'.mem.mem (d, b) = V16 m d b

theorem hfin1 (d : Dev nD) (s' : Phys nD τ sig (Elt F)) (b : DevRef τ sig) (hb : b ∈ UC) : iprop(FIN m d ∗ SI s') ⊢ (⌜s'.mem.mem (d, b) = V16 m d b⌝ : sProp 𝕄) := by
  unfold FIN
  rw [StableHlo.held_sub_split (SparseCore.T d) (Finset.singleton_subset_iff.mpr hb) (V16 m d), show (StableHlo.held (SparseCore.T d) {b} (V16 m d) : sProp 𝕄)
    = (((d, b) : Loc nD τ sig) ↦{fullShare} V16 m d b) from bigSep_singleton]
  iintro ⟨⟨Hx, -⟩, HSI⟩
  ihave H := (SI_pointsTo_agree (st := s') (ℓ := ((d, b) : Loc nD τ sig)) (I := Finset.univ) (q := fullShare) (f := V16 m d b)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) :=
  fun x hx b hb => (hfin1 m d s' b hb) x hx

/-! ## The program's run -/

def QC : PUnit × MemSt nD τ sig (Elt F) → Prop := fun r => (∀ (c : Dev nD), ∀ b ∈ UC, r.2.mem (c, b) = V16 m c b) ∧ r.2.sem = fun _ => 0

theorem run_main [∀ e, Nonempty (Elt F e)] (hw : InRange m) : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH (F := F)) (P := P m) (A := ∅) facts v₀
    (fun q hq => match q with | 0 => nomatch hq | 1 => nomatch hq | 2 => nomatch hq | 3 => nomatch hq)
    (fun q _ => match q with | 0 => tileObl0 m hw | 1 => tileObl1 m hw | 2 => tileObl2 m hw | 3 => tileObl3 m hw)
    (fun q _ => SparseCore.Cfg.VecSplit.of_plain (vecSplit m q))
    m ρ main (fun d => G (F := F) d) (FIN m) (u₀ (F := F)) (sep_elim_left.trans (hu₀ m)) (hmain m ρ) (fq m) (hfin m) (QC m) (fun _ h hz => ⟨h, hz⟩)

end Cert.Proof.Launch
-- ==== Proof.Kept.lean ====
/-
  The program's frame: the buffers nothing writes keep their contents, and the run leaves the arguments as they were.
-/
module

public import proofs.«01_k».proof.Proof.Main

@[expose] public section

set_option maxRecDepth 16384

noncomputable section

namespace Cert.Proof.Launch

open Cert.KernelIdeal Cert.KernelIdeal.Gen
open Idealize.ShloMosaic Idealize.ShloMosaic.TcCoe Idealize.SL.Sem
open Cert.Proof Cert.Proof.Gather

variable (d : Dev nD)

/-! ## The arguments, unchanged up to each call -/

/-- A buffer no operation or call of the program writes. -/
def Kept (r : Ref sig .tc) : Prop :=
  r ≠ main_v0 ∧ r ≠ main_v1 ∧ r ≠ main_v2 ∧ r ≠ main_v3 ∧ r ≠ main_v4 ∧ r ≠ main_v5 ∧ r ≠ main_v6 ∧ r ≠ main_v7 ∧ r ≠ main_v8 ∧ r ≠ main_v9 ∧ r ≠ main_v10 ∧ r ≠ main_v11 ∧ r ≠ main_v12
instance (r : Ref sig .tc) : Decidable (Kept r) := by unfold Kept; infer_instance

variable {F : FTy → Type} [FloatOps F] [Named F] (m : (ℓ : Loc nD τ sig) → Buf (Elt F) ℓ)

theorem kept9 (r : Ref sig .tc) (h : Kept r) : V9 m d (Proc.devRef .tc r) = m (d, Proc.devRef .tc r) := by
  obtain ⟨h0, h1, h2, h3, h4, h5, h6, h7, h8, h9, h10, h11, h12⟩ := h
  rw [V9_at m d r h8 h7, V7_at m d r h6 h5, V5_at m d r h4 h3, V3_at m d r h2 h1, V1_at m d r h0]
theorem kept11 (r : Ref sig .tc) (h : Kept r) : V11 m d (Proc.devRef .tc r) = m (d, Proc.devRef .tc r) := by
  have h' := h
  obtain ⟨h0, h1, h2, h3, h4, h5, h6, h7, h8, h9, h10, h11, h12⟩ := h
  rw [V11_at m d r h10 h9, kept9 d m r h']
theorem kept13 (r : Ref sig .tc) (h : Kept r) : V13 m d (Proc.devRef .tc r) = m (d, Proc.devRef .tc r) := by
  have h' := h
  obtain ⟨h0, h1, h2, h3, h4, h5, h6, h7, h8, h9, h10, h11, h12⟩ := h
  rw [V13_at m d r h11 h10, kept11 d m r h']
theorem kept15 (r : Ref sig .tc) (h : Kept r) : V15 m d (Proc.devRef .tc r) = m (d, Proc.devRef .tc r) := by
  have h' := h
  obtain ⟨h0, h1, h2, h3, h4, h5, h6, h7, h8, h9, h10, h11, h12⟩ := h
  rw [V15_at m d r h12 h11, kept13 d m r h']
theorem kept16 (r : Ref sig .tc) (h : Kept r) : V16 m d (Proc.devRef .tc r) = m (d, Proc.devRef .tc r) := by
  have h' := h
  obtain ⟨h0, h1, h2, h3, h4, h5, h6, h7, h8, h9, h10, h11, h12⟩ := h
  rw [V16_at m d r h12, kept15 d m r h']

/-! ## The index words, from the token array -/

theorem inRange {m : (ℓ : Loc nD τ sig) → Buf (Elt F) ℓ} (h : ∀ (c : Dev nD) (i : S1024x200.Idx), (m (c, Proc.devRef .tc main_arg0) i : BitVec 32).toNat < 100000) : InRange m := by
  intro d j
  unfold words
  rw [StableHlo.reshape_result]
  exact h d _

/-- The arguments at the end of a run are those at its start. -/
def Same (m m' : (ℓ : Loc nD τ sig) → Buf (Elt F) ℓ) (c : Dev nD) : Prop :=
  m' (c, Proc.devRef .tc main_arg0) = m (c, Proc.devRef .tc main_arg0)
  ∧ m' (c, Proc.devRef .tc main_arg1) = m (c, Proc.devRef .tc main_arg1)
  ∧ m' (c, Proc.devRef .tc main_arg2) = m (c, Proc.devRef .tc main_arg2)
  ∧ m' (c, Proc.devRef .tc main_arg3) = m (c, Proc.devRef .tc main_arg3)
  ∧ m' (c, Proc.devRef .tc main_arg4) = m (c, Proc.devRef .tc main_arg4)
  ∧ m' (c, Proc.devRef .tc main_arg5) = m (c, Proc.devRef .tc main_arg5)
  ∧ m' (c, Proc.devRef .tc main_arg6) = m (c, Proc.devRef .tc main_arg6)

theorem run_same [∀ e, Nonempty (Elt F e)] (m : (ℓ : Loc nD τ sig) → Buf (Elt F) ℓ) (ρ : Dev nD → PrngReg) (hw : InRange m) :
    θ_run (Cert.KernelIdeal.defs (F := F)) (Cert.KernelIdeal.threads (F := F)) ⟨m, fun _ => 0, ρ⟩
      (fun r => (∀ c, r.2.mem (c, Proc.devRef .tc main_v12) = V16 m c (Proc.devRef .tc main_v12) ∧ Same m r.2.mem c) ∧ r.2.sem = fun _ => 0) :=
  (θ_run _ _ _).mono (fun r h => ⟨fun c => ⟨h.1 c _ (by decide),
    (h.1 c _ (by decide)).trans (kept16 c m main_arg0 (by decide)), (h.1 c _ (by decide)).trans (kept16 c m main_arg1 (by decide)),
    (h.1 c _ (by decide)).trans (kept16 c m main_arg2 (by decide)), (h.1 c _ (by decide)).trans (kept16 c m main_arg3 (by decide)),
    (h.1 c _ (by decide)).trans (kept16 c m main_arg4 (by decide)), (h.1 c _ (by decide)).trans (kept16 c m main_arg5 (by decide)),
    (h.1 c _ (by decide)).trans (kept16 c m main_arg6 (by decide))⟩, h.2⟩) (run_main m ρ hw)

end Cert.Proof.Launch

end
-- ==== Proof.Row.lean ====
/-
  One row of 128 numbers: the kernel's scaled sum and its layer norm, the reference's, and that the two are equal. Scaling
  a row by a positive real scales its mean and its deviations alike, so it leaves the quotient as it is.
-/
module

public import Idealize.ShloMosaic.PureOps.Ideal.Laws

@[expose] public section

noncomputable section

namespace Cert.Proof.Row

open Idealize.ShloMosaic

/-- The root of the row's length, its inverse, and the two numbers added to a variance. -/
def c : ℝ := Real.sqrt 128
def eps : ℝ := 8589935 / 2^33
def eps' : ℝ := 8589935 / 2^40

/-- The mean of a row, its deviations, and its variance. -/
def mean (u : Fin 128 → EReal) : EReal := Ideal.div (∑ k, u k) ((128 : ℝ) : EReal)
def dev (u : Fin 128 → EReal) (e : Fin 128) : EReal := u e - mean u
def var (u : Fin 128 → EReal) : EReal := Ideal.div (∑ k, dev u k * dev u k) ((128 : ℝ) : EReal)

/-- The kernel's layer norm of a row and the reference's. -/
def normK (u : Fin 128 → EReal) (e : Fin 128) : EReal := dev u e * Ideal.rsqrt (var u + (eps' : EReal))
def normRef (h : Fin 128 → EReal) (e : Fin 128) : EReal := Ideal.div (dev h e) (Ideal.sqrt (var h + (eps : EReal)))

theorem c_pos : 0 < c := Real.sqrt_pos.mpr (by norm_num)
theorem c_sq : c * c = 128 := Real.mul_self_sqrt (by norm_num)

theorem pos_distrib {r : ℝ} (h : 0 ≤ r) (x y : EReal) : (r : EReal) * (x + y) = r * x + r * y :=
  EReal.left_distrib_of_nonneg_of_ne_top (by exact_mod_cast h) (EReal.coe_ne_top r) x y
theorem scale_add (x y : EReal) : (c : EReal) * (x + y) = c * x + c * y := pos_distrib c_pos.le x y
theorem scale_neg (x : EReal) : (c : EReal) * (-x) = -(c * x) := mul_neg _ _
theorem scale_sub (x y : EReal) : (c : EReal) * (x - y) = c * x - c * y := by rw [sub_eq_add_neg, scale_add, scale_neg, ← sub_eq_add_neg]

theorem sum_scale (r : ℝ) (hr : 0 ≤ r) {n : ℕ} (f : Fin n → EReal) : ∑ k, (r : EReal) * f k = r * ∑ k, f k := by
  have : ∀ s : Finset (Fin n), ∑ k ∈ s, (r : EReal) * f k = r * ∑ k ∈ s, f k := by
    intro s; induction s using Finset.cons_induction with
    | empty => simp
    | cons a s ha ih => rw [Finset.sum_cons, Finset.sum_cons, ih, pos_distrib hr]
  exact this _

theorem h128 : (128 : ℝ) ≠ 0 := by norm_num

theorem mean_scale (u : Fin 128 → EReal) : mean (fun k => c * u k) = c * mean u := by
  unfold mean; rw [Ideal.div_coe h128, Ideal.div_coe h128, sum_scale c c_pos.le, mul_assoc]
theorem dev_scale (u : Fin 128 → EReal) (e : Fin 128) : dev (fun k => c * u k) e = c * dev u e := by
  unfold dev; rw [mean_scale, scale_sub]
theorem var_scale (u : Fin 128 → EReal) : var (fun k => c * u k) = ((128 : ℝ) : EReal) * var u := by
  unfold var
  have : ∀ k, dev (fun k => c * u k) k * dev (fun k => c * u k) k = ((128 : ℝ) : EReal) * (dev u k * dev u k) := fun k => by
    rw [dev_scale, mul_mul_mul_comm, ← EReal.coe_mul, c_sq]
  rw [Finset.sum_congr rfl fun k _ => this k, sum_scale 128 (by norm_num), Ideal.div_coe h128, Ideal.div_coe h128, mul_assoc]

theorem sq_nonneg (x : EReal) : 0 ≤ x * x := by
  rcases le_total 0 x with h | h
  · exact mul_nonneg h h
  · have := mul_nonneg (EReal.neg_nonneg.mpr h) (EReal.neg_nonneg.mpr h)
    rwa [neg_mul, mul_neg, neg_neg] at this

theorem var_nonneg (u : Fin 128 → EReal) : 0 ≤ var u := by
  unfold var; rw [Ideal.div_coe h128]
  exact mul_nonneg (Finset.sum_nonneg fun k _ => sq_nonneg _) (by exact_mod_cast (by norm_num : (0:ℝ) ≤ 1/128))

/-- Over a scaled row the reference's layer norm is the kernel's over the row. -/
theorem normRef_scale (u : Fin 128 → EReal) (e : Fin 128) : normRef (fun k => c * u k) e = normK u e := by
  unfold normRef normK
  rw [dev_scale, var_scale]
  have hv := var_nonneg u
  generalize var u = v at hv ⊢
  generalize dev u e = x
  induction v with
  | bot => simp at hv
  | top =>
    rw [EReal.coe_mul_top_of_pos (by norm_num), EReal.top_add_coe, EReal.top_add_coe, Ideal.sqrt_top, Ideal.rsqrt_top, mul_zero, Ideal.div,
      if_neg (by simp), EReal.inv_top, mul_zero]
  | coe r =>
    have hr : 0 ≤ r := by exact_mod_cast hv
    have hw : 0 < r + eps' := by have : (0:ℝ) < eps' := by unfold eps'; norm_num
                                 linarith
    have e1 : ((128:ℝ):EReal) * (r : EReal) + (eps : EReal) = ((128 * (r + eps') : ℝ) : EReal) := by
      rw [← EReal.coe_mul, ← EReal.coe_add]; congr 1; unfold eps eps'; ring
    have e2 : (r : EReal) + (eps' : EReal) = ((r + eps' : ℝ) : EReal) := (EReal.coe_add _ _).symm
    rw [e1, e2, Ideal.sqrt_coe, if_neg (by nlinarith), Ideal.rsqrt_coe, if_neg (by linarith), if_neg hw.ne', Real.sqrt_mul (by norm_num)]
    have hs : 0 < Real.sqrt (r + eps') := Real.sqrt_pos.mpr hw
    have hc := c_pos
    rw [show Real.sqrt 128 = c from rfl, Ideal.div_coe (mul_pos hc hs).ne', mul_comm (c : EReal) x, mul_assoc, ← EReal.coe_mul]
    congr 2; field_simp

/-- The kernel's scaled sum at an element: the token row plus the position row and the segment's row over the root. -/
def sumK (g p s0 s1 σ : EReal) : EReal := g + (p + s0) * ((c⁻¹ : ℝ) : EReal) + σ * ((s1 - s0) * ((c⁻¹ : ℝ) : EReal))

theorem sumK_scale (g p : EReal) (s0 s1 : ℝ) (b : Bool) :
    g * (c : EReal) + p + ((if b then s1 else s0 : ℝ) : EReal) = c * sumK g p s0 s1 (((if b then 1 else 0 : ℝ)) : EReal) := by
  unfold sumK
  have hc : ((c⁻¹ : ℝ) : EReal) * (c : EReal) = 1 := by rw [← EReal.coe_mul, inv_mul_cancel₀ c_pos.ne', EReal.coe_one]
  rw [scale_add, scale_add, mul_comm (c : EReal) g, mul_comm (c : EReal) ((p + s0) * _), mul_assoc (p + s0), hc, mul_one, ← add_assoc]
  cases b
  · simp
  · simp only [if_true]
    rw [EReal.coe_one, one_mul, mul_comm (c : EReal) (_ * _), mul_assoc, hc, mul_one, add_assoc (_ + p), ← EReal.coe_sub, ← EReal.coe_add]
    congr 2; ring

end Cert.Proof.Row

end
-- ==== Proof.Block.lean ====
/-
  The layer norm of a block, read at an element.
-/
module

public import proofs.«01_k».proof.Proof.Norm
public import proofs.«01_k».proof.Proof.Row
public import Idealize.ShloMosaic.Lib.Pointwise

@[expose] public section

set_option maxRecDepth 16384

noncomputable section

namespace Cert.Proof.Block

open Cert.KernelIdeal Cert.KernelIdeal.Gen
open Idealize.ShloMosaic
open Cert.Proof.Norm Cert.Proof.Row

theorem inv_named : Named.named (F := Ideal) Cert.KernelIdeal.κ "inv_sqrt_hidden" (φ := .f32) 0x3DB504F3#32 = ((c⁻¹ : ℝ) : EReal) :=
  IdealRules.named_const.ideal_named_scalar _ _ _ _ rfl
theorem ofBits_128 : Ideal.ofBits .f32 0x43000000#32 = ((128 : ℝ) : EReal) := by
  simp [Ideal.ofBits, Ideal.ieee, -EReal.coe_mul]; norm_num
theorem ofBits_eps' : Ideal.ofBits .f32 0x3703126F#32 = ((eps' : ℝ) : EReal) := by
  simp [Ideal.ofBits, Ideal.ieee, eps', -EReal.coe_mul]; norm_num
theorem ofBits_eps : Ideal.ofBits .f32 0x3A83126F#32 = ((eps : ℝ) : EReal) := by
  simp [Ideal.ofBits, Ideal.ieee, eps, -EReal.coe_mul]; norm_num

/-- The scaled sum of a block at an element. -/
def sumAt (x0 : Vec Ideal S64x200x128 .f32) (x1 : Vec Ideal S64x200 .i32) (x2 : Vec Ideal S200x128 .f32) (x3 : Vec Ideal S2x128 .f32)
    (b : Fin 64) (s : Fin 200) (e : Fin 128) : EReal :=
  sumK (x0 (ix3 b s e)) (x2 (ix2 s e)) (x3 (ix2 0 e)) (x3 (ix2 1 e)) ((((x1 (ix2 b s)).toInt : ℝ)) : EReal)

theorem seg0 (x3 : Vec Ideal S2x128 .f32) (e : Fin 128) : segRow0 x3 (ix2 0 e) = x3 (ix2 0 e) :=
  congrArg x3 (funext fun a => Fin.ext (match a with | 0 => rfl | 1 => by show 0 + 1 * e.val = e.val; omega))
theorem seg1 (x3 : Vec Ideal S2x128 .f32) (e : Fin 128) : segRow1 x3 (ix2 0 e) = x3 (ix2 1 e) :=
  congrArg x3 (funext fun a => Fin.ext (match a with | 0 => rfl | 1 => by show 0 + 1 * e.val = e.val; omega))

theorem pay2_gen (x0 : Vec Ideal S64x200x128 .f32) (x1 : Vec Ideal S64x200 .i32) (x2 : Vec Ideal S200x128 .f32) (y z : Vec Ideal S1x128 .f32)
    (b : Fin 64) (s : Fin 200) (e : Fin 128) :
    k4_pay2 x0 x1 x2 y z y (ix3 b s e)
      = dev (fun e => sumK (x0 (ix3 b s e)) (x2 (ix2 s e)) (y (ix2 0 e)) (z (ix2 0 e)) ((((x1 (ix2 b s)).toInt : ℝ)) : EReal)) e := by
  unfold dev mean sumK
  pointwise [k4_pay2]
  simp only [inv_named, ofBits_128]
  rfl

theorem pay2_at (x0 : Vec Ideal S64x200x128 .f32) (x1 : Vec Ideal S64x200 .i32) (x2 : Vec Ideal S200x128 .f32) (x3 : Vec Ideal S2x128 .f32)
    (b : Fin 64) (s : Fin 200) (e : Fin 128) :
    k4_pay2 x0 x1 x2 (segRow0 x3) (segRow1 x3) (segRow0 x3) (ix3 b s e) = dev (sumAt x0 x1 x2 x3 b s) e :=
  (pay2_gen x0 x1 x2 (segRow0 x3) (segRow1 x3) b s e).trans (congrArg (fun u => dev u e)
    (funext fun e => congrArg₂ (fun y z => sumK (x0 (ix3 b s e)) (x2 (ix2 s e)) y z ((((x1 (ix2 b s)).toInt : ℝ)) : EReal)) (seg0 x3 e) (seg1 x3 e)))

theorem ln_at (x0 : Vec Ideal S64x200x128 .f32) (x1 : Vec Ideal S64x200 .i32) (x2 : Vec Ideal S200x128 .f32) (x3 : Vec Ideal S2x128 .f32)
    (b : Fin 64) (s : Fin 200) (e : Fin 128) : ln x0 x1 x2 x3 (ix3 b s e) = normK (sumAt x0 x1 x2 x3 b s) e := by
  unfold ln normK var
  simp only [← pay2_at]
  pointwise [k4_pay1, k4_pay3]
  rw [ofBits_128, ofBits_eps']

end Cert.Proof.Block

end
-- ==== Proof.Want.lean ====
/-
  What the program computes at an element, and that a block's layer norm is that at the block's place.
-/
module

public import proofs.«01_k».proof.Proof.Block

@[expose] public section

set_option maxRecDepth 16384

noncomputable section

namespace Cert.Proof.Want

open Cert.KernelIdeal Cert.KernelIdeal.Gen
open Idealize.ShloMosaic Idealize.ShloMosaic.TcCoe
open Cert.Proof.Norm Cert.Proof.Row Cert.Proof.Block

/-- The program's result, from the token rows, the segment indices, the position table and the segment table. -/
def want (g : Fin 1024 → Fin 200 → Fin 128 → EReal) (sg : Vec Ideal S1024x200 .i32) (ps : Vec Ideal S512x128 .f32) (st : Vec Ideal S2x128 .f32) :
    Vec Ideal S1024x200x128 .f32 := fun i =>
  normK (fun e => sumK (g (i 0) (i 1) e) (ps (ix2 ⟨(i 1).val, lt_trans (i 1).isLt (by decide)⟩ e)) (st (ix2 0 e)) (st (ix2 1 e)) ((((sg (ix2 (i 0) (i 1))).toInt : ℝ)) : EReal)) (i 2)

theorem want_at (g : Fin 1024 → Fin 200 → Fin 128 → EReal) (sg : Vec Ideal S1024x200 .i32) (ps : Vec Ideal S512x128 .f32) (st : Vec Ideal S2x128 .f32)
    (b : Fin 1024) (s : Fin 200) (e : Fin 128) :
    want g sg ps st (ix3 b s e) = normK (fun e => sumK (g b s e) (ps (ix2 ⟨s.val, lt_trans s.isLt (by decide)⟩ e)) (st (ix2 0 e)) (st (ix2 1 e)) ((((sg (ix2 b s)).toInt : ℝ)) : EReal)) e := rfl

/-- A block's layer norm is the program's result at the place of the block, given what the block's inputs hold. -/
theorem ln_want (g : Fin 1024 → Fin 200 → Fin 128 → EReal) (sg : Vec Ideal S1024x200 .i32) (ps : Vec Ideal S512x128 .f32) (st : Vec Ideal S2x128 .f32)
    (x0 : Vec Ideal S64x200x128 .f32) (x1 : Vec Ideal S64x200 .i32) (x2 : Vec Ideal S200x128 .f32) (x3 : Vec Ideal S2x128 .f32)
    (o : ℕ) (ho : ∀ b : Fin 64, o + b.val < 1024)
    (h0 : ∀ b s e, x0 (ix3 b s e) = g ⟨o + b.val, ho b⟩ s e) (h1 : ∀ b s, x1 (ix2 b s) = sg (ix2 ⟨o + b.val, ho b⟩ s))
    (h2 : ∀ s e, x2 (ix2 s e) = ps (ix2 ⟨s.val, lt_trans s.isLt (by decide)⟩ e)) (h3 : ∀ k e, x3 (ix2 k e) = st (ix2 k e))
    (y : S64x200x128.Idx) (i : S1024x200x128.Idx) (i0 : (i 0).val = o + (y 0).val) (i1 : (i 1).val = (y 1).val) (i2 : (i 2).val = (y 2).val) :
    ln x0 x1 x2 x3 y = want g sg ps st i := by
  idx_vars y
  obtain rfl : i = ix3 ⟨o + y0.val, ho y0⟩ y1 y2 := funext fun a => Fin.ext (match a with | 0 => i0 | 1 => i1 | 2 => i2)
  rw [ln_at, want_at]
  refine congrArg (fun u => normK u y2) (funext fun k => ?_)
  unfold sumAt
  rw [h0, h1, h2, h3, h3]

end Cert.Proof.Want

end
-- ==== Proof.Want4.lean ====
/-
  Layer-norm call 4's result array: its own blocks hold what the program computes, the other rows are as the call found them.
-/
module

public import proofs.«01_k».proof.Proof.Want
public import proofs.«01_k».proof.Proof.Norm4
public import Idealize.ShloMosaic.Lib.Pipeline.ValueKit

@[expose] public section

set_option maxRecDepth 16384

noncomputable section

namespace Cert.Proof.Want

open Cert.KernelIdeal Cert.KernelIdeal.Gen
open Idealize.ShloMosaic Idealize.ShloMosaic.TcCoe
open Cert.Proof.Norm Cert.Proof.Row Cert.Proof.Block

namespace C4

variable (V : Valuation τ sig (Elt Ideal)) (c : Dev nD)

theorem index_at : ∀ t : Fin grid4.N, win4_0.index t = ![t.val, 0, 0] ∧ win4_1.index t = ![t.val + 0, 0] ∧ win4_2.index t = ![0, 0]
    ∧ win4_3.index t = ![0, 0] ∧ win4_4.index t = ![t.val + 0, 0, 0] := by decide +kernel

theorem points (t : Fin cfg4.N) : t.val < 4 := t.isLt

theorem rows_at (t : Fin cfg4.N) (b : Fin 64) (s : Fin 200) (e : Fin 128) :
    Norm.C4.blk V 0 t (ix3 b s e) = V (Proc.devRef .tc main_v2) (ix3 (⟨64 * t.val + b.val, by have := points t; omega⟩ : Fin 256) s e) := by
  obtain ⟨h0, h1, h2, h3, h4⟩ := index_at t
  blk_ext [Norm.C4.blk, h0]

theorem segs_at (t : Fin cfg4.N) (b : Fin 64) (s : Fin 200) :
    Norm.C4.blk V 1 t (ix2 b s) = V (Proc.devRef .tc main_arg1) (ix2 (⟨64 * (t.val + 0) + b.val, by have := points t; omega⟩ : Fin 1024) s) := by
  obtain ⟨h0, h1, h2, h3, h4⟩ := index_at t
  blk_ext [Norm.C4.blk, h1]

theorem seg_at (t : Fin cfg4.N) (k : Fin 2) (e : Fin 128) :
    Norm.C4.blk V 3 t (ix2 k e) = V (Proc.devRef .tc main_arg4) (ix2 k e) := by
  obtain ⟨h0, h1, h2, h3, h4⟩ := index_at t
  blk_ext [Norm.C4.blk, h3]

theorem pos_at (t : Fin cfg4.N) (s : Fin 200) (e : Fin 128) :
    Norm.C4.pos V t (ix2 s e) = V (Proc.devRef .tc main_arg3) (ix2 (⟨s.val, lt_trans s.isLt (by decide)⟩ : Fin 512) e) := by
  obtain ⟨h0, h1, h2, h3, h4⟩ := index_at t
  unfold Norm.C4.pos Pipeline.Window.fill
  rw [dif_pos (Norm.C4.moved t _)]
  blk_ext [Norm.C4.blk, h2]

theorem final (g : Fin 1024 → Fin 200 → Fin 128 → EReal)
    (hg : ∀ (b : Fin 256) (s : Fin 200) (e : Fin 128), V (Proc.devRef .tc main_v2) (ix3 b s e) = g ⟨b.val, by omega⟩ s e) :
    (Norm.C4.dat V c).arrAt 4 cfg4.N
      = fun i : S1024x200x128.Idx => if (i 0).val / 64 < 4 then want g (V (Proc.devRef .tc main_arg1)) (V (Proc.devRef .tc main_arg3)) (V (Proc.devRef .tc main_arg4)) i else V (Proc.devRef .tc main_v9) i := by
  refine (Norm.C4.dat V c).arrAt_eq_of_coversWhere 4 _ (fun β => β 0 < 4) (by decide +kernel) (fun t hf y => ?_) (fun j => by blk_simp [Pipeline.Window.cell_apply])
  obtain ⟨h0, h1, h2, h3, h4⟩ := index_at t
  blk_simp
  rw [Norm.C4.after4]
  have ht := points t
  refine ln_want g _ _ _ _ _ _ _ (64 * (t.val + 0)) (fun b => by omega) ?_ (segs_at V t) (pos_at V t) (seg_at V t) _ _ ?_ ?_ ?_
  · intro b s e
    rw [rows_at, hg]
    exact congrArg (fun q => g q s e) (Fin.ext (by simp))
  all_goals blk_simp [h4]
  all_goals omega

end C4

end Cert.Proof.Want

end
-- ==== Proof.Want5.lean ====
/-
  Layer-norm call 5's result array: its own blocks hold what the program computes, the other rows are as the call found them.
-/
module

public import proofs.«01_k».proof.Proof.Want
public import proofs.«01_k».proof.Proof.Norm5
public import Idealize.ShloMosaic.Lib.Pipeline.ValueKit

@[expose] public section

set_option maxRecDepth 16384

noncomputable section

namespace Cert.Proof.Want

open Cert.KernelIdeal Cert.KernelIdeal.Gen
open Idealize.ShloMosaic Idealize.ShloMosaic.TcCoe
open Cert.Proof.Norm Cert.Proof.Row Cert.Proof.Block

namespace C5

variable (V : Valuation τ sig (Elt Ideal)) (c : Dev nD)

theorem index_at : ∀ t : Fin grid5.N, win5_0.index t = ![t.val, 0, 0] ∧ win5_1.index t = ![t.val + 4, 0] ∧ win5_2.index t = ![0, 0]
    ∧ win5_3.index t = ![0, 0] ∧ win5_4.index t = ![t.val + 4, 0, 0] := by decide +kernel

theorem points (t : Fin cfg5.N) : t.val < 5 := t.isLt

theorem rows_at (t : Fin cfg5.N) (b : Fin 64) (s : Fin 200) (e : Fin 128) :
    Norm.C5.blk V 0 t (ix3 b s e) = V (Proc.devRef .tc main_v4) (ix3 (⟨64 * t.val + b.val, by have := points t; omega⟩ : Fin 320) s e) := by
  obtain ⟨h0, h1, h2, h3, h4⟩ := index_at t
  blk_ext [Norm.C5.blk, h0]

theorem segs_at (t : Fin cfg5.N) (b : Fin 64) (s : Fin 200) :
    Norm.C5.blk V 1 t (ix2 b s) = V (Proc.devRef .tc main_arg1) (ix2 (⟨64 * (t.val + 4) + b.val, by have := points t; omega⟩ : Fin 1024) s) := by
  obtain ⟨h0, h1, h2, h3, h4⟩ := index_at t
  blk_ext [Norm.C5.blk, h1]

theorem seg_at (t : Fin cfg5.N) (k : Fin 2) (e : Fin 128) :
    Norm.C5.blk V 3 t (ix2 k e) = V (Proc.devRef .tc main_arg4) (ix2 k e) := by
  obtain ⟨h0, h1, h2, h3, h4⟩ := index_at t
  blk_ext [Norm.C5.blk, h3]

theorem pos_at (t : Fin cfg5.N) (s : Fin 200) (e : Fin 128) :
    Norm.C5.pos V t (ix2 s e) = V (Proc.devRef .tc main_arg3) (ix2 (⟨s.val, lt_trans s.isLt (by decide)⟩ : Fin 512) e) := by
  obtain ⟨h0, h1, h2, h3, h4⟩ := index_at t
  unfold Norm.C5.pos Pipeline.Window.fill
  rw [dif_pos (Norm.C5.moved t _)]
  blk_ext [Norm.C5.blk, h2]

theorem final (g : Fin 1024 → Fin 200 → Fin 128 → EReal)
    (hg : ∀ (b : Fin 320) (s : Fin 200) (e : Fin 128), V (Proc.devRef .tc main_v4) (ix3 b s e) = g ⟨256 + b.val, by omega⟩ s e) :
    (Norm.C5.dat V c).arrAt 4 cfg5.N
      = fun i : S1024x200x128.Idx => if 4 ≤ (i 0).val / 64 ∧ (i 0).val / 64 < 9 then want g (V (Proc.devRef .tc main_arg1)) (V (Proc.devRef .tc main_arg3)) (V (Proc.devRef .tc main_arg4)) i else V (Proc.devRef .tc main_v10) i := by
  refine (Norm.C5.dat V c).arrAt_eq_of_coversWhere 4 _ (fun β => 4 ≤ β 0 ∧ β 0 < 9) (by decide +kernel) (fun t hf y => ?_) (fun j => by blk_simp [Pipeline.Window.cell_apply])
  obtain ⟨h0, h1, h2, h3, h4⟩ := index_at t
  blk_simp
  rw [Norm.C5.after4]
  have ht := points t
  refine ln_want g _ _ _ _ _ _ _ (64 * (t.val + 4)) (fun b => by omega) ?_ (segs_at V t) (pos_at V t) (seg_at V t) _ _ ?_ ?_ ?_
  · intro b s e
    rw [rows_at, hg]
    exact congrArg (fun q => g q s e) (Fin.ext (by show 256 + (64 * t.val + b.val) = 64 * (t.val + 4) + b.val; omega))
  all_goals blk_simp [h4]
  all_goals omega

end C5

end Cert.Proof.Want

end
-- ==== Proof.Want6.lean ====
/-
  Layer-norm call 6's result array: its own blocks hold what the program computes, the other rows are as the call found them.
-/
module

public import proofs.«01_k».proof.Proof.Want
public import proofs.«01_k».proof.Proof.Norm6
public import Idealize.ShloMosaic.Lib.Pipeline.ValueKit

@[expose] public section

set_option maxRecDepth 16384

noncomputable section

namespace Cert.Proof.Want

open Cert.KernelIdeal Cert.KernelIdeal.Gen
open Idealize.ShloMosaic Idealize.ShloMosaic.TcCoe
open Cert.Proof.Norm Cert.Proof.Row Cert.Proof.Block

namespace C6

variable (V : Valuation τ sig (Elt Ideal)) (c : Dev nD)

theorem index_at : ∀ t : Fin grid6.N, win6_0.index t = ![t.val, 0, 0] ∧ win6_1.index t = ![t.val + 9, 0] ∧ win6_2.index t = ![0, 0]
    ∧ win6_3.index t = ![0, 0] ∧ win6_4.index t = ![t.val + 9, 0, 0] := by decide +kernel

theorem points (t : Fin cfg6.N) : t.val < 5 := t.isLt

theorem rows_at (t : Fin cfg6.N) (b : Fin 64) (s : Fin 200) (e : Fin 128) :
    Norm.C6.blk V 0 t (ix3 b s e) = V (Proc.devRef .tc main_v6) (ix3 (⟨64 * t.val + b.val, by have := points t; omega⟩ : Fin 320) s e) := by
  obtain ⟨h0, h1, h2, h3, h4⟩ := index_at t
  blk_ext [Norm.C6.blk, h0]

theorem segs_at (t : Fin cfg6.N) (b : Fin 64) (s : Fin 200) :
    Norm.C6.blk V 1 t (ix2 b s) = V (Proc.devRef .tc main_arg1) (ix2 (⟨64 * (t.val + 9) + b.val, by have := points t; omega⟩ : Fin 1024) s) := by
  obtain ⟨h0, h1, h2, h3, h4⟩ := index_at t
  blk_ext [Norm.C6.blk, h1]

theorem seg_at (t : Fin cfg6.N) (k : Fin 2) (e : Fin 128) :
    Norm.C6.blk V 3 t (ix2 k e) = V (Proc.devRef .tc main_arg4) (ix2 k e) := by
  obtain ⟨h0, h1, h2, h3, h4⟩ := index_at t
  blk_ext [Norm.C6.blk, h3]

theorem pos_at (t : Fin cfg6.N) (s : Fin 200) (e : Fin 128) :
    Norm.C6.pos V t (ix2 s e) = V (Proc.devRef .tc main_arg3) (ix2 (⟨s.val, lt_trans s.isLt (by decide)⟩ : Fin 512) e) := by
  obtain ⟨h0, h1, h2, h3, h4⟩ := index_at t
  unfold Norm.C6.pos Pipeline.Window.fill
  rw [dif_pos (Norm.C6.moved t _)]
  blk_ext [Norm.C6.blk, h2]

theorem final (g : Fin 1024 → Fin 200 → Fin 128 → EReal)
    (hg : ∀ (b : Fin 320) (s : Fin 200) (e : Fin 128), V (Proc.devRef .tc main_v6) (ix3 b s e) = g ⟨576 + b.val, by omega⟩ s e) :
    (Norm.C6.dat V c).arrAt 4 cfg6.N
      = fun i : S1024x200x128.Idx => if 9 ≤ (i 0).val / 64 ∧ (i 0).val / 64 < 14 then want g (V (Proc.devRef .tc main_arg1)) (V (Proc.devRef .tc main_arg3)) (V (Proc.devRef .tc main_arg4)) i else V (Proc.devRef .tc main_v11) i := by
  refine (Norm.C6.dat V c).arrAt_eq_of_coversWhere 4 _ (fun β => 9 ≤ β 0 ∧ β 0 < 14) (by decide +kernel) (fun t hf y => ?_) (fun j => by blk_simp [Pipeline.Window.cell_apply])
  obtain ⟨h0, h1, h2, h3, h4⟩ := index_at t
  blk_simp
  rw [Norm.C6.after4]
  have ht := points t
  refine ln_want g _ _ _ _ _ _ _ (64 * (t.val + 9)) (fun b => by omega) ?_ (segs_at V t) (pos_at V t) (seg_at V t) _ _ ?_ ?_ ?_
  · intro b s e
    rw [rows_at, hg]
    exact congrArg (fun q => g q s e) (Fin.ext (by show 576 + (64 * t.val + b.val) = 64 * (t.val + 9) + b.val; omega))
  all_goals blk_simp [h4]
  all_goals omega

end C6

end Cert.Proof.Want

end
-- ==== Proof.Want7.lean ====
/-
  Layer-norm call 7's result array: its own blocks hold what the program computes, the other rows are as the call found them.
-/
module

public import proofs.«01_k».proof.Proof.Want
public import proofs.«01_k».proof.Proof.Norm7
public import Idealize.ShloMosaic.Lib.Pipeline.ValueKit

@[expose] public section

set_option maxRecDepth 16384

noncomputable section

namespace Cert.Proof.Want

open Cert.KernelIdeal Cert.KernelIdeal.Gen
open Idealize.ShloMosaic Idealize.ShloMosaic.TcCoe
open Cert.Proof.Norm Cert.Proof.Row Cert.Proof.Block

namespace C7

variable (V : Valuation τ sig (Elt Ideal)) (c : Dev nD)

theorem index_at : ∀ t : Fin grid7.N, win7_0.index t = ![t.val, 0, 0] ∧ win7_1.index t = ![t.val + 14, 0] ∧ win7_2.index t = ![0, 0]
    ∧ win7_3.index t = ![0, 0] ∧ win7_4.index t = ![t.val + 14, 0, 0] := by decide +kernel

theorem points (t : Fin cfg7.N) : t.val < 2 := t.isLt

theorem rows_at (t : Fin cfg7.N) (b : Fin 64) (s : Fin 200) (e : Fin 128) :
    Norm.C7.blk V 0 t (ix3 b s e) = V (Proc.devRef .tc main_v8) (ix3 (⟨64 * t.val + b.val, by have := points t; omega⟩ : Fin 128) s e) := by
  obtain ⟨h0, h1, h2, h3, h4⟩ := index_at t
  blk_ext [Norm.C7.blk, h0]

theorem segs_at (t : Fin cfg7.N) (b : Fin 64) (s : Fin 200) :
    Norm.C7.blk V 1 t (ix2 b s) = V (Proc.devRef .tc main_arg1) (ix2 (⟨64 * (t.val + 14) + b.val, by have := points t; omega⟩ : Fin 1024) s) := by
  obtain ⟨h0, h1, h2, h3, h4⟩ := index_at t
  blk_ext [Norm.C7.blk, h1]

theorem seg_at (t : Fin cfg7.N) (k : Fin 2) (e : Fin 128) :
    Norm.C7.blk V 3 t (ix2 k e) = V (Proc.devRef .tc main_arg4) (ix2 k e) := by
  obtain ⟨h0, h1, h2, h3, h4⟩ := index_at t
  blk_ext [Norm.C7.blk, h3]

theorem pos_at (t : Fin cfg7.N) (s : Fin 200) (e : Fin 128) :
    Norm.C7.pos V t (ix2 s e) = V (Proc.devRef .tc main_arg3) (ix2 (⟨s.val, lt_trans s.isLt (by decide)⟩ : Fin 512) e) := by
  obtain ⟨h0, h1, h2, h3, h4⟩ := index_at t
  unfold Norm.C7.pos Pipeline.Window.fill
  rw [dif_pos (Norm.C7.moved t _)]
  blk_ext [Norm.C7.blk, h2]

theorem final (g : Fin 1024 → Fin 200 → Fin 128 → EReal)
    (hg : ∀ (b : Fin 128) (s : Fin 200) (e : Fin 128), V (Proc.devRef .tc main_v8) (ix3 b s e) = g ⟨896 + b.val, by omega⟩ s e) :
    (Norm.C7.dat V c).arrAt 4 cfg7.N
      = fun i : S1024x200x128.Idx => if 14 ≤ (i 0).val / 64 ∧ (i 0).val / 64 < 16 then want g (V (Proc.devRef .tc main_arg1)) (V (Proc.devRef .tc main_arg3)) (V (Proc.devRef .tc main_arg4)) i else V (Proc.devRef .tc main_v12) i := by
  refine (Norm.C7.dat V c).arrAt_eq_of_coversWhere 4 _ (fun β => 14 ≤ β 0 ∧ β 0 < 16) (by decide +kernel) (fun t hf y => ?_) (fun j => by blk_simp [Pipeline.Window.cell_apply])
  obtain ⟨h0, h1, h2, h3, h4⟩ := index_at t
  blk_simp
  rw [Norm.C7.after4]
  have ht := points t
  refine ln_want g _ _ _ _ _ _ _ (64 * (t.val + 14)) (fun b => by omega) ?_ (segs_at V t) (pos_at V t) (seg_at V t) _ _ ?_ ?_ ?_
  · intro b s e
    rw [rows_at, hg]
    exact congrArg (fun q => g q s e) (Fin.ext (by show 896 + (64 * t.val + b.val) = 64 * (t.val + 14) + b.val; omega))
  all_goals blk_simp [h4]
  all_goals omega

end C7

end Cert.Proof.Want

end
-- ==== Proof.Final.lean ====
/-
  The program's result array, from its arguments: the gathered rows at their places, then the four layer-norm calls' blocks.
-/
module

public import proofs.«01_k».proof.Proof.Kept
public import proofs.«01_k».proof.Proof.Want4
public import proofs.«01_k».proof.Proof.Want5
public import proofs.«01_k».proof.Proof.Want6
public import proofs.«01_k».proof.Proof.Want7

@[expose] public section

set_option maxRecDepth 16384

noncomputable section

namespace Cert.Proof.Final

open Cert.KernelIdeal Cert.KernelIdeal.Gen
open Idealize.ShloMosaic Idealize.ShloMosaic.TcCoe
open Cert.Proof Cert.Proof.Gather Cert.Proof.Launch Cert.Proof.Want

variable (m : (ℓ : Loc nD τ sig) → Buf (Elt Ideal) ℓ) (d : Dev nD)

/-- The arguments, as arrays. -/
abbrev aX : Vec Ideal S1024x200 .i32 := m (d, Proc.devRef .tc main_arg0)
abbrev aSeg : Vec Ideal S1024x200 .i32 := m (d, Proc.devRef .tc main_arg1)
abbrev aTab : Vec Ideal S100000x128 .f32 := m (d, Proc.devRef .tc main_arg2)
abbrev aPos : Vec Ideal S512x128 .f32 := m (d, Proc.devRef .tc main_arg3)
abbrev aSt : Vec Ideal S2x128 .f32 := m (d, Proc.devRef .tc main_arg4)

/-- The token row of a place. -/
def tok (b : Fin 1024) (s : Fin 200) (e : Fin 128) : EReal := aTab m d (ix2 (Fin.ofNat 100000 (aX m d (ix2 b s)).toNat) e)

theorem words_at (n : Fin 204800) :
    words m d (ix2 0 n) = aX m d (ix2 ⟨n.val / 200, by omega⟩ ⟨n.val % 200, by omega⟩) := by
  unfold words
  rw [StableHlo.reshape_result]
  show shapeCast S1x204800 (aX m d) shapeCasts_S1024x200_S1x204800 (ix2 0 n) = _
  pointwise

theorem gathered_at {r : ℕ} (st B : ℕ) (hB : 128 * st = 200 * B) (b : ℕ) (s : Fin 200) (e : Fin 128) (hb : B + b < 1024) (hr : b * 200 + s.val < r) :
    gathered (F := Ideal) (r := r) (aTab m d) (words m d) st (ix2 ⟨b * 200 + s.val, hr⟩ e) = tok m d ⟨B + b, hb⟩ s e := by
  have hs := s.isLt
  unfold gathered word tok
  have e1 : (fun | 0 => (0 : Fin 1) | 1 => (Fin.ofNat 204800 (128 * st + (b * 200 + s.val)) : Fin 204800) : SIdx.Idx)
      = ix2 0 (⟨128 * st + (b * 200 + s.val), by omega⟩ : Fin 204800) := funext fun a => match a with
    | 0 => rfl
    | 1 => Fin.ext (Nat.mod_eq_of_lt (by omega))
  have e2 : words m d (ix2 0 (⟨128 * st + (b * 200 + s.val), by omega⟩ : Fin 204800)) = aX m d (ix2 ⟨B + b, hb⟩ s) := by
    rw [words_at]
    exact congrArg (aX m d) (congrArg₂ ix2 (Fin.ext (by show (128 * st + (b * 200 + s.val)) / 200 = B + b; omega)) (Fin.ext (by show (128 * st + (b * 200 + s.val)) % 200 = s.val; omega)))
  refine congrArg (aTab m d) (funext fun a => match a with | 0 => ?_ | 1 => rfl)
  show Fin.ofNat 100000 _ = Fin.ofNat 100000 _
  rw [← e2, ← e1]
  rfl

/-! ## Rows seen as batches -/

theorem batch256_at (v : Vec Ideal S51200x128 .f32) (b : Fin 256) (s : Fin 200) (e : Fin 128) :
    shapeCast S256x200x128 v shapeCasts_S51200x128_S256x200x128 (ix3 b s e) = v (ix2 ⟨b.val * 200 + s.val, by omega⟩ e) := by
  pointwise

theorem batch320_at (v : Vec Ideal S64000x128 .f32) (b : Fin 320) (s : Fin 200) (e : Fin 128) :
    shapeCast S320x200x128 v shapeCasts_S64000x128_S320x200x128 (ix3 b s e) = v (ix2 ⟨b.val * 200 + s.val, by omega⟩ e) := by
  pointwise

theorem batch128_at (v : Vec Ideal S25600x128 .f32) (b : Fin 128) (s : Fin 200) (e : Fin 128) :
    shapeCast S128x200x128 v shapeCasts_S25600x128_S128x200x128 (ix3 b s e) = v (ix2 ⟨b.val * 200 + s.val, by omega⟩ e) := by
  pointwise

/-! ## The rows each layer-norm call is given -/

theorem rows4 (b : Fin 256) (s : Fin 200) (e : Fin 128) : V9 m d (Proc.devRef .tc main_v2) (ix3 b s e) = tok m d ⟨b.val, by omega⟩ s e := by
  rw [V9_at m d main_v2 (by decide) (by decide), V7_at m d main_v2 (by decide) (by decide), V5_at m d main_v2 (by decide) (by decide)]
  unfold V3
  rw [StableHlo.reshape_result]
  unfold V2
  rw [Function.update_self]
  refine (batch256_at (rows m 0 d) b s e).trans ?_
  exact (gathered_at m d 0 0 (by decide) b.val s e (by omega) (by omega)).trans (congrArg (fun q => tok m d q s e) (Fin.ext (by show 0 + b.val = b.val; omega)))

theorem rows5 (b : Fin 320) (s : Fin 200) (e : Fin 128) : V11 m d (Proc.devRef .tc main_v4) (ix3 b s e) = tok m d ⟨256 + b.val, by omega⟩ s e := by
  rw [V11_at m d main_v4 (by decide) (by decide), V9_at m d main_v4 (by decide) (by decide), V7_at m d main_v4 (by decide) (by decide)]
  unfold V5
  rw [StableHlo.reshape_result]
  unfold V4
  rw [Function.update_self]
  refine (batch320_at (rows m 1 d) b s e).trans ?_
  exact gathered_at m d 400 256 (by decide) b.val s e (by omega) (by omega)

theorem rows6 (b : Fin 320) (s : Fin 200) (e : Fin 128) : V13 m d (Proc.devRef .tc main_v6) (ix3 b s e) = tok m d ⟨576 + b.val, by omega⟩ s e := by
  rw [V13_at m d main_v6 (by decide) (by decide), V11_at m d main_v6 (by decide) (by decide), V9_at m d main_v6 (by decide) (by decide)]
  unfold V7
  rw [StableHlo.reshape_result]
  unfold V6
  rw [Function.update_self]
  refine (batch320_at (rows m 2 d) b s e).trans ?_
  exact gathered_at m d 900 576 (by decide) b.val s e (by omega) (by omega)

theorem rows7 (b : Fin 128) (s : Fin 200) (e : Fin 128) : V15 m d (Proc.devRef .tc main_v8) (ix3 b s e) = tok m d ⟨896 + b.val, by omega⟩ s e := by
  rw [V15_at m d main_v8 (by decide) (by decide), V13_at m d main_v8 (by decide) (by decide), V11_at m d main_v8 (by decide) (by decide)]
  unfold V9
  rw [StableHlo.reshape_result]
  unfold V8
  rw [Function.update_self]
  refine (batch128_at (rows m 3 d) b s e).trans ?_
  exact gathered_at m d 1400 896 (by decide) b.val s e (by omega) (by omega)

/-! ## The result array, call by call -/

/-- The program's result. -/
def res : Vec Ideal S1024x200x128 .f32 := want (tok m d) (aSeg m d) (aPos m d) (aSt m d)

theorem out4 (i : S1024x200x128.Idx) (h : (i 0).val / 64 < 4) : V10 m d (Proc.devRef .tc main_v9) i = res m d i := by
  have e := (Pipeline.afterRegion_arr (pd (V9 m) 0 d) (V9 m d) (kit (F := Ideal) 0).win.arr_inj 4).trans (C4.final (V9 m d) d (tok m d) (rows4 m d))
  rw [kept9 d m main_arg1 (by decide), kept9 d m main_arg3 (by decide), kept9 d m main_arg4 (by decide)] at e
  exact (congrFun e i).trans (if_pos h)

theorem out5 (i : S1024x200x128.Idx) (h : (i 0).val / 64 < 9) : V12 m d (Proc.devRef .tc main_v10) i = res m d i := by
  have e := (Pipeline.afterRegion_arr (pd (V11 m) 1 d) (V11 m d) (kit (F := Ideal) 1).win.arr_inj 4).trans (C5.final (V11 m d) d (tok m d) (rows5 m d))
  rw [kept11 d m main_arg1 (by decide), kept11 d m main_arg3 (by decide), kept11 d m main_arg4 (by decide)] at e
  refine (congrFun e i).trans ?_
  by_cases h4 : (i 0).val / 64 < 4
  · refine (if_neg (by omega)).trans ?_
    unfold V11
    rw [StableHlo.unary_result]
    exact out4 m d i h4
  · exact if_pos ⟨by omega, h⟩

theorem out6 (i : S1024x200x128.Idx) (h : (i 0).val / 64 < 14) : V14 m d (Proc.devRef .tc main_v11) i = res m d i := by
  have e := (Pipeline.afterRegion_arr (pd (V13 m) 2 d) (V13 m d) (kit (F := Ideal) 2).win.arr_inj 4).trans (C6.final (V13 m d) d (tok m d) (rows6 m d))
  rw [kept13 d m main_arg1 (by decide), kept13 d m main_arg3 (by decide), kept13 d m main_arg4 (by decide)] at e
  refine (congrFun e i).trans ?_
  by_cases h4 : (i 0).val / 64 < 9
  · refine (if_neg (by omega)).trans ?_
    unfold V13
    rw [StableHlo.unary_result]
    exact out5 m d i h4
  · exact if_pos ⟨by omega, h⟩

theorem out7 : V16 m d (Proc.devRef .tc main_v12) = res m d := by
  funext i
  have e := (Pipeline.afterRegion_arr (pd (V15 m) 3 d) (V15 m d) (kit (F := Ideal) 3).win.arr_inj 4).trans (C7.final (V15 m d) d (tok m d) (rows7 m d))
  rw [kept15 d m main_arg1 (by decide), kept15 d m main_arg3 (by decide), kept15 d m main_arg4 (by decide)] at e
  have hi : (i 0).val < 1024 := (i 0).isLt
  refine (congrFun e i).trans ?_
  by_cases h4 : (i 0).val / 64 < 14
  · refine (if_neg (by omega)).trans ?_
    unfold V15
    rw [StableHlo.unary_result]
    exact out6 m d i h4
  · exact if_pos ⟨by omega, by omega⟩

end Cert.Proof.Final

end
-- ==== Proof.Ranges.lean ====
/-
  What the two preconditions say, element by element: the ranges of the two index arrays, and of the segment table, the
  scale and the shift.
-/
module

public import proofs.«01_k».proof.Defs
public import proofs.«01_k».proof.Proof.Gen.Pre_indices
public import proofs.«01_k».proof.Proof.Gen.Pre_inputs
public import Idealize.ShloMosaic.Lib.IdealHost

@[expose] public section

noncomputable section

namespace Cert.Proof.Ranges

open Idealize.ShloMosaic

theorem and_one (a b : BitVec 1) : IntOp.andi a b = 1#1 ↔ a = 1#1 ∧ b = 1#1 := by
  revert a b; decide

/-- A fold of `and` that comes out one: it began at one, and every bit is one. -/
theorem fold_one {ι : Type} (x : ι → BitVec 1) (l : List ι) : ∀ v : BitVec 1, l.foldl (fun r n => IntOp.andi r (x n)) v = 1#1 → v = 1#1 ∧ ∀ n ∈ l, x n = 1#1 := by
  induction l with
  | nil => exact fun v h => ⟨h, fun n hn => absurd hn List.not_mem_nil⟩
  | cons a l ih =>
    intro v h
    obtain ⟨h1, h2⟩ := ih _ h
    obtain ⟨h3, h4⟩ := (and_one _ _).mp h1
    refine ⟨h3, fun n hn => ?_⟩
    rcases List.mem_cons.mp hn with rfl | hn
    · exact h4
    · exact h2 n hn

/-- A reduction by `and` that comes out one at an index: every element it reads is one. -/
theorem all_one {s t u : Shape} {axes : List (Fin s.rank)} (x : IVec s 1) (v : IVec u 1) (h : s.ReducesTo axes t) (hu : 0 < u.numel) (j : t.Idx)
    (e : Host.reduce IntOp.andi x v h hu j = 1#1) (i : s.Idx) (hi : h.drop i = j) : x i = 1#1 := by
  have := (fold_one (fun n => x (s.rowMajor.symm n)) _ _ e).2 (s.rowMajor i) (by
    rw [List.mem_filter]
    exact ⟨List.mem_finRange _, by simpa using hi⟩)
  simpa using this

theorem in_range (n : ℕ) (hn : n < 2 ^ 31) (x : BitVec 32) (h : IntOp.andi (IntOp.cmpi .sge x 0#32) (IntOp.cmpi .slt x (BitVec.ofNat 32 n)) = 1#1) : x.toNat < n := by
  obtain ⟨h1, h2⟩ := (and_one _ _).mp h
  have e1 : (0#32).sle x = true := by
    have : BitVec.ofBool ((0#32).sle x) = 1#1 := h1
    revert this; cases (0#32).sle x <;> simp
  have e2 : x.slt (BitVec.ofNat 32 n) = true := by
    have : BitVec.ofBool (x.slt (BitVec.ofNat 32 n)) = 1#1 := h2
    revert this; cases x.slt (BitVec.ofNat 32 n) <;> simp
  rw [BitVec.sle_eq_decide, decide_eq_true_eq] at e1
  rw [BitVec.slt_eq_decide, decide_eq_true_eq] at e2
  have hx := x.isLt
  simp only [BitVec.toInt_eq_toNat_cond, BitVec.toNat_ofNat] at e1 e2
  rw [Nat.mod_eq_of_lt (by omega : n < 2 ^ 32)] at e2
  have z : (0#32).toNat = 0 := rfl
  omega

instance : Subsingleton Cert.Pre_indices.S_.Idx := ⟨fun a b => funext fun k => k.elim0⟩
instance : Subsingleton Cert.Pre_inputs.S_.Idx := ⟨fun a b => funext fun k => k.elim0⟩

section Indices
open Cert.Pre_indices
variable {F : FTy → Type} [FloatOps F]

theorem indices_of (x seg : IVec S1024x200 32) (a2 : FVec F S100000x128 .f32) (a3 : FVec F S512x128 .f32) (a4 : FVec F S2x128 .f32) (a5 a6 : FVec F S128 .f32)
    (h : Cert.Pre_indices.fn (F := F) x seg a2 a3 a4 a5 a6 = fun _ => 1#1) : (∀ i, (x i).toNat < 100000) ∧ ∀ i, (seg i).toNat < 2 := by
  have h0 := congrFun h (fun k : Fin 0 => k.elim0)
  unfold Cert.Pre_indices.fn at h0
  obtain ⟨h1, h2⟩ := (and_one _ _).mp h0
  exact ⟨fun i => in_range 100000 (by decide) _ (all_one _ _ _ _ _ h1 i (Subsingleton.elim _ _)), fun i => in_range 2 (by decide) _ (all_one _ _ _ _ _ h2 i (Subsingleton.elim _ _))⟩
end Indices

section Inputs
open Cert.Pre_inputs

theorem eq_of_oeq (a b : EReal) (h : Ideal.cmp .oeq a b = 1#1) : a = b := by
  unfold Ideal.cmp at h
  by_contra hne
  simp [hne] at h

theorem lt_of_olt (a b : EReal) (h : Ideal.cmp .olt a b = 1#1) : a < b := by
  unfold Ideal.cmp at h
  by_contra hne
  simp [hne] at h

theorem ofBits_inf : Ideal.ofBits .f32 0x7F800000#32 = ⊤ := by
  simp [Ideal.ofBits, Ideal.ieee]

theorem inputs_of (x seg : IVec S1024x200 32) (a2 : FVec Ideal S100000x128 .f32) (a3 : FVec Ideal S512x128 .f32) (a4 : FVec Ideal S2x128 .f32) (a5 a6 : FVec Ideal S128 .f32)
    (h : Cert.Pre_inputs.fn (F := Ideal) x seg a2 a3 a4 a5 a6 = fun _ => 1#1) :
    (∀ i, (x i).toNat < 100000) ∧ (∀ i, (seg i).toNat < 2) ∧ (∀ i, ∃ r : ℝ, (a4 i : EReal) = (r : EReal)) ∧ (∀ i, (a5 i : EReal) = 1) ∧ ∀ i, (a6 i : EReal) = 0 := by
  have h0 := congrFun h (fun k : Fin 0 => k.elim0)
  unfold Cert.Pre_inputs.fn Cert.Pre_inputs.fn_part1 at h0
  obtain ⟨h0, h6⟩ := (and_one _ _).mp h0
  obtain ⟨h0, h5⟩ := (and_one _ _).mp h0
  obtain ⟨h0, h4⟩ := (and_one _ _).mp h0
  obtain ⟨h1, h2⟩ := (and_one _ _).mp h0
  refine ⟨fun i => in_range 100000 (by decide) _ (all_one _ _ _ _ _ h1 i (Subsingleton.elim _ _)), fun i => in_range 2 (by decide) _ (all_one _ _ _ _ _ h2 i (Subsingleton.elim _ _)),
    fun i => ?_, fun i => ?_, fun i => ?_⟩
  · have e := lt_of_olt _ _ (all_one _ _ _ _ _ h4 i (Subsingleton.elim _ _))
    rw [show (broadcastInDim S2x128 ![] Cert.Pre_inputs.Facts.bcast_S_S2x128 (constant (F := Ideal) S_ .f32 0x7F800000#32) i : EReal) = Ideal.ofBits .f32 0x7F800000#32 from rfl, ofBits_inf] at e
    have e' : max (a4 i : EReal) (-(a4 i : EReal)) < ⊤ := e
    obtain ⟨e1, e2⟩ := max_lt_iff.mp e'
    induction hx : (a4 i : EReal) using EReal.rec with
    | bot => rw [hx] at e2; simp at e2
    | top => rw [hx] at e1; simp at e1
    | coe r => exact ⟨r, rfl⟩
  · exact (eq_of_oeq _ _ (all_one _ _ _ _ _ h5 i (Subsingleton.elim _ _))).trans Ideal.ofBits_one_f32
  · exact (eq_of_oeq _ _ (all_one _ _ _ _ _ h6 i (Subsingleton.elim _ _))).trans Ideal.ofBits_zero_f32
end Inputs

end Cert.Proof.Ranges

end
-- ==== Proof.Taken.lean ====
/-
  The reference's result at an element. Its three lookups read the row an index names when the index lies in the table,
  and the rest is the layer norm of the row they sum to.
-/
module

public import proofs.«01_k».proof.Proof.Block
public import proofs.«01_k».proof.Proof.Ranges
public import proofs.«01_k».proof.Proof.Gen.ReferenceIdeal.Run

@[expose] public section

set_option maxRecDepth 16384

noncomputable section

namespace Cert.Proof.Taken

open Cert.ReferenceIdeal Cert.ReferenceIdeal.Facts₀
open Idealize.ShloMosaic
open Cert.Proof.Row

variable {F : FTy → Type} [FloatOps F]

/-! ## The reference's text -/

/-- An index array with its negative entries moved up by the table's length, as a column. -/
def wrap (n : BitVec 32) (x : IVec S1024x200 32) : IVec S1024x200x1 32 :=
  broadcastInDim S1024x200x1 ![0, 1] bcast_S1024x200_S1024x200x1_0_1 (select (cmpi .slt x (broadcastInDim S1024x200 ![] bcast_S_S1024x200 (constantI S_ 32 0#32))) (addi x (broadcastInDim S1024x200 ![] bcast_S_S1024x200 (constantI S_ 32 n))) x)

/-- Which of them lie in the table, whose last row is `l`. -/
def inside (l : BitVec 32) (y : IVec S1024x200x1 32) : IVec S1024x200 1 :=
  Host.reduce IntOp.andi (andi (cmpi .sge y (broadcastInDim S1024x200x1 ![] bcast_S_S1024x200x1 (constantI S_ 32 0#32))) (cmpi .sle y (broadcastInDim S1024x200x1 ![0, 1, 2] bcast_S1x1x1_S1024x200x1_0_1_2 (broadcastInDim S1x1x1 ![2] bcast_S1_S1x1x1_2 (constantI S1 32 l))))) (constantI S_ 1 1#1) reducesTo_S1024x200x1_S1024x200_d2 h_S_

/-- The rows taken, with a filler where the index is not inside. -/
def fillRows (k : IVec S1024x200 1) (g : FVec F S1024x200x128 .f32) : FVec F S1024x200x128 .f32 :=
  select (broadcastInDim S1024x200x128 ![0, 1] bcast_S1024x200_S1024x200x128_0_1 k) g (broadcastInDim S1024x200x128 ![] bcast_S_S1024x200x128 (constant S_ .f32 0x7FC00000#32))

/-- The positions, the same way. -/
def wrapP : IVec S200x1 32 :=
  broadcastInDim S200x1 ![0] bcast_S200_S200x1_0 (select (cmpi .slt (iotaInDim S200 32 0) (broadcastInDim S200 ![] bcast_S_S200 (constantI S_ 32 0#32))) (addi (iotaInDim S200 32 0) (broadcastInDim S200 ![] bcast_S_S200 (constantI S_ 32 512#32))) (iotaInDim S200 32 0))
def insideP (y : IVec S200x1 32) : IVec S200 1 :=
  Host.reduce IntOp.andi (andi (cmpi .sge y (broadcastInDim S200x1 ![] bcast_S_S200x1 (constantI S_ 32 0#32))) (cmpi .sle y (broadcastInDim S200x1 ![0, 1] bcast_S1x1_S200x1_0_1 (broadcastInDim S1x1 ![1] bcast_S1_S1x1_1 (constantI S1 32 511#32))))) (constantI S_ 1 1#1) reducesTo_S200x1_S200_d1 h_S_
def rowsP (a3 : FVec F S512x128 .f32) : FVec F S200x128 .f32 :=
  select (broadcastInDim S200x128 ![0] bcast_S200_S200x128_0 (insideP wrapP)) (Host.gather gather_S512x128_S200x1_S200x128_1_0_n_n_0_1_1128 a3 wrapP) (broadcastInDim S200x128 ![] bcast_S_S200x128 (constant S_ .f32 0x7FC00000#32))

/-- The sum of the three lookups. -/
def total (a0 a1 : IVec S1024x200 32) (a2 : FVec F S100000x128 .f32) (a3 : FVec F S512x128 .f32) (a4 : FVec F S2x128 .f32) : FVec F S1024x200x128 .f32 :=
  addf (addf (mulf (fillRows (inside 99999#32 (wrap 100000#32 a0)) (Host.gather gather_S100000x128_S1024x200x1_S1024x200x128_2_0_n_n_0_2_1128 a2 (wrap 100000#32 a0))) (broadcastInDim S1024x200x128 ![] bcast_S_S1024x200x128 (Host.sqrt (constant S_ .f32 0x43000000#32))))
    (broadcastInDim S1024x200x128 ![0, 1, 2] bcast_S1x200x128_S1024x200x128_0_1_2 (broadcastInDim S1x200x128 ![1, 2] bcast_S200x128_S1x200x128_1_2 (rowsP a3))))
    (fillRows (inside 1#32 (wrap 2#32 a1)) (Host.gather gather_S2x128_S1024x200x1_S1024x200x128_2_0_n_n_0_2_1128 a4 (wrap 2#32 a1)))

/-- The row means, and the deviations from them. -/
def means (h : FVec F S1024x200x128 .f32) : FVec F S1024x200x1 .f32 :=
  Host.divf (broadcastInDim S1024x200x1 ![0, 1] bcast_S1024x200_S1024x200x1_0_1 (Host.reduceAdd h (constant S_ .f32 0x00000000#32) reducesTo_S1024x200x128_S1024x200_d2 h_S_)) (broadcastInDim S1024x200x1 ![] bcast_S_S1024x200x1 (constant S_ .f32 0x43000000#32))
def devs (h : FVec F S1024x200x128 .f32) : FVec F S1024x200x128 .f32 :=
  subf h (broadcastInDim S1024x200x128 ![0, 1, 2] bcast_S1024x200x1_S1024x200x128_0_1_2 (means h))
/-- The count a variance divides by, and the variances. -/
def count : FVec F S_ .f32 := subf (constant S_ .f32 0x43000000#32) (sitofp .f32 (constantI S_ 32 0#32))
def vars (h : FVec F S1024x200x128 .f32) : FVec F S1024x200x1 .f32 :=
  select (broadcastInDim S1024x200x1 ![] bcast_S_S1024x200x1 (cmpf .ogt (count (F := F)) (constant S_ .f32 0x00000000#32))) (Host.divf (broadcastInDim S1024x200x1 ![0, 1] bcast_S1024x200_S1024x200x1_0_1 (Host.reduceAdd (mulf (devs h) (devs h)) (constant S_ .f32 0x00000000#32) reducesTo_S1024x200x128_S1024x200_d2 h_S_)) (broadcastInDim S1024x200x1 ![] bcast_S_S1024x200x1 count)) (broadcastInDim S1024x200x1 ![] bcast_S_S1024x200x1 (id (constant S_ .f32 0x7FC00000#32)))

/-- The layer norm, with its scale and its shift. -/
def layer (h : FVec F S1024x200x128 .f32) (a5 a6 : FVec F S128 .f32) : FVec F S1024x200x128 .f32 :=
  addf (mulf (Host.divf (devs h) (broadcastInDim S1024x200x128 ![0, 1, 2] bcast_S1024x200x1_S1024x200x128_0_1_2 (Host.sqrt (addf (vars h) (broadcastInDim S1024x200x1 ![] bcast_S_S1024x200x1 (constant S_ .f32 0x3A83126F#32))))))
    (broadcastInDim S1024x200x128 ![0, 1, 2] bcast_S1x1x128_S1024x200x128_0_1_2 (broadcastInDim S1x1x128 ![2] bcast_S128_S1x1x128_2 a5)))
    (broadcastInDim S1024x200x128 ![0, 1, 2] bcast_S1x1x128_S1024x200x128_0_1_2 (broadcastInDim S1x1x128 ![2] bcast_S128_S1x1x128_2 a6))

theorem result_eq (m : (ℓ : Loc nD τ sig) → Buf (Elt F) ℓ) (c : Dev nD) :
    Value.res_main_v28 m c = layer (total (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) (m ((c.tc : Thread nD τ).loc main_arg6)) := rfl

/-! ## The layer norm at an element -/

theorem ofBits_zero : Ideal.ofBits .f32 0x00000000#32 = ((0 : ℝ) : EReal) := by
  simp [Ideal.ofBits, Ideal.ieee, -EReal.coe_mul]

theorem devs_at (h : FVec Ideal S1024x200x128 .f32) (b : Fin 1024) (s : Fin 200) (e : Fin 128) :
    devs h (ix3 b s e) = dev (fun k => h (ix3 b s k)) e := by
  unfold dev mean
  pointwise [devs, means]
  rw [Block.ofBits_128]

theorem vars_at (h : FVec Ideal S1024x200x128 .f32) (b : Fin 1024) (s : Fin 200) :
    vars h (ix3 b s 0) = var (fun k => h (ix3 b s k)) := by
  unfold var
  simp only [← devs_at]
  pointwise [vars, count]
  have h0 : FloatOps.sitofp (F := Ideal) .f32 0#32 = ((0 : ℝ) : EReal) := by
    show (((0#32 : BitVec 32).toInt : ℝ) : EReal) = _
    simp
  rw [h0, Block.ofBits_128, ← EReal.coe_sub, sub_zero, if_pos (by exact_mod_cast (by norm_num : (0:ℝ) < 128))]

theorem layer_at (h : FVec Ideal S1024x200x128 .f32) (a5 a6 : FVec Ideal S128 .f32) (h5 : ∀ i, a5 i = (1 : EReal)) (h6 : ∀ i, a6 i = (0 : EReal))
    (b : Fin 1024) (s : Fin 200) (e : Fin 128) : layer h a5 a6 (ix3 b s e) = normRef (fun k => h (ix3 b s k)) e := by
  unfold normRef
  rw [← devs_at, ← vars_at]
  pointwise [layer]
  rw [h5, h6, mul_one, add_zero, Block.ofBits_eps]

/-! ## The lookups at an element -/

theorem gather3 {N : Nat} (hN : 0 < N) (wf : GatherDims.WF ⟨2, ![N, 128]⟩ ⟨3, ![1024, 200, 1]⟩ ⟨3, ![1024, 200, 128]⟩ [2] [0] [] [0] [] 2 ![1, 128])
    (x : FVec F ⟨2, ![N, 128]⟩ .f32) (idx : IVec ⟨3, ![1024, 200, 1]⟩ 32) (b : Fin 1024) (s : Fin 200) (e : Fin 128) (k : Fin N)
    (hk : (idx (ix3 b s 0)).toInt.toNat = k.val) :
    Host.gather (⟨[2], [0], [], [], [0], 2, ![1, 128], wf⟩ : GatherDims ⟨2, ![N, 128]⟩ ⟨3, ![1024, 200, 1]⟩ ⟨3, ![1024, 200, 128]⟩) x idx (ix3 b s e) = x (ix2 k e) := by
  unfold Host.gather
  congr 1
  funext a
  refine Fin.ext ?_
  generalize hd : (⟨[2], [0], [], [], [0], 2, ![1, 128], wf⟩ : GatherDims ⟨2, ![N, 128]⟩ ⟨3, ![1024, 200, 1]⟩ ⟨3, ![1024, 200, 128]⟩) = d
  show d.start (ix3 b s e) idx a + d.batchCoord (ix3 b s e) a + d.offCoord (ix3 b s e) a = _
  subst hd
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    rw [dif_pos (show (⟨0, by decide⟩ : Fin 2) ∈ [(0 : Fin 2)] from List.mem_singleton.mpr rfl)]
    have hs : ∀ q, GatherDims.siIdx (⟨[2], [0], [], [], [0], 2, ![1, 128], wf⟩ : GatherDims ⟨2, ![N, 128]⟩ ⟨3, ![1024, 200, 1]⟩ ⟨3, ![1024, 200, 128]⟩) (ix3 b s e) q = ix3 b s 0 := by
      intro q
      funext a; refine Fin.ext ?_
      match a with
      | ⟨0, _⟩ => rfl
      | ⟨1, _⟩ => rfl
      | ⟨2, _⟩ => exact congrArg Fin.val (Subsingleton.elim (α := Fin 1) _ _)
    rw [hs, hk]
    show min k.val (N - 1) = k.val
    have := k.isLt; omega
  | ⟨1, _⟩ =>
    unfold GatherDims.start
    rw [dif_neg (by simp)]
    show 0 + e.val = e.val
    omega

theorem gather2 {N : Nat} (hN : 0 < N) (wf : GatherDims.WF ⟨2, ![N, 128]⟩ ⟨2, ![200, 1]⟩ ⟨2, ![200, 128]⟩ [1] [0] [] [0] [] 1 ![1, 128])
    (x : FVec F ⟨2, ![N, 128]⟩ .f32) (idx : IVec ⟨2, ![200, 1]⟩ 32) (s : Fin 200) (e : Fin 128) (k : Fin N)
    (hk : (idx (ix2 s 0)).toInt.toNat = k.val) :
    Host.gather (⟨[1], [0], [], [], [0], 1, ![1, 128], wf⟩ : GatherDims ⟨2, ![N, 128]⟩ ⟨2, ![200, 1]⟩ ⟨2, ![200, 128]⟩) x idx (ix2 s e) = x (ix2 k e) := by
  unfold Host.gather
  congr 1
  funext a
  refine Fin.ext ?_
  generalize hd : (⟨[1], [0], [], [], [0], 1, ![1, 128], wf⟩ : GatherDims ⟨2, ![N, 128]⟩ ⟨2, ![200, 1]⟩ ⟨2, ![200, 128]⟩) = d
  show d.start (ix2 s e) idx a + d.batchCoord (ix2 s e) a + d.offCoord (ix2 s e) a = _
  subst hd
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    rw [dif_pos (show (⟨0, by decide⟩ : Fin 2) ∈ [(0 : Fin 2)] from List.mem_singleton.mpr rfl)]
    have hs : ∀ q, GatherDims.siIdx (⟨[1], [0], [], [], [0], 1, ![1, 128], wf⟩ : GatherDims ⟨2, ![N, 128]⟩ ⟨2, ![200, 1]⟩ ⟨2, ![200, 128]⟩) (ix2 s e) q = ix2 s 0 := by
      intro q
      funext a; refine Fin.ext ?_
      match a with
      | ⟨0, _⟩ => rfl
      | ⟨1, _⟩ => exact congrArg Fin.val (Subsingleton.elim (α := Fin 1) _ _)
    rw [hs, hk]
    show min k.val (N - 1) = k.val
    have := k.isLt; omega
  | ⟨1, _⟩ =>
    unfold GatherDims.start
    rw [dif_neg (by simp)]
    show 0 + e.val = e.val
    omega

/-! An index that is not negative stays, and one up to the last row is inside. -/

theorem not_neg (x : BitVec 32) (h : x.toNat < 2^31) : IntOp.cmpi .slt x 0#32 = 0#1 := by
  rw [WordCmp.cmpi_slt_of_lt (w := 32) h (by decide)]
  simp

theorem within (x l : BitVec 32) (h : x.toNat ≤ l.toNat) (hl : l.toNat < 2^31) :
    IntOp.andi (IntOp.cmpi .sge x 0#32) (IntOp.cmpi .sle x l) = 1#1 := by
  rw [WordCmp.cmpi_sge_of_lt (w := 32) (lt_of_le_of_lt h hl) (by decide), WordCmp.cmpi_sle_of_lt (w := 32) (lt_of_le_of_lt h hl) hl]
  simp [h, IntOp.andi]

theorem fold_fin1 (f : Fin 1 → BitVec 1) (h : f 0 = 1#1) : Finset.fold IntOp.andi 1#1 f Finset.univ = 1#1 := by
  rw [show (Finset.univ : Finset (Fin 1)) = {0} from rfl, Finset.fold_singleton, h]; rfl

theorem wrap_at (n : BitVec 32) (x : IVec S1024x200 32) (b : Fin 1024) (s : Fin 200) (h : (x (ix2 b s)).toNat < 2^31) :
    wrap n x (ix3 b s 0) = x (ix2 b s) := by
  pointwise [wrap]
  rw [not_neg _ h, ValueIdx.select_zero]

theorem inside_at (l : BitVec 32) (y : IVec S1024x200x1 32) (b : Fin 1024) (s : Fin 200) (h : (y (ix3 b s 0)).toNat ≤ l.toNat) (hl : l.toNat < 2^31) :
    inside l y (ix2 b s) = 1#1 := by
  pointwise [inside]
  exact fold_fin1 _ (within _ _ h hl)

theorem wrapP_at (s : Fin 200) : wrapP (ix2 s 0) = BitVec.ofNat 32 s.val := by
  pointwise [wrapP]
  rw [not_neg _ (by have := s.isLt; rw [BitVec.toNat_ofNat]; omega), ValueIdx.select_zero]

theorem insideP_at (y : IVec S200x1 32) (s : Fin 200) (h : (y (ix2 s 0)).toNat ≤ 511) : insideP y (ix1 s) = 1#1 := by
  pointwise [insideP]
  exact fold_fin1 _ (within _ _ h (by decide))

theorem fillRows_at (k : IVec S1024x200 1) (g : FVec Ideal S1024x200x128 .f32) (b : Fin 1024) (s : Fin 200) (e : Fin 128) (h : k (ix2 b s) = 1#1) :
    fillRows k g (ix3 b s e) = g (ix3 b s e) := by
  pointwise [fillRows]
  rw [h, ValueIdx.select_one]

theorem rowsP_at (a3 : FVec Ideal S512x128 .f32) (s : Fin 200) (e : Fin 128) : rowsP a3 (ix2 s e) = a3 (ix2 ⟨s.val, by omega⟩ e) := by
  have hs := s.isLt
  pointwise [rowsP]
  rw [insideP_at _ s (by rw [wrapP_at, BitVec.toNat_ofNat]; omega), ValueIdx.select_one]
  refine gather2 (by decide) _ a3 wrapP s e ⟨s.val, by omega⟩ ?_
  rw [wrapP_at, BitVec.toInt_ofNat', Int.bmod_eq_of_le (by omega) (by omega)]; rfl

theorem toInt_of (x : BitVec 32) (h : x.toNat < 2^31) : x.toInt = (x.toNat : Int) := WordCmp.toInt_eq_toNat_of_lt_half (w := 32) h

/-- The sum at an element: the root times the kernel's scaled sum. -/
theorem total_at (a0 a1 : IVec S1024x200 32) (a2 : FVec Ideal S100000x128 .f32) (a3 : FVec Ideal S512x128 .f32) (a4 : FVec Ideal S2x128 .f32)
    (b : Fin 1024) (s : Fin 200) (e : Fin 128) (h0 : (a0 (ix2 b s)).toNat < 100000) (h1 : (a1 (ix2 b s)).toNat < 2) (h4 : ∀ i, ∃ r : ℝ, a4 i = (r : EReal)) :
    total a0 a1 a2 a3 a4 (ix3 b s e)
      = (c : EReal) * sumK (a2 (ix2 ⟨(a0 (ix2 b s)).toNat, h0⟩ e)) (a3 (ix2 ⟨s.val, by omega⟩ e)) (a4 (ix2 0 e)) (a4 (ix2 1 e)) (((a1 (ix2 b s)).toInt : ℝ) : EReal) := by
  have w0 : wrap 100000#32 a0 (ix3 b s 0) = a0 (ix2 b s) := wrap_at _ _ b s (by omega)
  have w1 : wrap 2#32 a1 (ix3 b s 0) = a1 (ix2 b s) := wrap_at _ _ b s (by omega)
  pointwise [total]
  rw [fillRows_at _ _ b s e (inside_at _ _ b s (by rw [w0]; show _ ≤ 99999; omega) (by decide)),
    fillRows_at _ _ b s e (inside_at _ _ b s (by rw [w1]; show _ ≤ 1; omega) (by decide)), rowsP_at, Block.ofBits_128,
    Ideal.sqrt_coe, if_neg (by norm_num), show Real.sqrt 128 = c from rfl]
  have g0 : Host.gather gather_S100000x128_S1024x200x1_S1024x200x128_2_0_n_n_0_2_1128 a2 (wrap 100000#32 a0) (ix3 b s e) = a2 (ix2 ⟨(a0 (ix2 b s)).toNat, h0⟩ e) :=
    gather3 (by decide) _ a2 _ b s e ⟨_, h0⟩ (by rw [w0, toInt_of _ (by omega)]; rfl)
  have g1 : Host.gather gather_S2x128_S1024x200x1_S1024x200x128_2_0_n_n_0_2_1128 a4 (wrap 2#32 a1) (ix3 b s e) = a4 (ix2 ⟨(a1 (ix2 b s)).toNat, h1⟩ e) :=
    gather3 (by decide) _ a4 _ b s e ⟨_, h1⟩ (by rw [w1, toInt_of _ (by omega)]; rfl)
  rw [g0, g1, toInt_of _ (by omega)]
  obtain ⟨s0, e0⟩ := h4 (ix2 0 e)
  obtain ⟨s1, e1⟩ := h4 (ix2 1 e)
  generalize (a1 (ix2 b s)).toNat = n at h1 ⊢
  have hn : n = 0 ∨ n = 1 := by omega
  rcases hn with rfl | rfl
  · have := sumK_scale (a2 (ix2 ⟨(a0 (ix2 b s)).toNat, h0⟩ e)) (a3 (ix2 ⟨s.val, by omega⟩ e)) s0 s1 false
    simp only [Bool.false_eq_true, if_false] at this
    rw [show (⟨0, h1⟩ : Fin 2) = 0 from rfl, e0, e1, this]; simp
  · have := sumK_scale (a2 (ix2 ⟨(a0 (ix2 b s)).toNat, h0⟩ e)) (a3 (ix2 ⟨s.val, by omega⟩ e)) s0 s1 true
    simp only [if_true] at this
    rw [show (⟨1, h1⟩ : Fin 2) = 1 from rfl, e0, e1, this]; simp

/-- The reference's result at an element is the kernel's layer norm of the scaled sums. -/
theorem result_at (a0 a1 : IVec S1024x200 32) (a2 : FVec Ideal S100000x128 .f32) (a3 : FVec Ideal S512x128 .f32) (a4 : FVec Ideal S2x128 .f32) (a5 a6 : FVec Ideal S128 .f32)
    (h0 : ∀ i, (a0 i).toNat < 100000) (h1 : ∀ i, (a1 i).toNat < 2) (h4 : ∀ i, ∃ r : ℝ, a4 i = (r : EReal)) (h5 : ∀ i, a5 i = (1 : EReal)) (h6 : ∀ i, a6 i = (0 : EReal))
    (b : Fin 1024) (s : Fin 200) (e : Fin 128) :
    layer (total a0 a1 a2 a3 a4) a5 a6 (ix3 b s e)
      = normK (fun e => sumK (a2 (ix2 ⟨(a0 (ix2 b s)).toNat, h0 _⟩ e)) (a3 (ix2 ⟨s.val, by omega⟩ e)) (a4 (ix2 0 e)) (a4 (ix2 1 e)) (((a1 (ix2 b s)).toInt : ℝ) : EReal)) e := by
  rw [layer_at _ _ _ h5 h6, ← normRef_scale]
  exact congrArg (fun h => normRef h e) (funext fun k => total_at a0 a1 a2 a3 a4 b s k (h0 _) (h1 _) h4)

end Cert.Proof.Taken

end
-- ==== Proof.Equal.lean ====
/-
  The program's result and the reference's are the same array.
-/
module

public import proofs.«01_k».proof.Defs
public import proofs.«01_k».proof.Proof.Final
public import proofs.«01_k».proof.Proof.Taken
public import proofs.«01_k».proof.Proof.Ranges

@[expose] public section

set_option maxRecDepth 16384

noncomputable section

namespace Cert.Proof.Equal

open Cert.KernelIdeal
open Idealize.ShloMosaic Idealize.ShloMosaic.TcCoe
open Cert.Proof Cert.Proof.Want Cert.Proof.Row

/-- The reference, from the arguments the run of the kernel is given, is what the kernel leaves. -/
theorem res_eq (m : (ℓ : Loc nD τ sig) → Buf (Elt Ideal) ℓ) (d : Dev nD) (a5 a6 : Vec Ideal S128 .f32)
    (h0 : ∀ i : S1024x200.Idx, (Final.aX m d i).toNat < 100000) (h1 : ∀ i : S1024x200.Idx, (Final.aSeg m d i).toNat < 2)
    (h4 : ∀ i : S2x128.Idx, ∃ r : ℝ, (Final.aSt m d i : EReal) = (r : EReal)) (h5 : ∀ i, (a5 i : EReal) = 1) (h6 : ∀ i, (a6 i : EReal) = 0) :
    Final.res m d = Taken.layer (F := Ideal) (Taken.total (F := Ideal) (Final.aX m d) (Final.aSeg m d) (Final.aTab m d) (Final.aPos m d) (Final.aSt m d)) a5 a6 := by
  funext i
  have hi : i = ix3 (i 0) (i 1) (i 2) := funext fun a => match a with | 0 => rfl | 1 => rfl | 2 => rfl
  rw [hi]
  generalize i 0 = b
  generalize i 1 = s
  generalize i 2 = e
  refine Eq.trans ?_ (Taken.result_at (Final.aX m d) (Final.aSeg m d) (Final.aTab m d) (Final.aPos m d) (Final.aSt m d) a5 a6 h0 h1 h4 h5 h6 b s e).symm
  refine (want_at (Final.tok m d) (Final.aSeg m d) (Final.aPos m d) (Final.aSt m d) b s e).trans ?_
  have ht : ∀ e, Final.tok m d b s e = Final.aTab m d (ix2 ⟨(Final.aX m d (ix2 b s)).toNat, h0 _⟩ e) := fun e =>
    congrArg (Final.aTab m d) (congrArg (fun k => ix2 k e) (Fin.ext (Nat.mod_eq_of_lt (h0 _))))
  exact congrFun (congrArg normK (funext fun e => by rw [ht e])) e

end Cert.Proof.Equal

end
-- ==== Proof.Printed.Tasks.lean ====
/-
  The four gather calls' tasks: on every tile, from its part to its rows gathered.
-/
module

public import proofs.«01_k».proof.Proof.Printed.Launch
public import proofs.«01_k».proof.Proof.Split
public import proofs.«01_k».proof.Proof.Printed.Tile0
public import proofs.«01_k».proof.Proof.Printed.Tile1
public import proofs.«01_k».proof.Proof.Printed.Tile2
public import proofs.«01_k».proof.Proof.Printed.Tile3

@[expose] public section

set_option maxRecDepth 16384

noncomputable section

namespace Cert.Proof.Printed.Launch

open Cert.Kernel Cert.Kernel.Gen
open Cert.Proof.Printed
open Cert.Proof.Printed.Norm (UH UP UU)
open Cert.Proof.Gather (nOf bOf at0 cc0 ss0 tileSet coreSet gathered peel5 semT)
open Idealize.ShloMosaic
open Idealize.ShloMosaic.SparseCore (V)
open Idealize.ShloMosaic.SparseCore.Cfg (HIx ownCells mem_ownCells ownRefs ownSems0 ownBufs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig (HIx 4) (Elt F) ℕ UU ℕ

/-! ## The tasks -/

attribute [local irreducible] cc0_gather_kernel cc1_gather_kernel cc2_gather_kernel cc3_gather_kernel

section Tasks

variable (m : (ℓ : Loc nD τ sig) → Buf (Elt F) ℓ) (c : Fin 2) (s : Fin 16) (O : CellTallies nD τ sig (HIx 4)) (W : Waits sig (HIx 4))

abbrev tab : Memref sig .scVector .hbm S100000x128 .f32 := Memref.whole main_arg2_scv
abbrev idx : Memref sig .scVector .hbm S1x204800 .i32 := Memref.whole main_v0_scv

/-- What a call's task does with its part. -/
abbrev DoesTask (q : Fin 4) (p : (d : Dev nD) → Prog (TpuEff nD τ sig (Elt F) Λ₀ (.scVector (cc0 c s) (ss0 c s))) PUnit) : Prop :=
  ∀ d : Dev nD, (iprop(levAts (K (F := F)).L (K (F := F)).lev ∗ emp ∗ three m q d (tq c s) (tset q d c s) (m (oLoc q d))
        ∗ scopedBufs (V d (cc0 c s) (ss0 c s)) ∗ scopedSems0 (V d (cc0 c s) (ss0 c s)) ∗ owes (V d (cc0 c s) (ss0 c s)) O W) : sProp 𝕄)
      ⊢ wp frame (wpE (defs₀ (F := F)) 𝒱₀ (V d (cc0 c s) (ss0 c s)) none) Set.univ (p d)
          fun _ => iprop(three m q d (tq c s) (tset q d c s) (rows m q d)
            ∗ scopedBufs (V d (cc0 c s) (ss0 c s)) ∗ scopedSems0 (V d (cc0 c s) (ss0 c s))
            ∗ ∃ W', ⌜∀ p ∈ W', p ∈ W ∨ p.2 = none⌝ ∗ owes (V d (cc0 c s) (ss0 c s)) O W')

abbrev body0 := cc0_gather_kernel (F := F) (at0 c s) tab (Memref.isWhole_whole _) idx (Memref.isWhole_whole _) (Memref.whole main_v1_scv) (Memref.isWhole_whole _)
  (Memref.whole cc0_scoped0) (Memref.isWhole_whole _) cc0_scoped1 (Memref.whole cc0_scoped2) (Memref.isWhole_whole _) cc0_scoped3 cc0_scoped4 cc0_scoped5

theorem task0 (hw : InRange m) (hO : ∀ g, O g none = 0) : DoesTask m c s O W 0 fun _ => body0 c s := by
  intro d
  rw [(K (F := F)).scopedBufs_V facts d (cc0 c s) (ss0 c s), SparseCore.Cfg.scopedSems0_V (Val := Elt F) d (cc0 c s) (ss0 c s)]
  obtain ⟨RS, hS⟩ := sems_peel (F := F) d (cc0 c s) (ss0 c s) (semT cc0_scoped1 0) (semT cc0_scoped1 1) (semT cc0_scoped3 0) (semT cc0_scoped3 1) cc0_scoped4.sem
    (by decide) (by decide)
  obtain ⟨RB, hB⟩ := bufs_peel (F := F) d (cc0 c s) (ss0 c s) cc0_scoped0 cc0_scoped2 (by decide) (SparseCore.Cfg.mem_ownRefs_of_owner rfl) (SparseCore.Cfg.mem_ownRefs_of_owner rfl)
  have hL : levAts (K (F := F)).L (K (F := F)).lev ⊢ (MayWaits (V d (cc0 c s) (ss0 c s)) (default : HIx 4) O : sProp 𝕄) := (K (F := F)).mayWaits_none (thr := V d (cc0 c s) (ss0 c s)) hO
  have hr : ∀ i, (Memref.whole main_v1_scv).view.read (Elt F) (rows m 0 d) i
      = gathered (F := F) (r := 51200) ((tab).view.read (Elt F) (m (tLoc d))) ((idx).view.read (Elt F) (words m d)) 0 i := fun _ => by
    rw [View.read_whole, View.read_whole, View.read_whole]; rfl
  have hi : ∀ t x, (Gather.wordsAt d (cc0 c s) (ss0 c s) idx (words m d) (0 + bOf 16 12 c s) t x).toNat < 100000 := fun t x =>
    Gather.wordsAt_lt d (cc0 c s) (ss0 c s) idx (words m d) (fun j => by rw [View.read_whole]; exact hw d j) _ t x
  have hc : ∀ s' : Shape, sig.dmaCredit .scVector (Kind.scVector.table .vmem) (Memref.whole cc0_scoped2 : Memref sig .scVector .vmem _ _).view.buf s' .f32 = s'.numel * (EltTy.f32 : EltTy).bits := fun _ => rfl
  have hp := fun q => @Tile0.tile0 F (HIx 4) UU _ _ _ default d _ tab (Memref.isWhole_whole main_arg2_scv) idx (Memref.isWhole_whole main_v0_scv) (Memref.whole cc0_scoped0) (Memref.isWhole_whole cc0_scoped0)
      (Memref.whole cc0_scoped2) (Memref.isWhole_whole cc0_scoped2) cc0_scoped1 cc0_scoped3 cc0_scoped4 cc0_scoped5 (Memref.whole main_v1_scv) (Memref.isWhole_whole main_v1_scv) c s q (tq c s)
      (m (tLoc d)) (words m d) O W hi hc
  have k1 := Gather.task (F := F) (Ix := HIx 4) (U := UU) (r := 51200) (e := 16) (m := 12) d (cc0 c s) (ss0 c s) tab idx (Memref.whole main_v1_scv) default (Memref.whole cc0_scoped0) (Memref.whole cc0_scoped2)
    cc0_scoped1 cc0_scoped3 cc0_scoped4 (defs := defs₀) 𝒱₀ (Lv := levAts (K (F := F)).L (K (F := F)).lev) (O := O) (W := W)
    (RS := RS) (RB := RB) (SB := ownBufs (V d (cc0 c s) (ss0 c s))) (SS := ownSems0 (V d (cc0 c s) (ss0 c s)))
  have k2 := k1 Gather.deals_16_12
  have k3 := k2 rfl
  have k4 := k3 (by decide) c s 0 (by decide)
  have k5 := k4 hL
  have k6 := k5 (View.set_whole cc0_scoped0) (View.set_whole cc0_scoped2)
  have k7 := k6 hB hS (tq c s) (tq c s)
  have k8 := k7 (m (tLoc d)) (words m d)
  have k9 := k8 (m (oLoc 0 d)) (rows m 0 d)
  have key := k9 hr hp
  rw [show (tileSet 51200 16 12 c s).map (Memref.whole main_v1_scv).view.emb = tset 0 d c s from Finset.map_refl] at key
  exact key

abbrev body1 := cc1_gather_kernel (F := F) (at0 c s) tab (Memref.isWhole_whole _) idx (Memref.isWhole_whole _) (Memref.whole main_v3_scv) (Memref.isWhole_whole _)
  (Memref.whole cc1_scoped0) (Memref.isWhole_whole _) cc1_scoped1 (Memref.whole cc1_scoped2) (Memref.isWhole_whole _) cc1_scoped3 cc1_scoped4 cc1_scoped5

theorem task1 (hw : InRange m) (hO : ∀ g, O g none = 0) : DoesTask m c s O W 1 fun _ => body1 c s := by
  intro d
  rw [(K (F := F)).scopedBufs_V facts d (cc0 c s) (ss0 c s), SparseCore.Cfg.scopedSems0_V (Val := Elt F) d (cc0 c s) (ss0 c s)]
  obtain ⟨RS, hS⟩ := sems_peel (F := F) d (cc0 c s) (ss0 c s) (semT cc1_scoped1 0) (semT cc1_scoped1 1) (semT cc1_scoped3 0) (semT cc1_scoped3 1) cc1_scoped4.sem
    (by decide) (by decide)
  obtain ⟨RB, hB⟩ := bufs_peel (F := F) d (cc0 c s) (ss0 c s) cc1_scoped0 cc1_scoped2 (by decide) (SparseCore.Cfg.mem_ownRefs_of_owner rfl) (SparseCore.Cfg.mem_ownRefs_of_owner rfl)
  have hL : levAts (K (F := F)).L (K (F := F)).lev ⊢ (MayWaits (V d (cc0 c s) (ss0 c s)) (default : HIx 4) O : sProp 𝕄) := (K (F := F)).mayWaits_none (thr := V d (cc0 c s) (ss0 c s)) hO
  have hr : ∀ i, (Memref.whole main_v3_scv).view.read (Elt F) (rows m 1 d) i
      = gathered (F := F) (r := 64000) ((tab).view.read (Elt F) (m (tLoc d))) ((idx).view.read (Elt F) (words m d)) 400 i := fun _ => by
    rw [View.read_whole, View.read_whole, View.read_whole]; rfl
  have hi : ∀ t x, (Gather.wordsAt d (cc0 c s) (ss0 c s) idx (words m d) (400 + bOf 20 15 c s) t x).toNat < 100000 := fun t x =>
    Gather.wordsAt_lt d (cc0 c s) (ss0 c s) idx (words m d) (fun j => by rw [View.read_whole]; exact hw d j) _ t x
  have hc : ∀ s' : Shape, sig.dmaCredit .scVector (Kind.scVector.table .vmem) (Memref.whole cc1_scoped2 : Memref sig .scVector .vmem _ _).view.buf s' .f32 = s'.numel * (EltTy.f32 : EltTy).bits := fun _ => rfl
  have hp := fun q => @Tile1.tile1 F (HIx 4) UU _ _ _ default d _ tab (Memref.isWhole_whole main_arg2_scv) idx (Memref.isWhole_whole main_v0_scv) (Memref.whole cc1_scoped0) (Memref.isWhole_whole cc1_scoped0)
      (Memref.whole cc1_scoped2) (Memref.isWhole_whole cc1_scoped2) cc1_scoped1 cc1_scoped3 cc1_scoped4 cc1_scoped5 (Memref.whole main_v3_scv) (Memref.isWhole_whole main_v3_scv) c s q (tq c s)
      (m (tLoc d)) (words m d) O W hi hc
  have k1 := Gather.task (F := F) (Ix := HIx 4) (U := UU) (r := 64000) (e := 20) (m := 15) d (cc0 c s) (ss0 c s) tab idx (Memref.whole main_v3_scv) default (Memref.whole cc1_scoped0) (Memref.whole cc1_scoped2)
    cc1_scoped1 cc1_scoped3 cc1_scoped4 (defs := defs₀) 𝒱₀ (Lv := levAts (K (F := F)).L (K (F := F)).lev) (O := O) (W := W)
    (RS := RS) (RB := RB) (SB := ownBufs (V d (cc0 c s) (ss0 c s))) (SS := ownSems0 (V d (cc0 c s) (ss0 c s)))
  have k2 := k1 Gather.deals_20_15
  have k3 := k2 rfl
  have k4 := k3 (by decide) c s 400 (by decide)
  have k5 := k4 hL
  have k6 := k5 (View.set_whole cc1_scoped0) (View.set_whole cc1_scoped2)
  have k7 := k6 hB hS (tq c s) (tq c s)
  have k8 := k7 (m (tLoc d)) (words m d)
  have k9 := k8 (m (oLoc 1 d)) (rows m 1 d)
  have key := k9 hr hp
  rw [show (tileSet 64000 20 15 c s).map (Memref.whole main_v3_scv).view.emb = tset 1 d c s from Finset.map_refl] at key
  exact key

abbrev body2 := cc2_gather_kernel (F := F) (at0 c s) tab (Memref.isWhole_whole _) idx (Memref.isWhole_whole _) (Memref.whole main_v5_scv) (Memref.isWhole_whole _)
  (Memref.whole cc2_scoped0) (Memref.isWhole_whole _) cc2_scoped1 (Memref.whole cc2_scoped2) (Memref.isWhole_whole _) cc2_scoped3 cc2_scoped4 cc2_scoped5

theorem task2 (hw : InRange m) (hO : ∀ g, O g none = 0) : DoesTask m c s O W 2 fun _ => body2 c s := by
  intro d
  rw [(K (F := F)).scopedBufs_V facts d (cc0 c s) (ss0 c s), SparseCore.Cfg.scopedSems0_V (Val := Elt F) d (cc0 c s) (ss0 c s)]
  obtain ⟨RS, hS⟩ := sems_peel (F := F) d (cc0 c s) (ss0 c s) (semT cc2_scoped1 0) (semT cc2_scoped1 1) (semT cc2_scoped3 0) (semT cc2_scoped3 1) cc2_scoped4.sem
    (by decide) (by decide)
  obtain ⟨RB, hB⟩ := bufs_peel (F := F) d (cc0 c s) (ss0 c s) cc2_scoped0 cc2_scoped2 (by decide) (SparseCore.Cfg.mem_ownRefs_of_owner rfl) (SparseCore.Cfg.mem_ownRefs_of_owner rfl)
  have hL : levAts (K (F := F)).L (K (F := F)).lev ⊢ (MayWaits (V d (cc0 c s) (ss0 c s)) (default : HIx 4) O : sProp 𝕄) := (K (F := F)).mayWaits_none (thr := V d (cc0 c s) (ss0 c s)) hO
  have hr : ∀ i, (Memref.whole main_v5_scv).view.read (Elt F) (rows m 2 d) i
      = gathered (F := F) (r := 64000) ((tab).view.read (Elt F) (m (tLoc d))) ((idx).view.read (Elt F) (words m d)) 900 i := fun _ => by
    rw [View.read_whole, View.read_whole, View.read_whole]; rfl
  have hi : ∀ t x, (Gather.wordsAt d (cc0 c s) (ss0 c s) idx (words m d) (900 + bOf 20 15 c s) t x).toNat < 100000 := fun t x =>
    Gather.wordsAt_lt d (cc0 c s) (ss0 c s) idx (words m d) (fun j => by rw [View.read_whole]; exact hw d j) _ t x
  have hc : ∀ s' : Shape, sig.dmaCredit .scVector (Kind.scVector.table .vmem) (Memref.whole cc2_scoped2 : Memref sig .scVector .vmem _ _).view.buf s' .f32 = s'.numel * (EltTy.f32 : EltTy).bits := fun _ => rfl
  have hp := fun q => @Tile2.tile2 F (HIx 4) UU _ _ _ default d _ tab (Memref.isWhole_whole main_arg2_scv) idx (Memref.isWhole_whole main_v0_scv) (Memref.whole cc2_scoped0) (Memref.isWhole_whole cc2_scoped0)
      (Memref.whole cc2_scoped2) (Memref.isWhole_whole cc2_scoped2) cc2_scoped1 cc2_scoped3 cc2_scoped4 cc2_scoped5 (Memref.whole main_v5_scv) (Memref.isWhole_whole main_v5_scv) c s q (tq c s)
      (m (tLoc d)) (words m d) O W hi hc
  have k1 := Gather.task (F := F) (Ix := HIx 4) (U := UU) (r := 64000) (e := 20) (m := 15) d (cc0 c s) (ss0 c s) tab idx (Memref.whole main_v5_scv) default (Memref.whole cc2_scoped0) (Memref.whole cc2_scoped2)
    cc2_scoped1 cc2_scoped3 cc2_scoped4 (defs := defs₀) 𝒱₀ (Lv := levAts (K (F := F)).L (K (F := F)).lev) (O := O) (W := W)
    (RS := RS) (RB := RB) (SB := ownBufs (V d (cc0 c s) (ss0 c s))) (SS := ownSems0 (V d (cc0 c s) (ss0 c s)))
  have k2 := k1 Gather.deals_20_15
  have k3 := k2 rfl
  have k4 := k3 (by decide) c s 900 (by decide)
  have k5 := k4 hL
  have k6 := k5 (View.set_whole cc2_scoped0) (View.set_whole cc2_scoped2)
  have k7 := k6 hB hS (tq c s) (tq c s)
  have k8 := k7 (m (tLoc d)) (words m d)
  have k9 := k8 (m (oLoc 2 d)) (rows m 2 d)
  have key := k9 hr hp
  rw [show (tileSet 64000 20 15 c s).map (Memref.whole main_v5_scv).view.emb = tset 2 d c s from Finset.map_refl] at key
  exact key

abbrev body3 := cc3_gather_kernel (F := F) (at0 c s) tab (Memref.isWhole_whole _) idx (Memref.isWhole_whole _) (Memref.whole main_v7_scv) (Memref.isWhole_whole _)
  (Memref.whole cc3_scoped0) (Memref.isWhole_whole _) cc3_scoped1 (Memref.whole cc3_scoped2) (Memref.isWhole_whole _) cc3_scoped3 cc3_scoped4 cc3_scoped5

theorem task3 (hw : InRange m) (hO : ∀ g, O g none = 0) : DoesTask m c s O W 3 fun _ => body3 c s := by
  intro d
  rw [(K (F := F)).scopedBufs_V facts d (cc0 c s) (ss0 c s), SparseCore.Cfg.scopedSems0_V (Val := Elt F) d (cc0 c s) (ss0 c s)]
  obtain ⟨RS, hS⟩ := sems_peel (F := F) d (cc0 c s) (ss0 c s) (semT cc3_scoped1 0) (semT cc3_scoped1 1) (semT cc3_scoped3 0) (semT cc3_scoped3 1) cc3_scoped4.sem
    (by decide) (by decide)
  obtain ⟨RB, hB⟩ := bufs_peel (F := F) d (cc0 c s) (ss0 c s) cc3_scoped0 cc3_scoped2 (by decide) (SparseCore.Cfg.mem_ownRefs_of_owner rfl) (SparseCore.Cfg.mem_ownRefs_of_owner rfl)
  have hL : levAts (K (F := F)).L (K (F := F)).lev ⊢ (MayWaits (V d (cc0 c s) (ss0 c s)) (default : HIx 4) O : sProp 𝕄) := (K (F := F)).mayWaits_none (thr := V d (cc0 c s) (ss0 c s)) hO
  have hr : ∀ i, (Memref.whole main_v7_scv).view.read (Elt F) (rows m 3 d) i
      = gathered (F := F) (r := 25600) ((tab).view.read (Elt F) (m (tLoc d))) ((idx).view.read (Elt F) (words m d)) 1400 i := fun _ => by
    rw [View.read_whole, View.read_whole, View.read_whole]; rfl
  have hi : ∀ t x, (Gather.wordsAt d (cc0 c s) (ss0 c s) idx (words m d) (1400 + bOf 8 6 c s) t x).toNat < 100000 := fun t x =>
    Gather.wordsAt_lt d (cc0 c s) (ss0 c s) idx (words m d) (fun j => by rw [View.read_whole]; exact hw d j) _ t x
  have hc : ∀ s' : Shape, sig.dmaCredit .scVector (Kind.scVector.table .vmem) (Memref.whole cc3_scoped2 : Memref sig .scVector .vmem _ _).view.buf s' .f32 = s'.numel * (EltTy.f32 : EltTy).bits := fun _ => rfl
  have hp := fun q => @Tile3.tile3 F (HIx 4) UU _ _ _ default d _ tab (Memref.isWhole_whole main_arg2_scv) idx (Memref.isWhole_whole main_v0_scv) (Memref.whole cc3_scoped0) (Memref.isWhole_whole cc3_scoped0)
      (Memref.whole cc3_scoped2) (Memref.isWhole_whole cc3_scoped2) cc3_scoped1 cc3_scoped3 cc3_scoped4 cc3_scoped5 (Memref.whole main_v7_scv) (Memref.isWhole_whole main_v7_scv) c s q (tq c s)
      (m (tLoc d)) (words m d) O W hi hc
  have k1 := Gather.task (F := F) (Ix := HIx 4) (U := UU) (r := 25600) (e := 8) (m := 6) d (cc0 c s) (ss0 c s) tab idx (Memref.whole main_v7_scv) default (Memref.whole cc3_scoped0) (Memref.whole cc3_scoped2)
    cc3_scoped1 cc3_scoped3 cc3_scoped4 (defs := defs₀) 𝒱₀ (Lv := levAts (K (F := F)).L (K (F := F)).lev) (O := O) (W := W)
    (RS := RS) (RB := RB) (SB := ownBufs (V d (cc0 c s) (ss0 c s))) (SS := ownSems0 (V d (cc0 c s) (ss0 c s)))
  have k2 := k1 Gather.deals_8_6
  have k3 := k2 rfl
  have k4 := k3 (by decide) c s 1400 (by decide)
  have k5 := k4 hL
  have k6 := k5 (View.set_whole cc3_scoped0) (View.set_whole cc3_scoped2)
  have k7 := k6 hB hS (tq c s) (tq c s)
  have k8 := k7 (m (tLoc d)) (words m d)
  have k9 := k8 (m (oLoc 3 d)) (rows m 3 d)
  have key := k9 hr hp
  rw [show (tileSet 25600 8 6 c s).map (Memref.whole main_v7_scv).view.emb = tset 3 d c s from Finset.map_refl] at key
  exact key

end Tasks

end Cert.Proof.Printed.Launch
-- ==== Proof.Printed.Duty.lean ====
/-
  What the launch asks for: the tasks at the program's own table, and the ghost state the launch starts from.
-/
module

public import proofs.«01_k».proof.Proof.Printed.Launch
public import proofs.«01_k».proof.Proof.Printed.Tasks
public import Idealize.ShloMosaic.Lib.Pipeline.Sound
public import Idealize.ShloMosaic.Lib.Pipeline.Kit
public import proofs.«01_k».proof.Proof.Split
public import proofs.«01_k».proof.Proof.Printed.Tile0
public import proofs.«01_k».proof.Proof.Printed.Tile1
public import proofs.«01_k».proof.Proof.Printed.Tile2
public import proofs.«01_k».proof.Proof.Printed.Tile3

@[expose] public section

set_option maxRecDepth 16384

noncomputable section

namespace Cert.Proof.Printed.Launch

open Cert.Kernel Cert.Kernel.Gen
open Cert.Proof.Printed
open Cert.Proof.Printed.Norm (UH UP UU)
open Cert.Proof.Gather (nOf bOf at0 cc0 ss0 tileSet coreSet gathered peel5 semT)
open Idealize.ShloMosaic
open Idealize.ShloMosaic.SparseCore (V)
open Idealize.ShloMosaic.SparseCore.Cfg (HIx ownCells mem_ownCells ownRefs ownSems0 ownBufs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig (HIx 4) (Elt F) ℕ UU ℕ

variable (m : (ℓ : Loc nD τ sig) → Buf (Elt F) ℓ)

/-! ## The tasks at the table -/

theorem vector0 (c : Fin 2) (s : Fin 16) : defs₀ (F := F) (.scVector (cc0 c s) (ss0 c s)) 0 () = body0 c s :=
  (show _ = SparseCore.onTile hcore0 hsub0 (fun c s => body0 (F := F) c s) ⟨⟩ (cc0 c s) (ss0 c s) from rfl).trans
    (dif_pos ⟨(at0 c s 0).isLt, (at0 c s 1).isLt⟩)
theorem vector1 (c : Fin 2) (s : Fin 16) : defs₀ (F := F) (.scVector (cc0 c s) (ss0 c s)) 1 () = body1 c s :=
  (show _ = SparseCore.onTile hcore1 hsub1 (fun c s => body1 (F := F) c s) ⟨⟩ (cc0 c s) (ss0 c s) from rfl).trans
    (dif_pos ⟨(at0 c s 0).isLt, (at0 c s 1).isLt⟩)
theorem vector2 (c : Fin 2) (s : Fin 16) : defs₀ (F := F) (.scVector (cc0 c s) (ss0 c s)) 2 () = body2 c s :=
  (show _ = SparseCore.onTile hcore2 hsub2 (fun c s => body2 (F := F) c s) ⟨⟩ (cc0 c s) (ss0 c s) from rfl).trans
    (dif_pos ⟨(at0 c s 0).isLt, (at0 c s 1).isLt⟩)
theorem vector3 (c : Fin 2) (s : Fin 16) : defs₀ (F := F) (.scVector (cc0 c s) (ss0 c s)) 3 () = body3 c s :=
  (show _ = SparseCore.onTile hcore3 hsub3 (fun c s => body3 (F := F) c s) ⟨⟩ (cc0 c s) (ss0 c s) from rfl).trans
    (dif_pos ⟨(at0 c s 0).isLt, (at0 c s 1).isLt⟩)

attribute [local irreducible] cc0_gather_kernel cc1_gather_kernel cc2_gather_kernel cc3_gather_kernel

theorem obl_post {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl0 (hw : InRange m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector (cc0 (core (F := F) 0 c) (tile (F := F) 0 i)) (ss0 (core (F := F) 0 c) (tile (F := F) 0 i))) 0 ())) _
  rw [vector0]
  refine BIBase.Entails.trans ?_ (Pipeline.wp_liftProg (D (F := F)) (Pipeline.defs_kernel pcfgs defs₀) 𝒱₀ _ Set.univ none _ _)
  exact (task0 m (core (F := F) 0 c) (tile (F := F) 0 i) O W hw hO d).trans (wp_mono frame _ _ fun _ => obl_post (q := 0))

theorem tileObl1 (hw : InRange m) : (K (F := F)).TileObl (D (F := F)) 𝒱 (P m) v₀ 1 := by
  intro d c i O W hO _ _
  simp only [show (P m).ox = fun _ _ => 0 from rfl, add_zero]
  change _ ⊢ wp _ _ _ (Pipeline.liftProg (defs₀ (F := F) (.scVector (cc0 (core (F := F) 1 c) (tile (F := F) 1 i)) (ss0 (core (F := F) 1 c) (tile (F := F) 1 i))) 1 ())) _
  rw [vector1]
  refine BIBase.Entails.trans ?_ (Pipeline.wp_liftProg (D (F := F)) (Pipeline.defs_kernel pcfgs defs₀) 𝒱₀ _ Set.univ none _ _)
  exact (task1 m (core (F := F) 1 c) (tile (F := F) 1 i) O W hw hO d).trans (wp_mono frame _ _ fun _ => obl_post (q := 1))

theorem tileObl2 (hw : InRange m) : (K (F := F)).TileObl (D (F := F)) 𝒱 (P m) v₀ 2 := by
  intro d c i O W hO _ _
  simp only [show (P m).ox = fun _ _ => 0 from rfl, add_zero]
  change _ ⊢ wp _ _ _ (Pipeline.liftProg (defs₀ (F := F) (.scVector (cc0 (core (F := F) 2 c) (tile (F := F) 2 i)) (ss0 (core (F := F) 2 c) (tile (F := F) 2 i))) 2 ())) _
  rw [vector2]
  refine BIBase.Entails.trans ?_ (Pipeline.wp_liftProg (D (F := F)) (Pipeline.defs_kernel pcfgs defs₀) 𝒱₀ _ Set.univ none _ _)
  exact (task2 m (core (F := F) 2 c) (tile (F := F) 2 i) O W hw hO d).trans (wp_mono frame _ _ fun _ => obl_post (q := 2))

theorem tileObl3 (hw : InRange m) : (K (F := F)).TileObl (D (F := F)) 𝒱 (P m) v₀ 3 := by
  intro d c i O W hO _ _
  simp only [show (P m).ox = fun _ _ => 0 from rfl, add_zero]
  change _ ⊢ wp _ _ _ (Pipeline.liftProg (defs₀ (F := F) (.scVector (cc0 (core (F := F) 3 c) (tile (F := F) 3 i)) (ss0 (core (F := F) 3 c) (tile (F := F) 3 i))) 3 ())) _
  rw [vector3]
  refine BIBase.Entails.trans ?_ (Pipeline.wp_liftProg (D (F := F)) (Pipeline.defs_kernel pcfgs defs₀) 𝒱₀ _ Set.univ none _ _)
  exact (task3 m (core (F := F) 3 c) (tile (F := F) 3 i) O W hw hO d).trans (wp_mono frame _ _ fun _ => obl_post (q := 3))

/-! ## The ghost state the launch starts from -/

abbrev EH : Emb UH 𝕄 := embL
abbrev EP : Emb UP 𝕄 := (Emb.inl : Emb UP (UP × Counters)).trans embR
abbrev adm : Dev nD → (p : Fin 4) → (pcfgs (F := F) p).Adm := fun _ p => (cfgs p).toPCfg_adm

instance EP_landsIn : (EP (F := F)).LandsIn (upEmb : UEmb _ 𝕄) := by
  unfold EP embR; infer_instance

def u₀ : UU := (initOf (K (F := F)).hsCells (K (F := F)).hsToks, (initOf (Pipeline.cells cfgs cellOf_inj) (Pipeline.launchToks cfgs cellOf_inj), 1))

/-- What device `d`'s TensorCore is dealt for the four pipelines. -/
def G (d : Dev nD) : sProp 𝕄 :=
  iprop((bigSep Finset.univ fun p : Fin 4 => Pipeline.cellsGhost cfgs (EP (F := F)) p d) ∗ bigSep Finset.univ fun p : Fin 4 => Pipeline.toksInit cfgs (EP (F := F)) p d)

theorem hu₀ : (ownU (u₀ (F := F)) : sProp 𝕄)
    ⊢ |={Set.univ}=> iprop(BI.own (EH (F := F) (initOf (K (F := F)).hsCells (K (F := F)).hsToks)) ∗ (bigSep Finset.univ fun d : Dev nD => G (F := F) d)
        ∗ bigSep Finset.univ fun thr : Thread nD τ => bigSep Finset.univ fun q : Fin 4 => (P m).x q thr) := by
  unfold u₀
  iintro Hu
  ihave H := (ownU_pair _ _) $$ Hu
  icases H with ⟨HH, HK⟩
  ihave H2 := (own_pair_emb _ _ _) $$ HK
  icases H2 with ⟨HP, -⟩
  imod (Pipeline.fund_ghost cfgs (EP (F := F)) cellOf_inj) $$ HP with ⟨HC, HT⟩
  imodintro
  isplitl [HH]; · iexact HH
  isplitl [HC HT]
  · rw [show (bigSep Finset.univ fun d : Dev nD => G (F := F) d) = iprop((bigSep Finset.univ fun d : Dev nD => bigSep Finset.univ fun p : Fin 4 => Pipeline.cellsGhost cfgs (EP (F := F)) p d)
        ∗ bigSep Finset.univ fun d : Dev nD => bigSep Finset.univ fun p : Fin 4 => Pipeline.toksInit cfgs (EP (F := F)) p d) from bigSep_sep' _ _ _]
    isplitl [HC]; · iexact HC
    iexact HT
  · rw [show (bigSep Finset.univ fun thr : Thread nD τ => bigSep Finset.univ fun q : Fin 4 => (P m).x q thr) = iprop(emp) from
      (bigSep_congr fun _ _ => bigSep_emp_const _).trans (bigSep_emp_const _)]
    iempintro

end Cert.Proof.Printed.Launch
-- ==== Proof.Printed.Around.lean ====
/-
  The four layer-norm calls as segments of the main program, each between two states of the buffers.
-/
module

public import proofs.«01_k».proof.Proof.Printed.Launch
public import proofs.«01_k».proof.Proof.Printed.Duty
public import proofs.«01_k».proof.Proof.Printed.Norm4
public import proofs.«01_k».proof.Proof.Printed.Norm5
public import proofs.«01_k».proof.Proof.Printed.Norm6
public import proofs.«01_k».proof.Proof.Printed.Norm7
public import Idealize.ShloMosaic.Lib.Pipeline.RegionArraysS
public import proofs.«01_k».proof.Proof.Printed.Tasks
public import Idealize.ShloMosaic.Lib.Pipeline.Sound
public import Idealize.ShloMosaic.Lib.Pipeline.Kit
public import proofs.«01_k».proof.Proof.Split
public import proofs.«01_k».proof.Proof.Printed.Tile0
public import proofs.«01_k».proof.Proof.Printed.Tile1
public import proofs.«01_k».proof.Proof.Printed.Tile2
public import proofs.«01_k».proof.Proof.Printed.Tile3

@[expose] public section

set_option maxRecDepth 16384

noncomputable section

namespace Cert.Proof.Printed.Launch

open Cert.Kernel Cert.Kernel.Gen
open Cert.Proof.Printed
open Cert.Proof.Printed.Norm (UH UP UU)
open Cert.Proof.Gather (nOf bOf at0 cc0 ss0 tileSet coreSet gathered peel5 semT)
open Idealize.ShloMosaic
open Idealize.ShloMosaic.SparseCore (V)
open Idealize.ShloMosaic.Pipeline (Dat BodyObligationLoose RegionSeg afterRegion arrRef arrRefs ucRefs LevelCut)
open TcCoe
open Idealize.ShloMosaic.SparseCore.Cfg (HIx ownCells mem_ownCells ownRefs ownSems0 ownBufs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig (HIx 4) (Elt F) ℕ UU ℕ

attribute [local irreducible] cc0_gather_kernel cc1_gather_kernel cc2_gather_kernel cc3_gather_kernel

abbrev adm0 : (p : Fin 4) → (pcfgs (F := F) p).Adm := fun p => (cfgs p).toPCfg_adm

-- the buffers as a call finds them, on each device
variable (W : Dev nD → Valuation τ sig (Elt F))

/-- The four calls' contents over their grids, from one state of the buffers. -/
def pd : (p : Fin 4) → (c : Dev nD) → Dat τ (Elt F) (HIx 4) ℕ UU ℕ (Pipeline.pin (pcfgs (F := F)) adm0 p) c
  | 0 => fun c => Norm.C4.dat (W c) c
  | 1 => fun c => Norm.C5.dat (W c) c
  | 2 => fun c => Norm.C6.dat (W c) c
  | 3 => fun c => Norm.C7.dat (W c) c

theorem kit : (p : Fin 4) → Pipeline.PLaunchFacts (nD := nD) (τ := τ) (pcfgs (F := F)) p
  | 0 => launch4.toP | 1 => launch5.toP | 2 => launch6.toP | 3 => launch7.toP

theorem body_at : (p : Fin 4) → (c : Dev nD) → BodyObligationLoose (pd W p c) (defs₀ (F := F)) 𝒱₀ default Set.univ
  | 0, c => (Norm.C4.obligation (W c) c).loose
  | 1, c => (Norm.C5.obligation (W c) c).loose
  | 2, c => (Norm.C6.obligation (W c) c).loose
  | 3, c => (Norm.C7.obligation (W c) c).loose

theorem owed_at : (p : Fin 4) → (c : Dev nD) → ∀ t, (pd W p c).owed t = 0
  | 0, _ => fun _ => rfl | 1, _ => fun _ => rfl | 2, _ => fun _ => rfl | 3, _ => fun _ => rfl
theorem recorded_at : (p : Fin 4) → (c : Dev nD) → (pd W p c).recorded 0 = Set.univ
  | 0, _ => rfl | 1, _ => rfl | 2, _ => rfl | 3, _ => rfl
theorem share_at : (p : Fin 4) → (c : Dev nD) → ∀ w, (pd W p c).share w = fullShare
  | 0, c => (Norm.C4.dat (W c) c).share_full fun _ => rfl
  | 1, c => (Norm.C5.dat (W c) c).share_full fun _ => rfl
  | 2, c => (Norm.C6.dat (W c) c).share_full fun _ => rfl
  | 3, c => (Norm.C7.dat (W c) c).share_full fun _ => rfl
theorem rest0 (c : Dev nD) (t) : (Norm.C4.dat (W c) c).Φ t = Pipeline.scopedRest spec4 c := by dsimp only [Norm.C4.dat]
theorem rest1 (c : Dev nD) (t) : (Norm.C5.dat (W c) c).Φ t = Pipeline.scopedRest spec5 c := by dsimp only [Norm.C5.dat]
theorem rest2 (c : Dev nD) (t) : (Norm.C6.dat (W c) c).Φ t = Pipeline.scopedRest spec6 c := by dsimp only [Norm.C6.dat]
theorem rest3 (c : Dev nD) (t) : (Norm.C7.dat (W c) c).Φ t = Pipeline.scopedRest spec7 c := by dsimp only [Norm.C7.dat]

theorem emp_in (A : sProp 𝕄) : iprop(A ∗ emp) ⊢ A := sep_elim_left
theorem emp_out (A : sProp 𝕄) : A ⊢ iprop(A ∗ emp) := by
  iintro H; isplitl; · iexact H
  iempintro

theorem start_at : (p : Fin 4) → (c : Dev nD) → ∀ w, (pd W p c).A w = W c (Proc.devRef .tc (arrRef (Pipeline.pin (pcfgs (F := F)) adm0 p).spec w))
  | 0, _ => fun _ => rfl | 1, _ => fun _ => rfl | 2, _ => fun _ => rfl | 3, _ => fun _ => rfl

theorem cut_at (p : Fin 4) : LevelCut (pcfgs (F := F)) adm0 (default : HIx 4) (K (F := F)).L (K (F := F)).lev p (fun _ : Dev nD => (0 : CellTallies nD τ sig (HIx 4))) (fun _ => 0) where
  hι _ _ _ := Finset.mem_univ _
  hιb _ _ _ := le_refl _
  hD _ _ _ h := absurd h (Nat.lt_irrefl 0)

theorem entry_at : (p : Fin 4) → (c : Dev nD) → iprop(Pipeline.scopedRest (Pipeline.pin (pcfgs (F := F)) adm0 p).spec c ∗ emp) ⊢ (pd W p c).Φ 0
  | 0, c => (emp_in _).trans (Entails.of_eq (rest0 W c _).symm) | 1, c => (emp_in _).trans (Entails.of_eq (rest1 W c _).symm)
  | 2, c => (emp_in _).trans (Entails.of_eq (rest2 W c _).symm) | 3, c => (emp_in _).trans (Entails.of_eq (rest3 W c _).symm)
theorem exit_at : (p : Fin 4) → (c : Dev nD) → (pd W p c).Φ (Fin.last (Pipeline.pin (pcfgs (F := F)) adm0 p).N) ⊢ iprop(Pipeline.scopedRest (Pipeline.pin (pcfgs (F := F)) adm0 p).spec c ∗ emp)
  | 0, c => (Entails.of_eq (rest0 W c _)).trans (emp_out _) | 1, c => (Entails.of_eq (rest1 W c _)).trans (emp_out _)
  | 2, c => (Entails.of_eq (rest2 W c _)).trans (emp_out _) | 3, c => (Entails.of_eq (rest3 W c _)).trans (emp_out _)

/-- A layer-norm call as a segment, `R` riding beside it. -/
def seg (p : Fin 4) (R : Dev nD → sProp 𝕄) : RegionSeg (pcfgs (F := F)) adm0 (pd W) (default : HIx 4) (defs₀ (F := F)) 𝒱₀ (K (F := F)).L (K (F := F)).lev p :=
  RegionSeg.ofHeldIn (pcfgs (F := F)) adm0 (pd W) (default : HIx 4) (defs₀ (F := F)) 𝒱₀ (K (F := F)).L (K (F := F)).lev p (fun _ => 0) (ucRefs τ sig) (fun _ => iprop(emp)) (fun _ => iprop(emp))
    (kit p) rfl (body_at W p) (owed_at W p) (recorded_at W p) (share_at W p) (entry_at W p) (exit_at W p) (fun _ => 0) (cut_at p) R W (fun c w => start_at W p c w)

theorem arrs_at (p : Fin 4) : arrRefs (τ := τ) (pcfgs (F := F) p).spec ⊆ ucRefs τ sig :=
  Pipeline.arrRefs_sub_ucRefs _ fun w => (kit (F := F) p).win.arr_unscoped w

theorem seg_pre (p : Fin 4) (R : Dev nD → sProp 𝕄) (d : Dev nD) :
    iprop(StableHlo.held (d.tc : Thread nD τ) (ucRefs τ sig) (W d) ∗ ((∃ Wd, owes (d : Thread nD τ) 0 Wd) ∗ emp ∗ R d)) ⊢ (seg W p R).pre d :=
  RegionSeg.ofHeldIn_pre (pcs := pcfgs (F := F)) (a := adm0) (pdats := pd W) (ι := (default : HIx 4)) (defs₀ := defs₀ (F := F)) (𝒱₀ := 𝒱₀) (L := (K (F := F)).L) (lv := (K (F := F)).lev)
    (p := p) (D := fun _ => 0) (S := ucRefs τ sig) (arrs_at p) (X := fun _ => iprop(emp)) (Y := fun _ => iprop(emp)) (kit := kit p) (hK := rfl) (hbody := body_at W p) (howed := owed_at W p)
    (hrec := recorded_at W p) (hshare := share_at W p) (hin := entry_at W p) (hout := exit_at W p) (b := fun _ => 0) (hcut := cut_at p) (R := R) (W := W) (hW := fun c w => start_at W p c w) d
theorem seg_post (p : Fin 4) (R : Dev nD → sProp 𝕄) (d : Dev nD) :
    (seg W p R).post d ⊢ iprop(StableHlo.held (d.tc : Thread nD τ) (ucRefs τ sig) (afterRegion (pd W p d) (W d)) ∗ ((∃ Wd, owes (d : Thread nD τ) 0 Wd) ∗ emp ∗ R d)) :=
  RegionSeg.ofHeldIn_post (pcs := pcfgs (F := F)) (a := adm0) (pdats := pd W) (ι := (default : HIx 4)) (defs₀ := defs₀ (F := F)) (𝒱₀ := 𝒱₀) (L := (K (F := F)).L) (lv := (K (F := F)).lev)
    (p := p) (D := fun _ => 0) (S := ucRefs τ sig) (arrs_at p) (X := fun _ => iprop(emp)) (Y := fun _ => iprop(emp)) (kit := kit p) (hK := rfl) (hbody := body_at W p) (howed := owed_at W p)
    (hrec := recorded_at W p) (hshare := share_at W p) (hin := entry_at W p) (hout := exit_at W p) (b := fun _ => 0) (hcut := cut_at p) (R := R) (W := W) (hW := fun c w => start_at W p c w) d

/-- A layer-norm call of the main program: from a state of the buffers to the state after it. -/
theorem norm_call [∀ e, Nonempty (Elt F e)] (p : Fin 4) (d : Dev nD) (Q : PUnit → sProp 𝕄) :
    iprop((iprop(boundary (SparseCore.T d) ∗ StableHlo.held (SparseCore.T d) (ucRefs τ sig) (afterRegion (pd W p d) (W d)) ∗ (∃ Wd, owes (SparseCore.T d) 0 Wd)) -∗ Q ⟨⟩)
        ∗ boundary (SparseCore.T d) ∗ StableHlo.held (SparseCore.T d) (ucRefs τ sig) (W d) ∗ (∃ Wd, owes (SparseCore.T d) 0 Wd) ∗ levAts (K (F := F)).L (K (F := F)).lev
        ∗ Pipeline.cellsGhost cfgs (EP (F := F)) p d ∗ Pipeline.toksInit cfgs (EP (F := F)) p d)
      ⊢ wp frame (wpE ((K (F := F)).defs (D (F := F))) 𝒱 (SparseCore.T d) none) Set.univ (Prog.lift (.customCall (SparseCore.inner (Pipeline.entry p)) ())) Q := by
  refine BIBase.Entails.trans ?_ ((K (F := F)).wp_liftProg (D (F := F)) 𝒱 (SparseCore.T d) Set.univ none (Prog.lift (.customCall (Pipeline.entry p) ())) Q)
  refine BIBase.Entails.trans ?_ (RegionSeg.wp (pcfgs (F := F)) adm0 (pd W) (default : HIx 4) cellOf_inj (EP (F := F)) (defs₀ (F := F)) 𝒱₀ (K (F := F)).L (K (F := F)).lev (seg W p fun _ => iprop(emp)) d none
    (fun u hu => nomatch hu) .ret Q)
  iintro ⟨Hk, Hb, Hh, Ho, Hl, Hc, Ht⟩
  isplitl [Hk]
  · iintro ⟨Hb, Hp⟩
    ihave Hp' := (seg_post W p (fun _ => iprop(emp)) d) $$ Hp
    icases Hp' with ⟨Hh, Ho, -, -⟩
    rw [wp_ret]; imodintro
    iapply Hk
    isplitl [Hb]; · iexact Hb
    isplitl [Hh]; · iexact Hh
    iexact Ho
  isplitl [Hb]; · iexact Hb
  isplitl [Hh Ho]
  · iapply (seg_pre W p (fun _ => iprop(emp)) d)
    isplitl [Hh]; · iexact Hh
    isplitl [Ho]; · iexact Ho
    isplitr; · iempintro
    iempintro
  isplitl [Hl]; · iexact Hl
  isplitl [Hc]; · iexact Hc
  iexact Ht

end Cert.Proof.Printed.Launch
-- ==== Proof.Printed.Kept.lean ====
/-
  The program's frame: the buffers nothing writes keep their contents, and the run leaves the arguments as they were.
-/
module

public import proofs.«01_k».proof.Proof.Printed.Main

@[expose] public section

set_option maxRecDepth 16384

noncomputable section

namespace Cert.Proof.Printed.Launch

open Cert.Kernel Cert.Kernel.Gen
open Idealize.ShloMosaic Idealize.ShloMosaic.TcCoe Idealize.SL.Sem
open Cert.Proof.Printed Cert.Proof.Gather

variable (d : Dev nD)

/-! ## The arguments, unchanged up to each call -/

/-- A buffer no operation or call of the program writes. -/
def Kept (r : Ref sig .tc) : Prop :=
  r ≠ main_v0 ∧ r ≠ main_v1 ∧ r ≠ main_v2 ∧ r ≠ main_v3 ∧ r ≠ main_v4 ∧ r ≠ main_v5 ∧ r ≠ main_v6 ∧ r ≠ main_v7 ∧ r ≠ main_v8 ∧ r ≠ main_v9 ∧ r ≠ main_v10 ∧ r ≠ main_v11 ∧ r ≠ main_v12
instance (r : Ref sig .tc) : Decidable (Kept r) := by unfold Kept; infer_instance

variable {F : FTy → Type} [FloatOps F] (m : (ℓ : Loc nD τ sig) → Buf (Elt F) ℓ)

theorem kept9 (r : Ref sig .tc) (h : Kept r) : V9 m d (Proc.devRef .tc r) = m (d, Proc.devRef .tc r) := by
  obtain ⟨h0, h1, h2, h3, h4, h5, h6, h7, h8, h9, h10, h11, h12⟩ := h
  rw [V9_at m d r h8 h7, V7_at m d r h6 h5, V5_at m d r h4 h3, V3_at m d r h2 h1, V1_at m d r h0]
theorem kept11 (r : Ref sig .tc) (h : Kept r) : V11 m d (Proc.devRef .tc r) = m (d, Proc.devRef .tc r) := by
  have h' := h
  obtain ⟨h0, h1, h2, h3, h4, h5, h6, h7, h8, h9, h10, h11, h12⟩ := h
  rw [V11_at m d r h10 h9, kept9 d m r h']
theorem kept13 (r : Ref sig .tc) (h : Kept r) : V13 m d (Proc.devRef .tc r) = m (d, Proc.devRef .tc r) := by
  have h' := h
  obtain ⟨h0, h1, h2, h3, h4, h5, h6, h7, h8, h9, h10, h11, h12⟩ := h
  rw [V13_at m d r h11 h10, kept11 d m r h']
theorem kept15 (r : Ref sig .tc) (h : Kept r) : V15 m d (Proc.devRef .tc r) = m (d, Proc.devRef .tc r) := by
  have h' := h
  obtain ⟨h0, h1, h2, h3, h4, h5, h6, h7, h8, h9, h10, h11, h12⟩ := h
  rw [V15_at m d r h12 h11, kept13 d m r h']
theorem kept16 (r : Ref sig .tc) (h : Kept r) : V16 m d (Proc.devRef .tc r) = m (d, Proc.devRef .tc r) := by
  have h' := h
  obtain ⟨h0, h1, h2, h3, h4, h5, h6, h7, h8, h9, h10, h11, h12⟩ := h
  rw [V16_at m d r h12, kept15 d m r h']

/-! ## The index words, from the token array -/

theorem inRange {m : (ℓ : Loc nD τ sig) → Buf (Elt F) ℓ} (h : ∀ (c : Dev nD) (i : S1024x200.Idx), (m (c, Proc.devRef .tc main_arg0) i : BitVec 32).toNat < 100000) : InRange m := by
  intro d j
  unfold words
  rw [StableHlo.reshape_result]
  exact h d _

/-- The arguments at the end of a run are those at its start. -/
def Same (m m' : (ℓ : Loc nD τ sig) → Buf (Elt F) ℓ) (c : Dev nD) : Prop :=
  m' (c, Proc.devRef .tc main_arg0) = m (c, Proc.devRef .tc main_arg0)
  ∧ m' (c, Proc.devRef .tc main_arg1) = m (c, Proc.devRef .tc main_arg1)
  ∧ m' (c, Proc.devRef .tc main_arg2) = m (c, Proc.devRef .tc main_arg2)
  ∧ m' (c, Proc.devRef .tc main_arg3) = m (c, Proc.devRef .tc main_arg3)
  ∧ m' (c, Proc.devRef .tc main_arg4) = m (c, Proc.devRef .tc main_arg4)
  ∧ m' (c, Proc.devRef .tc main_arg5) = m (c, Proc.devRef .tc main_arg5)
  ∧ m' (c, Proc.devRef .tc main_arg6) = m (c, Proc.devRef .tc main_arg6)

theorem run_same [∀ e, Nonempty (Elt F e)] (m : (ℓ : Loc nD τ sig) → Buf (Elt F) ℓ) (ρ : Dev nD → PrngReg) (hw : InRange m) :
    θ_run (Cert.Kernel.defs (F := F)) (Cert.Kernel.threads (F := F)) ⟨m, fun _ => 0, ρ⟩
      (fun r => (∀ c, r.2.mem (c, Proc.devRef .tc main_v12) = V16 m c (Proc.devRef .tc main_v12) ∧ Same m r.2.mem c) ∧ r.2.sem = fun _ => 0) :=
  (θ_run _ _ _).mono (fun r h => ⟨fun c => ⟨h.1 c _ (by decide),
    (h.1 c _ (by decide)).trans (kept16 c m main_arg0 (by decide)), (h.1 c _ (by decide)).trans (kept16 c m main_arg1 (by decide)),
    (h.1 c _ (by decide)).trans (kept16 c m main_arg2 (by decide)), (h.1 c _ (by decide)).trans (kept16 c m main_arg3 (by decide)),
    (h.1 c _ (by decide)).trans (kept16 c m main_arg4 (by decide)), (h.1 c _ (by decide)).trans (kept16 c m main_arg5 (by decide)),
    (h.1 c _ (by decide)).trans (kept16 c m main_arg6 (by decide))⟩, h.2⟩) (run_main m ρ hw)

end Cert.Proof.Printed.Launch

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_inputs
public import proofs.«01_k».proof.Proof.Gen.Pre_indices
public import proofs.«01_k».proof.Proof.Equal
public import proofs.«01_k».proof.Proof.Printed.Kept
public import Idealize.ShloMosaic.Adequacy
public import Idealize.ShloMosaic.Init

@[expose] public section

noncomputable section

namespace Cert.Proof

open Idealize.ShloMosaic Idealize.SL.Sem

/-- The printed program runs and keeps its arguments. -/
theorem frame_kernel : Cert.quiescent_Kernel := fun m g h =>
  (θ_run (Cert.Kernel.defs (F := Bits)) _ _).mono (fun _ h => ⟨fun c => (h.1 c).2, h.2⟩)
    (Printed.Launch.run_same m g (Printed.Launch.inRange fun c => (Ranges.indices_of _ _ _ _ _ _ _ (h c)).1))

/-- Its ideal form runs and keeps its arguments, for indices in their range. -/
theorem frame_ideal : Cert.quiescent_KernelIdeal := fun m g h =>
  (θ_run (Cert.KernelIdeal.defs (F := Ideal)) _ _).mono (fun _ h => ⟨fun c => (h.1 c).2, h.2⟩)
    (Launch.run_same m g (Launch.inRange fun c => (Ranges.indices_of _ _ _ _ _ _ _ (h c)).1))

/-- The same, for the inputs of the value claim. -/
theorem frame_ideal_inputs : Cert.quiescent_KernelIdeal_pre_inputs := fun m g h =>
  (θ_run (Cert.KernelIdeal.defs (F := Ideal)) _ _).mono (fun _ h => ⟨fun c => (h.1 c).2, h.2⟩)
    (Launch.run_same m g (Launch.inRange fun c => (Ranges.inputs_of _ _ _ _ _ _ _ (h c)).1))

/-- The reference runs and keeps its arguments. -/
theorem frame_ref : Cert.quiescent_ReferenceIdeal := fun m g _ =>
  (θ_run (Cert.ReferenceIdeal.defs (F := Ideal)) _ _).mono (fun r h => ⟨fun c => (h c).2, sem_eq_zero_of_no_sems (by decide) r.2⟩)
    (Cert.ReferenceIdeal.Value.run (F := Ideal) m g)

theorem frame_ref_inputs : Cert.quiescent_ReferenceIdeal_pre_inputs := fun m g _ => frame_ref m g trivial

/-- The named constant is the rounding of the real it stands for. -/
theorem preserves : Cert.preserves_Kernel_KernelIdeal :=
  IdealRules.named_const.statement Cert.KernelIdeal.κ "inv_sqrt_hidden" .f32 0x3DB504F3#32 (((Real.sqrt 128)⁻¹ : ℝ) : EReal) rfl

/-- From the same arguments the kernel's result is the reference's. -/
theorem algebraic : Cert.algebraic_KernelIdeal_ReferenceIdeal_pre_inputs := fun m g m' g' h hagree => by
  have hr := fun c => Ranges.inputs_of _ _ _ _ _ _ _ (h c)
  refine ⟨fun c => Final.res m c, ?_, ?_⟩
  · exact (θ_run (Cert.KernelIdeal.defs (F := Ideal)) _ _).mono (fun _ h c => ⟨(h.1 c).1.trans (Final.out7 m c), (h.1 c).2⟩)
      (Launch.run_same m g (Launch.inRange fun c => (hr c).1))
  · refine (θ_run (Cert.ReferenceIdeal.defs (F := Ideal)) _ _).mono (fun _ h c => ⟨(h c).1.trans ?_, (h c).2⟩)
      (Cert.ReferenceIdeal.Value.run (F := Ideal) m' g')
    obtain ⟨e0, e1, e2, e3, e4, e5, e6⟩ := hagree c
    refine (Taken.result_eq m' c).trans ?_
    rw [e0, e1, e2, e3, e4, e5, e6]
    exact (Equal.res_eq m c _ _ (hr c).1 (hr c).2.1 (hr c).2.2.1 (hr c).2.2.2.1 (hr c).2.2.2.2).symm

theorem claim : Cert.Claim :=
  ⟨Cert.Kernel.Gen.facts, Cert.KernelIdeal.Gen.facts, Cert.ReferenceIdeal.Gen.facts, Cert.Pre_indices.Gen.facts, Cert.Pre_inputs.Gen.facts,
    frame_kernel, frame_ideal, frame_ideal_inputs, frame_ref, frame_ref_inputs, preserves, algebraic⟩

end Cert.Proof

end
